-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_ProjSecondKernel (m : (ℓ : Loc Cert.ProjSecondKernel.nD Cert.ProjSecondKernel.τ Cert.ProjSecondKernel.sig) → Buf (Elt Bits) ℓ) : Prop :=
  True

def Pre_ProjSecondKernelIdeal (m : (ℓ : Loc Cert.ProjSecondKernelIdeal.nD Cert.ProjSecondKernelIdeal.τ Cert.ProjSecondKernelIdeal.sig) → Buf (Elt Ideal) ℓ) : Prop :=
  True

def Pre_ProjSecondReferenceIdeal (m : (ℓ : Loc Cert.ProjSecondReferenceIdeal.nD Cert.ProjSecondReferenceIdeal.τ Cert.ProjSecondReferenceIdeal.sig) → Buf (Elt Ideal) ℓ) : Prop :=
  True

def Pre_PrepSecondKernel (m : (ℓ : Loc Cert.PrepSecondKernel.nD Cert.PrepSecondKernel.τ Cert.PrepSecondKernel.sig) → Buf (Elt Bits) ℓ) : Prop :=
  True

def Pre_PrepSecondKernelIdeal (m : (ℓ : Loc Cert.PrepSecondKernelIdeal.nD Cert.PrepSecondKernelIdeal.τ Cert.PrepSecondKernelIdeal.sig) → Buf (Elt Ideal) ℓ) : Prop :=
  True

def Pre_PrepSecondReferenceIdeal (m : (ℓ : Loc Cert.PrepSecondReferenceIdeal.nD Cert.PrepSecondReferenceIdeal.τ Cert.PrepSecondReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0))
      ∧ r.2.sem = fun _ => 0)

def quiescent_ProjSecondKernel [hProjSecondKernel : Cert.ProjSecondKernel.Facts] : Prop :=
  ∀ (m : (ℓ : Loc Cert.ProjSecondKernel.nD Cert.ProjSecondKernel.τ Cert.ProjSecondKernel.sig) → Buf (Elt Bits) ℓ) (g : Dev Cert.ProjSecondKernel.nD → PrngReg), Pre_ProjSecondKernel m →
    θ_run (Cert.ProjSecondKernel.defs (F := Bits)) (onTc (τ := Cert.ProjSecondKernel.τ) (Cert.ProjSecondKernel.main (F := Bits))) ⟨m, fun _ => 0, g⟩ (fun r => (∀ c : Dev Cert.ProjSecondKernel.nD,
      r.2.mem ((c.tc : Thread Cert.ProjSecondKernel.nD Cert.ProjSecondKernel.τ).loc Cert.ProjSecondKernel.main_arg0) = m ((c.tc : Thread Cert.ProjSecondKernel.nD Cert.ProjSecondKernel.τ).loc Cert.ProjSecondKernel.main_arg0)
      ∧ r.2.mem ((c.tc : Thread Cert.ProjSecondKernel.nD Cert.ProjSecondKernel.τ).loc Cert.ProjSecondKernel.main_arg1) = m ((c.tc : Thread Cert.ProjSecondKernel.nD Cert.ProjSecondKernel.τ).loc Cert.ProjSecondKernel.main_arg1)
      ∧ r.2.mem ((c.tc : Thread Cert.ProjSecondKernel.nD Cert.ProjSecondKernel.τ).loc Cert.ProjSecondKernel.main_arg2) = m ((c.tc : Thread Cert.ProjSecondKernel.nD Cert.ProjSecondKernel.τ).loc Cert.ProjSecondKernel.main_arg2)
      ∧ r.2.mem ((c.tc : Thread Cert.ProjSecondKernel.nD Cert.ProjSecondKernel.τ).loc Cert.ProjSecondKernel.main_arg3) = m ((c.tc : Thread Cert.ProjSecondKernel.nD Cert.ProjSecondKernel.τ).loc Cert.ProjSecondKernel.main_arg3)
      ∧ r.2.mem ((c.tc : Thread Cert.ProjSecondKernel.nD Cert.ProjSecondKernel.τ).loc Cert.ProjSecondKernel.main_arg4) = m ((c.tc : Thread Cert.ProjSecondKernel.nD Cert.ProjSecondKernel.τ).loc Cert.ProjSecondKernel.main_arg4))
      ∧ r.2.sem = fun _ => 0)

def quiescent_ProjSecondKernelIdeal [hProjSecondKernelIdeal : Cert.ProjSecondKernelIdeal.Facts] : Prop :=
  ∀ (m : (ℓ : Loc Cert.ProjSecondKernelIdeal.nD Cert.ProjSecondKernelIdeal.τ Cert.ProjSecondKernelIdeal.sig) → Buf (Elt Ideal) ℓ) (g : Dev Cert.ProjSecondKernelIdeal.nD → PrngReg), Pre_ProjSecondKernelIdeal m →
    θ_run (Cert.ProjSecondKernelIdeal.defs (F := Ideal)) (onTc (τ := Cert.ProjSecondKernelIdeal.τ) (Cert.ProjSecondKernelIdeal.main (F := Ideal))) ⟨m, fun _ => 0, g⟩ (fun r => (∀ c : Dev Cert.ProjSecondKernelIdeal.nD,
      r.2.mem ((c.tc : Thread Cert.ProjSecondKernelIdeal.nD Cert.ProjSecondKernelIdeal.τ).loc Cert.ProjSecondKernelIdeal.main_arg0) = m ((c.tc : Thread Cert.ProjSecondKernelIdeal.nD Cert.ProjSecondKernelIdeal.τ).loc Cert.ProjSecondKernelIdeal.main_arg0)
      ∧ r.2.mem ((c.tc : Thread Cert.ProjSecondKernelIdeal.nD Cert.ProjSecondKernelIdeal.τ).loc Cert.ProjSecondKernelIdeal.main_arg1) = m ((c.tc : Thread Cert.ProjSecondKernelIdeal.nD Cert.ProjSecondKernelIdeal.τ).loc Cert.ProjSecondKernelIdeal.main_arg1)
      ∧ r.2.mem ((c.tc : Thread Cert.ProjSecondKernelIdeal.nD Cert.ProjSecondKernelIdeal.τ).loc Cert.ProjSecondKernelIdeal.main_arg2) = m ((c.tc : Thread Cert.ProjSecondKernelIdeal.nD Cert.ProjSecondKernelIdeal.τ).loc Cert.ProjSecondKernelIdeal.main_arg2)
      ∧ r.2.mem ((c.tc : Thread Cert.ProjSecondKernelIdeal.nD Cert.ProjSecondKernelIdeal.τ).loc Cert.ProjSecondKernelIdeal.main_arg3) = m ((c.tc : Thread Cert.ProjSecondKernelIdeal.nD Cert.ProjSecondKernelIdeal.τ).loc Cert.ProjSecondKernelIdeal.main_arg3)
      ∧ r.2.mem ((c.tc : Thread Cert.ProjSecondKernelIdeal.nD Cert.ProjSecondKernelIdeal.τ).loc Cert.ProjSecondKernelIdeal.main_arg4) = m ((c.tc : Thread Cert.ProjSecondKernelIdeal.nD Cert.ProjSecondKernelIdeal.τ).loc Cert.ProjSecondKernelIdeal.main_arg4))
      ∧ r.2.sem = fun _ => 0)

def quiescent_ProjSecondReferenceIdeal [hProjSecondReferenceIdeal : Cert.ProjSecondReferenceIdeal.Facts] : Prop :=
  ∀ (m : (ℓ : Loc Cert.ProjSecondReferenceIdeal.nD Cert.ProjSecondReferenceIdeal.τ Cert.ProjSecondReferenceIdeal.sig) → Buf (Elt Ideal) ℓ) (g : Dev Cert.ProjSecondReferenceIdeal.nD → PrngReg), Pre_ProjSecondReferenceIdeal m →
    θ_run (Cert.ProjSecondReferenceIdeal.defs (F := Ideal)) (onTc (τ := Cert.ProjSecondReferenceIdeal.τ) (Cert.ProjSecondReferenceIdeal.main (F := Ideal))) ⟨m, fun _ => 0, g⟩ (fun r => (∀ c : Dev Cert.ProjSecondReferenceIdeal.nD,
      r.2.mem ((c.tc : Thread Cert.ProjSecondReferenceIdeal.nD Cert.ProjSecondReferenceIdeal.τ).loc Cert.ProjSecondReferenceIdeal.main_arg0) = m ((c.tc : Thread Cert.ProjSecondReferenceIdeal.nD Cert.ProjSecondReferenceIdeal.τ).loc Cert.ProjSecondReferenceIdeal.main_arg0)
      ∧ r.2.mem ((c.tc : Thread Cert.ProjSecondReferenceIdeal.nD Cert.ProjSecondReferenceIdeal.τ).loc Cert.ProjSecondReferenceIdeal.main_arg1) = m ((c.tc : Thread Cert.ProjSecondReferenceIdeal.nD Cert.ProjSecondReferenceIdeal.τ).loc Cert.ProjSecondReferenceIdeal.main_arg1)
      ∧ r.2.mem ((c.tc : Thread Cert.ProjSecondReferenceIdeal.nD Cert.ProjSecondReferenceIdeal.τ).loc Cert.ProjSecondReferenceIdeal.main_arg2) = m ((c.tc : Thread Cert.ProjSecondReferenceIdeal.nD Cert.ProjSecondReferenceIdeal.τ).loc Cert.ProjSecondReferenceIdeal.main_arg2)
      ∧ r.2.mem ((c.tc : Thread Cert.ProjSecondReferenceIdeal.nD Cert.ProjSecondReferenceIdeal.τ).loc Cert.ProjSecondReferenceIdeal.main_arg3) = m ((c.tc : Thread Cert.ProjSecondReferenceIdeal.nD Cert.ProjSecondReferenceIdeal.τ).loc Cert.ProjSecondReferenceIdeal.main_arg3)
      ∧ r.2.mem ((c.tc : Thread Cert.ProjSecondReferenceIdeal.nD Cert.ProjSecondReferenceIdeal.τ).loc Cert.ProjSecondReferenceIdeal.main_arg4) = m ((c.tc : Thread Cert.ProjSecondReferenceIdeal.nD Cert.ProjSecondReferenceIdeal.τ).loc Cert.ProjSecondReferenceIdeal.main_arg4))
      ∧ r.2.sem = fun _ => 0)

def quiescent_PrepSecondKernel [hPrepSecondKernel : Cert.PrepSecondKernel.Facts] : Prop :=
  ∀ (m : (ℓ : Loc Cert.PrepSecondKernel.nD Cert.PrepSecondKernel.τ Cert.PrepSecondKernel.sig) → Buf (Elt Bits) ℓ) (g : Dev Cert.PrepSecondKernel.nD → PrngReg), Pre_PrepSecondKernel m →
    θ_run (Cert.PrepSecondKernel.defs (F := Bits)) (onTc (τ := Cert.PrepSecondKernel.τ) (Cert.PrepSecondKernel.main (F := Bits))) ⟨m, fun _ => 0, g⟩ (fun r => (∀ c : Dev Cert.PrepSecondKernel.nD,
      r.2.mem ((c.tc : Thread Cert.PrepSecondKernel.nD Cert.PrepSecondKernel.τ).loc Cert.PrepSecondKernel.main_arg0) = m ((c.tc : Thread Cert.PrepSecondKernel.nD Cert.PrepSecondKernel.τ).loc Cert.PrepSecondKernel.main_arg0))
      ∧ r.2.sem = fun _ => 0)

def quiescent_PrepSecondKernelIdeal [hPrepSecondKernelIdeal : Cert.PrepSecondKernelIdeal.Facts] : Prop :=
  ∀ (m : (ℓ : Loc Cert.PrepSecondKernelIdeal.nD Cert.PrepSecondKernelIdeal.τ Cert.PrepSecondKernelIdeal.sig) → Buf (Elt Ideal) ℓ) (g : Dev Cert.PrepSecondKernelIdeal.nD → PrngReg), Pre_PrepSecondKernelIdeal m →
    θ_run (Cert.PrepSecondKernelIdeal.defs (F := Ideal)) (onTc (τ := Cert.PrepSecondKernelIdeal.τ) (Cert.PrepSecondKernelIdeal.main (F := Ideal))) ⟨m, fun _ => 0, g⟩ (fun r => (∀ c : Dev Cert.PrepSecondKernelIdeal.nD,
      r.2.mem ((c.tc : Thread Cert.PrepSecondKernelIdeal.nD Cert.PrepSecondKernelIdeal.τ).loc Cert.PrepSecondKernelIdeal.main_arg0) = m ((c.tc : Thread Cert.PrepSecondKernelIdeal.nD Cert.PrepSecondKernelIdeal.τ).loc Cert.PrepSecondKernelIdeal.main_arg0))
      ∧ r.2.sem = fun _ => 0)

def quiescent_PrepSecondReferenceIdeal [hPrepSecondReferenceIdeal : Cert.PrepSecondReferenceIdeal.Facts] : Prop :=
  ∀ (m : (ℓ : Loc Cert.PrepSecondReferenceIdeal.nD Cert.PrepSecondReferenceIdeal.τ Cert.PrepSecondReferenceIdeal.sig) → Buf (Elt Ideal) ℓ) (g : Dev Cert.PrepSecondReferenceIdeal.nD → PrngReg), Pre_PrepSecondReferenceIdeal m →
    θ_run (Cert.PrepSecondReferenceIdeal.defs (F := Ideal)) (onTc (τ := Cert.PrepSecondReferenceIdeal.τ) (Cert.PrepSecondReferenceIdeal.main (F := Ideal))) ⟨m, fun _ => 0, g⟩ (fun r => (∀ c : Dev Cert.PrepSecondReferenceIdeal.nD,
      r.2.mem ((c.tc : Thread Cert.PrepSecondReferenceIdeal.nD Cert.PrepSecondReferenceIdeal.τ).loc Cert.PrepSecondReferenceIdeal.main_arg0) = m ((c.tc : Thread Cert.PrepSecondReferenceIdeal.nD Cert.PrepSecondReferenceIdeal.τ).loc Cert.PrepSecondReferenceIdeal.main_arg0))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "qscale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)) →
    ∃ (v0 : (c : Dev Cert.OutKernelIdeal.nD) → Buf (Elt Ideal) ((c.tc : Thread Cert.OutKernelIdeal.nD Cert.OutKernelIdeal.τ).loc Cert.OutKernelIdeal.main_v3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v64) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)) →
    ∃ (v0 : (c : Dev Cert.ProjKernelIdeal.nD) → Buf (Elt Ideal) ((c.tc : Thread Cert.ProjKernelIdeal.nD Cert.ProjKernelIdeal.τ).loc Cert.ProjKernelIdeal.main_v1_0)) (v1 : (c : Dev Cert.ProjKernelIdeal.nD) → Buf (Elt Ideal) ((c.tc : Thread Cert.ProjKernelIdeal.nD Cert.ProjKernelIdeal.τ).loc Cert.ProjKernelIdeal.main_v1_1)) (v2 : (c : Dev Cert.ProjKernelIdeal.nD) → Buf (Elt Ideal) ((c.tc : Thread Cert.ProjKernelIdeal.nD Cert.ProjKernelIdeal.τ).loc Cert.ProjKernelIdeal.main_v1_2)) (v3 : (c : Dev Cert.ProjKernelIdeal.nD) → Buf (Elt Ideal) ((c.tc : Thread Cert.ProjKernelIdeal.nD Cert.ProjKernelIdeal.τ).loc Cert.ProjKernelIdeal.main_v1_3)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v1_0) = v0 c
          ∧ r.2.mem ((c.tc : Thread Cert.ProjKernelIdeal.nD Cert.ProjKernelIdeal.τ).loc Cert.ProjKernelIdeal.main_v1_1) = v1 c
          ∧ r.2.mem ((c.tc : Thread Cert.ProjKernelIdeal.nD Cert.ProjKernelIdeal.τ).loc Cert.ProjKernelIdeal.main_v1_2) = v2 c
          ∧ r.2.mem ((c.tc : Thread Cert.ProjKernelIdeal.nD Cert.ProjKernelIdeal.τ).loc Cert.ProjKernelIdeal.main_v1_3) = v3 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_v4) = v1 c
          ∧ r.2.mem ((c.tc : Thread Cert.ProjReferenceIdeal.nD Cert.ProjReferenceIdeal.τ).loc Cert.ProjReferenceIdeal.main_v15) = v2 c
          ∧ r.2.mem ((c.tc : Thread Cert.ProjReferenceIdeal.nD Cert.ProjReferenceIdeal.τ).loc Cert.ProjReferenceIdeal.main_v20) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_PrepKernel_PrepKernelIdeal : Prop :=
  True

def algebraic_PrepKernelIdeal_PrepReferenceIdeal [hPrepKernelIdeal : Cert.PrepKernelIdeal.Facts] [hPrepReferenceIdeal : Cert.PrepReferenceIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)) →
    ∃ (v0 : (c : Dev Cert.PrepKernelIdeal.nD) → Buf (Elt Ideal) ((c.tc : Thread Cert.PrepKernelIdeal.nD Cert.PrepKernelIdeal.τ).loc Cert.PrepKernelIdeal.main_v1_0)) (v1 : (c : Dev Cert.PrepKernelIdeal.nD) → Buf (Elt Ideal) ((c.tc : Thread Cert.PrepKernelIdeal.nD Cert.PrepKernelIdeal.τ).loc Cert.PrepKernelIdeal.main_v1_1)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v1_0) = v0 c
          ∧ r.2.mem ((c.tc : Thread Cert.PrepKernelIdeal.nD Cert.PrepKernelIdeal.τ).loc Cert.PrepKernelIdeal.main_v1_1) = v1 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v16) = v0 c
          ∧ r.2.mem ((c.tc : Thread Cert.PrepReferenceIdeal.nD Cert.PrepReferenceIdeal.τ).loc Cert.PrepReferenceIdeal.main_v17) = v1 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0))

def preserves_ProjSecondKernel_ProjSecondKernelIdeal : Prop :=
  True

def algebraic_ProjSecondKernelIdeal_ProjSecondReferenceIdeal [hProjSecondKernelIdeal : Cert.ProjSecondKernelIdeal.Facts] [hProjSecondReferenceIdeal : Cert.ProjSecondReferenceIdeal.Facts] : Prop :=
  ∀ (m : (ℓ : Loc Cert.ProjSecondKernelIdeal.nD Cert.ProjSecondKernelIdeal.τ Cert.ProjSecondKernelIdeal.sig) → Buf (Elt Ideal) ℓ) (g : Dev Cert.ProjSecondKernelIdeal.nD → PrngReg)
    (m' : (ℓ : Loc Cert.ProjSecondReferenceIdeal.nD Cert.ProjSecondReferenceIdeal.τ Cert.ProjSecondReferenceIdeal.sig) → Buf (Elt Ideal) ℓ) (g' : Dev Cert.ProjSecondReferenceIdeal.nD → PrngReg), Pre_ProjSecondKernelIdeal m →
    (∀ c : Dev Cert.ProjSecondKernelIdeal.nD,
      m' ((c.tc : Thread Cert.ProjSecondReferenceIdeal.nD Cert.ProjSecondReferenceIdeal.τ).loc Cert.ProjSecondReferenceIdeal.main_arg0) = m ((c.tc : Thread Cert.ProjSecondKernelIdeal.nD Cert.ProjSecondKernelIdeal.τ).loc Cert.ProjSecondKernelIdeal.main_arg0)
      ∧ m' ((c.tc : Thread Cert.ProjSecondReferenceIdeal.nD Cert.ProjSecondReferenceIdeal.τ).loc Cert.ProjSecondReferenceIdeal.main_arg1) = m ((c.tc : Thread Cert.ProjSecondKernelIdeal.nD Cert.ProjSecondKernelIdeal.τ).loc Cert.ProjSecondKernelIdeal.main_arg1)
      ∧ m' ((c.tc : Thread Cert.ProjSecondReferenceIdeal.nD Cert.ProjSecondReferenceIdeal.τ).loc Cert.ProjSecondReferenceIdeal.main_arg2) = m ((c.tc : Thread Cert.ProjSecondKernelIdeal.nD Cert.ProjSecondKernelIdeal.τ).loc Cert.ProjSecondKernelIdeal.main_arg2)
      ∧ m' ((c.tc : Thread Cert.ProjSecondReferenceIdeal.nD Cert.ProjSecondReferenceIdeal.τ).loc Cert.ProjSecondReferenceIdeal.main_arg3) = m ((c.tc : Thread Cert.ProjSecondKernelIdeal.nD Cert.ProjSecondKernelIdeal.τ).loc Cert.ProjSecondKernelIdeal.main_arg3)
      ∧ m' ((c.tc : Thread Cert.ProjSecondReferenceIdeal.nD Cert.ProjSecondReferenceIdeal.τ).loc Cert.ProjSecondReferenceIdeal.main_arg4) = m ((c.tc : Thread Cert.ProjSecondKernelIdeal.nD Cert.ProjSecondKernelIdeal.τ).loc Cert.ProjSecondKernelIdeal.main_arg4)) →
    ∃ (v0 : (c : Dev Cert.ProjSecondKernelIdeal.nD) → Buf (Elt Ideal) ((c.tc : Thread Cert.ProjSecondKernelIdeal.nD Cert.ProjSecondKernelIdeal.τ).loc Cert.ProjSecondKernelIdeal.main_v1_0)) (v1 : (c : Dev Cert.ProjSecondKernelIdeal.nD) → Buf (Elt Ideal) ((c.tc : Thread Cert.ProjSecondKernelIdeal.nD Cert.ProjSecondKernelIdeal.τ).loc Cert.ProjSecondKernelIdeal.main_v1_1)) (v2 : (c : Dev Cert.ProjSecondKernelIdeal.nD) → Buf (Elt Ideal) ((c.tc : Thread Cert.ProjSecondKernelIdeal.nD Cert.ProjSecondKernelIdeal.τ).loc Cert.ProjSecondKernelIdeal.main_v1_2)) (v3 : (c : Dev Cert.ProjSecondKernelIdeal.nD) → Buf (Elt Ideal) ((c.tc : Thread Cert.ProjSecondKernelIdeal.nD Cert.ProjSecondKernelIdeal.τ).loc Cert.ProjSecondKernelIdeal.main_v1_3)),
      θ_run (Cert.ProjSecondKernelIdeal.defs (F := Ideal)) (onTc (τ := Cert.ProjSecondKernelIdeal.τ) (Cert.ProjSecondKernelIdeal.main (F := Ideal))) ⟨m, fun _ => 0, g⟩ (fun r => ∀ c : Dev Cert.ProjSecondKernelIdeal.nD,
          r.2.mem ((c.tc : Thread Cert.ProjSecondKernelIdeal.nD Cert.ProjSecondKernelIdeal.τ).loc Cert.ProjSecondKernelIdeal.main_v1_0) = v0 c
          ∧ r.2.mem ((c.tc : Thread Cert.ProjSecondKernelIdeal.nD Cert.ProjSecondKernelIdeal.τ).loc Cert.ProjSecondKernelIdeal.main_v1_1) = v1 c
          ∧ r.2.mem ((c.tc : Thread Cert.ProjSecondKernelIdeal.nD Cert.ProjSecondKernelIdeal.τ).loc Cert.ProjSecondKernelIdeal.main_v1_2) = v2 c
          ∧ r.2.mem ((c.tc : Thread Cert.ProjSecondKernelIdeal.nD Cert.ProjSecondKernelIdeal.τ).loc Cert.ProjSecondKernelIdeal.main_v1_3) = v3 c
          ∧ r.2.mem ((c.tc : Thread Cert.ProjSecondKernelIdeal.nD Cert.ProjSecondKernelIdeal.τ).loc Cert.ProjSecondKernelIdeal.main_arg0) = m ((c.tc : Thread Cert.ProjSecondKernelIdeal.nD Cert.ProjSecondKernelIdeal.τ).loc Cert.ProjSecondKernelIdeal.main_arg0)
          ∧ r.2.mem ((c.tc : Thread Cert.ProjSecondKernelIdeal.nD Cert.ProjSecondKernelIdeal.τ).loc Cert.ProjSecondKernelIdeal.main_arg1) = m ((c.tc : Thread Cert.ProjSecondKernelIdeal.nD Cert.ProjSecondKernelIdeal.τ).loc Cert.ProjSecondKernelIdeal.main_arg1)
          ∧ r.2.mem ((c.tc : Thread Cert.ProjSecondKernelIdeal.nD Cert.ProjSecondKernelIdeal.τ).loc Cert.ProjSecondKernelIdeal.main_arg2) = m ((c.tc : Thread Cert.ProjSecondKernelIdeal.nD Cert.ProjSecondKernelIdeal.τ).loc Cert.ProjSecondKernelIdeal.main_arg2)
          ∧ r.2.mem ((c.tc : Thread Cert.ProjSecondKernelIdeal.nD Cert.ProjSecondKernelIdeal.τ).loc Cert.ProjSecondKernelIdeal.main_arg3) = m ((c.tc : Thread Cert.ProjSecondKernelIdeal.nD Cert.ProjSecondKernelIdeal.τ).loc Cert.ProjSecondKernelIdeal.main_arg3)
          ∧ r.2.mem ((c.tc : Thread Cert.ProjSecondKernelIdeal.nD Cert.ProjSecondKernelIdeal.τ).loc Cert.ProjSecondKernelIdeal.main_arg4) = m ((c.tc : Thread Cert.ProjSecondKernelIdeal.nD Cert.ProjSecondKernelIdeal.τ).loc Cert.ProjSecondKernelIdeal.main_arg4))
      ∧ θ_run (Cert.ProjSecondReferenceIdeal.defs (F := Ideal)) (onTc (τ := Cert.ProjSecondReferenceIdeal.τ) (Cert.ProjSecondReferenceIdeal.main (F := Ideal))) ⟨m', fun _ => 0, g'⟩ (fun r => ∀ c : Dev Cert.ProjSecondReferenceIdeal.nD,
          r.2.mem ((c.tc : Thread Cert.ProjSecondReferenceIdeal.nD Cert.ProjSecondReferenceIdeal.τ).loc Cert.ProjSecondReferenceIdeal.main_v2) = v0 c
          ∧ r.2.mem ((c.tc : Thread Cert.ProjSecondReferenceIdeal.nD Cert.ProjSecondReferenceIdeal.τ).loc Cert.ProjSecondReferenceIdeal.main_v4) = v1 c
          ∧ r.2.mem ((c.tc : Thread Cert.ProjSecondReferenceIdeal.nD Cert.ProjSecondReferenceIdeal.τ).loc Cert.ProjSecondReferenceIdeal.main_v15) = v2 c
          ∧ r.2.mem ((c.tc : Thread Cert.ProjSecondReferenceIdeal.nD Cert.ProjSecondReferenceIdeal.τ).loc Cert.ProjSecondReferenceIdeal.main_v20) = v3 c
          ∧ r.2.mem ((c.tc : Thread Cert.ProjSecondReferenceIdeal.nD Cert.ProjSecondReferenceIdeal.τ).loc Cert.ProjSecondReferenceIdeal.main_arg0) = m' ((c.tc : Thread Cert.ProjSecondReferenceIdeal.nD Cert.ProjSecondReferenceIdeal.τ).loc Cert.ProjSecondReferenceIdeal.main_arg0)
          ∧ r.2.mem ((c.tc : Thread Cert.ProjSecondReferenceIdeal.nD Cert.ProjSecondReferenceIdeal.τ).loc Cert.ProjSecondReferenceIdeal.main_arg1) = m' ((c.tc : Thread Cert.ProjSecondReferenceIdeal.nD Cert.ProjSecondReferenceIdeal.τ).loc Cert.ProjSecondReferenceIdeal.main_arg1)
          ∧ r.2.mem ((c.tc : Thread Cert.ProjSecondReferenceIdeal.nD Cert.ProjSecondReferenceIdeal.τ).loc Cert.ProjSecondReferenceIdeal.main_arg2) = m' ((c.tc : Thread Cert.ProjSecondReferenceIdeal.nD Cert.ProjSecondReferenceIdeal.τ).loc Cert.ProjSecondReferenceIdeal.main_arg2)
          ∧ r.2.mem ((c.tc : Thread Cert.ProjSecondReferenceIdeal.nD Cert.ProjSecondReferenceIdeal.τ).loc Cert.ProjSecondReferenceIdeal.main_arg3) = m' ((c.tc : Thread Cert.ProjSecondReferenceIdeal.nD Cert.ProjSecondReferenceIdeal.τ).loc Cert.ProjSecondReferenceIdeal.main_arg3)
          ∧ r.2.mem ((c.tc : Thread Cert.ProjSecondReferenceIdeal.nD Cert.ProjSecondReferenceIdeal.τ).loc Cert.ProjSecondReferenceIdeal.main_arg4) = m' ((c.tc : Thread Cert.ProjSecondReferenceIdeal.nD Cert.ProjSecondReferenceIdeal.τ).loc Cert.ProjSecondReferenceIdeal.main_arg4))

def preserves_PrepSecondKernel_PrepSecondKernelIdeal : Prop :=
  True

def algebraic_PrepSecondKernelIdeal_PrepSecondReferenceIdeal [hPrepSecondKernelIdeal : Cert.PrepSecondKernelIdeal.Facts] [hPrepSecondReferenceIdeal : Cert.PrepSecondReferenceIdeal.Facts] : Prop :=
  ∀ (m : (ℓ : Loc Cert.PrepSecondKernelIdeal.nD Cert.PrepSecondKernelIdeal.τ Cert.PrepSecondKernelIdeal.sig) → Buf (Elt Ideal) ℓ) (g : Dev Cert.PrepSecondKernelIdeal.nD → PrngReg)
    (m' : (ℓ : Loc Cert.PrepSecondReferenceIdeal.nD Cert.PrepSecondReferenceIdeal.τ Cert.PrepSecondReferenceIdeal.sig) → Buf (Elt Ideal) ℓ) (g' : Dev Cert.PrepSecondReferenceIdeal.nD → PrngReg), Pre_PrepSecondKernelIdeal m →
    (∀ c : Dev Cert.PrepSecondKernelIdeal.nD,
      m' ((c.tc : Thread Cert.PrepSecondReferenceIdeal.nD Cert.PrepSecondReferenceIdeal.τ).loc Cert.PrepSecondReferenceIdeal.main_arg0) = m ((c.tc : Thread Cert.PrepSecondKernelIdeal.nD Cert.PrepSecondKernelIdeal.τ).loc Cert.PrepSecondKernelIdeal.main_arg0)) →
    ∃ (v0 : (c : Dev Cert.PrepSecondKernelIdeal.nD) → Buf (Elt Ideal) ((c.tc : Thread Cert.PrepSecondKernelIdeal.nD Cert.PrepSecondKernelIdeal.τ).loc Cert.PrepSecondKernelIdeal.main_v1_0)) (v1 : (c : Dev Cert.PrepSecondKernelIdeal.nD) → Buf (Elt Ideal) ((c.tc : Thread Cert.PrepSecondKernelIdeal.nD Cert.PrepSecondKernelIdeal.τ).loc Cert.PrepSecondKernelIdeal.main_v1_1)),
      θ_run (Cert.PrepSecondKernelIdeal.defs (F := Ideal)) (onTc (τ := Cert.PrepSecondKernelIdeal.τ) (Cert.PrepSecondKernelIdeal.main (F := Ideal))) ⟨m, fun _ => 0, g⟩ (fun r => ∀ c : Dev Cert.PrepSecondKernelIdeal.nD,
          r.2.mem ((c.tc : Thread Cert.PrepSecondKernelIdeal.nD Cert.PrepSecondKernelIdeal.τ).loc Cert.PrepSecondKernelIdeal.main_v1_0) = v0 c
          ∧ r.2.mem ((c.tc : Thread Cert.PrepSecondKernelIdeal.nD Cert.PrepSecondKernelIdeal.τ).loc Cert.PrepSecondKernelIdeal.main_v1_1) = v1 c
          ∧ r.2.mem ((c.tc : Thread Cert.PrepSecondKernelIdeal.nD Cert.PrepSecondKernelIdeal.τ).loc Cert.PrepSecondKernelIdeal.main_arg0) = m ((c.tc : Thread Cert.PrepSecondKernelIdeal.nD Cert.PrepSecondKernelIdeal.τ).loc Cert.PrepSecondKernelIdeal.main_arg0))
      ∧ θ_run (Cert.PrepSecondReferenceIdeal.defs (F := Ideal)) (onTc (τ := Cert.PrepSecondReferenceIdeal.τ) (Cert.PrepSecondReferenceIdeal.main (F := Ideal))) ⟨m', fun _ => 0, g'⟩ (fun r => ∀ c : Dev Cert.PrepSecondReferenceIdeal.nD,
          r.2.mem ((c.tc : Thread Cert.PrepSecondReferenceIdeal.nD Cert.PrepSecondReferenceIdeal.τ).loc Cert.PrepSecondReferenceIdeal.main_v16) = v0 c
          ∧ r.2.mem ((c.tc : Thread Cert.PrepSecondReferenceIdeal.nD Cert.PrepSecondReferenceIdeal.τ).loc Cert.PrepSecondReferenceIdeal.main_v17) = v1 c
          ∧ r.2.mem ((c.tc : Thread Cert.PrepSecondReferenceIdeal.nD Cert.PrepSecondReferenceIdeal.τ).loc Cert.PrepSecondReferenceIdeal.main_arg0) = m' ((c.tc : Thread Cert.PrepSecondReferenceIdeal.nD Cert.PrepSecondReferenceIdeal.τ).loc Cert.PrepSecondReferenceIdeal.main_arg0))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hProjKernel : Cert.ProjKernel.Facts) (hProjKernelIdeal : Cert.ProjKernelIdeal.Facts) (hProjReferenceIdeal : Cert.ProjReferenceIdeal.Facts) (hPrepKernel : Cert.PrepKernel.Facts) (hPrepKernelIdeal : Cert.PrepKernelIdeal.Facts) (hPrepReferenceIdeal : Cert.PrepReferenceIdeal.Facts) (hProjSecondKernel : Cert.ProjSecondKernel.Facts) (hProjSecondKernelIdeal : Cert.ProjSecondKernelIdeal.Facts) (hProjSecondReferenceIdeal : Cert.ProjSecondReferenceIdeal.Facts) (hPrepSecondKernel : Cert.PrepSecondKernel.Facts) (hPrepSecondKernelIdeal : Cert.PrepSecondKernelIdeal.Facts) (hPrepSecondReferenceIdeal : Cert.PrepSecondReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_PrepKernel (hPrepKernel := hPrepKernel)
    ∧ quiescent_PrepKernelIdeal (hPrepKernelIdeal := hPrepKernelIdeal)
    ∧ quiescent_PrepReferenceIdeal (hPrepReferenceIdeal := hPrepReferenceIdeal)
    ∧ quiescent_ProjSecondKernel (hProjSecondKernel := hProjSecondKernel)
    ∧ quiescent_ProjSecondKernelIdeal (hProjSecondKernelIdeal := hProjSecondKernelIdeal)
    ∧ quiescent_ProjSecondReferenceIdeal (hProjSecondReferenceIdeal := hProjSecondReferenceIdeal)
    ∧ quiescent_PrepSecondKernel (hPrepSecondKernel := hPrepSecondKernel)
    ∧ quiescent_PrepSecondKernelIdeal (hPrepSecondKernelIdeal := hPrepSecondKernelIdeal)
    ∧ quiescent_PrepSecondReferenceIdeal (hPrepSecondReferenceIdeal := hPrepSecondReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutKernel_OutKernelIdeal
    ∧ algebraic_OutKernelIdeal_OutReferenceIdeal (hOutKernelIdeal := hOutKernelIdeal) (hOutReferenceIdeal := hOutReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_PrepKernel_PrepKernelIdeal
    ∧ algebraic_PrepKernelIdeal_PrepReferenceIdeal (hPrepKernelIdeal := hPrepKernelIdeal) (hPrepReferenceIdeal := hPrepReferenceIdeal)
    ∧ preserves_ProjSecondKernel_ProjSecondKernelIdeal
    ∧ algebraic_ProjSecondKernelIdeal_ProjSecondReferenceIdeal (hProjSecondKernelIdeal := hProjSecondKernelIdeal) (hProjSecondReferenceIdeal := hProjSecondReferenceIdeal)
    ∧ preserves_PrepSecondKernel_PrepSecondKernelIdeal
    ∧ algebraic_PrepSecondKernelIdeal_PrepSecondReferenceIdeal (hPrepSecondKernelIdeal := hPrepSecondKernelIdeal) (hPrepSecondReferenceIdeal := hPrepSecondReferenceIdeal)
-- ==== Pre_finite.lean ====
abbrev S2x4096x7168 : Shape := ⟨3, ![2, 4096, 7168]⟩
abbrev S2x4096x128 : Shape := ⟨3, ![2, 4096, 128]⟩
abbrev S_ : Shape := ⟨0, ![]⟩

class Facts : Prop where
  bcast_S_S2x4096x7168 : S_.BroadcastsInDim S2x4096x7168 (![] : Fin 0 → Fin S2x4096x7168.rank)
  reducesTo_S2x4096x7168_S_d0_1_2 : S2x4096x7168.ReducesTo [0, 1, 2] S_
  h_S_ : 0 < S_.numel
  bcast_S_S2x4096x128 : S_.BroadcastsInDim S2x4096x128 (![] : Fin 0 → Fin S2x4096x128.rank)
  reducesTo_S2x4096x128_S_d0_1_2 : S2x4096x128.ReducesTo [0, 1, 2] S_

variable [Facts]

def fn {F : FTy → Type} [FloatOps F] (main_arg0 : FVec F S2x4096x7168 .f32) (main_arg1 : FVec F S2x4096x128 .f32) : IVec S_ 1 :=
  let main_v0 : FVec F S2x4096x7168 .f32 := Host.absf main_arg0
  let main_cst : FVec F S_ .f32 := constant S_ .f32 0x7F800000#32
  let main_v1 : FVec F S2x4096x7168 .f32 := broadcastInDim S2x4096x7168 ![] bcast_S_S2x4096x7168 main_cst
  let main_v2 : IVec S2x4096x7168 1 := cmpf .olt main_v0 main_v1
  let main_c : IVec S_ 1 := constantI S_ 1 1#1
  let main_v3 : IVec S_ 1 := (fun x v => Host.reduce IntOp.andi x v reducesTo_S2x4096x7168_S_d0_1_2 h_S_) main_v2 main_c
  let main_v4 : FVec F S2x4096x128 .f32 := Host.absf main_arg1
  let main_cst_0 : FVec F S_ .f32 := constant S_ .f32 0x7F800000#32
  let main_v5 : FVec F S2x4096x128 .f32 := broadcastInDim S2x4096x128 ![] bcast_S_S2x4096x128 main_cst_0
  let main_v6 : IVec S2x4096x128 1 := cmpf .olt main_v4 main_v5
  let main_c_1 : IVec S_ 1 := constantI S_ 1 1#1
  let main_v7 : IVec S_ 1 := (fun x v => Host.reduce IntOp.andi x v reducesTo_S2x4096x128_S_d0_1_2 h_S_) main_v6 main_c_1
  let main_v8 : IVec S_ 1 := andi main_v3 main_v7
  main_v8
-- ==== Kernel.lean ====
abbrev S2x4096x7168 : Shape := ⟨3, ![2, 4096, 7168]⟩
abbrev S2x4096x128 : Shape := ⟨3, ![2, 4096, 128]⟩
abbrev S136 : Shape := ⟨1, ![136]⟩
abbrev S2x4096x8 : Shape := ⟨3, ![2, 4096, 8]⟩
abbrev S2x8x4096 : Shape := ⟨3, ![2, 8, 4096]⟩
abbrev S2x4096x512 : Shape := ⟨3, ![2, 4096, 512]⟩
abbrev S1x256x512 : Shape := ⟨3, ![1, 256, 512]⟩
abbrev S1 : Shape := ⟨1, ![1]⟩
abbrev S1x256x128 : Shape := ⟨3, ![1, 256, 128]⟩
abbrev S1x8x256 : Shape := ⟨3, ![1, 8, 256]⟩
abbrev S8x256x128 : Shape := ⟨3, ![8, 256, 128]⟩
abbrev S4x256x128 : Shape := ⟨3, ![4, 256, 128]⟩
abbrev S256x512 : Shape := ⟨2, ![256, 512]⟩
abbrev S256x128 : Shape := ⟨2, ![256, 128]⟩
abbrev S256x1 : Shape := ⟨2, ![256, 1]⟩
abbrev S8x256 : Shape := ⟨2, ![8, 256]⟩
abbrev S512x128 : Shape := ⟨2, ![512, 128]⟩
abbrev S512x256 : Shape := ⟨2, ![512, 256]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩
abbrev S1x128x128 : Shape := ⟨3, ![1, 128, 128]⟩
abbrev S1x256 : Shape := ⟨2, ![1, 256]⟩
abbrev S128 : Shape := ⟨1, ![128]⟩
abbrev S128x1 : Shape := ⟨2, ![128, 1]⟩

abbrev nBuf : Space → Nat
  | .hbm => 5
  | .vmem => 16
  | .smem => 2
  | _ => 0

abbrev bufTy : (tb : Table) → Fin (tcTables nBuf tb) → BufTy
  | .hbm, ⟨0, _⟩ => ⟨S2x4096x7168, .f32⟩
  | .hbm, ⟨1, _⟩ => ⟨S2x4096x128, .f32⟩
  | .hbm, ⟨2, _⟩ => ⟨S2x4096x8, .f32⟩
  | .hbm, ⟨3, _⟩ => ⟨S2x8x4096, .f32⟩
  | .hbm, ⟨4, _⟩ => ⟨S2x4096x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x128, .f32⟩
  | .local _ .vmem, ⟨7, _⟩ => ⟨S1x256x128, .f32⟩
  | .local _ .vmem, ⟨8, _⟩ => ⟨S1x8x256, .f32⟩
  | .local _ .vmem, ⟨9, _⟩ => ⟨S1x8x256, .f32⟩
  | .local _ .vmem, ⟨10, _⟩ => ⟨S1x256x512, .f32⟩
  | .local _ .vmem, ⟨11, _⟩ => ⟨S1x256x512, .f32⟩
  | .local _ .vmem, ⟨12, _⟩ => ⟨S8x256x128, .f32⟩
  | .local _ .vmem, ⟨13, _⟩ => ⟨S4x256x128, .f32⟩
  | .local _ .vmem, ⟨14, _⟩ => ⟨S256x512, .f32⟩
  | .local _ .vmem, ⟨15, _⟩ => ⟨S8x256x128, .f32⟩
  | .local _ .smem, ⟨0, _⟩ => ⟨S136, .i32⟩
  | .local _ .smem, ⟨1, _⟩ => ⟨S136, .i32⟩
  | _, _ => ⟨S2x4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v13 : BitVec 1 := Scalar.cmpi .eq v3 v1
  let v14 : BitVec 32 := Scalar.extui v13
  let c0_i32_2 : BitVec 32 := 0#32
  let v15 : BitVec 1 := Scalar.cmpi .ne v14 c0_i32_2
  v15

def cc0_transform_0 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c6_i32 : BitVec 32 := 6#32
  let c0_i32 : BitVec 32 := 0#32
  ![arg0.toNat, v1.toNat, c6_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c7_i32 : BitVec 32 := 7#32
  let c0_i32 : BitVec 32 := 0#32
  ![arg0.toNat, v1.toNat, c7_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c8_i32 : BitVec 32 := 8#32
  let c0_i32 : BitVec 32 := 0#32
  ![arg0.toNat, v1.toNat, c8_i32.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((8 * (Real.log 2))⁻¹ : ℝ) : EReal)
  | _ => none
-- ==== ReferenceIdeal.lean ====
abbrev S2x4096x7168 : Shape := ⟨3, ![2, 4096, 7168]⟩
abbrev S2x4096x128 : Shape := ⟨3, ![2, 4096, 128]⟩
abbrev S2x4096x1536 : Shape := ⟨3, ![2, 4096, 1536]⟩
abbrev S2x4096x512 : Shape := ⟨3, ![2, 4096, 512]⟩
abbrev S2x4096x8x64 : Shape := ⟨4, ![2, 4096, 8, 64]⟩
abbrev S2x4096x8 : Shape := ⟨3, ![2, 4096, 8]⟩
abbrev S4096 : Shape := ⟨1, ![4096]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩
abbrev S2x8x1x4096 : Shape := ⟨4, ![2, 8, 1, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x8x64x4096 : Shape := ⟨4, ![2, 8, 64, 4096]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x7168, .f32⟩
  | .hbm, ⟨1, _⟩ => ⟨S2x4096x128, .f32⟩
  | .hbm, ⟨2, _⟩ => ⟨S2x4096x1536, .f32⟩
  | .hbm, ⟨3, _⟩ => ⟨S2x4096x512, .f32⟩
  | .hbm, ⟨4, _⟩ => ⟨S2x4096x512, .f32⟩
  | .hbm, ⟨5, _⟩ => ⟨S2x4096x512, .f32⟩
  | .hbm, ⟨6, _⟩ => ⟨S2x4096x8x64, .f32⟩
  | .hbm, ⟨7, _⟩ => ⟨S2x4096x8x64, .f32⟩
  | .hbm, ⟨8, _⟩ => ⟨S2x4096x8x64, .f32⟩
  | .hbm, ⟨9, _⟩ => ⟨S2x4096x8, .f32⟩
  | .hbm, ⟨10, _⟩ => ⟨S4096, .i32⟩
  | .hbm, ⟨11, _⟩ => ⟨S2x8x4096x4096, .f32⟩
  | .hbm, ⟨12, _⟩ => ⟨S_, .f32⟩
  | .hbm, ⟨13, _⟩ => ⟨S2x8x4096x4096, .f32⟩
  | .hbm, ⟨14, _⟩ => ⟨S2x8x4096x4096, .f32⟩
  | .hbm, ⟨15, _⟩ => ⟨S2x8x4096, .f32⟩
  | .hbm, ⟨16, _⟩ => ⟨S2x8x4096x1, .f32⟩
  | .hbm, ⟨17, _⟩ => ⟨S2x8x4096x4096, .f32⟩
  | .hbm, ⟨18, _⟩ => ⟨S2x8x4096x4096, .f32⟩
  | .hbm, ⟨19, _⟩ => ⟨S2x8x4096, .f32⟩
  | .hbm, ⟨20, _⟩ => ⟨S2x8x1x4096, .f32⟩
  | .hbm, ⟨21, _⟩ => ⟨S2x8x4096x4096, .f32⟩
  | .hbm, ⟨22, _⟩ => ⟨S2x8x4096x4096, .f32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S1x1x4096x4096, .i1⟩
  | .hbm, ⟨29, _⟩ => ⟨S_, .f32⟩
  | .hbm, ⟨30, _⟩ => ⟨S_, .f32⟩
  | .hbm, ⟨31, _⟩ => ⟨S2x8x4096x4096, .i1⟩
  | .hbm, ⟨32, _⟩ => ⟨S2x8x4096x4096, .f32⟩
  | .hbm, ⟨33, _⟩ => ⟨S2x8x4096x4096, .f32⟩
  | .hbm, ⟨34, _⟩ => ⟨S_, .f32⟩
  | .hbm, ⟨35, _⟩ => ⟨S2x8x4096, .f32⟩
  | .hbm, ⟨36, _⟩ => ⟨S_, .f32⟩
  | .hbm, ⟨37, _⟩ => ⟨S2x8x4096, .f32⟩
  | .hbm, ⟨38, _⟩ => ⟨S2x8x4096, .f32⟩
  | .hbm, ⟨39, _⟩ => ⟨S2x8x4096x1, .f32⟩
  | .hbm, ⟨40, _⟩ => ⟨S2x8x4096x4096, .f32⟩
  | .hbm, ⟨41, _⟩ => ⟨S2x8x4096x4096, .f32⟩
  | .hbm, ⟨42, _⟩ => ⟨S2x8x4096x4096, .f32⟩
  | .hbm, ⟨43, _⟩ => ⟨S_, .f32⟩
  | .hbm, ⟨44, _⟩ => ⟨S2x8x4096, .f32⟩
  | .hbm, ⟨45, _⟩ => ⟨S2x8x4096x1, .f32⟩
  | .hbm, ⟨46, _⟩ => ⟨S2x8x4096x4096, .f32⟩
  | .hbm, ⟨47, _⟩ => ⟨S2x8x4096x4096, .f32⟩
  | .hbm, ⟨48, _⟩ => ⟨S2x8x64x4096, .f32⟩
  | .hbm, ⟨49, _⟩ => ⟨S2x4096x8x64, .f32⟩
  | .hbm, ⟨50, _⟩ => ⟨S2x4096x512, .f32⟩
  | _, _ => ⟨S2x4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== OutKernel.lean ====
abbrev S8192x512 : Shape := ⟨2, ![8192, 512]⟩
abbrev S8192x7168 : Shape := ⟨2, ![8192, 7168]⟩
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S256x512 : Shape := ⟨2, ![256, 512]⟩
abbrev S256x2048 : Shape := ⟨2, ![256, 2048]⟩
abbrev S512x2048 : Shape := ⟨2, ![512, 2048]⟩
abbrev S256 : Shape := ⟨1, ![256]⟩
abbrev S256x1 : Shape := ⟨2, ![256, 1]⟩

abbrev nBuf : Space → Nat
  | .hbm => 13
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x7168, .f32⟩
  | .hbm, ⟨5, _⟩ => ⟨S8192x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S8192x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x2048, .f32⟩
  | .local _ .vmem, ⟨17, _⟩ => ⟨S256x2048, .f32⟩
  | .local _ .vmem, ⟨18, _⟩ => ⟨S2048x2048, .bf16⟩
  | .local _ .vmem, ⟨19, _⟩ => ⟨S1x2048, .f32⟩
  | .local _ .vmem, ⟨20, _⟩ => ⟨S1x2048, .f32⟩
  | .local _ .vmem, ⟨21, _⟩ => ⟨S256x2048, .f32⟩
  | .local _ .vmem, ⟨22, _⟩ => ⟨S256x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutReferenceIdeal.lean ====
abbrev S8192x512 : Shape := ⟨2, ![8192, 512]⟩
abbrev S8192x7168 : Shape := ⟨2, ![8192, 7168]⟩
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 88
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x7168, .f32⟩
  | .hbm, ⟨5, _⟩ => ⟨S8192x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S8192x1, .f32⟩
  | .hbm, ⟨80, _⟩ => ⟨S8192x2048, .f32⟩
  | .hbm, ⟨81, _⟩ => ⟨S8192x2048, .f32⟩
  | .hbm, ⟨82, _⟩ => ⟨S1x2048, .f32⟩
  | .hbm, ⟨83, _⟩ => ⟨S8192x2048, .f32⟩
  | .hbm, ⟨84, _⟩ => ⟨S8192x2048, .f32⟩
  | .hbm, ⟨85, _⟩ => ⟨S1x2048, .f32⟩
  | .hbm, ⟨86, _⟩ => ⟨S8192x2048, .f32⟩
  | .hbm, ⟨87, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== ProjKernel.lean ====
abbrev S2x4096x2048 : Shape := ⟨3, ![2, 4096, 2048]⟩
abbrev S2048x7168 : Shape := ⟨2, ![2048, 7168]⟩
abbrev S2048x128 : Shape := ⟨2, ![2048, 128]⟩
abbrev S2x2x512x4096 : Shape := ⟨4, ![2, 2, 512, 4096]⟩
abbrev S8192x2048 : Shape := ⟨2, ![8192, 2048]⟩
abbrev S8192x7168 : Shape := ⟨2, ![8192, 7168]⟩
abbrev S8192x128 : Shape := ⟨2, ![8192, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S1x1x512x1024 : Shape := ⟨4, ![1, 1, 512, 1024]⟩
abbrev S1024x512 : Shape := ⟨2, ![1024, 512]⟩
abbrev S512x1024 : Shape := ⟨2, ![512, 1024]⟩

abbrev nBuf : Space → Nat
  | .hbm => 10
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S2048x7168, .bf16⟩
  | .hbm, ⟨2, _⟩ => ⟨S2048x128, .bf16⟩
  | .hbm, ⟨3, _⟩ => ⟨S2x2x512x4096, .f32⟩
  | .hbm, ⟨4, _⟩ => ⟨S2x2x512x4096, .f32⟩
  | .hbm, ⟨5, _⟩ => ⟨S8192x2048, .f32⟩
  | .hbm, ⟨6, _⟩ => ⟨S8192x7168, .f32⟩
  | .hbm, ⟨7, _⟩ => ⟨S8192x128, .f32⟩
  | .hbm, ⟨8, _⟩ => ⟨S2x2x512x4096, .f32⟩
  | .hbm, ⟨9, _⟩ => ⟨S2x2x512x4096, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S1024x1024, .f32⟩
  | .local _ .vmem, ⟨6, _⟩ => ⟨S1024x1024, .f32⟩
  | .local _ .vmem, ⟨7, _⟩ => ⟨S1024x128, .f32⟩
  | .local _ .vmem, ⟨8, _⟩ => ⟨S1024x128, .f32⟩
  | .local _ .vmem, ⟨9, _⟩ => ⟨S1x1x512x1024, .f32⟩
  | .local _ .vmem, ⟨10, _⟩ => ⟨S1x1x512x1024, .f32⟩
  | .local _ .vmem, ⟨11, _⟩ => ⟨S1x1x512x1024, .f32⟩
  | .local _ .vmem, ⟨12, _⟩ => ⟨S1x1x512x1024, .f32⟩
  | .local _ .vmem, ⟨13, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v7 : BitVec 1 := Scalar.cmpi .eq arg1 c3_i32
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c4_i32 : BitVec 32 := 4#32
  let v10 : BitVec 1 := Scalar.cmpi .eq arg1 c4_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ProjReferenceIdeal.lean ====
abbrev S2x4096x2048 : Shape := ⟨3, ![2, 4096, 2048]⟩
abbrev S2048x7168 : Shape := ⟨2, ![2048, 7168]⟩
abbrev S2048x128 : Shape := ⟨2, ![2048, 128]⟩
abbrev S2x2x512x4096 : Shape := ⟨4, ![2, 2, 512, 4096]⟩
abbrev S8192x2048 : Shape := ⟨2, ![8192, 2048]⟩
abbrev S8192x7168 : Shape := ⟨2, ![8192, 7168]⟩
abbrev S8192x128 : Shape := ⟨2, ![8192, 128]⟩
abbrev S8192x512 : Shape := ⟨2, ![8192, 512]⟩
abbrev S2x4096x512 : Shape := ⟨3, ![2, 4096, 512]⟩
abbrev S2x512x4096 : Shape := ⟨3, ![2, 512, 4096]⟩
abbrev S1x2x512x4096 : Shape := ⟨4, ![1, 2, 512, 4096]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7168, .bf16⟩
  | .hbm, ⟨2, _⟩ => ⟨S2048x128, .bf16⟩
  | .hbm, ⟨3, _⟩ => ⟨S2x2x512x4096, .f32⟩
  | .hbm, ⟨4, _⟩ => ⟨S2x2x512x4096, .f32⟩
  | .hbm, ⟨5, _⟩ => ⟨S8192x2048, .f32⟩
  | .hbm, ⟨6, _⟩ => ⟨S2048x7168, .f32⟩
  | .hbm, ⟨7, _⟩ => ⟨S8192x7168, .f32⟩
  | .hbm, ⟨8, _⟩ => ⟨S2048x128, .f32⟩
  | .hbm, ⟨9, _⟩ => ⟨S8192x128, .f32⟩
  | .hbm, ⟨10, _⟩ => ⟨S8192x512, .f32⟩
  | .hbm, ⟨11, _⟩ => ⟨S2x4096x512, .f32⟩
  | .hbm, ⟨12, _⟩ => ⟨S2x512x4096, .f32⟩
  | .hbm, ⟨13, _⟩ => ⟨S8192x512, .f32⟩
  | .hbm, ⟨14, _⟩ => ⟨S2x4096x512, .f32⟩
  | .hbm, ⟨15, _⟩ => ⟨S2x512x4096, .f32⟩
  | .hbm, ⟨16, _⟩ => ⟨S1x2x512x4096, .f32⟩
  | .hbm, ⟨17, _⟩ => ⟨S2x512x4096, .f32⟩
  | .hbm, ⟨18, _⟩ => ⟨S1x2x512x4096, .f32⟩
  | .hbm, ⟨19, _⟩ => ⟨S1x2x512x4096, .f32⟩
  | .hbm, ⟨20, _⟩ => ⟨S2x2x512x4096, .f32⟩
  | .hbm, ⟨21, _⟩ => ⟨S1x2x512x4096, .f32⟩
  | .hbm, ⟨22, _⟩ => ⟨S2x512x4096, .f32⟩
  | .hbm, ⟨23, _⟩ => ⟨S1x2x512x4096, .f32⟩
  | .hbm, ⟨24, _⟩ => ⟨S1x2x512x4096, .f32⟩
  | .hbm, ⟨25, _⟩ => ⟨S2x2x512x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== PrepKernel.lean ====
abbrev S2x2048x7256 : Shape := ⟨3, ![2, 2048, 7256]⟩
abbrev S2x7256x2048 : Shape := ⟨3, ![2, 7256, 2048]⟩
abbrev S2048x7168 : Shape := ⟨2, ![2048, 7168]⟩
abbrev S2048x128 : Shape := ⟨2, ![2048, 128]⟩
abbrev S1x7256x256 : Shape := ⟨3, ![1, 7256, 256]⟩
abbrev S256x7168 : Shape := ⟨2, ![256, 7168]⟩
abbrev S256x128 : Shape := ⟨2, ![256, 128]⟩
abbrev S7256x256 : Shape := ⟨2, ![7256, 256]⟩
abbrev S1536x256 : Shape := ⟨2, ![1536, 256]⟩
abbrev S512x256 : Shape := ⟨2, ![512, 256]⟩
abbrev S7168x256 : Shape := ⟨2, ![7168, 256]⟩
abbrev S16x256 : Shape := ⟨2, ![16, 256]⟩
abbrev S64x256 : Shape := ⟨2, ![64, 256]⟩
abbrev S8x256 : Shape := ⟨2, ![8, 256]⟩
abbrev S40x256 : Shape := ⟨2, ![40, 256]⟩
abbrev S128x256 : Shape := ⟨2, ![128, 256]⟩

abbrev nBuf : Space → Nat
  | .hbm => 4
  | .vmem => 6
  | .smem => 0
  | _ => 0

abbrev bufTy : (tb : Table) → Fin (tcTables nBuf tb) → BufTy
  | .hbm, ⟨0, _⟩ => ⟨S2x2048x7256, .f32⟩
  | .hbm, ⟨1, _⟩ => ⟨S2x7256x2048, .f32⟩
  | .hbm, ⟨2, _⟩ => ⟨S2048x7168, .bf16⟩
  | .hbm, ⟨3, _⟩ => ⟨S2048x128, .bf16⟩
  | .local _ .vmem, ⟨0, _⟩ => ⟨S1x7256x256, .f32⟩
  | .local _ .vmem, ⟨1, _⟩ => ⟨S1x7256x256, .f32⟩
  | .local _ .vmem, ⟨2, _⟩ => ⟨S256x7168, .bf16⟩
  | .local _ .vmem, ⟨3, _⟩ => ⟨S256x7168, .bf16⟩
  | .local _ .vmem, ⟨4, _⟩ => ⟨S256x128, .bf16⟩
  | .local _ .vmem, ⟨5, _⟩ => ⟨S256x128, .bf16⟩
  | _, _ => ⟨S2x2048x7256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x7256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrepReferenceIdeal.lean ====
abbrev S2x2048x7256 : Shape := ⟨3, ![2, 2048, 7256]⟩
abbrev S1x2048x7256 : Shape := ⟨3, ![1, 2048, 7256]⟩
abbrev S2048x7256 : Shape := ⟨2, ![2048, 7256]⟩
abbrev S2048x1536 : Shape := ⟨2, ![2048, 1536]⟩
abbrev S2048x512 : Shape := ⟨2, ![2048, 512]⟩
abbrev S2048x7168 : Shape := ⟨2, ![2048, 7168]⟩
abbrev S2048x16 : Shape := ⟨2, ![2048, 16]⟩
abbrev S2048x64 : Shape := ⟨2, ![2048, 64]⟩
abbrev S2048x8 : Shape := ⟨2, ![2048, 8]⟩
abbrev S_ : Shape := ⟨0, ![]⟩
abbrev S2048x40 : Shape := ⟨2, ![2048, 40]⟩
abbrev S2048x128 : Shape := ⟨2, ![2048, 128]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x7256, .f32⟩
  | .hbm, ⟨1, _⟩ => ⟨S1x2048x7256, .f32⟩
  | .hbm, ⟨2, _⟩ => ⟨S2048x7256, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x7168, .f32⟩
  | .hbm, ⟨12, _⟩ => ⟨S2048x16, .f32⟩
  | .hbm, ⟨13, _⟩ => ⟨S2048x64, .f32⟩
  | .hbm, ⟨14, _⟩ => ⟨S2048x8, .f32⟩
  | .hbm, ⟨15, _⟩ => ⟨S_, .f32⟩
  | .hbm, ⟨16, _⟩ => ⟨S2048x40, .f32⟩
  | .hbm, ⟨17, _⟩ => ⟨S2048x128, .f32⟩
  | .hbm, ⟨18, _⟩ => ⟨S2048x7168, .bf16⟩
  | .hbm, ⟨19, _⟩ => ⟨S2048x128, .bf16⟩
  | _, _ => ⟨S2x2048x7256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== ProjSecondKernel.lean ====
abbrev S2x4096x2048 : Shape := ⟨3, ![2, 4096, 2048]⟩
abbrev S2048x7168 : Shape := ⟨2, ![2048, 7168]⟩
abbrev S2048x128 : Shape := ⟨2, ![2048, 128]⟩
abbrev S2x2x512x4096 : Shape := ⟨4, ![2, 2, 512, 4096]⟩
abbrev S8192x2048 : Shape := ⟨2, ![8192, 2048]⟩
abbrev S8192x7168 : Shape := ⟨2, ![8192, 7168]⟩
abbrev S8192x128 : Shape := ⟨2, ![8192, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S1x1x512x1024 : Shape := ⟨4, ![1, 1, 512, 1024]⟩
abbrev S1024x512 : Shape := ⟨2, ![1024, 512]⟩
abbrev S512x1024 : Shape := ⟨2, ![512, 1024]⟩

abbrev nBuf : Space → Nat
  | .hbm => 10
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S2048x7168, .bf16⟩
  | .hbm, ⟨2, _⟩ => ⟨S2048x128, .bf16⟩
  | .hbm, ⟨3, _⟩ => ⟨S2x2x512x4096, .f32⟩
  | .hbm, ⟨4, _⟩ => ⟨S2x2x512x4096, .f32⟩
  | .hbm, ⟨5, _⟩ => ⟨S8192x2048, .f32⟩
  | .hbm, ⟨6, _⟩ => ⟨S8192x7168, .f32⟩
  | .hbm, ⟨7, _⟩ => ⟨S8192x128, .f32⟩
  | .hbm, ⟨8, _⟩ => ⟨S2x2x512x4096, .f32⟩
  | .hbm, ⟨9, _⟩ => ⟨S2x2x512x4096, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S1024x1024, .f32⟩
  | .local _ .vmem, ⟨6, _⟩ => ⟨S1024x1024, .f32⟩
  | .local _ .vmem, ⟨7, _⟩ => ⟨S1024x128, .f32⟩
  | .local _ .vmem, ⟨8, _⟩ => ⟨S1024x128, .f32⟩
  | .local _ .vmem, ⟨9, _⟩ => ⟨S1x1x512x1024, .f32⟩
  | .local _ .vmem, ⟨10, _⟩ => ⟨S1x1x512x1024, .f32⟩
  | .local _ .vmem, ⟨11, _⟩ => ⟨S1x1x512x1024, .f32⟩
  | .local _ .vmem, ⟨12, _⟩ => ⟨S1x1x512x1024, .f32⟩
  | .local _ .vmem, ⟨13, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v7 : BitVec 1 := Scalar.cmpi .eq arg1 c3_i32
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c4_i32 : BitVec 32 := 4#32
  let v10 : BitVec 1 := Scalar.cmpi .eq arg1 c4_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ProjSecondReferenceIdeal.lean ====
abbrev S2x4096x2048 : Shape := ⟨3, ![2, 4096, 2048]⟩
abbrev S2048x7168 : Shape := ⟨2, ![2048, 7168]⟩
abbrev S2048x128 : Shape := ⟨2, ![2048, 128]⟩
abbrev S2x2x512x4096 : Shape := ⟨4, ![2, 2, 512, 4096]⟩
abbrev S8192x2048 : Shape := ⟨2, ![8192, 2048]⟩
abbrev S8192x7168 : Shape := ⟨2, ![8192, 7168]⟩
abbrev S8192x128 : Shape := ⟨2, ![8192, 128]⟩
abbrev S8192x512 : Shape := ⟨2, ![8192, 512]⟩
abbrev S2x4096x512 : Shape := ⟨3, ![2, 4096, 512]⟩
abbrev S2x512x4096 : Shape := ⟨3, ![2, 512, 4096]⟩
abbrev S1x2x512x4096 : Shape := ⟨4, ![1, 2, 512, 4096]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7168, .bf16⟩
  | .hbm, ⟨2, _⟩ => ⟨S2048x128, .bf16⟩
  | .hbm, ⟨3, _⟩ => ⟨S2x2x512x4096, .f32⟩
  | .hbm, ⟨4, _⟩ => ⟨S2x2x512x4096, .f32⟩
  | .hbm, ⟨5, _⟩ => ⟨S8192x2048, .f32⟩
  | .hbm, ⟨6, _⟩ => ⟨S2048x7168, .f32⟩
  | .hbm, ⟨7, _⟩ => ⟨S8192x7168, .f32⟩
  | .hbm, ⟨8, _⟩ => ⟨S2048x128, .f32⟩
  | .hbm, ⟨9, _⟩ => ⟨S8192x128, .f32⟩
  | .hbm, ⟨10, _⟩ => ⟨S8192x512, .f32⟩
  | .hbm, ⟨11, _⟩ => ⟨S2x4096x512, .f32⟩
  | .hbm, ⟨12, _⟩ => ⟨S2x512x4096, .f32⟩
  | .hbm, ⟨13, _⟩ => ⟨S8192x512, .f32⟩
  | .hbm, ⟨14, _⟩ => ⟨S2x4096x512, .f32⟩
  | .hbm, ⟨15, _⟩ => ⟨S2x512x4096, .f32⟩
  | .hbm, ⟨16, _⟩ => ⟨S1x2x512x4096, .f32⟩
  | .hbm, ⟨17, _⟩ => ⟨S2x512x4096, .f32⟩
  | .hbm, ⟨18, _⟩ => ⟨S1x2x512x4096, .f32⟩
  | .hbm, ⟨19, _⟩ => ⟨S1x2x512x4096, .f32⟩
  | .hbm, ⟨20, _⟩ => ⟨S2x2x512x4096, .f32⟩
  | .hbm, ⟨21, _⟩ => ⟨S1x2x512x4096, .f32⟩
  | .hbm, ⟨22, _⟩ => ⟨S2x512x4096, .f32⟩
  | .hbm, ⟨23, _⟩ => ⟨S1x2x512x4096, .f32⟩
  | .hbm, ⟨24, _⟩ => ⟨S1x2x512x4096, .f32⟩
  | .hbm, ⟨25, _⟩ => ⟨S2x2x512x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== PrepSecondKernel.lean ====
abbrev S2x2048x7256 : Shape := ⟨3, ![2, 2048, 7256]⟩
abbrev S2x7256x2048 : Shape := ⟨3, ![2, 7256, 2048]⟩
abbrev S2048x7168 : Shape := ⟨2, ![2048, 7168]⟩
abbrev S2048x128 : Shape := ⟨2, ![2048, 128]⟩
abbrev S1x7256x256 : Shape := ⟨3, ![1, 7256, 256]⟩
abbrev S256x7168 : Shape := ⟨2, ![256, 7168]⟩
abbrev S256x128 : Shape := ⟨2, ![256, 128]⟩
abbrev S7256x256 : Shape := ⟨2, ![7256, 256]⟩
abbrev S1536x256 : Shape := ⟨2, ![1536, 256]⟩
abbrev S512x256 : Shape := ⟨2, ![512, 256]⟩
abbrev S7168x256 : Shape := ⟨2, ![7168, 256]⟩
abbrev S16x256 : Shape := ⟨2, ![16, 256]⟩
abbrev S64x256 : Shape := ⟨2, ![64, 256]⟩
abbrev S8x256 : Shape := ⟨2, ![8, 256]⟩
abbrev S40x256 : Shape := ⟨2, ![40, 256]⟩
abbrev S128x256 : Shape := ⟨2, ![128, 256]⟩

abbrev nBuf : Space → Nat
  | .hbm => 4
  | .vmem => 6
  | .smem => 0
  | _ => 0

abbrev bufTy : (tb : Table) → Fin (tcTables nBuf tb) → BufTy
  | .hbm, ⟨0, _⟩ => ⟨S2x2048x7256, .f32⟩
  | .hbm, ⟨1, _⟩ => ⟨S2x7256x2048, .f32⟩
  | .hbm, ⟨2, _⟩ => ⟨S2048x7168, .bf16⟩
  | .hbm, ⟨3, _⟩ => ⟨S2048x128, .bf16⟩
  | .local _ .vmem, ⟨0, _⟩ => ⟨S1x7256x256, .f32⟩
  | .local _ .vmem, ⟨1, _⟩ => ⟨S1x7256x256, .f32⟩
  | .local _ .vmem, ⟨2, _⟩ => ⟨S256x7168, .bf16⟩
  | .local _ .vmem, ⟨3, _⟩ => ⟨S256x7168, .bf16⟩
  | .local _ .vmem, ⟨4, _⟩ => ⟨S256x128, .bf16⟩
  | .local _ .vmem, ⟨5, _⟩ => ⟨S256x128, .bf16⟩
  | _, _ => ⟨S2x2048x7256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x7256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrepSecondReferenceIdeal.lean ====
abbrev S2x2048x7256 : Shape := ⟨3, ![2, 2048, 7256]⟩
abbrev S1x2048x7256 : Shape := ⟨3, ![1, 2048, 7256]⟩
abbrev S2048x7256 : Shape := ⟨2, ![2048, 7256]⟩
abbrev S2048x1536 : Shape := ⟨2, ![2048, 1536]⟩
abbrev S2048x512 : Shape := ⟨2, ![2048, 512]⟩
abbrev S2048x7168 : Shape := ⟨2, ![2048, 7168]⟩
abbrev S2048x16 : Shape := ⟨2, ![2048, 16]⟩
abbrev S2048x64 : Shape := ⟨2, ![2048, 64]⟩
abbrev S2048x8 : Shape := ⟨2, ![2048, 8]⟩
abbrev S_ : Shape := ⟨0, ![]⟩
abbrev S2048x40 : Shape := ⟨2, ![2048, 40]⟩
abbrev S2048x128 : Shape := ⟨2, ![2048, 128]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x7256, .f32⟩
  | .hbm, ⟨1, _⟩ => ⟨S1x2048x7256, .f32⟩
  | .hbm, ⟨2, _⟩ => ⟨S2048x7256, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x7168, .f32⟩
  | .hbm, ⟨12, _⟩ => ⟨S2048x16, .f32⟩
  | .hbm, ⟨13, _⟩ => ⟨S2048x64, .f32⟩
  | .hbm, ⟨14, _⟩ => ⟨S2048x8, .f32⟩
  | .hbm, ⟨15, _⟩ => ⟨S_, .f32⟩
  | .hbm, ⟨16, _⟩ => ⟨S2048x40, .f32⟩
  | .hbm, ⟨17, _⟩ => ⟨S2048x128, .f32⟩
  | .hbm, ⟨18, _⟩ => ⟨S2048x7168, .bf16⟩
  | .hbm, ⟨19, _⟩ => ⟨S2048x128, .bf16⟩
  | _, _ => ⟨S2x2048x7256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Proof.Fox.Pins.lean ====
/- The two prefetched tables of the attention kernel and the buffers its body is handed. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The tables and scratches the kernel is handed, whole, at their literal types. -/
abbrev tbM0_0 : Memref sig .tc .smem S136 .i32 := Memref.whole main_c
abbrev tbM0_1 : Memref sig .tc .smem S136 .i32 := Memref.whole main_c_0
abbrev scM0_0 : Memref sig .tc .vmem S8x256x128 .f32 := Memref.whole cc0_scratch0
abbrev scM0_1 : Memref sig .tc .vmem S4x256x128 .f32 := Memref.whole cc0_scratch1
abbrev scM0_2 : Memref sig .tc .vmem S256x512 .f32 := Memref.whole cc0_scratch2
abbrev scM0_3 : Memref sig .tc .vmem S8x256x128 .f32 := Memref.whole cc0_scratch3

/-- The query blocks' table, -/
def pinT_0 : S136.Idx → BitVec 32 := fun i => lit0 (S136.rowMajor i)
/-- and the key blocks'. -/
def pinT_1 : S136.Idx → BitVec 32 := fun i => lit1 (S136.rowMajor i)

variable (F : FTy → Type) [FloatOps F] [Named F]

set_option backward.proofsInPublic true in
/-- The tables' contents the pipeline runs at. -/
def pfN : pre0.Contents (Elt F) := fun | ⟨0, _⟩ => pinT_0 | ⟨1, _⟩ => pinT_1 | ⟨_ + 2, h⟩ => absurd h (by simp)

/-- The pipeline's side condition (every block inside its array) at these tables: decided at the two readings used. -/
class TablesOk : Prop where
  ok : ok0 (F := F) (pfN F)

end Cert.Fox

end
-- ==== Proof.Fox.Cfg.lean ====
/- The pipeline at the tables, a point's coordinates and staging buffers, the windows' blocks, and the control's decisions. -/
module

public import proofs.«01_k».proof.Proof.Fox.Pins

@[expose] public section

set_option maxRecDepth 16384
set_option Elab.async false

noncomputable section

namespace Cert.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F] [Named F] [TablesOk F]

/-- The tables' contents, and the pipeline of 272 points that they give. -/
def adm : (pcfg0 (F := F)).Adm := ⟨pfN F, TablesOk.ok⟩
abbrev cfgA : Pipeline.Cfg sig Λ₀ := cfg0 (F := F) (adm F)
abbrev pcs : Fin 1 → Pipeline.Cfg sig Λ₀ := Pipeline.pin (pcfgs (F := F)) fun _ => adm F

variable (m : (ℓ : Loc nD τ sig) → Buf (Elt F) ℓ) (ρ : Dev nD → PrngReg)

/-! ## A point's coordinates, words and staging memrefs -/

/-- Point `t`'s coordinates. -/
abbrev crd (t : Fin (cfgA F).N) : (cfgA F).grid.Coords := (cfgA F).grid.coords t

/-- Each window's current staging memref at point `t`, spelled as the pipeline passes it, and its wholeness. -/
abbrev ms0_0 (t : Fin (cfgA F).N) : Memref sig .tc .vmem S1x256x512 .f32 := spec0_0.stage ((cfgA F).slots t (0 : Fin 6))
abbrev hs0_0 (t : Fin (cfgA F).N) : (ms0_0 F t).IsWhole := hstage0_0 (((cfgA F).slots t (0 : Fin 6)).cast nbuf0_0)
abbrev ms0_1 (t : Fin (cfgA F).N) : Memref sig .tc .vmem S1x256x512 .f32 := spec0_1.stage ((cfgA F).slots t (1 : Fin 6))
abbrev hs0_1 (t : Fin (cfgA F).N) : (ms0_1 F t).IsWhole := hstage0_1 (((cfgA F).slots t (1 : Fin 6)).cast nbuf0_1)
abbrev ms0_2 (t : Fin (cfgA F).N) : Memref sig .tc .vmem S1x256x512 .f32 := spec0_2.stage ((cfgA F).slots t (2 : Fin 6))
abbrev hs0_2 (t : Fin (cfgA F).N) : (ms0_2 F t).IsWhole := hstage0_2 (((cfgA F).slots t (2 : Fin 6)).cast nbuf0_2)
abbrev ms0_3 (t : Fin (cfgA F).N) : Memref sig .tc .vmem S1x256x128 .f32 := spec0_3.stage ((cfgA F).slots t (3 : Fin 6))
abbrev hs0_3 (t : Fin (cfgA F).N) : (ms0_3 F t).IsWhole := hstage0_3 (((cfgA F).slots t (3 : Fin 6)).cast nbuf0_3)
abbrev ms0_4 (t : Fin (cfgA F).N) : Memref sig .tc .vmem S1x8x256 .f32 := spec0_4.stage ((cfgA F).slots t (4 : Fin 6))
abbrev hs0_4 (t : Fin (cfgA F).N) : (ms0_4 F t).IsWhole := hstage0_4 (((cfgA F).slots t (4 : Fin 6)).cast nbuf0_4)
abbrev ms0_5 (t : Fin (cfgA F).N) : Memref sig .tc .vmem S1x256x512 .f32 := spec0_5.stage ((cfgA F).slots t (5 : Fin 6))
abbrev hs0_5 (t : Fin (cfgA F).N) : (ms0_5 F t).IsWhole := hstage0_5 (((cfgA F).slots t (5 : Fin 6)).cast nbuf0_5)

/-! ## The windows' blocks -/

/-- Core `c`'s buffers at launch; -/
abbrev V₀ (c : Dev nD) : Valuation τ sig (Elt F) := fun b => (s₀ m ρ).mem ((c : Dev nD), b)
/-- and when the region is entered: the host operations have run. -/
abbrev V (c : Dev nD) (b : Ref sig .tc) : Buf (Elt F) ((c : Thread nD τ).loc b) := StableHlo.after hostOps0 (V₀ F m ρ c) b

/-- Window `w`'s block at point `t`, read off its array as the region finds it. -/
def iblk (c : Dev nD) (w : Fin (cfgA F).W) (t : Fin (cfgA F).N) : (((cfgA F).win w).xblock (crd F t)).Idx → Elt F ((cfgA F).win w).elt :=
  (((cfgA F).win w).blk t).view.read (Elt F) (V F m ρ c (Pipeline.arrRef spec0 w))

/-! ## The control's decisions at a point -/

abbrev P0_0 (t : Fin (cfgA F).N) : Prop := (Scalar.cmpi .ne (Scalar.extui (Scalar.cmpi .eq (View.readAt (Elt F) (tbM0_1).view (Rect.unit (s := S136) (k0_off1 (crd F t)) S1.size (k0_off1_inb (crd F t))).toLoadRect (pinT_1) (Shape.Idx.first (numel1_S1.symm ▸ Nat.one_pos))) 0#32)) 0#32) = 1#1
abbrev P0_1 (t : Fin (cfgA F).N) : Prop := (Scalar.cmpi .ne (Scalar.extui (Scalar.cmpi .slt (View.readAt (Elt F) (tbM0_1).view (Rect.unit (s := S136) (k0_off1 (crd F t)) S1.size (k0_off1_inb (crd F t))).toLoadRect (pinT_1) (Shape.Idx.first (numel1_S1.symm ▸ Nat.one_pos))) (View.readAt (Elt F) (tbM0_0).view (Rect.unit (s := S136) (k0_off1 (crd F t)) S1.size (k0_off1_inb (crd F t))).toLoadRect (pinT_0) (Shape.Idx.first (numel1_S1.symm ▸ Nat.one_pos))))) 0#32) = 1#1

/-- Whether the scratches hold nothing a point has determined, before position `n`: only before the first. -/
def sfresh (n : ℕ) : Bool := decide (n ≤ 0)

/-- Whether the output's buffer still holds nothing before position `n + 1` (bit `n`): written back at the point
    before, or not yet stored to. -/
def frMask0_5 : ℕ := 0xffffffffffffffffffffffffffffffffffffffffffffffffffffffffffffffffffff
/-- The same with position 0, where it holds nothing. -/
def frTab0_5 : ℕ → Bool
  | 0 => true
  | n + 1 => frMask0_5.testBit n

end Cert.Fox

end
-- ==== Proof.Fox.Facts.lean ====
/- What the control decides at a point, and what the schedule does there, as one proposition. -/
module

public import proofs.«01_k».proof.Proof.Fox.Cfg

@[expose] public section

set_option maxRecDepth 16384
set_option Elab.async false

noncomputable section

namespace Cert.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F] [Named F] [TablesOk F]

/-! ## Everything decided at a point -/

/-- What is decided at point `t`: how the output's buffer passes from one position to the next, and on each control
    path the conditions its run asks and whether the block is written back. -/
abbrev FactsAt (t : Fin (cfgA F).N) : Prop :=
  (frTab0_5 (t.val + 1) = (((cfgA F).win (5 : Fin 6)).flush t || ((cfgA F).idle (5 : Fin 6) ((cfgA F).grid.coords t) && frTab0_5 t.val)))
  ∧ (P0_0 F t → ¬P0_1 F t → ((Scalar.cmpi .ne (Scalar.extui (Scalar.cmpi .eq (View.readAt (Elt F) (tbM0_1).view (Rect.unit (s := S136) (k0_off1 (crd F t)) S1.size (k0_off1_inb (crd F t))).toLoadRect (pinT_1) (Shape.Idx.first (numel1_S1.symm ▸ Nat.one_pos))) 0#32)) 0#32) = 1#1) ∧ ((¬((Scalar.cmpi .ne (Scalar.extui (Scalar.cmpi .slt (View.readAt (Elt F) (tbM0_1).view (Rect.unit (s := S136) (k0_off1 (crd F t)) S1.size (k0_off1_inb (crd F t))).toLoadRect (pinT_1) (Shape.Idx.first (numel1_S1.symm ▸ Nat.one_pos))) (View.readAt (Elt F) (tbM0_0).view (Rect.unit (s := S136) (k0_off1 (crd F t)) S1.size (k0_off1_inb (crd F t))).toLoadRect (pinT_0) (Shape.Idx.first (numel1_S1.symm ▸ Nat.one_pos))))) 0#32) = 1#1)) ∧ ((k0_cond3 (View.readAt (Elt F) (tbM0_0).view (Rect.unit (s := S136) (k0_off1 (crd F t)) S1.size (k0_off1_inb (crd F t))).toLoadRect (pinT_0) (Shape.Idx.first (numel1_S1.symm ▸ Nat.one_pos))) (View.readAt (Elt F) (tbM0_1).view (Rect.unit (s := S136) (k0_off1 (crd F t)) S1.size (k0_off1_inb (crd F t))).toLoadRect (pinT_1) (Shape.Idx.first (numel1_S1.symm ▸ Nat.one_pos))) = 1#1) ∧ (True))))
  ∧ (P0_0 F t → ¬P0_1 F t → (cfgA F).idle (5 : Fin 6) ((cfgA F).grid.coords t) = false ∧ ((cfgA F).win (5 : Fin 6)).flush t = true ∧ frTab0_5 t.val = true ∧ sfresh (t.val + 1) = false ∧ sfresh (t.val + 1) = false ∧ sfresh (t.val + 1) = false ∧ sfresh (t.val + 1) = false)
  ∧ (P0_0 F t → P0_1 F t → ((Scalar.cmpi .ne (Scalar.extui (Scalar.cmpi .eq (View.readAt (Elt F) (tbM0_1).view (Rect.unit (s := S136) (k0_off1 (crd F t)) S1.size (k0_off1_inb (crd F t))).toLoadRect (pinT_1) (Shape.Idx.first (numel1_S1.symm ▸ Nat.one_pos))) 0#32)) 0#32) = 1#1) ∧ (((Scalar.cmpi .ne (Scalar.extui (Scalar.cmpi .slt (View.readAt (Elt F) (tbM0_1).view (Rect.unit (s := S136) (k0_off1 (crd F t)) S1.size (k0_off1_inb (crd F t))).toLoadRect (pinT_1) (Shape.Idx.first (numel1_S1.symm ▸ Nat.one_pos))) (View.readAt (Elt F) (tbM0_0).view (Rect.unit (s := S136) (k0_off1 (crd F t)) S1.size (k0_off1_inb (crd F t))).toLoadRect (pinT_0) (Shape.Idx.first (numel1_S1.symm ▸ Nat.one_pos))))) 0#32) = 1#1) ∧ ((¬(k0_cond3 (View.readAt (Elt F) (tbM0_0).view (Rect.unit (s := S136) (k0_off1 (crd F t)) S1.size (k0_off1_inb (crd F t))).toLoadRect (pinT_0) (Shape.Idx.first (numel1_S1.symm ▸ Nat.one_pos))) (View.readAt (Elt F) (tbM0_1).view (Rect.unit (s := S136) (k0_off1 (crd F t)) S1.size (k0_off1_inb (crd F t))).toLoadRect (pinT_1) (Shape.Idx.first (numel1_S1.symm ▸ Nat.one_pos))) = 1#1)) ∧ (True))))
  ∧ (P0_0 F t → P0_1 F t → (cfgA F).idle (5 : Fin 6) ((cfgA F).grid.coords t) = true ∧ ((cfgA F).win (5 : Fin 6)).flush t = false ∧ frTab0_5 t.val = true ∧ sfresh t.val = false ∧ sfresh (t.val + 1) = false ∧ sfresh t.val = false ∧ sfresh (t.val + 1) = false ∧ sfresh t.val = false ∧ sfresh (t.val + 1) = false ∧ sfresh t.val = false ∧ sfresh (t.val + 1) = false)
  ∧ (¬P0_0 F t → ¬P0_1 F t → (¬((Scalar.cmpi .ne (Scalar.extui (Scalar.cmpi .eq (View.readAt (Elt F) (tbM0_1).view (Rect.unit (s := S136) (k0_off1 (crd F t)) S1.size (k0_off1_inb (crd F t))).toLoadRect (pinT_1) (Shape.Idx.first (numel1_S1.symm ▸ Nat.one_pos))) 0#32)) 0#32) = 1#1)) ∧ ((¬((Scalar.cmpi .ne (Scalar.extui (Scalar.cmpi .slt (View.readAt (Elt F) (tbM0_1).view (Rect.unit (s := S136) (k0_off1 (crd F t)) S1.size (k0_off1_inb (crd F t))).toLoadRect (pinT_1) (Shape.Idx.first (numel1_S1.symm ▸ Nat.one_pos))) (View.readAt (Elt F) (tbM0_0).view (Rect.unit (s := S136) (k0_off1 (crd F t)) S1.size (k0_off1_inb (crd F t))).toLoadRect (pinT_0) (Shape.Idx.first (numel1_S1.symm ▸ Nat.one_pos))))) 0#32) = 1#1)) ∧ ((k0_cond3 (View.readAt (Elt F) (tbM0_0).view (Rect.unit (s := S136) (k0_off1 (crd F t)) S1.size (k0_off1_inb (crd F t))).toLoadRect (pinT_0) (Shape.Idx.first (numel1_S1.symm ▸ Nat.one_pos))) (View.readAt (Elt F) (tbM0_1).view (Rect.unit (s := S136) (k0_off1 (crd F t)) S1.size (k0_off1_inb (crd F t))).toLoadRect (pinT_1) (Shape.Idx.first (numel1_S1.symm ▸ Nat.one_pos))) = 1#1) ∧ (True))))
  ∧ (¬P0_0 F t → ¬P0_1 F t → (cfgA F).idle (5 : Fin 6) ((cfgA F).grid.coords t) = false ∧ ((cfgA F).win (5 : Fin 6)).flush t = true ∧ frTab0_5 t.val = true ∧ sfresh t.val = false ∧ sfresh (t.val + 1) = false ∧ sfresh t.val = false ∧ sfresh (t.val + 1) = false ∧ sfresh t.val = false ∧ sfresh (t.val + 1) = false ∧ sfresh t.val = false ∧ sfresh (t.val + 1) = false)
  ∧ (¬P0_0 F t → P0_1 F t → (¬((Scalar.cmpi .ne (Scalar.extui (Scalar.cmpi .eq (View.readAt (Elt F) (tbM0_1).view (Rect.unit (s := S136) (k0_off1 (crd F t)) S1.size (k0_off1_inb (crd F t))).toLoadRect (pinT_1) (Shape.Idx.first (numel1_S1.symm ▸ Nat.one_pos))) 0#32)) 0#32) = 1#1)) ∧ (((Scalar.cmpi .ne (Scalar.extui (Scalar.cmpi .slt (View.readAt (Elt F) (tbM0_1).view (Rect.unit (s := S136) (k0_off1 (crd F t)) S1.size (k0_off1_inb (crd F t))).toLoadRect (pinT_1) (Shape.Idx.first (numel1_S1.symm ▸ Nat.one_pos))) (View.readAt (Elt F) (tbM0_0).view (Rect.unit (s := S136) (k0_off1 (crd F t)) S1.size (k0_off1_inb (crd F t))).toLoadRect (pinT_0) (Shape.Idx.first (numel1_S1.symm ▸ Nat.one_pos))))) 0#32) = 1#1) ∧ ((¬(k0_cond3 (View.readAt (Elt F) (tbM0_0).view (Rect.unit (s := S136) (k0_off1 (crd F t)) S1.size (k0_off1_inb (crd F t))).toLoadRect (pinT_0) (Shape.Idx.first (numel1_S1.symm ▸ Nat.one_pos))) (View.readAt (Elt F) (tbM0_1).view (Rect.unit (s := S136) (k0_off1 (crd F t)) S1.size (k0_off1_inb (crd F t))).toLoadRect (pinT_1) (Shape.Idx.first (numel1_S1.symm ▸ Nat.one_pos))) = 1#1)) ∧ (True))))
  ∧ (¬P0_0 F t → P0_1 F t → (cfgA F).idle (5 : Fin 6) ((cfgA F).grid.coords t) = true ∧ ((cfgA F).win (5 : Fin 6)).flush t = false ∧ frTab0_5 t.val = true ∧ sfresh t.val = false ∧ sfresh (t.val + 1) = false ∧ sfresh t.val = false ∧ sfresh (t.val + 1) = false ∧ sfresh t.val = false ∧ sfresh (t.val + 1) = false ∧ sfresh t.val = false ∧ sfresh (t.val + 1) = false)

set_option synthInstance.maxSize 65536 in
instance FactsAt.dec (t : Fin (cfgA F).N) : Decidable (FactsAt F t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))

/-- These facts at every point: decided at the two readings used. -/
class Decided : Prop where
  facts : ∀ t : Fin (cfgA F).N, FactsAt F t

end Cert.Fox

end
-- ==== Proof.Fox.Runs.lean ====
/- The kernel body run once per control path, on any whole staging buffers. -/
module

public import proofs.«01_k».proof.Proof.Fox.Pins

@[expose] public section

set_option maxRecDepth 16384
set_option Elab.async false

noncomputable section

namespace Cert.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The kernel body per control path, on symbolic staging memrefs: a subtype the run finds -/

/-- One staging buffer of output window 5, through which its contents are stated (`View.read_writes_of_cover`). -/
abbrev VO0_5 : View sig .tc .vmem S1x256x512 .f32 := (Memref.whole cc0_stg5_0 : Memref sig .tc .vmem S1x256x512 .f32).view

set_option backward.proofsInPublic true in
set_option maxHeartbeats 8000000 in
/-- PATH A (points 0, 136): what the body leaves — per stored output its pieces (last first), per scratch its
    contents — WITH the proof that, on whole staging memrefs, from the inputs at their blocks, the tables, the outputs
    (5: stored) and the scratches (0: covered, 1: covered, 2: covered, 3: covered), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_A (c : Dev nD) (i : grid0.Coords) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x128 .f32) (harg7 : arg7.IsWhole) (arg8 : Memref sig .tc .vmem S1x8x256 .f32) (harg8 : arg8.IsWhole) (arg9 : Memref sig .tc .vmem S1x256x512 .f32) (harg9 : arg9.IsWhole) (T0 : (S136.Idx → Elt F .i32)) (T1 : (S136.Idx → Elt F .i32))
     (x0 : (S1x256x512.Idx → Elt F .f32)) (x1 : (S1x256x512.Idx → Elt F .f32)) (x2 : (S1x256x512.Idx → Elt F .f32)) (x3 : (S1x256x128.Idx → Elt F .f32)) (x4 : (S1x8x256.Idx → Elt F .f32)) (hc0 : (Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt F) (tbM0_1).view (Rect.unit (s := S136) (k0_off1 i) S1.size (k0_off1_inb i)).toLoadRect T1 (Shape.Idx.first (numel1_S1.symm ▸ Nat.one_pos))) (View.readAt (Elt F) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) :
    Σ' (out0 : List (View.Piece (Elt F) S1x256x512 .f32)) (out1 : Buf (Elt F) ((c : Thread nD τ).loc cc0_scratch0)) (out2 : Buf (Elt F) ((c : Thread nD τ).loc cc0_scratch1)) (out3 : Buf (Elt F) ((c : Thread nD τ).loc cc0_scratch2)), { out4 : Buf (Elt F) ((c : Thread nD τ).loc cc0_scratch3) //
      ∀ (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt F) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := F)) Variants.none c none) Set.univ (cc0_fox_prompt i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, _, fun (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) K => by
    unfold owns
    rw [cc0_fox_prompt_eq_skeleton]; unfold cc0_fox_prompt_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

/-- Path A's pieces for output 5 tile its block (4 stores of `S1x256x128`). -/
theorem cover0_A_5 (c : Dev nD) (i : grid0.Coords) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x128 .f32) (harg7 : arg7.IsWhole) (arg8 : Memref sig .tc .vmem S1x8x256 .f32) (harg8 : arg8.IsWhole) (arg9 : Memref sig .tc .vmem S1x256x512 .f32) (harg9 : arg9.IsWhole) (T0 : (S136.Idx → Elt F .i32)) (T1 : (S136.Idx → Elt F .i32))
     (x0 : (S1x256x512.Idx → Elt F .f32)) (x1 : (S1x256x512.Idx → Elt F .f32)) (x2 : (S1x256x512.Idx → Elt F .f32)) (x3 : (S1x256x128.Idx → Elt F .f32)) (x4 : (S1x8x256.Idx → Elt F .f32)) (hc0 : (Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt F) (tbM0_1).view (Rect.unit (s := S136) (k0_off1 i) S1.size (k0_off1_inb i)).toLoadRect T1 (Shape.Idx.first (numel1_S1.symm ▸ Nat.one_pos))) (View.readAt (Elt F) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) (y : S1x256x512.Idx) :
    ∃ pc ∈ (kernelRun0_A c i arg4 harg4 arg5 harg5 arg6 harg6 arg7 harg7 arg8 harg8 arg9 harg9 T0 T1 x0 x1 x2 x3 x4 hc0 hc1 k0_h3).1, y ∈ pc.1.set :=
  View.cover_of_tiledL (kernelRun0_A c i arg4 harg4 arg5 harg5 arg6 harg6 arg7 harg7 arg8 harg8 arg9 harg9 T0 T1 x0 x1 x2 x3 x4 hc0 hc1 k0_h3).1 S1x256x128.size (by sl_kernel_rfl) y

/-- What path A leaves in output 5's staging buffer: its pieces read back over junk. -/
def out0_A_5 (c : Dev nD) (i : grid0.Coords) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x128 .f32) (harg7 : arg7.IsWhole) (arg8 : Memref sig .tc .vmem S1x8x256 .f32) (harg8 : arg8.IsWhole) (arg9 : Memref sig .tc .vmem S1x256x512 .f32) (harg9 : arg9.IsWhole) (T0 : (S136.Idx → Elt F .i32)) (T1 : (S136.Idx → Elt F .i32))
     (x0 : (S1x256x512.Idx → Elt F .f32)) (x1 : (S1x256x512.Idx → Elt F .f32)) (x2 : (S1x256x512.Idx → Elt F .f32)) (x3 : (S1x256x128.Idx → Elt F .f32)) (x4 : (S1x8x256.Idx → Elt F .f32)) (hc0 : (Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt F) (tbM0_1).view (Rect.unit (s := S136) (k0_off1 i) S1.size (k0_off1_inb i)).toLoadRect T1 (Shape.Idx.first (numel1_S1.symm ▸ Nat.one_pos))) (View.readAt (Elt F) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) : (S1x256x512.Idx → Elt F .f32) :=
  VO0_5.read (Elt F) (VO0_5.writes (Elt F) VO0_5.junk (kernelRun0_A c i arg4 harg4 arg5 harg5 arg6 harg6 arg7 harg7 arg8 harg8 arg9 harg9 T0 T1 x0 x1 x2 x3 x4 hc0 hc1 k0_h3).1)

set_option backward.proofsInPublic true in
set_option maxHeartbeats 8000000 in
/-- PATH B (points 1, 3, … 256: 30 of 272): what the body leaves — per stored output its pieces (last first), per scratch its
    contents — WITH the proof that, on whole staging memrefs, from the inputs at their blocks, the tables, the outputs
    (5: idle) and the scratches (0: covered, 1: covered, 2: covered, 3: covered), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_B (c : Dev nD) (i : grid0.Coords) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x128 .f32) (harg7 : arg7.IsWhole) (arg8 : Memref sig .tc .vmem S1x8x256 .f32) (harg8 : arg8.IsWhole) (arg9 : Memref sig .tc .vmem S1x256x512 .f32) (harg9 : arg9.IsWhole) (T0 : (S136.Idx → Elt F .i32)) (T1 : (S136.Idx → Elt F .i32))
     (x0 : (S1x256x512.Idx → Elt F .f32)) (x1 : (S1x256x512.Idx → Elt F .f32)) (x2 : (S1x256x512.Idx → Elt F .f32)) (x3 : (S1x256x128.Idx → Elt F .f32)) (x4 : (S1x8x256.Idx → Elt F .f32)) (hc0 : (Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt F) (tbM0_1).view (Rect.unit (s := S136) (k0_off1 i) S1.size (k0_off1_inb i)).toLoadRect T1 (Shape.Idx.first (numel1_S1.symm ▸ Nat.one_pos))) (View.readAt (Elt F) (tbM0_0).view (Rect.unit (s := S136) (k0_off1 i) S1.size (k0_off1_inb i)).toLoadRect T0 (Shape.Idx.first (numel1_S1.symm ▸ Nat.one_pos))))) 0#32) = 1#1) (k0_h3 : ¬(k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1)) :
    Σ' (out0 : Buf (Elt F) ((c : Thread nD τ).loc cc0_scratch0)) (out1 : Buf (Elt F) ((c : Thread nD τ).loc cc0_scratch1)) (out2 : Buf (Elt F) ((c : Thread nD τ).loc cc0_scratch2)), { out3 : Buf (Elt F) ((c : Thread nD τ).loc cc0_scratch3) //
      ∀ (y5 : (S1x256x512.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ owns (c : Thread nD τ) arg9 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ owns (c : Thread nD τ) arg9 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := F)) Variants.none c none) Set.univ (cc0_fox_prompt i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, fun (y5 : (S1x256x512.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) K => by
    unfold owns
    rw [cc0_fox_prompt_eq_skeleton]; unfold cc0_fox_prompt_skel
    iintro ⟨H0, H1, H2, H3, H4, HT0, HT1, ⟨%f5, %hf5, HO5⟩, HS0, HS1, HS2, HS3, Hk⟩
    obtain rfl := harg9.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg9.read_unread _
      iexact HO5
    isplitl [HS0]; · iexact HS0
    isplitl [HS1]; · iexact HS1
    isplitl [HS2]; · iexact HS2
    iexact HS3⟩

set_option backward.proofsInPublic true in
set_option maxHeartbeats 8000000 in
/-- PATH C (points 2, 5, … 271: 30 of 272): what the body leaves — per stored output its pieces (last first), per scratch its
    contents — WITH the proof that, on whole staging memrefs, from the inputs at their blocks, the tables, the outputs
    (5: stored) and the scratches (0: carried, 1: carried, 2: carried, 3: carried), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_C (c : Dev nD) (i : grid0.Coords) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x128 .f32) (harg7 : arg7.IsWhole) (arg8 : Memref sig .tc .vmem S1x8x256 .f32) (harg8 : arg8.IsWhole) (arg9 : Memref sig .tc .vmem S1x256x512 .f32) (harg9 : arg9.IsWhole) (T0 : (S136.Idx → Elt F .i32)) (T1 : (S136.Idx → Elt F .i32))
     (x0 : (S1x256x512.Idx → Elt F .f32)) (x1 : (S1x256x512.Idx → Elt F .f32)) (x2 : (S1x256x512.Idx → Elt F .f32)) (x3 : (S1x256x128.Idx → Elt F .f32)) (x4 : (S1x8x256.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (hc0 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt F) (tbM0_1).view (Rect.unit (s := S136) (k0_off1 i) S1.size (k0_off1_inb i)).toLoadRect T1 (Shape.Idx.first (numel1_S1.symm ▸ Nat.one_pos))) (View.readAt (Elt F) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) :
    Σ' (out0 : List (View.Piece (Elt F) S1x256x512 .f32)) (out1 : Buf (Elt F) ((c : Thread nD τ).loc cc0_scratch0)) (out2 : Buf (Elt F) ((c : Thread nD τ).loc cc0_scratch1)) (out3 : Buf (Elt F) ((c : Thread nD τ).loc cc0_scratch2)), { out4 : Buf (Elt F) ((c : Thread nD τ).loc cc0_scratch3) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt F) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := F)) Variants.none c none) Set.univ (cc0_fox_prompt i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, _, fun K => by
    unfold owns
    rw [cc0_fox_prompt_eq_skeleton]; unfold cc0_fox_prompt_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

/-- Path C's pieces for output 5 tile its block (4 stores of `S1x256x128`). -/
theorem cover0_C_5 (c : Dev nD) (i : grid0.Coords) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x128 .f32) (harg7 : arg7.IsWhole) (arg8 : Memref sig .tc .vmem S1x8x256 .f32) (harg8 : arg8.IsWhole) (arg9 : Memref sig .tc .vmem S1x256x512 .f32) (harg9 : arg9.IsWhole) (T0 : (S136.Idx → Elt F .i32)) (T1 : (S136.Idx → Elt F .i32))
     (x0 : (S1x256x512.Idx → Elt F .f32)) (x1 : (S1x256x512.Idx → Elt F .f32)) (x2 : (S1x256x512.Idx → Elt F .f32)) (x3 : (S1x256x128.Idx → Elt F .f32)) (x4 : (S1x8x256.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (hc0 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt F) (tbM0_1).view (Rect.unit (s := S136) (k0_off1 i) S1.size (k0_off1_inb i)).toLoadRect T1 (Shape.Idx.first (numel1_S1.symm ▸ Nat.one_pos))) (View.readAt (Elt F) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) (y : S1x256x512.Idx) :
    ∃ pc ∈ (kernelRun0_C c i arg4 harg4 arg5 harg5 arg6 harg6 arg7 harg7 arg8 harg8 arg9 harg9 T0 T1 x0 x1 x2 x3 x4 xa0 xa1 xa2 xa3 hc0 hc1 k0_h3).1, y ∈ pc.1.set :=
  View.cover_of_tiledL (kernelRun0_C c i arg4 harg4 arg5 harg5 arg6 harg6 arg7 harg7 arg8 harg8 arg9 harg9 T0 T1 x0 x1 x2 x3 x4 xa0 xa1 xa2 xa3 hc0 hc1 k0_h3).1 S1x256x128.size (by sl_kernel_rfl) y

/-- What path C leaves in output 5's staging buffer: its pieces read back over junk. -/
def out0_C_5 (c : Dev nD) (i : grid0.Coords) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x128 .f32) (harg7 : arg7.IsWhole) (arg8 : Memref sig .tc .vmem S1x8x256 .f32) (harg8 : arg8.IsWhole) (arg9 : Memref sig .tc .vmem S1x256x512 .f32) (harg9 : arg9.IsWhole) (T0 : (S136.Idx → Elt F .i32)) (T1 : (S136.Idx → Elt F .i32))
     (x0 : (S1x256x512.Idx → Elt F .f32)) (x1 : (S1x256x512.Idx → Elt F .f32)) (x2 : (S1x256x512.Idx → Elt F .f32)) (x3 : (S1x256x128.Idx → Elt F .f32)) (x4 : (S1x8x256.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (hc0 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt F) (tbM0_1).view (Rect.unit (s := S136) (k0_off1 i) S1.size (k0_off1_inb i)).toLoadRect T1 (Shape.Idx.first (numel1_S1.symm ▸ Nat.one_pos))) (View.readAt (Elt F) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) : (S1x256x512.Idx → Elt F .f32) :=
  VO0_5.read (Elt F) (VO0_5.writes (Elt F) VO0_5.junk (kernelRun0_C c i arg4 harg4 arg5 harg5 arg6 harg6 arg7 harg7 arg8 harg8 arg9 harg9 T0 T1 x0 x1 x2 x3 x4 xa0 xa1 xa2 xa3 hc0 hc1 k0_h3).1)

set_option backward.proofsInPublic true in
set_option maxHeartbeats 8000000 in
/-- PATH D (points 4, 7, … 270: 210 of 272): what the body leaves — per stored output its pieces (last first), per scratch its
    contents — WITH the proof that, on whole staging memrefs, from the inputs at their blocks, the tables, the outputs
    (5: idle) and the scratches (0: carried, 1: carried, 2: carried, 3: carried), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_D (c : Dev nD) (i : grid0.Coords) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x128 .f32) (harg7 : arg7.IsWhole) (arg8 : Memref sig .tc .vmem S1x8x256 .f32) (harg8 : arg8.IsWhole) (arg9 : Memref sig .tc .vmem S1x256x512 .f32) (harg9 : arg9.IsWhole) (T0 : (S136.Idx → Elt F .i32)) (T1 : (S136.Idx → Elt F .i32))
     (x0 : (S1x256x512.Idx → Elt F .f32)) (x1 : (S1x256x512.Idx → Elt F .f32)) (x2 : (S1x256x512.Idx → Elt F .f32)) (x3 : (S1x256x128.Idx → Elt F .f32)) (x4 : (S1x8x256.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (hc0 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt F) (tbM0_1).view (Rect.unit (s := S136) (k0_off1 i) S1.size (k0_off1_inb i)).toLoadRect T1 (Shape.Idx.first (numel1_S1.symm ▸ Nat.one_pos))) (View.readAt (Elt F) (tbM0_0).view (Rect.unit (s := S136) (k0_off1 i) S1.size (k0_off1_inb i)).toLoadRect T0 (Shape.Idx.first (numel1_S1.symm ▸ Nat.one_pos))))) 0#32) = 1#1) (k0_h3 : ¬(k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1)) :
    Σ' (out0 : Buf (Elt F) ((c : Thread nD τ).loc cc0_scratch0)) (out1 : Buf (Elt F) ((c : Thread nD τ).loc cc0_scratch1)) (out2 : Buf (Elt F) ((c : Thread nD τ).loc cc0_scratch2)), { out3 : Buf (Elt F) ((c : Thread nD τ).loc cc0_scratch3) //
      ∀ (y5 : (S1x256x512.Idx → Elt F .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ owns (c : Thread nD τ) arg9 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ owns (c : Thread nD τ) arg9 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := F)) Variants.none c none) Set.univ (cc0_fox_prompt i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, fun (y5 : (S1x256x512.Idx → Elt F .f32)) K => by
    unfold owns
    rw [cc0_fox_prompt_eq_skeleton]; unfold cc0_fox_prompt_skel
    iintro ⟨H0, H1, H2, H3, H4, HT0, HT1, ⟨%f5, %hf5, HO5⟩, HS0, HS1, HS2, HS3, Hk⟩
    obtain rfl := harg9.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg9.read_unread _
      iexact HO5
    isplitl [HS0]; · iexact HS0
    isplitl [HS1]; · iexact HS1
    isplitl [HS2]; · iexact HS2
    iexact HS3⟩

end Cert.Fox

end
-- ==== Proof.Fox.Body.lean ====
/- What each grid point leaves in the result's buffer and the scratches, the pipeline's proof data, and its body obligation. -/
module

public import proofs.«01_k».proof.Proof.Fox.Facts
public import proofs.«01_k».proof.Proof.Fox.Runs
public import Idealize.ShloMosaic.Lib.Claim
public import Idealize.ShloMosaic.Lib.Pipeline.Quiescent

@[expose] public section

set_option maxRecDepth 16384
set_option Elab.async false

noncomputable section

namespace Cert.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F] [Named F] [TablesOk F]

local notation "𝕄" => MT nD τ sig Unit (Elt F) ℕ (UR sig nD τ) ℕ

/-- Something for a buffer nothing has determined yet. -/
local instance junkElt : Inhabited (Elt F .f32) := ⟨FloatOps.ofBits (F := F) (φ := .f32) 0⟩
local instance junkBlock : Inhabited (S1x256x512.Idx → Elt F .f32) := ⟨fun _ => default⟩
local instance junkS0 (c : Dev nD) : Inhabited (Buf (Elt F) ((c : Thread nD τ).loc cc0_scratch0)) := ⟨fun _ => (junkElt F).default⟩
local instance junkS1 (c : Dev nD) : Inhabited (Buf (Elt F) ((c : Thread nD τ).loc cc0_scratch1)) := ⟨fun _ => (junkElt F).default⟩
local instance junkS2 (c : Dev nD) : Inhabited (Buf (Elt F) ((c : Thread nD τ).loc cc0_scratch2)) := ⟨fun _ => (junkElt F).default⟩
local instance junkS3 (c : Dev nD) : Inhabited (Buf (Elt F) ((c : Thread nD τ).loc cc0_scratch3)) := ⟨fun _ => (junkElt F).default⟩

variable [Decided F] (m : (ℓ : Loc nD τ sig) → Buf (Elt F) ℓ) (ρ : Dev nD → PrngReg)

theorem frTab0_5_step : ∀ (t : Fin (cfgA F).N),
    frTab0_5 (t.val + 1) = (((cfgA F).win (5 : Fin 6)).flush t || ((cfgA F).idle (5 : Fin 6) ((cfgA F).grid.coords t) && frTab0_5 t.val)) := fun t => (Decided.facts t).1
theorem freshF0_5 (t : Fin (cfgA F).N) : (cfgA F).fresh (5 : Fin 6) t.val = frTab0_5 t.val :=
  Pipeline.Cfg.fresh_tab (cfgA F) (5 : Fin 6) (frTab0_5) rfl (frTab0_5_step F) t.val (Nat.le_of_lt t.isLt)

/-- At a point of path A the words the body reads decide the branches that way. -/
theorem hyps0_A : ∀ (t : Fin (cfgA F).N), P0_0 F t → ¬P0_1 F t →
    ((Scalar.cmpi .ne (Scalar.extui (Scalar.cmpi .eq (View.readAt (Elt F) (tbM0_1).view (Rect.unit (s := S136) (k0_off1 (crd F t)) S1.size (k0_off1_inb (crd F t))).toLoadRect (pinT_1) (Shape.Idx.first (numel1_S1.symm ▸ Nat.one_pos))) 0#32)) 0#32) = 1#1) ∧ ((¬((Scalar.cmpi .ne (Scalar.extui (Scalar.cmpi .slt (View.readAt (Elt F) (tbM0_1).view (Rect.unit (s := S136) (k0_off1 (crd F t)) S1.size (k0_off1_inb (crd F t))).toLoadRect (pinT_1) (Shape.Idx.first (numel1_S1.symm ▸ Nat.one_pos))) (View.readAt (Elt F) (tbM0_0).view (Rect.unit (s := S136) (k0_off1 (crd F t)) S1.size (k0_off1_inb (crd F t))).toLoadRect (pinT_0) (Shape.Idx.first (numel1_S1.symm ▸ Nat.one_pos))))) 0#32) = 1#1)) ∧ ((k0_cond3 (View.readAt (Elt F) (tbM0_0).view (Rect.unit (s := S136) (k0_off1 (crd F t)) S1.size (k0_off1_inb (crd F t))).toLoadRect (pinT_0) (Shape.Idx.first (numel1_S1.symm ▸ Nat.one_pos))) (View.readAt (Elt F) (tbM0_1).view (Rect.unit (s := S136) (k0_off1 (crd F t)) S1.size (k0_off1_inb (crd F t))).toLoadRect (pinT_1) (Shape.Idx.first (numel1_S1.symm ▸ Nat.one_pos))) = 1#1) ∧ (True))) := fun t => (Decided.facts t).2.1

theorem hypsR0_A : ∀ (t : Fin (cfgA F).N), P0_0 F t → ¬P0_1 F t →
    ((Scalar.cmpi .ne (Scalar.extui (Scalar.cmpi .eq (View.readAt (Elt F) (tbM0_1).view (Rect.unit (s := S136) (k0_off1 (crd F t)) S1.size (k0_off1_inb (crd F t))).toLoadRect (pinT_1) (Shape.Idx.first (numel1_S1.symm ▸ Nat.one_pos))) 0#32)) 0#32) = 1#1) ∧ ((¬((Scalar.cmpi .ne (Scalar.extui (Scalar.cmpi .slt (View.readAt (Elt F) (tbM0_1).view (Rect.unit (s := S136) (k0_off1 (crd F t)) S1.size (k0_off1_inb (crd F t))).toLoadRect (pinT_1) (Shape.Idx.first (numel1_S1.symm ▸ Nat.one_pos))) (View.readAt (Elt F) (tbM0_0).view (Rect.unit (s := S136) (k0_off1 (crd F t)) S1.size (k0_off1_inb (crd F t))).toLoadRect (pinT_0) (Shape.Idx.first (numel1_S1.symm ▸ Nat.one_pos))))) 0#32) = 1#1)) ∧ ((k0_cond3 (View.readAt (Elt F) (tbM0_0).view (Rect.unit (s := S136) (k0_off1 (crd F t)) S1.size (k0_off1_inb (crd F t))).toLoadRect (pinT_0) (Shape.Idx.first (numel1_S1.symm ▸ Nat.one_pos))) (View.readAt (Elt F) (tbM0_1).view (Rect.unit (s := S136) (k0_off1 (crd F t)) S1.size (k0_off1_inb (crd F t))).toLoadRect (pinT_1) (Shape.Idx.first (numel1_S1.symm ▸ Nat.one_pos))) = 1#1) ∧ (True))) := hyps0_A F

/-- At a point of path A: whether the output's block is stored and written back, and which buffers hold nothing yet. -/
theorem sched0_A : ∀ (t : Fin (cfgA F).N), P0_0 F t → ¬P0_1 F t →
    (cfgA F).idle (5 : Fin 6) ((cfgA F).grid.coords t) = false ∧ ((cfgA F).win (5 : Fin 6)).flush t = true ∧ (cfgA F).fresh (5 : Fin 6) t.val = true ∧ sfresh (t.val + 1) = false ∧ sfresh (t.val + 1) = false ∧ sfresh (t.val + 1) = false ∧ sfresh (t.val + 1) = false := by
  intro t; rw [freshF0_5 F t];  exact (Decided.facts t).2.2.1

/-- At a point of path B the words the body reads decide the branches that way. -/
theorem hyps0_B : ∀ (t : Fin (cfgA F).N), P0_0 F t → P0_1 F t →
    ((Scalar.cmpi .ne (Scalar.extui (Scalar.cmpi .eq (View.readAt (Elt F) (tbM0_1).view (Rect.unit (s := S136) (k0_off1 (crd F t)) S1.size (k0_off1_inb (crd F t))).toLoadRect (pinT_1) (Shape.Idx.first (numel1_S1.symm ▸ Nat.one_pos))) 0#32)) 0#32) = 1#1) ∧ (((Scalar.cmpi .ne (Scalar.extui (Scalar.cmpi .slt (View.readAt (Elt F) (tbM0_1).view (Rect.unit (s := S136) (k0_off1 (crd F t)) S1.size (k0_off1_inb (crd F t))).toLoadRect (pinT_1) (Shape.Idx.first (numel1_S1.symm ▸ Nat.one_pos))) (View.readAt (Elt F) (tbM0_0).view (Rect.unit (s := S136) (k0_off1 (crd F t)) S1.size (k0_off1_inb (crd F t))).toLoadRect (pinT_0) (Shape.Idx.first (numel1_S1.symm ▸ Nat.one_pos))))) 0#32) = 1#1) ∧ ((¬(k0_cond3 (View.readAt (Elt F) (tbM0_0).view (Rect.unit (s := S136) (k0_off1 (crd F t)) S1.size (k0_off1_inb (crd F t))).toLoadRect (pinT_0) (Shape.Idx.first (numel1_S1.symm ▸ Nat.one_pos))) (View.readAt (Elt F) (tbM0_1).view (Rect.unit (s := S136) (k0_off1 (crd F t)) S1.size (k0_off1_inb (crd F t))).toLoadRect (pinT_1) (Shape.Idx.first (numel1_S1.symm ▸ Nat.one_pos))) = 1#1)) ∧ (True))) := fun t => (Decided.facts t).2.2.2.1

theorem hypsR0_B : ∀ (t : Fin (cfgA F).N), P0_0 F t → P0_1 F t →
    ((Scalar.cmpi .ne (Scalar.extui (Scalar.cmpi .eq (View.readAt (Elt F) (tbM0_1).view (Rect.unit (s := S136) (k0_off1 (crd F t)) S1.size (k0_off1_inb (crd F t))).toLoadRect (pinT_1) (Shape.Idx.first (numel1_S1.symm ▸ Nat.one_pos))) 0#32)) 0#32) = 1#1) ∧ (((Scalar.cmpi .ne (Scalar.extui (Scalar.cmpi .slt (View.readAt (Elt F) (tbM0_1).view (Rect.unit (s := S136) (k0_off1 (crd F t)) S1.size (k0_off1_inb (crd F t))).toLoadRect (pinT_1) (Shape.Idx.first (numel1_S1.symm ▸ Nat.one_pos))) (View.readAt (Elt F) (tbM0_0).view (Rect.unit (s := S136) (k0_off1 (crd F t)) S1.size (k0_off1_inb (crd F t))).toLoadRect (pinT_0) (Shape.Idx.first (numel1_S1.symm ▸ Nat.one_pos))))) 0#32) = 1#1) ∧ ((¬(k0_cond3 (View.readAt (Elt F) (tbM0_0).view (Rect.unit (s := S136) (k0_off1 (crd F t)) S1.size (k0_off1_inb (crd F t))).toLoadRect (pinT_0) (Shape.Idx.first (numel1_S1.symm ▸ Nat.one_pos))) (View.readAt (Elt F) (tbM0_1).view (Rect.unit (s := S136) (k0_off1 (crd F t)) S1.size (k0_off1_inb (crd F t))).toLoadRect (pinT_1) (Shape.Idx.first (numel1_S1.symm ▸ Nat.one_pos))) = 1#1)) ∧ (True))) := hyps0_B F

/-- At a point of path B: whether the output's block is stored and written back, and which buffers hold nothing yet. -/
theorem sched0_B : ∀ (t : Fin (cfgA F).N), P0_0 F t → P0_1 F t →
    (cfgA F).idle (5 : Fin 6) ((cfgA F).grid.coords t) = true ∧ ((cfgA F).win (5 : Fin 6)).flush t = false ∧ (cfgA F).fresh (5 : Fin 6) t.val = true ∧ sfresh t.val = false ∧ sfresh (t.val + 1) = false ∧ sfresh t.val = false ∧ sfresh (t.val + 1) = false ∧ sfresh t.val = false ∧ sfresh (t.val + 1) = false ∧ sfresh t.val = false ∧ sfresh (t.val + 1) = false := by
  intro t; rw [freshF0_5 F t];  exact (Decided.facts t).2.2.2.2.1

/-- At a point of path C the words the body reads decide the branches that way. -/
theorem hyps0_C : ∀ (t : Fin (cfgA F).N), ¬P0_0 F t → ¬P0_1 F t →
    (¬((Scalar.cmpi .ne (Scalar.extui (Scalar.cmpi .eq (View.readAt (Elt F) (tbM0_1).view (Rect.unit (s := S136) (k0_off1 (crd F t)) S1.size (k0_off1_inb (crd F t))).toLoadRect (pinT_1) (Shape.Idx.first (numel1_S1.symm ▸ Nat.one_pos))) 0#32)) 0#32) = 1#1)) ∧ ((¬((Scalar.cmpi .ne (Scalar.extui (Scalar.cmpi .slt (View.readAt (Elt F) (tbM0_1).view (Rect.unit (s := S136) (k0_off1 (crd F t)) S1.size (k0_off1_inb (crd F t))).toLoadRect (pinT_1) (Shape.Idx.first (numel1_S1.symm ▸ Nat.one_pos))) (View.readAt (Elt F) (tbM0_0).view (Rect.unit (s := S136) (k0_off1 (crd F t)) S1.size (k0_off1_inb (crd F t))).toLoadRect (pinT_0) (Shape.Idx.first (numel1_S1.symm ▸ Nat.one_pos))))) 0#32) = 1#1)) ∧ ((k0_cond3 (View.readAt (Elt F) (tbM0_0).view (Rect.unit (s := S136) (k0_off1 (crd F t)) S1.size (k0_off1_inb (crd F t))).toLoadRect (pinT_0) (Shape.Idx.first (numel1_S1.symm ▸ Nat.one_pos))) (View.readAt (Elt F) (tbM0_1).view (Rect.unit (s := S136) (k0_off1 (crd F t)) S1.size (k0_off1_inb (crd F t))).toLoadRect (pinT_1) (Shape.Idx.first (numel1_S1.symm ▸ Nat.one_pos))) = 1#1) ∧ (True))) := fun t => (Decided.facts t).2.2.2.2.2.1

theorem hypsR0_C : ∀ (t : Fin (cfgA F).N), ¬P0_0 F t → ¬P0_1 F t →
    (¬((Scalar.cmpi .ne (Scalar.extui (Scalar.cmpi .eq (View.readAt (Elt F) (tbM0_1).view (Rect.unit (s := S136) (k0_off1 (crd F t)) S1.size (k0_off1_inb (crd F t))).toLoadRect (pinT_1) (Shape.Idx.first (numel1_S1.symm ▸ Nat.one_pos))) 0#32)) 0#32) = 1#1)) ∧ ((¬((Scalar.cmpi .ne (Scalar.extui (Scalar.cmpi .slt (View.readAt (Elt F) (tbM0_1).view (Rect.unit (s := S136) (k0_off1 (crd F t)) S1.size (k0_off1_inb (crd F t))).toLoadRect (pinT_1) (Shape.Idx.first (numel1_S1.symm ▸ Nat.one_pos))) (View.readAt (Elt F) (tbM0_0).view (Rect.unit (s := S136) (k0_off1 (crd F t)) S1.size (k0_off1_inb (crd F t))).toLoadRect (pinT_0) (Shape.Idx.first (numel1_S1.symm ▸ Nat.one_pos))))) 0#32) = 1#1)) ∧ ((k0_cond3 (View.readAt (Elt F) (tbM0_0).view (Rect.unit (s := S136) (k0_off1 (crd F t)) S1.size (k0_off1_inb (crd F t))).toLoadRect (pinT_0) (Shape.Idx.first (numel1_S1.symm ▸ Nat.one_pos))) (View.readAt (Elt F) (tbM0_1).view (Rect.unit (s := S136) (k0_off1 (crd F t)) S1.size (k0_off1_inb (crd F t))).toLoadRect (pinT_1) (Shape.Idx.first (numel1_S1.symm ▸ Nat.one_pos))) = 1#1) ∧ (True))) := hyps0_C F

/-- At a point of path C: whether the output's block is stored and written back, and which buffers hold nothing yet. -/
theorem sched0_C : ∀ (t : Fin (cfgA F).N), ¬P0_0 F t → ¬P0_1 F t →
    (cfgA F).idle (5 : Fin 6) ((cfgA F).grid.coords t) = false ∧ ((cfgA F).win (5 : Fin 6)).flush t = true ∧ (cfgA F).fresh (5 : Fin 6) t.val = true ∧ sfresh t.val = false ∧ sfresh (t.val + 1) = false ∧ sfresh t.val = false ∧ sfresh (t.val + 1) = false ∧ sfresh t.val = false ∧ sfresh (t.val + 1) = false ∧ sfresh t.val = false ∧ sfresh (t.val + 1) = false := by
  intro t; rw [freshF0_5 F t];  exact (Decided.facts t).2.2.2.2.2.2.1

/-- At a point of path D the words the body reads decide the branches that way. -/
theorem hyps0_D : ∀ (t : Fin (cfgA F).N), ¬P0_0 F t → P0_1 F t →
    (¬((Scalar.cmpi .ne (Scalar.extui (Scalar.cmpi .eq (View.readAt (Elt F) (tbM0_1).view (Rect.unit (s := S136) (k0_off1 (crd F t)) S1.size (k0_off1_inb (crd F t))).toLoadRect (pinT_1) (Shape.Idx.first (numel1_S1.symm ▸ Nat.one_pos))) 0#32)) 0#32) = 1#1)) ∧ (((Scalar.cmpi .ne (Scalar.extui (Scalar.cmpi .slt (View.readAt (Elt F) (tbM0_1).view (Rect.unit (s := S136) (k0_off1 (crd F t)) S1.size (k0_off1_inb (crd F t))).toLoadRect (pinT_1) (Shape.Idx.first (numel1_S1.symm ▸ Nat.one_pos))) (View.readAt (Elt F) (tbM0_0).view (Rect.unit (s := S136) (k0_off1 (crd F t)) S1.size (k0_off1_inb (crd F t))).toLoadRect (pinT_0) (Shape.Idx.first (numel1_S1.symm ▸ Nat.one_pos))))) 0#32) = 1#1) ∧ ((¬(k0_cond3 (View.readAt (Elt F) (tbM0_0).view (Rect.unit (s := S136) (k0_off1 (crd F t)) S1.size (k0_off1_inb (crd F t))).toLoadRect (pinT_0) (Shape.Idx.first (numel1_S1.symm ▸ Nat.one_pos))) (View.readAt (Elt F) (tbM0_1).view (Rect.unit (s := S136) (k0_off1 (crd F t)) S1.size (k0_off1_inb (crd F t))).toLoadRect (pinT_1) (Shape.Idx.first (numel1_S1.symm ▸ Nat.one_pos))) = 1#1)) ∧ (True))) := fun t => (Decided.facts t).2.2.2.2.2.2.2.1

theorem hypsR0_D : ∀ (t : Fin (cfgA F).N), ¬P0_0 F t → P0_1 F t →
    (¬((Scalar.cmpi .ne (Scalar.extui (Scalar.cmpi .eq (View.readAt (Elt F) (tbM0_1).view (Rect.unit (s := S136) (k0_off1 (crd F t)) S1.size (k0_off1_inb (crd F t))).toLoadRect (pinT_1) (Shape.Idx.first (numel1_S1.symm ▸ Nat.one_pos))) 0#32)) 0#32) = 1#1)) ∧ (((Scalar.cmpi .ne (Scalar.extui (Scalar.cmpi .slt (View.readAt (Elt F) (tbM0_1).view (Rect.unit (s := S136) (k0_off1 (crd F t)) S1.size (k0_off1_inb (crd F t))).toLoadRect (pinT_1) (Shape.Idx.first (numel1_S1.symm ▸ Nat.one_pos))) (View.readAt (Elt F) (tbM0_0).view (Rect.unit (s := S136) (k0_off1 (crd F t)) S1.size (k0_off1_inb (crd F t))).toLoadRect (pinT_0) (Shape.Idx.first (numel1_S1.symm ▸ Nat.one_pos))))) 0#32) = 1#1) ∧ ((¬(k0_cond3 (View.readAt (Elt F) (tbM0_0).view (Rect.unit (s := S136) (k0_off1 (crd F t)) S1.size (k0_off1_inb (crd F t))).toLoadRect (pinT_0) (Shape.Idx.first (numel1_S1.symm ▸ Nat.one_pos))) (View.readAt (Elt F) (tbM0_1).view (Rect.unit (s := S136) (k0_off1 (crd F t)) S1.size (k0_off1_inb (crd F t))).toLoadRect (pinT_1) (Shape.Idx.first (numel1_S1.symm ▸ Nat.one_pos))) = 1#1)) ∧ (True))) := hyps0_D F

/-- At a point of path D: whether the output's block is stored and written back, and which buffers hold nothing yet. -/
theorem sched0_D : ∀ (t : Fin (cfgA F).N), ¬P0_0 F t → P0_1 F t →
    (cfgA F).idle (5 : Fin 6) ((cfgA F).grid.coords t) = true ∧ ((cfgA F).win (5 : Fin 6)).flush t = false ∧ (cfgA F).fresh (5 : Fin 6) t.val = true ∧ sfresh t.val = false ∧ sfresh (t.val + 1) = false ∧ sfresh t.val = false ∧ sfresh (t.val + 1) = false ∧ sfresh t.val = false ∧ sfresh (t.val + 1) = false ∧ sfresh t.val = false ∧ sfresh (t.val + 1) = false := by
  intro t; rw [freshF0_5 F t];  exact (Decided.facts t).2.2.2.2.2.2.2.2

/-! ## What the outputs and scratches hold after each point -/

/-- ONE STEP of the trajectory: what the outputs' current buffers and the scratches hold after the body at point `t`
    (output 5, scratch 0, scratch 1, scratch 2, scratch 3), from what they held before (`prev`): the path the decisions select at `t`, its
    run's contents; an output the path leaves idle keeps what it held (junk — `default`, named by nothing — where fresh). -/
def step0 (c : Dev nD) (t : Fin (cfgA F).N) (prev : (S1x256x512.Idx → Elt F .f32) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3)) : (S1x256x512.Idx → Elt F .f32) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) :=
  if q0 : P0_0 F t then
    if q1 : P0_1 F t then
      ((if (cfgA F).fresh (5 : Fin 6) t.val then default else prev.1), (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_B F t q0 q1).1 (hypsR0_B F t q0 q1).2.1 (hypsR0_B F t q0 q1).2.2.1).1, (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_B F t q0 q1).1 (hypsR0_B F t q0 q1).2.1 (hypsR0_B F t q0 q1).2.2.1).2.1, (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_B F t q0 q1).1 (hypsR0_B F t q0 q1).2.1 (hypsR0_B F t q0 q1).2.2.1).2.2.1, (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_B F t q0 q1).1 (hypsR0_B F t q0 q1).2.1 (hypsR0_B F t q0 q1).2.2.1).2.2.2.1)
    else
      (out0_A_5 c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_A F t q0 q1).1 (hypsR0_A F t q0 q1).2.1 (hypsR0_A F t q0 q1).2.2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_A F t q0 q1).1 (hypsR0_A F t q0 q1).2.1 (hypsR0_A F t q0 q1).2.2.1).2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_A F t q0 q1).1 (hypsR0_A F t q0 q1).2.1 (hypsR0_A F t q0 q1).2.2.1).2.2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_A F t q0 q1).1 (hypsR0_A F t q0 q1).2.1 (hypsR0_A F t q0 q1).2.2.1).2.2.2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_A F t q0 q1).1 (hypsR0_A F t q0 q1).2.1 (hypsR0_A F t q0 q1).2.2.1).2.2.2.2.1)
  else
    if q1 : P0_1 F t then
      ((if (cfgA F).fresh (5 : Fin 6) t.val then default else prev.1), (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_D F t q0 q1).1 (hypsR0_D F t q0 q1).2.1 (hypsR0_D F t q0 q1).2.2.1).1, (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_D F t q0 q1).1 (hypsR0_D F t q0 q1).2.1 (hypsR0_D F t q0 q1).2.2.1).2.1, (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_D F t q0 q1).1 (hypsR0_D F t q0 q1).2.1 (hypsR0_D F t q0 q1).2.2.1).2.2.1, (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_D F t q0 q1).1 (hypsR0_D F t q0 q1).2.1 (hypsR0_D F t q0 q1).2.2.1).2.2.2.1)
    else
      (out0_C_5 c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_C F t q0 q1).1 (hypsR0_C F t q0 q1).2.1 (hypsR0_C F t q0 q1).2.2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_C F t q0 q1).1 (hypsR0_C F t q0 q1).2.1 (hypsR0_C F t q0 q1).2.2.1).2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_C F t q0 q1).1 (hypsR0_C F t q0 q1).2.1 (hypsR0_C F t q0 q1).2.2.1).2.2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_C F t q0 q1).1 (hypsR0_C F t q0 q1).2.1 (hypsR0_C F t q0 q1).2.2.1).2.2.2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_C F t q0 q1).1 (hypsR0_C F t q0 q1).2.1 (hypsR0_C F t q0 q1).2.2.1).2.2.2.2.1)

/-- The output's buffer and the scratches after position `n`. -/
def traj0 (c : Dev nD) : (n : ℕ) → n < (cfgA F).N → (S1x256x512.Idx → Elt F .f32) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3)
  | 0, h => step0 F m ρ c ⟨0, h⟩ (default, default, default, default, default)
  | n + 1, h => step0 F m ρ c ⟨n + 1, h⟩ (traj0 c n (Nat.lt_of_succ_lt h))

/-- What they held BEFORE point `t` (junk before the first). -/
def prev0 (c : Dev nD) (t : Fin (cfgA F).N) : (S1x256x512.Idx → Elt F .f32) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) :=
  if h : t.val = 0 then (default, default, default, default, default) else traj0 F m ρ c (t.val - 1) (by omega)

theorem traj0_eq (c : Dev nD) (t : Fin (cfgA F).N) : traj0 F m ρ c t.val t.isLt = step0 F m ρ c t (prev0 F m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA F).N) (prev : (S1x256x512.Idx → Elt F .f32) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3)) (q0 : P0_0 F t) (q1 : ¬P0_1 F t) :
    step0 F m ρ c t prev = (out0_A_5 c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_A F t q0 q1).1 (hypsR0_A F t q0 q1).2.1 (hypsR0_A F t q0 q1).2.2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_A F t q0 q1).1 (hypsR0_A F t q0 q1).2.1 (hypsR0_A F t q0 q1).2.2.1).2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_A F t q0 q1).1 (hypsR0_A F t q0 q1).2.1 (hypsR0_A F t q0 q1).2.2.1).2.2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_A F t q0 q1).1 (hypsR0_A F t q0 q1).2.1 (hypsR0_A F t q0 q1).2.2.1).2.2.2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_A F t q0 q1).1 (hypsR0_A F t q0 q1).2.1 (hypsR0_A F t q0 q1).2.2.1).2.2.2.2.1) := by
  unfold step0; simp only [dif_pos q0, dif_neg q1]

/-- `step0` at a point of path B. -/
theorem step0_B (c : Dev nD) (t : Fin (cfgA F).N) (prev : (S1x256x512.Idx → Elt F .f32) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3)) (q0 : P0_0 F t) (q1 : P0_1 F t) :
    step0 F m ρ c t prev = ((if (cfgA F).fresh (5 : Fin 6) t.val then default else prev.1), (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_B F t q0 q1).1 (hypsR0_B F t q0 q1).2.1 (hypsR0_B F t q0 q1).2.2.1).1, (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_B F t q0 q1).1 (hypsR0_B F t q0 q1).2.1 (hypsR0_B F t q0 q1).2.2.1).2.1, (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_B F t q0 q1).1 (hypsR0_B F t q0 q1).2.1 (hypsR0_B F t q0 q1).2.2.1).2.2.1, (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) (hypsR0_B F t q0 q1).1 (hypsR0_B F t q0 q1).2.1 (hypsR0_B F t q0 q1).2.2.1).2.2.2.1) := by
  unfold step0; simp only [dif_pos q0, dif_pos q1]

/-- `step0` at a point of path C. -/
theorem step0_C (c : Dev nD) (t : Fin (cfgA F).N) (prev : (S1x256x512.Idx → Elt F .f32) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3)) (q0 : ¬P0_0 F t) (q1 : ¬P0_1 F t) :
    step0 F m ρ c t prev = (out0_C_5 c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_C F t q0 q1).1 (hypsR0_C F t q0 q1).2.1 (hypsR0_C F t q0 q1).2.2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_C F t q0 q1).1 (hypsR0_C F t q0 q1).2.1 (hypsR0_C F t q0 q1).2.2.1).2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_C F t q0 q1).1 (hypsR0_C F t q0 q1).2.1 (hypsR0_C F t q0 q1).2.2.1).2.2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_C F t q0 q1).1 (hypsR0_C F t q0 q1).2.1 (hypsR0_C F t q0 q1).2.2.1).2.2.2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_C F t q0 q1).1 (hypsR0_C F t q0 q1).2.1 (hypsR0_C F t q0 q1).2.2.1).2.2.2.2.1) := by
  unfold step0; simp only [dif_neg q0, dif_neg q1]

/-- `step0` at a point of path D. -/
theorem step0_D (c : Dev nD) (t : Fin (cfgA F).N) (prev : (S1x256x512.Idx → Elt F .f32) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3)) (q0 : ¬P0_0 F t) (q1 : P0_1 F t) :
    step0 F m ρ c t prev = ((if (cfgA F).fresh (5 : Fin 6) t.val then default else prev.1), (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_D F t q0 q1).1 (hypsR0_D F t q0 q1).2.1 (hypsR0_D F t q0 q1).2.2.1).1, (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_D F t q0 q1).1 (hypsR0_D F t q0 q1).2.1 (hypsR0_D F t q0 q1).2.2.1).2.1, (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_D F t q0 q1).1 (hypsR0_D F t q0 q1).2.1 (hypsR0_D F t q0 q1).2.2.1).2.2.1, (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) prev.2.1 prev.2.2.1 prev.2.2.2.1 prev.2.2.2.2 (hypsR0_D F t q0 q1).1 (hypsR0_D F t q0 q1).2.1 (hypsR0_D F t q0 q1).2.2.1).2.2.2.1) := by
  unfold step0; simp only [dif_neg q0, dif_pos q1]

/-! ## The pipeline's proof data -/

/-- What the tracked buffers held before position `t` of `Fin (N+1)` (the invariant's index). -/
def prev0T (c : Dev nD) (t : Fin ((cfgA F).N + 1)) : (S1x256x512.Idx → Elt F .f32) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) :=
  if h : t.val = 0 then (default, default, default, default, default) else traj0 F m ρ c (t.val - 1) (by omega)

theorem prev0T_castSucc (c : Dev nD) (t : Fin (cfgA F).N) : prev0T F m ρ c t.castSucc = prev0 F m ρ c t := by
  unfold prev0T prev0; simp only [Fin.val_castSucc]
theorem prev0T_succ (c : Dev nD) (t : Fin (cfgA F).N) : prev0T F m ρ c t.succ = traj0 F m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables, the core's generator register. -/
def Phi (m : (ℓ : Loc nD τ sig) → Buf (Elt F) ℓ) (ρ : Dev nD → PrngReg) (c : Dev nD) (t : Fin ((cfgA F).N + 1)) : sProp 𝕄 :=
  iprop((∃ a, ⌜sfresh t.val = false → a = (prev0T F m ρ c t).2.1⌝ ∗ (scM0_0.view.loc (c : Thread nD τ) ↦{fullShare} a)) ∗ (∃ a, ⌜sfresh t.val = false → a = (prev0T F m ρ c t).2.2.1⌝ ∗ (scM0_1.view.loc (c : Thread nD τ) ↦{fullShare} a)) ∗ (∃ a, ⌜sfresh t.val = false → a = (prev0T F m ρ c t).2.2.2.1⌝ ∗ (scM0_2.view.loc (c : Thread nD τ) ↦{fullShare} a)) ∗ (∃ a, ⌜sfresh t.val = false → a = (prev0T F m ρ c t).2.2.2.2⌝ ∗ (scM0_3.view.loc (c : Thread nD τ) ↦{fullShare} a)) ∗ (tbM0_0.view.loc (c : Thread nD τ) ↦{fullShare.right} pinT_0) ∗ (tbM0_1.view.loc (c : Thread nD τ) ↦{fullShare.right} pinT_1) ∗ (∃ r, prngReg c r))

/-- The proof data of the one pipeline on core `c`. -/
def dats (_ : Fin 1) (c : Dev nD) : Dat τ (Elt F) Unit ℕ (UR sig nD τ) ℕ (cfgA F) c where
  A w := V F m ρ c (Pipeline.arrRef spec0 w)
  after w t := match w with
    | ⟨0, _⟩ => iblk F m ρ c (0 : Fin 6) t
    | ⟨1, _⟩ => iblk F m ρ c (1 : Fin 6) t
    | ⟨2, _⟩ => iblk F m ρ c (2 : Fin 6) t
    | ⟨3, _⟩ => iblk F m ρ c (3 : Fin 6) t
    | ⟨4, _⟩ => iblk F m ρ c (4 : Fin 6) t
    | ⟨5, _⟩ => (traj0 F m ρ c t.val t.isLt).1
  Φ t := Phi F m ρ c t
  q w := Pipeline.shareOf spec0 w
  owed _ := 0

theorem after0_0 (c : Dev nD) (t : Fin (cfgA F).N) : (dats F m ρ 0 c).after (0 : Fin 6) t = iblk F m ρ c (0 : Fin 6) t := rfl
theorem after0_1 (c : Dev nD) (t : Fin (cfgA F).N) : (dats F m ρ 0 c).after (1 : Fin 6) t = iblk F m ρ c (1 : Fin 6) t := rfl
theorem after0_2 (c : Dev nD) (t : Fin (cfgA F).N) : (dats F m ρ 0 c).after (2 : Fin 6) t = iblk F m ρ c (2 : Fin 6) t := rfl
theorem after0_3 (c : Dev nD) (t : Fin (cfgA F).N) : (dats F m ρ 0 c).after (3 : Fin 6) t = iblk F m ρ c (3 : Fin 6) t := rfl
theorem after0_4 (c : Dev nD) (t : Fin (cfgA F).N) : (dats F m ρ 0 c).after (4 : Fin 6) t = iblk F m ρ c (4 : Fin 6) t := rfl
theorem after0_5 (c : Dev nD) (t : Fin (cfgA F).N) : (dats F m ρ 0 c).after (5 : Fin 6) t = (traj0 F m ρ c t.val t.isLt).1 := rfl

/-! ## What each window's staging buffer holds when the body runs -/

/-- Input window 0 holds its block, fetched there or not. -/
theorem before0_0 (c : Dev nD) (t : Fin (cfgA F).N) (d) : (dats F m ρ 0 c).before (0 : Fin 6) t d = iblk F m ρ c (0 : Fin 6) t :=
  ((dats F m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA F).N) (d) : (dats F m ρ 0 c).before (1 : Fin 6) t d = iblk F m ρ c (1 : Fin 6) t :=
  ((dats F m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA F).N) (d) : (dats F m ρ 0 c).before (2 : Fin 6) t d = iblk F m ρ c (2 : Fin 6) t :=
  ((dats F m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

/-- Input window 3 holds its block, fetched there or not. -/
theorem before0_3 (c : Dev nD) (t : Fin (cfgA F).N) (d) : (dats F m ρ 0 c).before (3 : Fin 6) t d = iblk F m ρ c (3 : Fin 6) t :=
  ((dats F m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

/-- Input window 4 holds its block, fetched there or not. -/
theorem before0_4 (c : Dev nD) (t : Fin (cfgA F).N) (d) : (dats F m ρ 0 c).before (4 : Fin 6) t d = iblk F m ρ c (4 : Fin 6) t :=
  ((dats F m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

/-- Output 5's `after` carries through the points that leave it idle. -/
theorem hcarry0_5 (c : Dev nD) : ∀ (t : Fin (cfgA F).N) (ht : t.val ≠ 0), (cfgA F).idle (5 : Fin 6) ((cfgA F).grid.coords t) = true → (cfgA F).fresh (5 : Fin 6) t.val = false →
    (dats F m ρ 0 c).after (5 : Fin 6) t = (dats F m ρ 0 c).after (5 : Fin 6) ⟨t.val - 1, by omega⟩ := by
  intro t ht hi hf
  rw [after0_5, after0_5, traj0_eq]
  by_cases q0 : P0_0 F t
  · by_cases q1 : P0_1 F t
    · rw [step0_B F m ρ c t _ q0 q1]
      simp only [hf, Bool.false_eq_true, ↓reduceIte]
      unfold prev0; rw [dif_neg ht]
    · obtain ⟨i5, -, -, -, -, -, -⟩ := sched0_A F t q0 q1
      rw [i5] at hi; exact absurd hi (by decide)
  · by_cases q1 : P0_1 F t
    · rw [step0_D F m ρ c t _ q0 q1]
      simp only [hf, Bool.false_eq_true, ↓reduceIte]
      unfold prev0; rw [dif_neg ht]
    · obtain ⟨i5, -, -, -, -, -, -, -, -, -, -⟩ := sched0_C F t q0 q1
      rw [i5] at hi; exact absurd hi (by decide)

/-- Output window 5 holds, when the body runs at `t`: junk if nothing was stored since its last write-back (`Cfg.fresh`),
    else what the point before left. -/
theorem before0_5 (c : Dev nD) (t : Fin (cfgA F).N) (d) :
    (dats F m ρ 0 c).before (5 : Fin 6) t d = if (cfgA F).fresh (5 : Fin 6) t.val then d else (prev0 F m ρ c t).1 := by
  rw [(dats F m ρ 0 c).before_out_traj (5 : Fin 6) rfl (fun _ _ => rfl) (hcarry0_5 F m ρ c) t.val t rfl d]
  by_cases hf : (cfgA F).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

/-! ## The body obligation, at a generic point, by path -/

/-- The body at point `t` on its staging memrefs, as the pipeline calls it. -/
abbrev bodyAt0 (t : Fin (cfgA F).N) : Prog (TpuEff nD τ sig (Elt F) Λ₀ .tc) PUnit :=
  cc0_fox_prompt (crd F t) (Memref.whole main_c) (Memref.isWhole_whole _) (Memref.whole main_c_0) (Memref.isWhole_whole _) (ms0_0 F t) (hs0_0 F t) (ms0_1 F t) (hs0_1 F t) (ms0_2 F t) (hs0_2 F t) (ms0_3 F t) (hs0_3 F t) (ms0_4 F t) (hs0_4 F t) (ms0_5 F t) (hs0_5 F t) (Memref.whole cc0_scratch0) (Memref.isWhole_whole _) (Memref.whole cc0_scratch1) (Memref.isWhole_whole _) (Memref.whole cc0_scratch2) (Memref.isWhole_whole _) (Memref.whole cc0_scratch3) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfgA F).N) :
    iprop((dats F m ρ 0 c).Φ t.castSucc ∗ (dats F m ρ 0 c).owesAt () t.castSucc
        ∗ (∃ d, owns (c : Thread nD τ) (ms0_0 F t) fullShare ((dats F m ρ 0 c).before (0 : Fin 6) t d))
        ∗ (∃ d, owns (c : Thread nD τ) (ms0_1 F t) fullShare ((dats F m ρ 0 c).before (1 : Fin 6) t d))
        ∗ (∃ d, owns (c : Thread nD τ) (ms0_2 F t) fullShare ((dats F m ρ 0 c).before (2 : Fin 6) t d))
        ∗ (∃ d, owns (c : Thread nD τ) (ms0_3 F t) fullShare ((dats F m ρ 0 c).before (3 : Fin 6) t d))
        ∗ (∃ d, owns (c : Thread nD τ) (ms0_4 F t) fullShare ((dats F m ρ 0 c).before (4 : Fin 6) t d))
        ∗ (∃ d, owns (c : Thread nD τ) (ms0_5 F t) fullShare ((dats F m ρ 0 c).before (5 : Fin 6) t d)))
      ⊢ wp frame (wpE (defs₀ (F := F)) Variants.none c none) Set.univ (bodyAt0 F t) fun _ =>
          iprop((dats F m ρ 0 c).Φ t.succ ∗ (dats F m ρ 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats F m ρ 0 c).before w t d))
                  | true => owns (c : Thread nD τ) (((cfgA F).win w).stage ((cfgA F).slots t w)) fullShare ((dats F m ρ 0 c).after w t)
                | false => owns (c : Thread nD τ) (((cfgA F).win w).stage ((cfgA F).slots t w)) fullShare ((dats F m ρ 0 c).after w t)) := by
  rw [bigSep_W0]
  by_cases q0 : P0_0 F t
  · by_cases q1 : P0_1 F t
    · obtain ⟨i5, f5, fr5, sf0, sfn0, sf1, sfn1, sf2, sfn2, sf3, sfn3⟩ := sched0_B F t q0 q1
      have F0 := hypsR0_B F t q0 q1
      have hc0 := F0.1; have F1 := F0.2
      have hc1 := F1.1; have F2 := F1.2
      have k0_h3 := F2.1; have F3 := F2.2
      clear F0 F1 F2 F3
      rewrite [i5]
      simp only [before0_0, before0_1, before0_2, before0_3, before0_4, before0_5, after0_0, after0_1, after0_2, after0_3, after0_4, after0_5, f5]
      simp only [fr5, Bool.false_eq_true, ↓reduceIte]
      rewrite [show (dats F m ρ 0 c).Φ t.succ = Phi F m ρ c t.succ from rfl, show (dats F m ρ 0 c).Φ t.castSucc = Phi F m ρ c t.castSucc from rfl,
        show (dats F m ρ 0 c).owesAt () t.succ = (dats F m ρ 0 c).owesAt () t.castSucc from rfl]
      try rewrite [traj0_eq, step0_B F m ρ c t _ q0 q1]
      unfold Phi; simp only [prev0T_castSucc, prev0T_succ, traj0_eq, step0_B F m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, HT0, HT1, Hpr⟩, Ho, ⟨%d0, H0⟩, ⟨%d1, H1⟩, ⟨%d2, H2⟩, ⟨%d3, H3⟩, ⟨%d4, H4⟩, ⟨%d5, H5⟩⟩
      iapply ((kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) hc0 hc1 k0_h3).2.2.2.2 _ a0 a1 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      isplitl [HS2]; · iexact HS2
      isplitl [HS3]; · iexact HS3
      iintro ⟨H0, H1, H2, H3, H4, HT0, HT1, H5, HS0, HS1, HS2, HS3⟩
      isplitl [HS0 HS1 HS2 HS3 HT0 HT1 Hpr]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        isplitl [HT1]
        · iexact HT1
        iexact Hpr
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      first | (iexists d5; iexact H5) | iexact H5
    · obtain ⟨i5, f5, fr5, sfn0, sfn1, sfn2, sfn3⟩ := sched0_A F t q0 q1
      have F0 := hypsR0_A F t q0 q1
      have hc0 := F0.1; have F1 := F0.2
      have hc1 := F1.1; have F2 := F1.2
      have k0_h3 := F2.1; have F3 := F2.2
      clear F0 F1 F2 F3
      rewrite [i5]
      simp only [before0_0, before0_1, before0_2, before0_3, before0_4, before0_5, after0_0, after0_1, after0_2, after0_3, after0_4, after0_5, f5]
      simp only [fr5, Bool.false_eq_true, ↓reduceIte]
      rewrite [show (dats F m ρ 0 c).Φ t.succ = Phi F m ρ c t.succ from rfl, show (dats F m ρ 0 c).Φ t.castSucc = Phi F m ρ c t.castSucc from rfl,
        show (dats F m ρ 0 c).owesAt () t.succ = (dats F m ρ 0 c).owesAt () t.castSucc from rfl]
      try rewrite [traj0_eq, step0_A F m ρ c t _ q0 q1]
      unfold Phi; simp only [prev0T_castSucc, prev0T_succ, traj0_eq, step0_A F m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, HT0, HT1, Hpr⟩, Ho, ⟨%d0, H0⟩, ⟨%d1, H1⟩, ⟨%d2, H2⟩, ⟨%d3, H3⟩, ⟨%d4, H4⟩, ⟨%d5, H5⟩⟩
      iapply ((kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) hc0 hc1 k0_h3).2.2.2.2.2 a0 a1 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      isplitl [HS3]; · iexact HS3
      iintro ⟨H0, H1, H2, H3, H4, HT0, HT1, ⟨%e5, H5⟩, HS0, HS1, HS2, HS3⟩
      isplitl [HS0 HS1 HS2 HS3 HT0 HT1 Hpr]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        isplitl [HT1]
        · iexact HT1
        iexact Hpr
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_A_5 c _ _ _ _ _ _ _ _ _ _ _ _ _ _ _ _ _ _ _ _ _ _ _)
  · by_cases q1 : P0_1 F t
    · obtain ⟨i5, f5, fr5, sf0, sfn0, sf1, sfn1, sf2, sfn2, sf3, sfn3⟩ := sched0_D F t q0 q1
      have F0 := hypsR0_D F t q0 q1
      have hc0 := F0.1; have F1 := F0.2
      have hc1 := F1.1; have F2 := F1.2
      have k0_h3 := F2.1; have F3 := F2.2
      clear F0 F1 F2 F3
      rewrite [i5]
      simp only [before0_0, before0_1, before0_2, before0_3, before0_4, before0_5, after0_0, after0_1, after0_2, after0_3, after0_4, after0_5, f5]
      simp only [fr5, Bool.false_eq_true, ↓reduceIte]
      rewrite [show (dats F m ρ 0 c).Φ t.succ = Phi F m ρ c t.succ from rfl, show (dats F m ρ 0 c).Φ t.castSucc = Phi F m ρ c t.castSucc from rfl,
        show (dats F m ρ 0 c).owesAt () t.succ = (dats F m ρ 0 c).owesAt () t.castSucc from rfl]
      try rewrite [traj0_eq, step0_D F m ρ c t _ q0 q1]
      unfold Phi; simp only [prev0T_castSucc, prev0T_succ, traj0_eq, step0_D F m ρ c t _ q0 q1, Fin.val_castSucc, Fin.val_succ]
      simp only [exists_held sf0, exists_held sf1, exists_held sf2, exists_held sf3]
      iintro ⟨⟨HS0, HS1, HS2, HS3, HT0, HT1, Hpr⟩, Ho, ⟨%d0, H0⟩, ⟨%d1, H1⟩, ⟨%d2, H2⟩, ⟨%d3, H3⟩, ⟨%d4, H4⟩, ⟨%d5, H5⟩⟩
      iapply ((kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) _ _ _ _ hc0 hc1 k0_h3).2.2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      isplitl [HS2]; · iexact HS2
      isplitl [HS3]; · iexact HS3
      iintro ⟨H0, H1, H2, H3, H4, HT0, HT1, H5, HS0, HS1, HS2, HS3⟩
      isplitl [HS0 HS1 HS2 HS3 HT0 HT1 Hpr]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        isplitl [HT1]
        · iexact HT1
        iexact Hpr
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      first | (iexists d5; iexact H5) | iexact H5
    · obtain ⟨i5, f5, fr5, sf0, sfn0, sf1, sfn1, sf2, sfn2, sf3, sfn3⟩ := sched0_C F t q0 q1
      have F0 := hypsR0_C F t q0 q1
      have hc0 := F0.1; have F1 := F0.2
      have hc1 := F1.1; have F2 := F1.2
      have k0_h3 := F2.1; have F3 := F2.2
      clear F0 F1 F2 F3
      rewrite [i5]
      simp only [before0_0, before0_1, before0_2, before0_3, before0_4, before0_5, after0_0, after0_1, after0_2, after0_3, after0_4, after0_5, f5]
      simp only [fr5, Bool.false_eq_true, ↓reduceIte]
      rewrite [show (dats F m ρ 0 c).Φ t.succ = Phi F m ρ c t.succ from rfl, show (dats F m ρ 0 c).Φ t.castSucc = Phi F m ρ c t.castSucc from rfl,
        show (dats F m ρ 0 c).owesAt () t.succ = (dats F m ρ 0 c).owesAt () t.castSucc from rfl]
      try rewrite [traj0_eq, step0_C F m ρ c t _ q0 q1]
      unfold Phi; simp only [prev0T_castSucc, prev0T_succ, traj0_eq, step0_C F m ρ c t _ q0 q1, Fin.val_castSucc, Fin.val_succ]
      simp only [exists_held sf0, exists_held sf1, exists_held sf2, exists_held sf3]
      iintro ⟨⟨HS0, HS1, HS2, HS3, HT0, HT1, Hpr⟩, Ho, ⟨%d0, H0⟩, ⟨%d1, H1⟩, ⟨%d2, H2⟩, ⟨%d3, H3⟩, ⟨%d4, H4⟩, ⟨%d5, H5⟩⟩
      iapply ((kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F m ρ c (0 : Fin 6) t) (iblk F m ρ c (1 : Fin 6) t) (iblk F m ρ c (2 : Fin 6) t) (iblk F m ρ c (3 : Fin 6) t) (iblk F m ρ c (4 : Fin 6) t) _ _ _ _ hc0 hc1 k0_h3).2.2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      isplitl [HS3]; · iexact HS3
      iintro ⟨H0, H1, H2, H3, H4, HT0, HT1, ⟨%e5, H5⟩, HS0, HS1, HS2, HS3⟩
      isplitl [HS0 HS1 HS2 HS3 HT0 HT1 Hpr]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        isplitl [HT1]
        · iexact HT1
        iexact Hpr
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_C_5 c _ _ _ _ _ _ _ _ _ _ _ _ _ _ _ _ _ _ _ _ _ _ _ _ _ _ _)

/-- The body obligation at every point. -/
theorem body_obligation (c : Dev nD) : BodyObligation (dats F m ρ 0 c) (defs₀ (F := F)) Variants.none () Set.univ := fun t => by
  rw [bigSep_W0]
  exact sound_body F m ρ c t

end Cert.Fox

end
-- ==== Proof.Fox.Launch.lean ====
/- The launch: the host operations, then the pipeline. -/
module

public import proofs.«01_k».proof.Proof.Fox.Body

@[expose] public section

set_option maxRecDepth 16384
set_option Elab.async false

noncomputable section

namespace Cert.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F] [TablesOk F] [Decided F]

local notation "𝕄" => MT nD τ sig Unit (Elt F) ℕ (UR sig nD τ) ℕ

variable (m : (ℓ : Loc nD τ sig) → Buf (Elt F) ℓ) (ρ : Dev nD → PrngReg)

/-! ## What the host operations leave -/

/-- No host operation writes a buffer other than its four results. -/
theorem not_written (b : Ref sig .tc) (hb : b ≠ main_c ∧ b ≠ main_c_0 ∧ b ≠ main_v0 ∧ b ≠ main_v1) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.nullary_writes, Finset.mem_singleton] <;>
    exact StableHlo.devRef_ne_of_ne ‹_›

theorem V_arg0 (c : Dev nD) : V F m ρ c main_arg0 = m ((c : Thread nD τ).loc main_arg0) :=
  StableHlo.after_of_forall_not_mem (b := Proc.devRef .tc main_arg0) hostOps0 (V₀ F m ρ c) (not_written main_arg0 (by decide))
theorem V_arg1 (c : Dev nD) : V F m ρ c main_arg1 = m ((c : Thread nD τ).loc main_arg1) :=
  StableHlo.after_of_forall_not_mem (b := Proc.devRef .tc main_arg1) hostOps0 (V₀ F m ρ c) (not_written main_arg1 (by decide))

/-- The tables as the host operations write them. -/
theorem V_tables (c : Dev nD) (k : Fin 2) : V F m ρ c (pre0.ref k) = (adm F).1 k := by
  fin_cases k <;> rfl

/-! ## The launch -/

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the scratch buffers, the register and the tables; -/
theorem phi0_intro (c : Dev nD) :
    iprop(Pipeline.ΦA spec0 c ∗ Pipeline.ΦT pre0 (adm F).1 c) ⊢ (dats F m ρ 0 c).Φ 0 := by
  unfold Pipeline.ΦA Pipeline.ΦT
  rw [prefHeld_eq, scopedRest0_eq, show (dats F m ρ 0 c).Φ 0 = Phi F m ρ c 0 from rfl]
  unfold Phi
  iintro ⟨⟨⟨⟨%a0, HS0⟩, ⟨%a1, HS1⟩, ⟨%a2, HS2⟩, ⟨%a3, HS3⟩⟩, Hp⟩, ⟨HT0, HT1⟩⟩
  isplitl [HS0]
  · iexists a0; isplitr; swap
    · iexact HS0
    · ipureintro; intro h; exact absurd h (show ¬ sfresh 0 = false by decide)
  isplitl [HS1]
  · iexists a1; isplitr; swap
    · iexact HS1
    · ipureintro; intro h; exact absurd h (show ¬ sfresh 0 = false by decide)
  isplitl [HS2]
  · iexists a2; isplitr; swap
    · iexact HS2
    · ipureintro; intro h; exact absurd h (show ¬ sfresh 0 = false by decide)
  isplitl [HS3]
  · iexists a3; isplitr; swap
    · iexact HS3
    · ipureintro; intro h; exact absurd h (show ¬ sfresh 0 = false by decide)
  isplitl [HT0]
  · iexact HT0
  isplitl [HT1]
  · iexact HT1
  iexact Hp

/-- at the last point it gives the scratch buffers and the register back, the tables let go. -/
theorem phiN_exit (c : Dev nD) : (dats F m ρ 0 c).Φ (Fin.last (cfgA F).N) ⊢ Pipeline.ΦA spec0 c := by
  unfold Pipeline.ΦA
  rw [scopedRest0_eq, show (dats F m ρ 0 c).Φ (Fin.last (cfgA F).N) = Phi F m ρ c (Fin.last _) from rfl]
  unfold Phi
  iintro ⟨⟨%a0, -, HS0⟩, ⟨%a1, -, HS1⟩, ⟨%a2, -, HS2⟩, ⟨%a3, -, HS3⟩, -, -, Hp⟩
  isplitr [Hp]; swap
  · iexact Hp
  isplitl [HS0]
  · iexists a0; iexact HS0
  isplitl [HS1]
  · iexists a1; iexact HS1
  isplitl [HS2]
  · iexists a2; iexact HS2
  iexists a3; iexact HS3

/-- Core `c`'s arrays and other buffers after the run. -/
abbrev Post (r : PUnit × MemSt nD τ sig (Elt F)) : Prop := Pipeline.FramePost (pcs F) (dats F m ρ) 0 (V F m ρ) r

set_option backward.isDefEq.respectTransparency.types false in
set_option maxHeartbeats 4000000 in
/-- From any memory with zero counters every weakly fair execution of @main terminates, and every final state has each
    array at the computed contents, every other unscoped buffer as the host operations left it, and every counter at zero. -/
theorem run_main : θ_run (defs (F := F)) (onTc (τ := τ) (main (F := F))) (s₀ m ρ) (fun r => Post m ρ r ∧ r.2.sem = fun _ => 0) :=
  Pipeline.θ_run_frameP_track_shared (pcfgs (F := F)) (fun _ => adm F) (dats F m ρ) 0 launch₀0 (defs₀ (F := F)) Variants.none m ρ (main (F := F))
    (fun c => (body_obligation F m ρ c).loose) (fun _ _ _ => rfl) (fun _ _ => rfl) (V F m ρ)
    (Pipeline.hmainP_prefix (pcfgs (F := F)) 0 (defs₀ (F := F)) Variants.none m (main (F := F)) hostOps0 hostOps0_sub ⟨rfl, rfl, rfl, rfl⟩ main_chain)
    (fun _ _ => rfl) (V_tables m ρ) (phi0_intro m ρ) (phiN_exit m ρ) (Q' := fun r => Post m ρ r ∧ r.2.sem = fun _ => 0) (hQ' := fun _ h => h)

/-- The arguments end unchanged. -/
theorem args_unchanged (r : PUnit × MemSt nD τ sig (Elt F)) (h : Post m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 (0 : Fin 6)).trans (((dats F m ρ 0 c).arrAt_in (0 : Fin 6) rfl _).trans (V_arg0 m ρ c)),
    ((h c).1 (3 : Fin 6)).trans (((dats F m ρ 0 c).arrAt_in (3 : Fin 6) rfl _).trans (V_arg1 m ρ c))⟩

end Cert.Fox

end
-- ==== Proof.Fox.Same.lean ====
/- The kernel as compiled and the kernel with its constants named are one program when the names read back as the
   constants' bits. -/
module

public import proofs.«01_k».proof.Defs
public import proofs.«01_k».proof.Proof.Gen.Kernel
public import proofs.«01_k».proof.Proof.Gen.KernelIdeal
public import proofs.«01_k».proof.Proof.Gen.KernelIdeal.Launch
public import Idealize.ShloMosaic.Adequacy
public import Idealize.ShloMosaic.Lib.Tactic
public import Idealize.ShloMosaic.Lib.Exec

@[expose] public section

set_option maxRecDepth 16384

noncomputable section

namespace Cert.Fox

open Idealize.ShloMosaic Idealize.ShloMosaic.Tactic

/-- At the compiled machine a named constant is its bits. -/
instance namedBits : Named Bits := ⟨fun _ _ b => FloatOps.ofBits b⟩

theorem main_same : (Cert.Kernel.main (F := Bits)) = (Cert.KernelIdeal.main (F := Bits)) := rfl
theorem defs_same : (Cert.Kernel.defs (F := Bits)) = (Cert.KernelIdeal.defs (F := Bits)) := by sl_kernel_rfl

end Cert.Fox

end
-- ==== Proof.Fox.DecidedIdeal.lean ====
/- The facts of the schedule, decided at every grid point (reading `Ideal`). -/
module

public import proofs.«01_k».proof.Proof.Fox.Facts

@[expose] public section

set_option maxRecDepth 16384
set_option Elab.async false

noncomputable section

namespace Cert.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

theorem tablesIdeal_0_inb : ∀ i : grid0.Coords, ∀ a, (cc0_transform_0 k0_off1_inb numel1_S1 (pfN Ideal) i a + 1) * S1x256x512.size a ≤ S2x4096x7168.size a := by decide +kernel
theorem tablesIdeal_0 : (∀ i : grid0.Coords, ∃ h : (∀ a, (cc0_transform_0 k0_off1_inb numel1_S1 (pfN Ideal) i a + 1) * S1x256x512.size a ≤ S2x4096x7168.size a), EltTy.bits .f32 = 32 ∨ (Rect.block (s := S2x4096x7168) S1x256x512.size (cc0_transform_0 k0_off1_inb numel1_S1 (pfN Ideal) i) h).WholeWords (EltTy.packing .f32)) := fun i => ⟨tablesIdeal_0_inb i, .inl rfl⟩
theorem tablesIdeal_1_inb : ∀ i : grid0.Coords, ∀ a, (cc0_transform_1 k0_off1_inb numel1_S1 (pfN Ideal) i a + 1) * S1x256x512.size a ≤ S2x4096x7168.size a := by decide +kernel
theorem tablesIdeal_1 : (∀ i : grid0.Coords, ∃ h : (∀ a, (cc0_transform_1 k0_off1_inb numel1_S1 (pfN Ideal) i a + 1) * S1x256x512.size a ≤ S2x4096x7168.size a), EltTy.bits .f32 = 32 ∨ (Rect.block (s := S2x4096x7168) S1x256x512.size (cc0_transform_1 k0_off1_inb numel1_S1 (pfN Ideal) i) h).WholeWords (EltTy.packing .f32)) := fun i => ⟨tablesIdeal_1_inb i, .inl rfl⟩
theorem tablesIdeal_2_inb : ∀ i : grid0.Coords, ∀ a, (cc0_transform_2 k0_off1_inb numel1_S1 (pfN Ideal) i a + 1) * S1x256x512.size a ≤ S2x4096x7168.size a := by decide +kernel
theorem tablesIdeal_2 : (∀ i : grid0.Coords, ∃ h : (∀ a, (cc0_transform_2 k0_off1_inb numel1_S1 (pfN Ideal) i a + 1) * S1x256x512.size a ≤ S2x4096x7168.size a), EltTy.bits .f32 = 32 ∨ (Rect.block (s := S2x4096x7168) S1x256x512.size (cc0_transform_2 k0_off1_inb numel1_S1 (pfN Ideal) i) h).WholeWords (EltTy.packing .f32)) := fun i => ⟨tablesIdeal_2_inb i, .inl rfl⟩
theorem tablesIdeal_3_inb : ∀ i : grid0.Coords, ∀ a, (cc0_transform_3 k0_off1_inb numel1_S1 (pfN Ideal) i a + 1) * S1x256x128.size a ≤ S2x4096x128.size a := by decide +kernel
theorem tablesIdeal_3 : (∀ i : grid0.Coords, ∃ h : (∀ a, (cc0_transform_3 k0_off1_inb numel1_S1 (pfN Ideal) i a + 1) * S1x256x128.size a ≤ S2x4096x128.size a), EltTy.bits .f32 = 32 ∨ (Rect.block (s := S2x4096x128) S1x256x128.size (cc0_transform_3 k0_off1_inb numel1_S1 (pfN Ideal) i) h).WholeWords (EltTy.packing .f32)) := fun i => ⟨tablesIdeal_3_inb i, .inl rfl⟩
theorem tablesIdeal_4_inb : ∀ i : grid0.Coords, ∀ a, (cc0_transform_4 k0_off1_inb numel1_S1 (pfN Ideal) i a + 1) * S1x8x256.size a ≤ S2x8x4096.size a := by decide +kernel
theorem tablesIdeal_4 : (∀ i : grid0.Coords, ∃ h : (∀ a, (cc0_transform_4 k0_off1_inb numel1_S1 (pfN Ideal) i a + 1) * S1x8x256.size a ≤ S2x8x4096.size a), EltTy.bits .f32 = 32 ∨ (Rect.block (s := S2x8x4096) S1x8x256.size (cc0_transform_4 k0_off1_inb numel1_S1 (pfN Ideal) i) h).WholeWords (EltTy.packing .f32)) := fun i => ⟨tablesIdeal_4_inb i, .inl rfl⟩
theorem tablesIdeal_5_inb : ∀ i : grid0.Coords, ∀ a, (cc0_transform_5 k0_off1_inb numel1_S1 (pfN Ideal) i a + 1) * S1x256x512.size a ≤ S2x4096x512.size a := by decide +kernel
theorem tablesIdeal_5 : (∀ i : grid0.Coords, ∃ h : (∀ a, (cc0_transform_5 k0_off1_inb numel1_S1 (pfN Ideal) i a + 1) * S1x256x512.size a ≤ S2x4096x512.size a), EltTy.bits .f32 = 32 ∨ (Rect.block (s := S2x4096x512) S1x256x512.size (cc0_transform_5 k0_off1_inb numel1_S1 (pfN Ideal) i) h).WholeWords (EltTy.packing .f32)) := fun i => ⟨tablesIdeal_5_inb i, .inl rfl⟩
instance : TablesOk Ideal := ⟨⟨tablesIdeal_0, tablesIdeal_1, tablesIdeal_2, tablesIdeal_3, tablesIdeal_4, tablesIdeal_5⟩⟩

theorem factsIdeal_0 : ∀ t : Fin (cfgA Ideal).N, 0 ≤ t.val → t.val < 34 → FactsAt Ideal t := by decide +kernel
theorem factsIdeal_1 : ∀ t : Fin (cfgA Ideal).N, 34 ≤ t.val → t.val < 68 → FactsAt Ideal t := by decide +kernel
theorem factsIdeal_2 : ∀ t : Fin (cfgA Ideal).N, 68 ≤ t.val → t.val < 102 → FactsAt Ideal t := by decide +kernel
theorem factsIdeal_3 : ∀ t : Fin (cfgA Ideal).N, 102 ≤ t.val → t.val < 136 → FactsAt Ideal t := by decide +kernel
theorem factsIdeal_4 : ∀ t : Fin (cfgA Ideal).N, 136 ≤ t.val → t.val < 170 → FactsAt Ideal t := by decide +kernel
theorem factsIdeal_5 : ∀ t : Fin (cfgA Ideal).N, 170 ≤ t.val → t.val < 204 → FactsAt Ideal t := by decide +kernel
theorem factsIdeal_6 : ∀ t : Fin (cfgA Ideal).N, 204 ≤ t.val → t.val < 238 → FactsAt Ideal t := by decide +kernel
theorem factsIdeal_7 : ∀ t : Fin (cfgA Ideal).N, 238 ≤ t.val → t.val < 272 → FactsAt Ideal t := by decide +kernel
theorem factsIdeal : ∀ t : Fin (cfgA Ideal).N, FactsAt Ideal t := fun t => by
  have h0 : 0 ≤ t.val := Nat.zero_le _
  rcases Nat.lt_or_ge t.val 34 with h1 | h1; · exact factsIdeal_0 t h0 h1
  rcases Nat.lt_or_ge t.val 68 with h2 | h2; · exact factsIdeal_1 t h1 h2
  rcases Nat.lt_or_ge t.val 102 with h3 | h3; · exact factsIdeal_2 t h2 h3
  rcases Nat.lt_or_ge t.val 136 with h4 | h4; · exact factsIdeal_3 t h3 h4
  rcases Nat.lt_or_ge t.val 170 with h5 | h5; · exact factsIdeal_4 t h4 h5
  rcases Nat.lt_or_ge t.val 204 with h6 | h6; · exact factsIdeal_5 t h5 h6
  rcases Nat.lt_or_ge t.val 238 with h7 | h7; · exact factsIdeal_6 t h6 h7
  exact factsIdeal_7 t h7 t.isLt

instance : Decided Ideal := ⟨factsIdeal⟩

end Cert.Fox

end
-- ==== Proof.Fox.DecidedBits.lean ====
/- The facts of the schedule, decided at every grid point (reading `Bits`). -/
module

public import proofs.«01_k».proof.Proof.Fox.Facts
public import proofs.«01_k».proof.Proof.Fox.Same

@[expose] public section

set_option maxRecDepth 16384
set_option Elab.async false

noncomputable section

namespace Cert.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

theorem tablesBits_0_inb : ∀ i : grid0.Coords, ∀ a, (cc0_transform_0 k0_off1_inb numel1_S1 (pfN Bits) i a + 1) * S1x256x512.size a ≤ S2x4096x7168.size a := by decide +kernel
theorem tablesBits_0 : (∀ i : grid0.Coords, ∃ h : (∀ a, (cc0_transform_0 k0_off1_inb numel1_S1 (pfN Bits) i a + 1) * S1x256x512.size a ≤ S2x4096x7168.size a), EltTy.bits .f32 = 32 ∨ (Rect.block (s := S2x4096x7168) S1x256x512.size (cc0_transform_0 k0_off1_inb numel1_S1 (pfN Bits) i) h).WholeWords (EltTy.packing .f32)) := fun i => ⟨tablesBits_0_inb i, .inl rfl⟩
theorem tablesBits_1_inb : ∀ i : grid0.Coords, ∀ a, (cc0_transform_1 k0_off1_inb numel1_S1 (pfN Bits) i a + 1) * S1x256x512.size a ≤ S2x4096x7168.size a := by decide +kernel
theorem tablesBits_1 : (∀ i : grid0.Coords, ∃ h : (∀ a, (cc0_transform_1 k0_off1_inb numel1_S1 (pfN Bits) i a + 1) * S1x256x512.size a ≤ S2x4096x7168.size a), EltTy.bits .f32 = 32 ∨ (Rect.block (s := S2x4096x7168) S1x256x512.size (cc0_transform_1 k0_off1_inb numel1_S1 (pfN Bits) i) h).WholeWords (EltTy.packing .f32)) := fun i => ⟨tablesBits_1_inb i, .inl rfl⟩
theorem tablesBits_2_inb : ∀ i : grid0.Coords, ∀ a, (cc0_transform_2 k0_off1_inb numel1_S1 (pfN Bits) i a + 1) * S1x256x512.size a ≤ S2x4096x7168.size a := by decide +kernel
theorem tablesBits_2 : (∀ i : grid0.Coords, ∃ h : (∀ a, (cc0_transform_2 k0_off1_inb numel1_S1 (pfN Bits) i a + 1) * S1x256x512.size a ≤ S2x4096x7168.size a), EltTy.bits .f32 = 32 ∨ (Rect.block (s := S2x4096x7168) S1x256x512.size (cc0_transform_2 k0_off1_inb numel1_S1 (pfN Bits) i) h).WholeWords (EltTy.packing .f32)) := fun i => ⟨tablesBits_2_inb i, .inl rfl⟩
theorem tablesBits_3_inb : ∀ i : grid0.Coords, ∀ a, (cc0_transform_3 k0_off1_inb numel1_S1 (pfN Bits) i a + 1) * S1x256x128.size a ≤ S2x4096x128.size a := by decide +kernel
theorem tablesBits_3 : (∀ i : grid0.Coords, ∃ h : (∀ a, (cc0_transform_3 k0_off1_inb numel1_S1 (pfN Bits) i a + 1) * S1x256x128.size a ≤ S2x4096x128.size a), EltTy.bits .f32 = 32 ∨ (Rect.block (s := S2x4096x128) S1x256x128.size (cc0_transform_3 k0_off1_inb numel1_S1 (pfN Bits) i) h).WholeWords (EltTy.packing .f32)) := fun i => ⟨tablesBits_3_inb i, .inl rfl⟩
theorem tablesBits_4_inb : ∀ i : grid0.Coords, ∀ a, (cc0_transform_4 k0_off1_inb numel1_S1 (pfN Bits) i a + 1) * S1x8x256.size a ≤ S2x8x4096.size a := by decide +kernel
theorem tablesBits_4 : (∀ i : grid0.Coords, ∃ h : (∀ a, (cc0_transform_4 k0_off1_inb numel1_S1 (pfN Bits) i a + 1) * S1x8x256.size a ≤ S2x8x4096.size a), EltTy.bits .f32 = 32 ∨ (Rect.block (s := S2x8x4096) S1x8x256.size (cc0_transform_4 k0_off1_inb numel1_S1 (pfN Bits) i) h).WholeWords (EltTy.packing .f32)) := fun i => ⟨tablesBits_4_inb i, .inl rfl⟩
theorem tablesBits_5_inb : ∀ i : grid0.Coords, ∀ a, (cc0_transform_5 k0_off1_inb numel1_S1 (pfN Bits) i a + 1) * S1x256x512.size a ≤ S2x4096x512.size a := by decide +kernel
theorem tablesBits_5 : (∀ i : grid0.Coords, ∃ h : (∀ a, (cc0_transform_5 k0_off1_inb numel1_S1 (pfN Bits) i a + 1) * S1x256x512.size a ≤ S2x4096x512.size a), EltTy.bits .f32 = 32 ∨ (Rect.block (s := S2x4096x512) S1x256x512.size (cc0_transform_5 k0_off1_inb numel1_S1 (pfN Bits) i) h).WholeWords (EltTy.packing .f32)) := fun i => ⟨tablesBits_5_inb i, .inl rfl⟩
instance : TablesOk Bits := ⟨⟨tablesBits_0, tablesBits_1, tablesBits_2, tablesBits_3, tablesBits_4, tablesBits_5⟩⟩

theorem factsBits_0 : ∀ t : Fin (cfgA Bits).N, 0 ≤ t.val → t.val < 34 → FactsAt Bits t := by decide +kernel
theorem factsBits_1 : ∀ t : Fin (cfgA Bits).N, 34 ≤ t.val → t.val < 68 → FactsAt Bits t := by decide +kernel
theorem factsBits_2 : ∀ t : Fin (cfgA Bits).N, 68 ≤ t.val → t.val < 102 → FactsAt Bits t := by decide +kernel
theorem factsBits_3 : ∀ t : Fin (cfgA Bits).N, 102 ≤ t.val → t.val < 136 → FactsAt Bits t := by decide +kernel
theorem factsBits_4 : ∀ t : Fin (cfgA Bits).N, 136 ≤ t.val → t.val < 170 → FactsAt Bits t := by decide +kernel
theorem factsBits_5 : ∀ t : Fin (cfgA Bits).N, 170 ≤ t.val → t.val < 204 → FactsAt Bits t := by decide +kernel
theorem factsBits_6 : ∀ t : Fin (cfgA Bits).N, 204 ≤ t.val → t.val < 238 → FactsAt Bits t := by decide +kernel
theorem factsBits_7 : ∀ t : Fin (cfgA Bits).N, 238 ≤ t.val → t.val < 272 → FactsAt Bits t := by decide +kernel
theorem factsBits : ∀ t : Fin (cfgA Bits).N, FactsAt Bits t := fun t => by
  have h0 : 0 ≤ t.val := Nat.zero_le _
  rcases Nat.lt_or_ge t.val 34 with h1 | h1; · exact factsBits_0 t h0 h1
  rcases Nat.lt_or_ge t.val 68 with h2 | h2; · exact factsBits_1 t h1 h2
  rcases Nat.lt_or_ge t.val 102 with h3 | h3; · exact factsBits_2 t h2 h3
  rcases Nat.lt_or_ge t.val 136 with h4 | h4; · exact factsBits_3 t h3 h4
  rcases Nat.lt_or_ge t.val 170 with h5 | h5; · exact factsBits_4 t h4 h5
  rcases Nat.lt_or_ge t.val 204 with h6 | h6; · exact factsBits_5 t h5 h6
  rcases Nat.lt_or_ge t.val 238 with h7 | h7; · exact factsBits_6 t h6 h7
  exact factsBits_7 t h7 t.isLt

instance : Decided Bits := ⟨factsBits⟩

end Cert.Fox

end
-- ==== Proof.Fox.Frames.lean ====
/- The frames: the kernel as compiled, the kernel with its constants named, and the reference. -/
module

public import proofs.«01_k».proof.Proof.Fox.Launch
public import proofs.«01_k».proof.Proof.Fox.Same
public import proofs.«01_k».proof.Proof.Fox.DecidedIdeal
public import proofs.«01_k».proof.Proof.Fox.DecidedBits
public import proofs.«01_k».proof.Proof.Gen.ReferenceIdeal.Run
public import proofs.«01_k».proof.Proof.Gen.Pre_finite

@[expose] public section

set_option maxRecDepth 16384

noncomputable section

namespace Cert.Fox

open Idealize.ShloMosaic Idealize.SL.Sem

/-- The kernel as compiled: its run is the named program's, read at the compiled floats. -/
theorem frame_kernel : Cert.quiescent_Kernel := fun m ρ _ => by
  rw [main_same, defs_same]
  exact (θ_run (Cert.KernelIdeal.defs (F := Bits)) _ _).mono
    (fun r h => ⟨fun c => args_unchanged (F := Bits) m ρ r h.1 c, h.2⟩) (run_main (F := Bits) m ρ)

/-- The kernel with its constants named. -/
theorem frame_ideal : Cert.quiescent_KernelIdeal := fun m ρ _ =>
  (θ_run (Cert.KernelIdeal.defs (F := Ideal)) _ _).mono
    (fun r h => ⟨fun c => args_unchanged (F := Ideal) m ρ r h.1 c, h.2⟩) (run_main (F := Ideal) m ρ)

/-- The reference: a host program that declares no semaphore. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The constants the kernel names are what their names say. -/
theorem names : Cert.preserves_Kernel_KernelIdeal := by
  unfold Cert.preserves_Kernel_KernelIdeal
  exact ⟨IdealRules.named_const.statement _ _ _ _ _ rfl, IdealRules.named_const.statement _ _ _ _ _ rfl,
    IdealRules.named_const.statement _ _ _ _ _ rfl⟩

theorem frame_ideal_finite : Cert.quiescent_KernelIdeal_pre_finite := fun m ρ _ => frame_ideal m ρ trivial

end Cert.Fox

end
-- ==== Proof.Fox.Where.lean ====
/- Where each point's blocks lie, and which pair of blocks comes before it. -/
module

public import proofs.«01_k».proof.Proof.Fox.DecidedIdeal
public import proofs.«01_k».proof.Proof.Fox.Launch
public import Idealize.ShloMosaic.Lib.Pipeline.ValueKit

@[expose] public section

set_option maxRecDepth 16384

noncomputable section

namespace Cert.Fox

open Cert.KernelIdeal Cert.KernelIdeal.Gen
open Idealize.ShloMosaic
open Idealize.ShloMosaic.TcCoe

/-- A point's sequence, its block of queries and its block of keys. -/
def bi (t : Fin (cfgA Ideal).N) : ℕ := t.val / 136
def qi (t : Fin (cfgA Ideal).N) : ℕ := (lit0 ⟨t.val % 136, Nat.mod_lt _ (by norm_num)⟩).toNat
def kj (t : Fin (cfgA Ideal).N) : ℕ := (lit1 ⟨t.val % 136, Nat.mod_lt _ (by norm_num)⟩).toNat

theorem bounds : ∀ t : Fin (cfgA Ideal).N, bi t < 2 ∧ qi t < 16 ∧ kj t ≤ qi t := by decide +kernel

theorem first_iff : ∀ t : Fin (cfgA Ideal).N, P0_0 Ideal t ↔ kj t = 0 := by decide +kernel
theorem inner_iff : ∀ t : Fin (cfgA Ideal).N, P0_1 Ideal t ↔ kj t < qi t := by decide +kernel

theorem before : ∀ t t' : Fin (cfgA Ideal).N, t'.val + 1 = t.val → kj t ≠ 0 → bi t' = bi t ∧ qi t' = qi t ∧ kj t' + 1 = kj t := by
  have h : ∀ t : Fin (cfgA Ideal).N, kj t ≠ 0 → ∃ h : 0 < t.val, bi ⟨t.val - 1, by omega⟩ = bi t ∧ qi ⟨t.val - 1, by omega⟩ = qi t ∧ kj ⟨t.val - 1, by omega⟩ + 1 = kj t := by decide +kernel
  intro t t' e hk
  obtain ⟨_, h'⟩ := h t hk
  have : t' = ⟨t.val - 1, by omega⟩ := Fin.ext (by simp only []; omega)
  rw [this]; exact h'
theorem before_pos : ∀ t : Fin (cfgA Ideal).N, kj t ≠ 0 → 0 < t.val := by decide +kernel

theorem idx : ∀ t : Fin (cfgA Ideal).N,
    ((cfgA Ideal).win (0 : Fin 6)).index t = ![bi t, qi t, 6] ∧ ((cfgA Ideal).win (1 : Fin 6)).index t = ![bi t, kj t, 7]
    ∧ ((cfgA Ideal).win (2 : Fin 6)).index t = ![bi t, kj t, 8] ∧ ((cfgA Ideal).win (3 : Fin 6)).index t = ![bi t, qi t, 0]
    ∧ ((cfgA Ideal).win (4 : Fin 6)).index t = ![bi t, 0, kj t] ∧ ((cfgA Ideal).win (5 : Fin 6)).index t = ![bi t, qi t, 0] := by decide +kernel

theorem flush_iff : ∀ t : Fin (cfgA Ideal).N, ((cfgA Ideal).win (5 : Fin 6)).flush t = true ↔ kj t = qi t := by decide +kernel

theorem covers : ((cfgA Ideal).win (5 : Fin 6)).Covers := by decide +kernel

end Cert.Fox

end
-- ==== Proof.Fox.Tile.lean ====
/- What one 128-row half of one point computes for one head or one pair of heads, as functions of the arrays it loads. -/
module

public import proofs.«01_k».proof.Proof.Fox.Pins

@[expose] public section

set_option maxRecDepth 16384

noncomputable section

namespace Cert.Fox

open Cert.KernelIdeal Cert.KernelIdeal.Gen
open Idealize.ShloMosaic
open Idealize.ShloMosaic.TcCoe

variable {F : FTy → Type} [FloatOps F] [Named F]

/-- The scaled queries of one head: lanes `o … o + 127` with the other head of the pair zeroed. -/
def qT (lo : Bool) (o : ℕ) (ho : S128x512.Slices ![0, o] S128x128) (xq : Vec F S1x128x512 .f32) : FVec F S128x128 .bf16 :=
  truncf .bf16 (bif lo then select k0_pay33 (extractStridedSlice S128x128 ![0, o] (k0_pay34 xq) ho) (broadcast S128x128 (Scalar.ofBits .f32 0x00000000#32))
    else select k0_pay33 (broadcast S128x128 (Scalar.ofBits .f32 0x00000000#32)) (extractStridedSlice S128x128 ![0, o] (k0_pay34 xq) ho)) bitsLt_bf16_f32

/-- The scores of one head in base-2 units, unmasked. -/
def sT (lo : Bool) (o h : ℕ) (ho : S128x512.Slices ![0, o] S128x128) (hk : S256x512.Slices ![0, o] S256x128) (hh : S8x256.Slices ![h, 0] S1x256)
    (xq : Vec F S1x128x512 .f32) (xk : Vec F S1x256x512 .f32) (xt : Vec F S1x8x256 .f32) (cq : Vec F S1x128x128 .f32) : FVec F S128x256 .f32 :=
  subf (addf (matmul dot_S128x128_S256x128_S128x256_1_1_0_0_n_n none (qT lo o ho xq) (extractStridedSlice S256x128 ![0, o] (k0_pay23 xk) hk)
        (constant S128x256 .f32 0x00000000#32))
      (concatenate S128x256 1 [⟨S128x128, shapeCast S128x128 cq shapeCasts_S1x128x128_S128x128⟩,
        ⟨S128x128, shapeCast S128x128 cq shapeCasts_S1x128x128_S128x128⟩] concatenates_S128x128_S128x128_S128x256_d1))
    (broadcastTo S128x256 (extractStridedSlice S1x256 ![h, 0] (k0_pay25 xt) hh) broadcasts_S1x256_S128x256)

/-- On the diagonal: column `j` of row `i` of half `r` stays where `i + 128 r ≥ j`. -/
def keepT (d : BitVec 32) : IVec S128x256 1 :=
  cmpi .sge (addi (iota .tc S128x256 32 [0] iota_S128x256_d0_w32) (broadcast S128x256 d)) (iota .tc S128x256 32 [1] iota_S128x256_d1_w32)

/-- The scores on the diagonal block, masked above it. -/
def sMT (d : BitVec 32) (lo : Bool) (o h : ℕ) (ho : S128x512.Slices ![0, o] S128x128) (hk : S256x512.Slices ![0, o] S256x128) (hh : S8x256.Slices ![h, 0] S1x256)
    (xq : Vec F S1x128x512 .f32) (xk : Vec F S1x256x512 .f32) (xt : Vec F S1x8x256 .f32) (cq : Vec F S1x128x128 .f32) : FVec F S128x256 .f32 :=
  select (keepT d) (sT lo o h ho hk hh xq xk xt cq) (broadcast S128x256 (Named.named κ "mask" 0xF149F2CA#32))

/-- The running maximum after the block. -/
def mT (s : FVec F S128x256 .f32) (m : Vec F S1x128x128 .f32) : FVec F S128x128 .f32 :=
  maximumf (shapeCast S128x128 m shapeCasts_S1x128x128_S128x128)
    (broadcastTo S128x128 (shapeCast S128x1 (multiReduction .maximumf [1] S128 s 0xFF800000#32 reduces_S128x256_S128 (.inl rfl) rfl) shapeCasts_S128_S128x1)
      broadcasts_S128x1_S128x128)

/-- The stored form of the running maximum. -/
def mS (s : FVec F S128x256 .f32) (m : Vec F S1x128x128 .f32) : FVec F S1x128x128 .f32 :=
  shapeCast S1x128x128 (mT s m) shapeCasts_S128x128_S1x128x128

/-- The factor that rescales what earlier blocks left. -/
def alT (m : Vec F S1x128x128 .f32) (mn : FVec F S128x128 .f32) : FVec F S128x128 .f32 :=
  exp2 (subf (shapeCast S128x128 m shapeCasts_S1x128x128_S128x128) mn)

/-- The block's weights of one head. -/
def pT (s : FVec F S128x256 .f32) (mn : FVec F S128x128 .f32) : FVec F S128x256 .bf16 :=
  truncf .bf16 (exp2 (subf s (concatenate S128x256 1 [⟨S128x128, mn⟩, ⟨S128x128, mn⟩] concatenates_S128x128_S128x128_S128x256_d1))) bitsLt_bf16_f32

/-- The values of a pair of heads, block diagonal, next to the block-diagonal ones. -/
def vT (o : ℕ) (hk : S256x512.Slices ![0, o] S256x128) (xv : Vec F S1x256x512 .f32) : FVec F S512x256 .bf16 :=
  truncf .bf16 (concatenate S512x256 1 [⟨S512x128, concatenate S512x128 0
      [⟨S256x128, select k0_pay1 (extractStridedSlice S256x128 ![0, o] (k0_pay24 xv) hk) (broadcast S256x128 (Scalar.ofBits .f32 0x00000000#32))⟩,
       ⟨S256x128, select k0_pay1 (broadcast S256x128 (Scalar.ofBits .f32 0x00000000#32)) (extractStridedSlice S256x128 ![0, o] (k0_pay24 xv) hk)⟩]
        concatenates_S256x128_S256x128_S512x128_d0⟩, ⟨S512x128, k0_pay26 k0_pay1⟩] concatenates_S512x128_S512x128_S512x256_d1) bitsLt_bf16_f32

/-- The weights of a pair of heads times the values and the ones. -/
def pvT (p0 p1 : FVec F S128x256 .bf16) (v : FVec F S512x256 .bf16) : FVec F S128x256 .f32 :=
  matmul dot_S128x512_S512x256_S128x256_1_0_0_1_n_n none
    (concatenate S128x512 1 [⟨S128x256, p0⟩, ⟨S128x256, p1⟩] concatenates_S128x256_S128x256_S128x512_d1) v (constant S128x256 .f32 0x00000000#32)

/-- The weighted values after the block. -/
def aS (al : FVec F S128x128 .f32) (pv : FVec F S128x256 .f32) (a : Vec F S128x128 .f32) : FVec F S128x128 .f32 :=
  shapeCast S128x128 (addf (mulf al a) (extractStridedSlice S128x128 ![0, 0] pv slices_S128x256_o0_0_S128x128))
    shapeCasts_S128x128_S128x128

/-- The sums of weights after the block. -/
def lS (al : FVec F S128x128 .f32) (pv : FVec F S128x256 .f32) (l : Vec F S1x128x128 .f32) : FVec F S1x128x128 .f32 :=
  shapeCast S1x128x128 (addf (mulf al (shapeCast S128x128 l shapeCasts_S1x128x128_S128x128)) (extractStridedSlice S128x128 ![0, 128] pv slices_S128x256_o0_128_S128x128))
    shapeCasts_S128x128_S1x128x128

/-! ## The rectangles and slices of head `h`, pair `p` and half `r` -/

theorem inbQ (r : Fin 2) : ∀ a, (![0, 128 * r.val, 0] : Fin 3 → ℕ) a + S1x128x512.size a ≤ S1x256x512.size a := by revert r; decide
theorem inbH (h : Fin 8) (r : Fin 2) : ∀ a, (![h.val, 128 * r.val, 0] : Fin 3 → ℕ) a + S1x128x128.size a ≤ S8x256x128.size a := by
  revert h r; decide
theorem inbL (p : Fin 4) (r : Fin 2) : ∀ a, (![p.val, 128 * r.val, 0] : Fin 3 → ℕ) a + S1x128x128.size a ≤ S4x256x128.size a := by
  revert p r; decide
theorem inbA (p : Fin 4) (r : Fin 2) : ∀ a, (![128 * r.val, 128 * p.val] : Fin 2 → ℕ) a + S128x128.size a ≤ S256x512.size a := by
  revert p r; decide
theorem slQ (p : Fin 4) : S128x512.Slices ![0, 128 * p.val] S128x128 := by revert p; decide
theorem slK (p : Fin 4) : S256x512.Slices ![0, 128 * p.val] S256x128 := by revert p; decide
theorem slT (h : Fin 8) : S8x256.Slices ![h.val, 0] S1x256 := by revert h; decide

/-- The pair of a head. -/
abbrev pairOf (h : Fin 8) : Fin 4 := ⟨h.val / 2, by omega⟩
abbrev rQ (r : Fin 2) : Rect S1x256x512 := Rect.unit (s := S1x256x512) ![0, 128 * r.val, 0] S1x128x512.size (inbQ r)
abbrev rH (h : Fin 8) (r : Fin 2) : Rect S8x256x128 := Rect.unit (s := S8x256x128) ![h.val, 128 * r.val, 0] S1x128x128.size (inbH h r)
abbrev rL (p : Fin 4) (r : Fin 2) : Rect S4x256x128 := Rect.unit (s := S4x256x128) ![p.val, 128 * r.val, 0] S1x128x128.size (inbL p r)
abbrev rA (p : Fin 4) (r : Fin 2) : Rect S256x512 := Rect.unit (s := S256x512) ![128 * r.val, 128 * p.val] S128x128.size (inbA p r)

variable (F) in
/-- What a point loads: its blocks, and per head, pair and half what the scratches hold. -/
structure Loads where
  q : Fin 2 → Vec F S1x128x512 .f32
  k : Vec F S1x256x512 .f32
  v : Vec F S1x256x512 .f32
  t : Vec F S1x8x256 .f32
  cq : Fin 8 → Fin 2 → Vec F S1x128x128 .f32
  m : Fin 8 → Fin 2 → Vec F S1x128x128 .f32
  m' : Fin 8 → Fin 2 → Vec F S1x128x128 .f32
  l : Fin 4 → Fin 2 → Vec F S1x128x128 .f32
  a : Fin 4 → Fin 2 → Vec F S128x128 .f32

namespace Loads

/-- The scores of head `h` in half `r`, masked on the diagonal block. -/
def s (L : Loads F) (dg : Bool) (h : Fin 8) (r : Fin 2) : FVec F S128x256 .f32 :=
  bif dg then sMT (bif r == 0 then 0#32 else 128#32) (bif h.val % 2 == 0 then true else false) (128 * (pairOf h).val) h.val (slQ _) (slK _) (slT h) (L.q r) L.k L.t (L.cq h r)
  else sT (bif h.val % 2 == 0 then true else false) (128 * (pairOf h).val) h.val (slQ _) (slK _) (slT h) (L.q r) L.k L.t (L.cq h r)

def mn (L : Loads F) (dg : Bool) (h : Fin 8) (r : Fin 2) : FVec F S128x128 .f32 := mT (L.s dg h r) (L.m h r)
def al (L : Loads F) (dg : Bool) (h : Fin 8) (r : Fin 2) : FVec F S128x128 .f32 := alT (L.m' h r) (L.mn dg h r)
def p (L : Loads F) (dg : Bool) (h : Fin 8) (r : Fin 2) : FVec F S128x256 .bf16 := pT (L.s dg h r) (L.mn dg h r)
/-- The first and the second head of a pair. -/
abbrev hd0 (p : Fin 4) : Fin 8 := ⟨2 * p.val, by omega⟩
abbrev hd1 (p : Fin 4) : Fin 8 := ⟨2 * p.val + 1, by omega⟩
def alp (L : Loads F) (dg : Bool) (p : Fin 4) (r : Fin 2) : FVec F S128x128 .f32 := select k0_pay33 (L.al dg (hd0 p) r) (L.al dg (hd1 p) r)
def pv (L : Loads F) (dg : Bool) (p : Fin 4) (r : Fin 2) : FVec F S128x256 .f32 :=
  pvT (L.p dg (hd0 p) r) (L.p dg (hd1 p) r) (vT (128 * p.val) (slK p) L.v)

/-- The stores into the running maxima, the sums and the weighted values. -/
def pm (L : Loads F) (dg : Bool) (h : Fin 8) (r : Fin 2) : View.Piece (Elt F) S8x256x128 .f32 := ⟨rH h r, mS (L.s dg h r) (L.m h r)⟩
def pl (L : Loads F) (dg : Bool) (p : Fin 4) (r : Fin 2) : View.Piece (Elt F) S4x256x128 .f32 := ⟨rL p r, lS (L.alp dg p r) (L.pv dg p r) (L.l p r)⟩
def pa (L : Loads F) (dg : Bool) (p : Fin 4) (r : Fin 2) : View.Piece (Elt F) S256x512 .f32 := ⟨rA p r, aS (L.alp dg p r) (L.pv dg p r) (L.a p r)⟩

def listM (L : Loads F) (dg : Bool) (B : List (View.Piece (Elt F) S8x256x128 .f32)) : List (View.Piece (Elt F) S8x256x128 .f32) :=
  L.pm dg 7 1 :: L.pm dg 6 1 :: L.pm dg 5 1 :: L.pm dg 4 1 :: L.pm dg 3 1 :: L.pm dg 2 1 :: L.pm dg 1 1 :: L.pm dg 0 1 ::
  L.pm dg 7 0 :: L.pm dg 6 0 :: L.pm dg 5 0 :: L.pm dg 4 0 :: L.pm dg 3 0 :: L.pm dg 2 0 :: L.pm dg 1 0 :: L.pm dg 0 0 :: B
def listL (L : Loads F) (dg : Bool) (B : List (View.Piece (Elt F) S4x256x128 .f32)) : List (View.Piece (Elt F) S4x256x128 .f32) :=
  L.pl dg 3 1 :: L.pl dg 2 1 :: L.pl dg 1 1 :: L.pl dg 0 1 :: L.pl dg 3 0 :: L.pl dg 2 0 :: L.pl dg 1 0 :: L.pl dg 0 0 :: B
def listA (L : Loads F) (dg : Bool) (B : List (View.Piece (Elt F) S256x512 .f32)) : List (View.Piece (Elt F) S256x512 .f32) :=
  L.pa dg 3 1 :: L.pa dg 2 1 :: L.pa dg 1 1 :: L.pa dg 0 1 :: L.pa dg 3 0 :: L.pa dg 2 0 :: L.pa dg 1 0 :: L.pa dg 0 0 :: B

end Loads

/-! The same at each literal. -/

namespace Loads

theorem s_t00 (L : Loads F) : L.s true 0 0 = sMT 0#32 true 0 0 (slQ 0) (slK 0) (slT 0) (L.q 0) L.k L.t (L.cq 0 0) := rfl
theorem s_t10 (L : Loads F) : L.s true 1 0 = sMT 0#32 false 0 1 (slQ 0) (slK 0) (slT 1) (L.q 0) L.k L.t (L.cq 1 0) := rfl
theorem s_t20 (L : Loads F) : L.s true 2 0 = sMT 0#32 true 128 2 (slQ 1) (slK 1) (slT 2) (L.q 0) L.k L.t (L.cq 2 0) := rfl
theorem s_t30 (L : Loads F) : L.s true 3 0 = sMT 0#32 false 128 3 (slQ 1) (slK 1) (slT 3) (L.q 0) L.k L.t (L.cq 3 0) := rfl
theorem s_t40 (L : Loads F) : L.s true 4 0 = sMT 0#32 true 256 4 (slQ 2) (slK 2) (slT 4) (L.q 0) L.k L.t (L.cq 4 0) := rfl
theorem s_t50 (L : Loads F) : L.s true 5 0 = sMT 0#32 false 256 5 (slQ 2) (slK 2) (slT 5) (L.q 0) L.k L.t (L.cq 5 0) := rfl
theorem s_t60 (L : Loads F) : L.s true 6 0 = sMT 0#32 true 384 6 (slQ 3) (slK 3) (slT 6) (L.q 0) L.k L.t (L.cq 6 0) := rfl
theorem s_t70 (L : Loads F) : L.s true 7 0 = sMT 0#32 false 384 7 (slQ 3) (slK 3) (slT 7) (L.q 0) L.k L.t (L.cq 7 0) := rfl
theorem s_t01 (L : Loads F) : L.s true 0 1 = sMT 128#32 true 0 0 (slQ 0) (slK 0) (slT 0) (L.q 1) L.k L.t (L.cq 0 1) := rfl
theorem s_t11 (L : Loads F) : L.s true 1 1 = sMT 128#32 false 0 1 (slQ 0) (slK 0) (slT 1) (L.q 1) L.k L.t (L.cq 1 1) := rfl
theorem s_t21 (L : Loads F) : L.s true 2 1 = sMT 128#32 true 128 2 (slQ 1) (slK 1) (slT 2) (L.q 1) L.k L.t (L.cq 2 1) := rfl
theorem s_t31 (L : Loads F) : L.s true 3 1 = sMT 128#32 false 128 3 (slQ 1) (slK 1) (slT 3) (L.q 1) L.k L.t (L.cq 3 1) := rfl
theorem s_t41 (L : Loads F) : L.s true 4 1 = sMT 128#32 true 256 4 (slQ 2) (slK 2) (slT 4) (L.q 1) L.k L.t (L.cq 4 1) := rfl
theorem s_t51 (L : Loads F) : L.s true 5 1 = sMT 128#32 false 256 5 (slQ 2) (slK 2) (slT 5) (L.q 1) L.k L.t (L.cq 5 1) := rfl
theorem s_t61 (L : Loads F) : L.s true 6 1 = sMT 128#32 true 384 6 (slQ 3) (slK 3) (slT 6) (L.q 1) L.k L.t (L.cq 6 1) := rfl
theorem s_t71 (L : Loads F) : L.s true 7 1 = sMT 128#32 false 384 7 (slQ 3) (slK 3) (slT 7) (L.q 1) L.k L.t (L.cq 7 1) := rfl
theorem s_f00 (L : Loads F) : L.s false 0 0 = sT true 0 0 (slQ 0) (slK 0) (slT 0) (L.q 0) L.k L.t (L.cq 0 0) := rfl
theorem s_f10 (L : Loads F) : L.s false 1 0 = sT false 0 1 (slQ 0) (slK 0) (slT 1) (L.q 0) L.k L.t (L.cq 1 0) := rfl
theorem s_f20 (L : Loads F) : L.s false 2 0 = sT true 128 2 (slQ 1) (slK 1) (slT 2) (L.q 0) L.k L.t (L.cq 2 0) := rfl
theorem s_f30 (L : Loads F) : L.s false 3 0 = sT false 128 3 (slQ 1) (slK 1) (slT 3) (L.q 0) L.k L.t (L.cq 3 0) := rfl
theorem s_f40 (L : Loads F) : L.s false 4 0 = sT true 256 4 (slQ 2) (slK 2) (slT 4) (L.q 0) L.k L.t (L.cq 4 0) := rfl
theorem s_f50 (L : Loads F) : L.s false 5 0 = sT false 256 5 (slQ 2) (slK 2) (slT 5) (L.q 0) L.k L.t (L.cq 5 0) := rfl
theorem s_f60 (L : Loads F) : L.s false 6 0 = sT true 384 6 (slQ 3) (slK 3) (slT 6) (L.q 0) L.k L.t (L.cq 6 0) := rfl
theorem s_f70 (L : Loads F) : L.s false 7 0 = sT false 384 7 (slQ 3) (slK 3) (slT 7) (L.q 0) L.k L.t (L.cq 7 0) := rfl
theorem s_f01 (L : Loads F) : L.s false 0 1 = sT true 0 0 (slQ 0) (slK 0) (slT 0) (L.q 1) L.k L.t (L.cq 0 1) := rfl
theorem s_f11 (L : Loads F) : L.s false 1 1 = sT false 0 1 (slQ 0) (slK 0) (slT 1) (L.q 1) L.k L.t (L.cq 1 1) := rfl
theorem s_f21 (L : Loads F) : L.s false 2 1 = sT true 128 2 (slQ 1) (slK 1) (slT 2) (L.q 1) L.k L.t (L.cq 2 1) := rfl
theorem s_f31 (L : Loads F) : L.s false 3 1 = sT false 128 3 (slQ 1) (slK 1) (slT 3) (L.q 1) L.k L.t (L.cq 3 1) := rfl
theorem s_f41 (L : Loads F) : L.s false 4 1 = sT true 256 4 (slQ 2) (slK 2) (slT 4) (L.q 1) L.k L.t (L.cq 4 1) := rfl
theorem s_f51 (L : Loads F) : L.s false 5 1 = sT false 256 5 (slQ 2) (slK 2) (slT 5) (L.q 1) L.k L.t (L.cq 5 1) := rfl
theorem s_f61 (L : Loads F) : L.s false 6 1 = sT true 384 6 (slQ 3) (slK 3) (slT 6) (L.q 1) L.k L.t (L.cq 6 1) := rfl
theorem s_f71 (L : Loads F) : L.s false 7 1 = sT false 384 7 (slQ 3) (slK 3) (slT 7) (L.q 1) L.k L.t (L.cq 7 1) := rfl
theorem pm_00 (L : Loads F) (dg : Bool) : L.pm dg 0 0 = ⟨Rect.unit (s := S8x256x128) ![0, 0, 0] S1x128x128.size (inbH 0 0), mS (L.s dg 0 0) (L.m 0 0)⟩ := rfl
theorem pm_10 (L : Loads F) (dg : Bool) : L.pm dg 1 0 = ⟨Rect.unit (s := S8x256x128) ![1, 0, 0] S1x128x128.size (inbH 1 0), mS (L.s dg 1 0) (L.m 1 0)⟩ := rfl
theorem pm_20 (L : Loads F) (dg : Bool) : L.pm dg 2 0 = ⟨Rect.unit (s := S8x256x128) ![2, 0, 0] S1x128x128.size (inbH 2 0), mS (L.s dg 2 0) (L.m 2 0)⟩ := rfl
theorem pm_30 (L : Loads F) (dg : Bool) : L.pm dg 3 0 = ⟨Rect.unit (s := S8x256x128) ![3, 0, 0] S1x128x128.size (inbH 3 0), mS (L.s dg 3 0) (L.m 3 0)⟩ := rfl
theorem pm_40 (L : Loads F) (dg : Bool) : L.pm dg 4 0 = ⟨Rect.unit (s := S8x256x128) ![4, 0, 0] S1x128x128.size (inbH 4 0), mS (L.s dg 4 0) (L.m 4 0)⟩ := rfl
theorem pm_50 (L : Loads F) (dg : Bool) : L.pm dg 5 0 = ⟨Rect.unit (s := S8x256x128) ![5, 0, 0] S1x128x128.size (inbH 5 0), mS (L.s dg 5 0) (L.m 5 0)⟩ := rfl
theorem pm_60 (L : Loads F) (dg : Bool) : L.pm dg 6 0 = ⟨Rect.unit (s := S8x256x128) ![6, 0, 0] S1x128x128.size (inbH 6 0), mS (L.s dg 6 0) (L.m 6 0)⟩ := rfl
theorem pm_70 (L : Loads F) (dg : Bool) : L.pm dg 7 0 = ⟨Rect.unit (s := S8x256x128) ![7, 0, 0] S1x128x128.size (inbH 7 0), mS (L.s dg 7 0) (L.m 7 0)⟩ := rfl
theorem pl_00 (L : Loads F) (dg : Bool) : L.pl dg 0 0 = ⟨Rect.unit (s := S4x256x128) ![0, 0, 0] S1x128x128.size (inbL 0 0), lS (select k0_pay33 (alT (L.m' 0 0) (mT (L.s dg 0 0) (L.m 0 0))) (alT (L.m' 1 0) (mT (L.s dg 1 0) (L.m 1 0)))) (pvT (pT (L.s dg 0 0) (mT (L.s dg 0 0) (L.m 0 0))) (pT (L.s dg 1 0) (mT (L.s dg 1 0) (L.m 1 0))) (vT 0 (slK 0) L.v)) (L.l 0 0)⟩ := rfl
theorem pa_00 (L : Loads F) (dg : Bool) : L.pa dg 0 0 = ⟨Rect.unit (s := S256x512) ![0, 0] S128x128.size (inbA 0 0), aS (select k0_pay33 (alT (L.m' 0 0) (mT (L.s dg 0 0) (L.m 0 0))) (alT (L.m' 1 0) (mT (L.s dg 1 0) (L.m 1 0)))) (pvT (pT (L.s dg 0 0) (mT (L.s dg 0 0) (L.m 0 0))) (pT (L.s dg 1 0) (mT (L.s dg 1 0) (L.m 1 0))) (vT 0 (slK 0) L.v)) (L.a 0 0)⟩ := rfl
theorem pl_10 (L : Loads F) (dg : Bool) : L.pl dg 1 0 = ⟨Rect.unit (s := S4x256x128) ![1, 0, 0] S1x128x128.size (inbL 1 0), lS (select k0_pay33 (alT (L.m' 2 0) (mT (L.s dg 2 0) (L.m 2 0))) (alT (L.m' 3 0) (mT (L.s dg 3 0) (L.m 3 0)))) (pvT (pT (L.s dg 2 0) (mT (L.s dg 2 0) (L.m 2 0))) (pT (L.s dg 3 0) (mT (L.s dg 3 0) (L.m 3 0))) (vT 128 (slK 1) L.v)) (L.l 1 0)⟩ := rfl
theorem pa_10 (L : Loads F) (dg : Bool) : L.pa dg 1 0 = ⟨Rect.unit (s := S256x512) ![0, 128] S128x128.size (inbA 1 0), aS (select k0_pay33 (alT (L.m' 2 0) (mT (L.s dg 2 0) (L.m 2 0))) (alT (L.m' 3 0) (mT (L.s dg 3 0) (L.m 3 0)))) (pvT (pT (L.s dg 2 0) (mT (L.s dg 2 0) (L.m 2 0))) (pT (L.s dg 3 0) (mT (L.s dg 3 0) (L.m 3 0))) (vT 128 (slK 1) L.v)) (L.a 1 0)⟩ := rfl
theorem pl_20 (L : Loads F) (dg : Bool) : L.pl dg 2 0 = ⟨Rect.unit (s := S4x256x128) ![2, 0, 0] S1x128x128.size (inbL 2 0), lS (select k0_pay33 (alT (L.m' 4 0) (mT (L.s dg 4 0) (L.m 4 0))) (alT (L.m' 5 0) (mT (L.s dg 5 0) (L.m 5 0)))) (pvT (pT (L.s dg 4 0) (mT (L.s dg 4 0) (L.m 4 0))) (pT (L.s dg 5 0) (mT (L.s dg 5 0) (L.m 5 0))) (vT 256 (slK 2) L.v)) (L.l 2 0)⟩ := rfl
theorem pa_20 (L : Loads F) (dg : Bool) : L.pa dg 2 0 = ⟨Rect.unit (s := S256x512) ![0, 256] S128x128.size (inbA 2 0), aS (select k0_pay33 (alT (L.m' 4 0) (mT (L.s dg 4 0) (L.m 4 0))) (alT (L.m' 5 0) (mT (L.s dg 5 0) (L.m 5 0)))) (pvT (pT (L.s dg 4 0) (mT (L.s dg 4 0) (L.m 4 0))) (pT (L.s dg 5 0) (mT (L.s dg 5 0) (L.m 5 0))) (vT 256 (slK 2) L.v)) (L.a 2 0)⟩ := rfl
theorem pl_30 (L : Loads F) (dg : Bool) : L.pl dg 3 0 = ⟨Rect.unit (s := S4x256x128) ![3, 0, 0] S1x128x128.size (inbL 3 0), lS (select k0_pay33 (alT (L.m' 6 0) (mT (L.s dg 6 0) (L.m 6 0))) (alT (L.m' 7 0) (mT (L.s dg 7 0) (L.m 7 0)))) (pvT (pT (L.s dg 6 0) (mT (L.s dg 6 0) (L.m 6 0))) (pT (L.s dg 7 0) (mT (L.s dg 7 0) (L.m 7 0))) (vT 384 (slK 3) L.v)) (L.l 3 0)⟩ := rfl
theorem pa_30 (L : Loads F) (dg : Bool) : L.pa dg 3 0 = ⟨Rect.unit (s := S256x512) ![0, 384] S128x128.size (inbA 3 0), aS (select k0_pay33 (alT (L.m' 6 0) (mT (L.s dg 6 0) (L.m 6 0))) (alT (L.m' 7 0) (mT (L.s dg 7 0) (L.m 7 0)))) (pvT (pT (L.s dg 6 0) (mT (L.s dg 6 0) (L.m 6 0))) (pT (L.s dg 7 0) (mT (L.s dg 7 0) (L.m 7 0))) (vT 384 (slK 3) L.v)) (L.a 3 0)⟩ := rfl
theorem pm_01 (L : Loads F) (dg : Bool) : L.pm dg 0 1 = ⟨Rect.unit (s := S8x256x128) ![0, 128, 0] S1x128x128.size (inbH 0 1), mS (L.s dg 0 1) (L.m 0 1)⟩ := rfl
theorem pm_11 (L : Loads F) (dg : Bool) : L.pm dg 1 1 = ⟨Rect.unit (s := S8x256x128) ![1, 128, 0] S1x128x128.size (inbH 1 1), mS (L.s dg 1 1) (L.m 1 1)⟩ := rfl
theorem pm_21 (L : Loads F) (dg : Bool) : L.pm dg 2 1 = ⟨Rect.unit (s := S8x256x128) ![2, 128, 0] S1x128x128.size (inbH 2 1), mS (L.s dg 2 1) (L.m 2 1)⟩ := rfl
theorem pm_31 (L : Loads F) (dg : Bool) : L.pm dg 3 1 = ⟨Rect.unit (s := S8x256x128) ![3, 128, 0] S1x128x128.size (inbH 3 1), mS (L.s dg 3 1) (L.m 3 1)⟩ := rfl
theorem pm_41 (L : Loads F) (dg : Bool) : L.pm dg 4 1 = ⟨Rect.unit (s := S8x256x128) ![4, 128, 0] S1x128x128.size (inbH 4 1), mS (L.s dg 4 1) (L.m 4 1)⟩ := rfl
theorem pm_51 (L : Loads F) (dg : Bool) : L.pm dg 5 1 = ⟨Rect.unit (s := S8x256x128) ![5, 128, 0] S1x128x128.size (inbH 5 1), mS (L.s dg 5 1) (L.m 5 1)⟩ := rfl
theorem pm_61 (L : Loads F) (dg : Bool) : L.pm dg 6 1 = ⟨Rect.unit (s := S8x256x128) ![6, 128, 0] S1x128x128.size (inbH 6 1), mS (L.s dg 6 1) (L.m 6 1)⟩ := rfl
theorem pm_71 (L : Loads F) (dg : Bool) : L.pm dg 7 1 = ⟨Rect.unit (s := S8x256x128) ![7, 128, 0] S1x128x128.size (inbH 7 1), mS (L.s dg 7 1) (L.m 7 1)⟩ := rfl
theorem pl_01 (L : Loads F) (dg : Bool) : L.pl dg 0 1 = ⟨Rect.unit (s := S4x256x128) ![0, 128, 0] S1x128x128.size (inbL 0 1), lS (select k0_pay33 (alT (L.m' 0 1) (mT (L.s dg 0 1) (L.m 0 1))) (alT (L.m' 1 1) (mT (L.s dg 1 1) (L.m 1 1)))) (pvT (pT (L.s dg 0 1) (mT (L.s dg 0 1) (L.m 0 1))) (pT (L.s dg 1 1) (mT (L.s dg 1 1) (L.m 1 1))) (vT 0 (slK 0) L.v)) (L.l 0 1)⟩ := rfl
theorem pa_01 (L : Loads F) (dg : Bool) : L.pa dg 0 1 = ⟨Rect.unit (s := S256x512) ![128, 0] S128x128.size (inbA 0 1), aS (select k0_pay33 (alT (L.m' 0 1) (mT (L.s dg 0 1) (L.m 0 1))) (alT (L.m' 1 1) (mT (L.s dg 1 1) (L.m 1 1)))) (pvT (pT (L.s dg 0 1) (mT (L.s dg 0 1) (L.m 0 1))) (pT (L.s dg 1 1) (mT (L.s dg 1 1) (L.m 1 1))) (vT 0 (slK 0) L.v)) (L.a 0 1)⟩ := rfl
theorem pl_11 (L : Loads F) (dg : Bool) : L.pl dg 1 1 = ⟨Rect.unit (s := S4x256x128) ![1, 128, 0] S1x128x128.size (inbL 1 1), lS (select k0_pay33 (alT (L.m' 2 1) (mT (L.s dg 2 1) (L.m 2 1))) (alT (L.m' 3 1) (mT (L.s dg 3 1) (L.m 3 1)))) (pvT (pT (L.s dg 2 1) (mT (L.s dg 2 1) (L.m 2 1))) (pT (L.s dg 3 1) (mT (L.s dg 3 1) (L.m 3 1))) (vT 128 (slK 1) L.v)) (L.l 1 1)⟩ := rfl
theorem pa_11 (L : Loads F) (dg : Bool) : L.pa dg 1 1 = ⟨Rect.unit (s := S256x512) ![128, 128] S128x128.size (inbA 1 1), aS (select k0_pay33 (alT (L.m' 2 1) (mT (L.s dg 2 1) (L.m 2 1))) (alT (L.m' 3 1) (mT (L.s dg 3 1) (L.m 3 1)))) (pvT (pT (L.s dg 2 1) (mT (L.s dg 2 1) (L.m 2 1))) (pT (L.s dg 3 1) (mT (L.s dg 3 1) (L.m 3 1))) (vT 128 (slK 1) L.v)) (L.a 1 1)⟩ := rfl
theorem pl_21 (L : Loads F) (dg : Bool) : L.pl dg 2 1 = ⟨Rect.unit (s := S4x256x128) ![2, 128, 0] S1x128x128.size (inbL 2 1), lS (select k0_pay33 (alT (L.m' 4 1) (mT (L.s dg 4 1) (L.m 4 1))) (alT (L.m' 5 1) (mT (L.s dg 5 1) (L.m 5 1)))) (pvT (pT (L.s dg 4 1) (mT (L.s dg 4 1) (L.m 4 1))) (pT (L.s dg 5 1) (mT (L.s dg 5 1) (L.m 5 1))) (vT 256 (slK 2) L.v)) (L.l 2 1)⟩ := rfl
theorem pa_21 (L : Loads F) (dg : Bool) : L.pa dg 2 1 = ⟨Rect.unit (s := S256x512) ![128, 256] S128x128.size (inbA 2 1), aS (select k0_pay33 (alT (L.m' 4 1) (mT (L.s dg 4 1) (L.m 4 1))) (alT (L.m' 5 1) (mT (L.s dg 5 1) (L.m 5 1)))) (pvT (pT (L.s dg 4 1) (mT (L.s dg 4 1) (L.m 4 1))) (pT (L.s dg 5 1) (mT (L.s dg 5 1) (L.m 5 1))) (vT 256 (slK 2) L.v)) (L.a 2 1)⟩ := rfl
theorem pl_31 (L : Loads F) (dg : Bool) : L.pl dg 3 1 = ⟨Rect.unit (s := S4x256x128) ![3, 128, 0] S1x128x128.size (inbL 3 1), lS (select k0_pay33 (alT (L.m' 6 1) (mT (L.s dg 6 1) (L.m 6 1))) (alT (L.m' 7 1) (mT (L.s dg 7 1) (L.m 7 1)))) (pvT (pT (L.s dg 6 1) (mT (L.s dg 6 1) (L.m 6 1))) (pT (L.s dg 7 1) (mT (L.s dg 7 1) (L.m 7 1))) (vT 384 (slK 3) L.v)) (L.l 3 1)⟩ := rfl
theorem pa_31 (L : Loads F) (dg : Bool) : L.pa dg 3 1 = ⟨Rect.unit (s := S256x512) ![128, 384] S128x128.size (inbA 3 1), aS (select k0_pay33 (alT (L.m' 6 1) (mT (L.s dg 6 1) (L.m 6 1))) (alT (L.m' 7 1) (mT (L.s dg 7 1) (L.m 7 1)))) (pvT (pT (L.s dg 6 1) (mT (L.s dg 6 1) (L.m 6 1))) (pT (L.s dg 7 1) (mT (L.s dg 7 1) (L.m 7 1))) (vT 384 (slK 3) L.v)) (L.a 3 1)⟩ := rfl

end Loads

/-! ## The gates' scratch and the output -/

theorem slC (h : Fin 8) : S256x128.Slices ![0, 80 + h.val] S256x1 := by revert h; decide
theorem inbC (h : Fin 8) : ∀ a, (![h.val, 0, 0] : Fin 3 → ℕ) a + S1x256x128.size a ≤ S8x256x128.size a := by revert h; decide
theorem inbO (p : Fin 4) : ∀ a, (![0, 0, 128 * p.val] : Fin 3 → ℕ) a + S1x256x128.size a ≤ S1x256x512.size a := by revert p; decide
theorem inbLp (p : Fin 4) : ∀ a, (![p.val, 0, 0] : Fin 3 → ℕ) a + S1x256x128.size a ≤ S4x256x128.size a := by revert p; decide
theorem inbAp (p : Fin 4) : ∀ a, (![0, 128 * p.val] : Fin 2 → ℕ) a + S256x128.size a ≤ S256x512.size a := by revert p; decide

abbrev rC (h : Fin 8) : Rect S8x256x128 := Rect.unit (s := S8x256x128) ![h.val, 0, 0] S1x256x128.size (inbC h)
abbrev rO (p : Fin 4) : Rect S1x256x512 := Rect.unit (s := S1x256x512) ![0, 0, 128 * p.val] S1x256x128.size (inbO p)
abbrev rLp (p : Fin 4) : Rect S4x256x128 := Rect.unit (s := S4x256x128) ![p.val, 0, 0] S1x256x128.size (inbLp p)
abbrev rAp (p : Fin 4) : Rect S256x512 := Rect.unit (s := S256x512) ![0, 128 * p.val] S256x128.size (inbAp p)

/-- The gates of head `h`, in base-2 units, spread over the lanes. -/
def cS (h : ℕ) (hh : S256x128.Slices ![0, 80 + h] S256x1) (xc : Vec F S1x256x128 .f32) : FVec F S1x256x128 .f32 :=
  shapeCast S1x256x128 (broadcastTo S256x128 (shapeCast S256x1 (mulf (extractStridedSlice S256x1 ![0, 80 + h] (k0_pay13 xc) hh)
    (broadcast S256x1 (Named.named κ "log2e" 0x3FB8AA3B#32))) shapeCasts_S256x1_S256x1) broadcasts_S256x1_S256x128) shapeCasts_S256x128_S1x256x128

/-- The output of a pair: the weighted values over the sums of weights. -/
def oS (a : Vec F S256x128 .f32) (l : Vec F S1x256x128 .f32) : FVec F S1x256x128 .f32 :=
  shapeCast S1x256x128 (divf a (shapeCast S256x128 l shapeCasts_S1x256x128_S256x128)) shapeCasts_S256x128_S1x256x128

def pc (xc : Vec F S1x256x128 .f32) (h : Fin 8) : View.Piece (Elt F) S8x256x128 .f32 := ⟨rC h, cS h.val (slC h) xc⟩
def listC (xc : Vec F S1x256x128 .f32) : List (View.Piece (Elt F) S8x256x128 .f32) :=
  [pc xc 7, pc xc 6, pc xc 5, pc xc 4, pc xc 3, pc xc 2, pc xc 1, pc xc 0]

def po (a : Fin 4 → Vec F S256x128 .f32) (l : Fin 4 → Vec F S1x256x128 .f32) (p : Fin 4) : View.Piece (Elt F) S1x256x512 .f32 := ⟨rO p, oS (a p) (l p)⟩
def listO (a : Fin 4 → Vec F S256x128 .f32) (l : Fin 4 → Vec F S1x256x128 .f32) : List (View.Piece (Elt F) S1x256x512 .f32) :=
  [po a l 3, po a l 2, po a l 1, po a l 0]

end Cert.Fox

end
-- ==== Proof.Fox.TileIdeal.lean ====
/- `Tile`'s functions over the extended reals, read at an index. -/
module

public import proofs.«01_k».proof.Proof.Fox.Tile
public import Idealize.ShloMosaic.Lib.Pointwise

@[expose] public section

set_option maxRecDepth 16384

noncomputable section

namespace Cert.Fox

open Cert.KernelIdeal Cert.KernelIdeal.Gen
open Idealize.ShloMosaic
open Idealize.ShloMosaic.TcCoe

/-- The named scales. -/
def kq : EReal := (((8 * (Real.log 2))⁻¹ : ℝ) : EReal)
def kl : EReal := (((Real.log 2)⁻¹ : ℝ) : EReal)

theorem named_mask : Named.named (F := Ideal) (φ := .f32) κ "mask" 0xF149F2CA#32 = (⊥ : EReal) := rfl
theorem named_log2e : Named.named (F := Ideal) (φ := .f32) κ "log2e" 0x3FB8AA3B#32 = kl := rfl
theorem named_qscale : Named.named (F := Ideal) (φ := .f32) κ "qscale" 0x3E38AA3B#32 = kq := rfl
theorem ninf : Ideal.ofBits FTy.f32 0xFF800000#32 = (⊥ : EReal) := by simp [Ideal.ofBits, Ideal.ieee]

theorem lt64 (c : ℕ) (hc : c < 256) (a b : EReal) :
    Scalar.select (IntOp.cmpi .slt (BitVec.ofNat 32 c) 64#32) a b = if c < 64 then a else b := by
  have : IntOp.cmpi .slt (BitVec.ofNat 32 c) 64#32 = if c < 64 then 1#1 else 0#1 := by
    have : ∀ c : Fin 256, IntOp.cmpi .slt (BitVec.ofNat 32 c.val) 64#32 = if c.val < 64 then 1#1 else 0#1 := by decide
    exact this ⟨c, hc⟩
  rw [this]; split <;> rfl

theorem sel33 (i c : Fin 128) (a b : EReal) : Scalar.select (k0_pay33 (ix2 i c)) a b = if c.val < 64 then a else b := by
  pointwise [k0_pay33]
  exact lt64 _ (by omega) a b

/-- The score of head `h` at row `i`, column `j`. -/
def scoreE (h : Fin 8) (xq : FVec Ideal S1x128x512 .f32) (xk : FVec Ideal S1x256x512 .f32) (xt : FVec Ideal S1x8x256 .f32)
    (cq : FVec Ideal S1x128x128 .f32) (i : Fin 128) (j : Fin 256) : EReal :=
  (∑ d : Fin 64, (xq (ix3 0 i ⟨64 * h.val + d.val, by omega⟩) * kq) * xk (ix3 0 j ⟨64 * h.val + d.val, by omega⟩))
    + cq (ix3 0 i ⟨j.val % 128, by omega⟩) - xt (ix3 0 h j) * kl

theorem qT_apply (lo : Bool) (o : ℕ) (ho : S128x512.Slices ![0, o] S128x128) (h' : o + 128 ≤ 512) (xq : FVec Ideal S1x128x512 .f32) (i c : Fin 128) :
    qT (F := Ideal) lo o ho xq (ix2 i c) = if (c.val < 64) = (lo = true) then xq (ix3 0 i ⟨o + c.val, by omega⟩) * kq else 0 := by
  cases lo
  · pointwise [qT, k0_pay34, cond_false, sel33, named_qscale]
    by_cases hc : c.val < 64 <;> simp [hc]
  · pointwise [qT, k0_pay34, cond_true, sel33, named_qscale]
    by_cases hc : c.val < 64 <;> simp [hc]

theorem sT_apply (h : Fin 8) (ho hk hh) (xq : FVec Ideal S1x128x512 .f32) (xk : FVec Ideal S1x256x512 .f32) (xt : FVec Ideal S1x8x256 .f32)
    (cq : FVec Ideal S1x128x128 .f32) (i : Fin 128) (j : Fin 256) :
    sT (F := Ideal) (bif h.val % 2 == 0 then true else false) (128 * (pairOf h).val) h.val ho hk hh xq xk xt cq (ix2 i j) = scoreE h xq xk xt cq i j := by
  pointwise [sT, k0_pay23, k0_pay25, named_log2e]
  have e : (if hj : j.val < 128 then cq (ix3 0 i ⟨j.val, by omega⟩) else cq (ix3 0 i ⟨j.val - 128, by omega⟩)) = cq (ix3 0 i ⟨j.val % 128, by omega⟩) := by
    split
    · congr 2; ext; simp; omega
    · congr 2; ext; simp; omega
  rw [e, scoreE]
  congr 2
  rw [Fin.sum_univ_two_halves 64 64 rfl]
  rcases Nat.mod_two_eq_zero_or_one h.val with hp | hp
  · refine (congrArg₂ (· + ·) (Finset.sum_congr rfl fun d _ => ?_) (Finset.sum_eq_zero fun d _ => ?_)).trans (add_zero _)
    · rw [qT_apply _ _ _ (by omega), if_pos (by simp [hp])]
      have e1 : 128 * (h.val / 2) + d.val = 64 * h.val + d.val := by omega
      simp only [e1]
    · rw [qT_apply _ _ _ (by omega), if_neg (by simp [hp]), zero_mul]
  · refine (congrArg₂ (· + ·) (Finset.sum_eq_zero fun d _ => ?_) (Finset.sum_congr rfl fun d _ => ?_)).trans (zero_add _)
    · rw [qT_apply _ _ _ (by omega), if_neg (by simp [hp]), zero_mul]
    · rw [qT_apply _ _ _ (by omega), if_pos (by simp [hp])]
      have e1 : 128 * (h.val / 2) + (64 + d.val) = 64 * h.val + d.val := by omega
      simp only [e1]

theorem mT_apply (s : FVec Ideal S128x256 .f32) (m : FVec Ideal S1x128x128 .f32) (i c : Fin 128) :
    mT (F := Ideal) s m (ix2 i c) = max (m (ix3 0 i c)) (Finset.univ.fold max ⊥ fun x : Fin 256 => s (ix2 i x)) := by
  pointwise [mT]
  rw [ninf]

theorem alT_apply (m : FVec Ideal S1x128x128 .f32) (mn : FVec Ideal S128x128 .f32) (i c : Fin 128) :
    alT (F := Ideal) m mn (ix2 i c) = Ideal.exp2 (m (ix3 0 i c) - mn (ix2 i c)) := by
  pointwise [alT]
  rfl

theorem pT_apply (s : FVec Ideal S128x256 .f32) (mn : FVec Ideal S128x128 .f32) (i : Fin 128) (c : Fin 256) :
    pT (F := Ideal) s mn (ix2 i c) = Ideal.exp2 (s (ix2 i c) - mn (ix2 i ⟨c.val % 128, by omega⟩)) := by
  pointwise [pT]
  have e : (if hj : c.val < 128 then mn (ix2 i ⟨c.val, by omega⟩) else mn (ix2 i ⟨c.val - 128, by omega⟩)) = mn (ix2 i ⟨c.val % 128, by omega⟩) := by
    split
    · congr 2; ext; simp; omega
    · congr 2; ext; simp; omega
  rw [e]
  rfl

theorem sge_ofNat (a b : ℕ) (ha : a < 256) (hb : b < 256) :
    IntOp.cmpi .sge (BitVec.ofNat 32 a) (BitVec.ofNat 32 b) = if b ≤ a then 1#1 else 0#1 := by
  have e (n : ℕ) (hn : n < 256) : (BitVec.ofNat 32 n).toInt = n := by
    rw [BitVec.toInt_ofNat', Int.bmod_eq_of_le] <;> omega
  simp only [IntOp.cmpi, BitVec.sle, e a ha, e b hb]
  by_cases h : b ≤ a <;> simp [h]

theorem keep_apply (r : Fin 2) (i : Fin 128) (c : Fin 256) (a b : EReal) :
    Scalar.select (keepT (bif r == 0 then 0#32 else 128#32) (ix2 i c)) a b = if c.val ≤ 128 * r.val + i.val then a else b := by
  pointwise [keepT]
  have e0 : IntOp.addi (BitVec.ofNat 32 i.val) (bif r == 0 then 0#32 else 128#32) = BitVec.ofNat 32 (128 * r.val + i.val) := by
    have : ∀ (r : Fin 2) (i : Fin 128), IntOp.addi (BitVec.ofNat 32 i.val) (bif r == 0 then 0#32 else 128#32) = BitVec.ofNat 32 (128 * r.val + i.val) := by decide
    exact this r i
  rw [e0, sge_ofNat _ _ (by omega) (by omega)]
  by_cases hc : c.val ≤ 128 * r.val + i.val <;> simp [hc, Scalar.select]

theorem pvT_apply0 (o : ℕ) (hk) (h' : o + 128 ≤ 512) (p0 p1 : FVec Ideal S128x256 .bf16) (v : FVec Ideal S1x256x512 .f32) (i : Fin 128) (c : Fin 128) :
    pvT (F := Ideal) p0 p1 (vT o hk v) (ix2 i ⟨c.val, by omega⟩) =
      ∑ x : Fin 256, (if c.val < 64 then p0 (ix2 i x) else p1 (ix2 i x)) * v (ix3 0 x ⟨o + c.val, by omega⟩) := by
  pointwise [pvT, vT, k0_pay24, k0_pay26, k0_pay1]
  simp only [lt64 c.val (by omega)]
  by_cases hc : c.val < 64 <;> simp [hc]
theorem pvT_apply1 (o : ℕ) (hk) (p0 p1 : FVec Ideal S128x256 .bf16) (v : FVec Ideal S1x256x512 .f32) (i : Fin 128) (c : Fin 128) :
    pvT (F := Ideal) p0 p1 (vT o hk v) (ix2 i ⟨128 + c.val, by omega⟩) =
      ∑ x : Fin 256, (if c.val < 64 then p0 (ix2 i x) else p1 (ix2 i x)) := by
  pointwise [pvT, vT, k0_pay24, k0_pay26, k0_pay1]
  simp only [lt64 c.val (by omega)]
  by_cases hc : c.val < 64 <;> simp [hc]

theorem cS_apply (h : Fin 8) (hh) (xc : FVec Ideal S1x256x128 .f32) (i : Fin 256) (c : Fin 128) :
    cS (F := Ideal) h.val hh xc (ix3 0 i c) = xc (ix3 0 i ⟨80 + h.val, by omega⟩) * kl := by
  pointwise [cS, k0_pay13, named_log2e]

theorem oS_apply (a : FVec Ideal S256x128 .f32) (l : FVec Ideal S1x256x128 .f32) (i : Fin 256) (c : Fin 128) :
    oS (F := Ideal) a l (ix3 0 i c) = Ideal.div (a (ix2 i c)) (l (ix3 0 i c)) := by
  pointwise [oS]

end Cert.Fox

end
-- ==== Proof.Fox.Blocks.lean ====
/- What a point leaves in the running maxima, the sums of weights and the weighted values, as functions of its blocks and of what it finds there. -/
module

public import proofs.«01_k».proof.Proof.Fox.TileIdeal
public import Idealize.ShloMosaic.Lib.Pipeline.ReadBack

@[expose] public section

set_option maxRecDepth 16384

noncomputable section

namespace Cert.Fox

open Cert.KernelIdeal Cert.KernelIdeal.Gen
open Idealize.ShloMosaic
open Idealize.ShloMosaic.TcCoe

/-- A point's blocks and the scratches it finds. -/
structure Blk where
  q : FVec Ideal S1x256x512 .f32
  k : FVec Ideal S1x256x512 .f32
  v : FVec Ideal S1x256x512 .f32
  t : FVec Ideal S1x8x256 .f32
  C : FVec Ideal S8x256x128 .f32
  M : FVec Ideal S8x256x128 .f32
  L : FVec Ideal S4x256x128 .f32
  A : FVec Ideal S256x512 .f32

/-- The half a row lies in, its row there, and back. -/
abbrev half (R : Fin 256) : Fin 2 := ⟨R.val / 128, by omega⟩
abbrev row (R : Fin 256) : Fin 128 := ⟨R.val % 128, by omega⟩
abbrev glue (r : Fin 2) (i : Fin 128) : Fin 256 := ⟨128 * r.val + i.val, by omega⟩
/-- The head that lane `c` of pair `p` belongs to. -/
abbrev hd (p : Fin 4) (c : Fin 128) : Fin 8 := ⟨2 * p.val + c.val / 64, by omega⟩
abbrev pcol (p : Fin 4) (c : Fin 128) : Fin 512 := ⟨128 * p.val + c.val, by omega⟩

abbrev pairCol (c : Fin 512) : Fin 4 := ⟨c.val / 128, by omega⟩
abbrev laneCol (c : Fin 512) : Fin 128 := ⟨c.val % 128, by omega⟩
abbrev gateCol (h : Fin 8) : Fin 128 := ⟨80 + h.val, by omega⟩

theorem pairCol_pcol (p : Fin 4) (c : Fin 128) : pairCol (pcol p c) = p := Fin.ext (by simp only [pcol, pairCol]; omega)
theorem laneCol_pcol (p : Fin 4) (c : Fin 128) : laneCol (pcol p c) = c := Fin.ext (by simp only [pcol, laneCol]; omega)
theorem pcol_self (c : Fin 512) : pcol (pairCol c) (laneCol c) = c := Fin.ext (by simp only [pcol, pairCol, laneCol]; omega)

theorem emb_mem {s : Shape} (r : Rect s) (x : r.shape.Idx) : r.emb x ∈ r.set := by
  rw [← Rect.map_emb_univ]; exact Finset.mem_map_of_mem _ (Finset.mem_univ _)

theorem emb_rH (h : Fin 8) (r : Fin 2) (i c : Fin 128) : (rH h r).emb (ix3 0 i c) = (ix3 h (glue r i) c : S8x256x128.Idx) := by
  funext a; apply Fin.ext; fin_cases a <;> simp [rH, Rect.emb_apply]
theorem emb_rL (p : Fin 4) (r : Fin 2) (i c : Fin 128) : (rL p r).emb (ix3 0 i c) = (ix3 p (glue r i) c : S4x256x128.Idx) := by
  funext a; apply Fin.ext; fin_cases a <;> simp [rL, Rect.emb_apply]
theorem emb_rA (p : Fin 4) (r : Fin 2) (i c : Fin 128) : (rA p r).emb (ix2 i c) = (ix2 (glue r i) (pcol p c) : S256x512.Idx) := by
  funext a; apply Fin.ext; fin_cases a <;> simp [rA, Rect.emb_apply]
theorem emb_rQ (r : Fin 2) (i : Fin 128) (c : Fin 512) : (rQ r).emb (ix3 0 i c) = (ix3 0 (glue r i) c : S1x256x512.Idx) := by
  funext a; apply Fin.ext; fin_cases a <;> simp [rQ, Rect.emb_apply]
theorem emb_rC (h : Fin 8) (R : Fin 256) (c : Fin 128) : (rC h).emb (ix3 0 R c) = (ix3 h R c : S8x256x128.Idx) := by
  funext a; apply Fin.ext; fin_cases a <;> simp [rC, Rect.emb_apply]
theorem emb_rO (p : Fin 4) (R : Fin 256) (c : Fin 128) : (rO p).emb (ix3 0 R c) = (ix3 0 R (pcol p c) : S1x256x512.Idx) := by
  funext a; apply Fin.ext; fin_cases a <;> simp [rO, Rect.emb_apply]
theorem emb_rLp (p : Fin 4) (R : Fin 256) (c : Fin 128) : (rLp p).emb (ix3 0 R c) = (ix3 p R c : S4x256x128.Idx) := by
  funext a; apply Fin.ext; fin_cases a <;> simp [rLp, Rect.emb_apply]
theorem emb_rAp (p : Fin 4) (R : Fin 256) (c : Fin 128) : (rAp p).emb (ix2 R c) = (ix2 R (pcol p c) : S256x512.Idx) := by
  funext a; apply Fin.ext; fin_cases a <;> simp [rAp, Rect.emb_apply]

namespace Blk

/-- What the body loads of them. -/
def loads (B : Blk) : Loads Ideal where
  q := fun r => View.ld B.q (rQ r)
  k := B.k
  v := B.v
  t := B.t
  cq := fun h r => View.ld B.C (rH h r)
  m := fun h r => View.ld B.M (rH h r)
  m' := fun h r => View.ld B.M (rH h r)
  l := fun p r => View.ld B.L (rL p r)
  a := fun p r => View.ld B.A (rA p r)

/-- The score of head `h` at row `R`, column `x` of the block. -/
def sc (B : Blk) (h : Fin 8) (R x : Fin 256) : EReal :=
  (∑ d : Fin 64, (B.q (ix3 0 R ⟨64 * h.val + d.val, by omega⟩) * kq) * B.k (ix3 0 x ⟨64 * h.val + d.val, by omega⟩))
    + B.C (ix3 h R ⟨x.val % 128, by omega⟩) - B.t (ix3 0 h x) * kl
/-- The same, masked on the diagonal block. -/
def sE (B : Blk) (dg : Bool) (h : Fin 8) (R x : Fin 256) : EReal :=
  bif dg then (if x.val ≤ R.val then B.sc h R x else ⊥) else B.sc h R x
/-- The new maximum. -/
def mE (B : Blk) (dg : Bool) (h : Fin 8) (R : Fin 256) (c : Fin 128) : EReal :=
  max (B.M (ix3 h R c)) (Finset.univ.fold max ⊥ fun x : Fin 256 => B.sE dg h R x)
/-- The weight of column `x`. -/
def wE (B : Blk) (dg : Bool) (h : Fin 8) (R x : Fin 256) : EReal :=
  Ideal.exp2 (B.sE dg h R x - B.mE dg h R ⟨x.val % 128, by omega⟩)
/-- The factor on what earlier blocks left. -/
def fE (B : Blk) (dg : Bool) (h : Fin 8) (R : Fin 256) (c : Fin 128) : EReal := Ideal.exp2 (B.M (ix3 h R c) - B.mE dg h R c)
def lE (B : Blk) (dg : Bool) (p : Fin 4) (R : Fin 256) (c : Fin 128) : EReal :=
  B.fE dg (hd p c) R c * B.L (ix3 p R c) + ∑ x : Fin 256, B.wE dg (hd p c) R x
def aE (B : Blk) (dg : Bool) (p : Fin 4) (R : Fin 256) (c : Fin 128) : EReal :=
  B.fE dg (hd p c) R c * B.A (ix2 R (pcol p c)) + ∑ x : Fin 256, B.wE dg (hd p c) R x * B.v (ix3 0 x (pcol p c))

theorem q_at (B : Blk) (r : Fin 2) (i : Fin 128) (c : Fin 512) : B.loads.q r (ix3 0 i c) = B.q (ix3 0 (glue r i) c) := congrArg B.q (emb_rQ r i c)
theorem cq_at (B : Blk) (h : Fin 8) (r : Fin 2) (i c : Fin 128) : B.loads.cq h r (ix3 0 i c) = B.C (ix3 h (glue r i) c) := congrArg B.C (emb_rH h r i c)
theorem m_at (B : Blk) (h : Fin 8) (r : Fin 2) (i c : Fin 128) : B.loads.m h r (ix3 0 i c) = B.M (ix3 h (glue r i) c) := congrArg B.M (emb_rH h r i c)
theorem m'_at (B : Blk) (h : Fin 8) (r : Fin 2) (i c : Fin 128) : B.loads.m' h r (ix3 0 i c) = B.M (ix3 h (glue r i) c) := congrArg B.M (emb_rH h r i c)
theorem l_at (B : Blk) (p : Fin 4) (r : Fin 2) (i c : Fin 128) : B.loads.l p r (ix3 0 i c) = B.L (ix3 p (glue r i) c) := congrArg B.L (emb_rL p r i c)
theorem a_at (B : Blk) (p : Fin 4) (r : Fin 2) (i c : Fin 128) : B.loads.a p r (ix2 i c) = B.A (ix2 (glue r i) (pcol p c)) := congrArg B.A (emb_rA p r i c)

theorem score_at (B : Blk) (h : Fin 8) (r : Fin 2) (i : Fin 128) (x : Fin 256) :
    scoreE h (B.loads.q r) B.loads.k B.loads.t (B.loads.cq h r) i x = B.sc h (glue r i) x := by
  rw [scoreE, sc, cq_at]
  simp only [q_at]
  rfl

theorem s_at (B : Blk) (dg : Bool) (h : Fin 8) (r : Fin 2) (i : Fin 128) (x : Fin 256) :
    B.loads.s dg h r (ix2 i x) = B.sE dg h (glue r i) x := by
  cases dg
  · rw [Loads.s, cond_false, sT_apply, score_at, sE, cond_false]
  · rw [Loads.s, cond_true, sMT]
    show Scalar.select (keepT (bif r == 0 then 0#32 else 128#32) (ix2 i x)) _ _ = _
    rw [keep_apply, sT_apply, score_at, sE, cond_true]
    rfl

theorem mn_at (B : Blk) (dg : Bool) (h : Fin 8) (r : Fin 2) (i c : Fin 128) : B.loads.mn dg h r (ix2 i c) = B.mE dg h (glue r i) c := by
  rw [Loads.mn, mT_apply, m_at, mE]
  simp only [s_at]

theorem al_at (B : Blk) (dg : Bool) (h : Fin 8) (r : Fin 2) (i c : Fin 128) : B.loads.al dg h r (ix2 i c) = B.fE dg h (glue r i) c := by
  rw [Loads.al, alT_apply, m'_at, mn_at, fE]

theorem p_at (B : Blk) (dg : Bool) (h : Fin 8) (r : Fin 2) (i : Fin 128) (x : Fin 256) : B.loads.p dg h r (ix2 i x) = B.wE dg h (glue r i) x := by
  rw [Loads.p, pT_apply, s_at, mn_at, wE]

theorem hd_lo (p : Fin 4) (c : Fin 128) (hc : c.val < 64) : hd p c = Loads.hd0 p := Fin.ext (by simp only [hd, Loads.hd0]; omega)
theorem hd_hi (p : Fin 4) (c : Fin 128) (hc : ¬ c.val < 64) : hd p c = Loads.hd1 p := Fin.ext (by simp only [hd, Loads.hd1]; omega)

theorem alp_at (B : Blk) (dg : Bool) (p : Fin 4) (r : Fin 2) (i c : Fin 128) : B.loads.alp dg p r (ix2 i c) = B.fE dg (hd p c) (glue r i) c := by
  rw [Loads.alp]
  show Scalar.select (k0_pay33 (ix2 i c)) (B.loads.al dg (Loads.hd0 p) r (ix2 i c)) (B.loads.al dg (Loads.hd1 p) r (ix2 i c)) = _
  rw [sel33]
  split
  · rw [al_at, hd_lo p c ‹_›]
  · rw [al_at, hd_hi p c ‹_›]

theorem pv0_at (B : Blk) (dg : Bool) (p : Fin 4) (r : Fin 2) (i c : Fin 128) :
    B.loads.pv dg p r (ix2 i ⟨c.val, by omega⟩) = ∑ x : Fin 256, B.wE dg (hd p c) (glue r i) x * B.v (ix3 0 x (pcol p c)) := by
  rw [Loads.pv, pvT_apply0 _ _ (by omega)]
  refine Finset.sum_congr rfl fun x _ => ?_
  by_cases hc : c.val < 64
  · rw [if_pos hc, p_at, hd_lo p c hc]; rfl
  · rw [if_neg hc, p_at, hd_hi p c hc]; rfl

theorem pv1_at (B : Blk) (dg : Bool) (p : Fin 4) (r : Fin 2) (i c : Fin 128) :
    B.loads.pv dg p r (ix2 i ⟨128 + c.val, by omega⟩) = ∑ x : Fin 256, B.wE dg (hd p c) (glue r i) x := by
  rw [Loads.pv, pvT_apply1]
  refine Finset.sum_congr rfl fun x _ => ?_
  by_cases hc : c.val < 64
  · rw [if_pos hc, p_at, hd_lo p c hc]
  · rw [if_neg hc, p_at, hd_hi p c hc]

theorem lS_at (al : FVec Ideal S128x128 .f32) (pv : FVec Ideal S128x256 .f32) (l : FVec Ideal S1x128x128 .f32) (i c : Fin 128) :
    lS (F := Ideal) al pv l (ix3 0 i c) = al (ix2 i c) * l (ix3 0 i c) + pv (ix2 i ⟨128 + c.val, by omega⟩) := by
  pointwise [lS]
theorem aS_at (al : FVec Ideal S128x128 .f32) (pv : FVec Ideal S128x256 .f32) (l : FVec Ideal S128x128 .f32) (i c : Fin 128) :
    aS (F := Ideal) al pv l (ix2 i c) = al (ix2 i c) * l (ix2 i c) + pv (ix2 i ⟨c.val, by omega⟩) := by
  pointwise [aS]
theorem mS_at (s : FVec Ideal S128x256 .f32) (m : FVec Ideal S1x128x128 .f32) (i c : Fin 128) :
    mS (F := Ideal) s m (ix3 0 i c) = mT s m (ix2 i c) := by
  pointwise [mS]

/-- What is left in the running maxima, the sums and the weighted values, as arrays. -/
def newM (B : Blk) (dg : Bool) : FVec Ideal S8x256x128 .f32 := fun y => B.mE dg (y 0) (y 1) (y 2)
def newL (B : Blk) (dg : Bool) : FVec Ideal S4x256x128 .f32 := fun y => B.lE dg (y 0) (y 1) (y 2)
def newA (B : Blk) (dg : Bool) : FVec Ideal S256x512 .f32 := fun y =>
  B.aE dg (pairCol (y 1)) (y 0) (laneCol (y 1))

theorem pm_at (B : Blk) (dg : Bool) (h : Fin 8) (r : Fin 2) (x : S1x128x128.Idx) :
    mS (B.loads.s dg h r) (B.loads.m h r) x = B.newM dg ((rH h r).emb x) := by
  idx_vars x
  rw [show x0 = 0 from Subsingleton.elim _ _, emb_rH, mS_at]
  exact B.mn_at dg h r x1 x2

theorem pl_at (B : Blk) (dg : Bool) (p : Fin 4) (r : Fin 2) (x : S1x128x128.Idx) :
    lS (B.loads.alp dg p r) (B.loads.pv dg p r) (B.loads.l p r) x = B.newL dg ((rL p r).emb x) := by
  idx_vars x
  rw [show x0 = 0 from Subsingleton.elim _ _, emb_rL, lS_at, alp_at, l_at, pv1_at]
  rfl

theorem pa_at (B : Blk) (dg : Bool) (p : Fin 4) (r : Fin 2) (x : S128x128.Idx) :
    aS (B.loads.alp dg p r) (B.loads.pv dg p r) (B.loads.a p r) x = B.newA dg ((rA p r).emb x) := by
  idx_vars x
  rw [emb_rA, aS_at, alp_at, a_at, pv0_at]
  show _ = B.aE dg (pairCol (pcol p x1)) (glue r x0) (laneCol (pcol p x1))
  rw [pairCol_pcol, laneCol_pcol]
  rfl

theorem mem_rH (y : S8x256x128.Idx) : y ∈ (rH (y 0) (half (y 1))).set := by
  idx_vars y
  have : (ix3 y0 y1 y2 : S8x256x128.Idx) = (rH y0 (half y1)).emb (ix3 0 (row y1) y2) := by
    rw [emb_rH]; congr 1; ext; simp only [glue, half, row]; omega
  rw [this]; exact emb_mem _ _
theorem mem_rL (y : S4x256x128.Idx) : y ∈ (rL (y 0) (half (y 1))).set := by
  idx_vars y
  have : (ix3 y0 y1 y2 : S4x256x128.Idx) = (rL y0 (half y1)).emb (ix3 0 (row y1) y2) := by
    rw [emb_rL]; congr 1; ext; simp only [glue, half, row]; omega
  rw [this]; exact emb_mem _ _
theorem mem_rA (y : S256x512.Idx) : ∃ p, y ∈ (rA p (half (y 0))).set := by
  idx_vars y
  refine ⟨⟨y1.val / 128, by omega⟩, ?_⟩
  have : (ix2 y0 y1 : S256x512.Idx) = (rA ⟨y1.val / 128, by omega⟩ (half y0)).emb (ix2 (row y0) ⟨y1.val % 128, by omega⟩) := by
    rw [emb_rA]; congr 1 <;> ext <;> simp only [glue, half, row, pcol] <;> omega
  rw [this]; exact emb_mem _ _

theorem canonM (B : Blk) (dg : Bool) (Z : List (View.Piece (Elt Ideal) S8x256x128 .f32)) : View.canon (Val := Elt Ideal) (B.loads.listM dg Z) = B.newM dg := by
  funext y
  refine View.canon_append_of_piecesOf (Val := Elt Ideal) (B.newM dg) Z (B.loads.listM dg []) ?_ y ⟨B.loads.pm dg (y 0) (half (y 1)), ?_, mem_rH y⟩
  · have k := fun h r => B.pm_at dg h r
    exact ⟨k _ _, k _ _, k _ _, k _ _, k _ _, k _ _, k _ _, k _ _, k _ _, k _ _, k _ _, k _ _, k _ _, k _ _, k _ _, k _ _, trivial⟩
  · have : ∀ (h : Fin 8) (r : Fin 2), B.loads.pm dg h r ∈ B.loads.listM dg [] := by
      intro h r; fin_cases h <;> fin_cases r <;> simp [Loads.listM]
    exact this _ _

theorem canonL (B : Blk) (dg : Bool) (Z : List (View.Piece (Elt Ideal) S4x256x128 .f32)) : View.canon (Val := Elt Ideal) (B.loads.listL dg Z) = B.newL dg := by
  funext y
  refine View.canon_append_of_piecesOf (Val := Elt Ideal) (B.newL dg) Z (B.loads.listL dg []) ?_ y ⟨B.loads.pl dg (y 0) (half (y 1)), ?_, mem_rL y⟩
  · have k := fun h r => B.pl_at dg h r
    exact ⟨k _ _, k _ _, k _ _, k _ _, k _ _, k _ _, k _ _, k _ _, trivial⟩
  · have : ∀ (h : Fin 4) (r : Fin 2), B.loads.pl dg h r ∈ B.loads.listL dg [] := by
      intro h r; fin_cases h <;> fin_cases r <;> simp [Loads.listL]
    exact this _ _

theorem canonA (B : Blk) (dg : Bool) (Z : List (View.Piece (Elt Ideal) S256x512 .f32)) : View.canon (Val := Elt Ideal) (B.loads.listA dg Z) = B.newA dg := by
  funext y
  obtain ⟨p, hp⟩ := mem_rA y
  refine View.canon_append_of_piecesOf (Val := Elt Ideal) (B.newA dg) Z (B.loads.listA dg []) ?_ y ⟨B.loads.pa dg p (half (y 0)), ?_, hp⟩
  · have k := fun h r => B.pa_at dg h r
    exact ⟨k _ _, k _ _, k _ _, k _ _, k _ _, k _ _, k _ _, k _ _, trivial⟩
  · have : ∀ (h : Fin 4) (r : Fin 2), B.loads.pa dg h r ∈ B.loads.listA dg [] := by
      intro h r; fin_cases h <;> fin_cases r <;> simp [Loads.listA]
    exact this _ _

end Blk

/-- The gates' scratch. -/
def newC (xc : FVec Ideal S1x256x128 .f32) : FVec Ideal S8x256x128 .f32 := fun y =>
  xc (ix3 0 (y 1) (gateCol (y 0))) * kl

theorem canonC (xc : FVec Ideal S1x256x128 .f32) : View.canon (Val := Elt Ideal) (listC (F := Ideal) xc) = newC xc := by
  funext y
  rw [← List.append_nil (listC (F := Ideal) xc)]
  refine View.canon_append_of_piecesOf (Val := Elt Ideal) (newC xc) [] (listC (F := Ideal) xc) ?_ y ⟨pc (F := Ideal) xc (y 0), ?_, ?_⟩
  · have k : ∀ (h : Fin 8) (x : S1x256x128.Idx), cS h.val (slC h) xc x = newC xc ((rC h).emb x) := by
      intro h x
      idx_vars x
      rw [show x0 = 0 from Subsingleton.elim _ _, emb_rC, cS_apply]
      rfl
    exact ⟨k _, k _, k _, k _, k _, k _, k _, k _, trivial⟩
  · have : ∀ h : Fin 8, pc (F := Ideal) xc h ∈ listC (F := Ideal) xc := by intro h; fin_cases h <;> simp [listC]
    exact this _
  · show y ∈ (rC (y 0)).set
    idx_vars y
    have : (ix3 y0 y1 y2 : S8x256x128.Idx) = (rC y0).emb (ix3 0 y1 y2) := by rw [emb_rC]
    rw [this]; exact emb_mem _ _

/-- The output block, from the sums and the weighted values. -/
def newO (L : FVec Ideal S4x256x128 .f32) (A : FVec Ideal S256x512 .f32) : FVec Ideal S1x256x512 .f32 := fun y =>
  Ideal.div (A (ix2 (y 1) (y 2))) (L (ix3 (pairCol (y 2)) (y 1) (laneCol (y 2))))

theorem canonO (L : FVec Ideal S4x256x128 .f32) (A : FVec Ideal S256x512 .f32) :
    View.canon (Val := Elt Ideal) (listO (F := Ideal) (fun p => View.ld A (rAp p)) (fun p => View.ld L (rLp p))) = newO L A := by
  funext y
  rw [← List.append_nil (listO _ _)]
  refine View.canon_append_of_piecesOf (Val := Elt Ideal) (newO L A) [] (listO _ _) ?_ y ⟨po (F := Ideal) (fun p => View.ld A (rAp p)) (fun p => View.ld L (rLp p)) (pairCol (y 2)), ?_, ?_⟩
  · have k : ∀ (p : Fin 4) (x : S1x256x128.Idx), oS (F := Ideal) (View.ld A (rAp p)) (View.ld L (rLp p)) x = newO L A ((rO p).emb x) := by
      intro p x
      idx_vars x
      rw [show x0 = 0 from Subsingleton.elim _ _, emb_rO, oS_apply]
      show _ = Ideal.div (A (ix2 x1 (pcol p x2))) (L (ix3 (pairCol (pcol p x2)) x1 (laneCol (pcol p x2))))
      rw [pairCol_pcol, laneCol_pcol]
      exact congrArg₂ Ideal.div (congrArg A (emb_rAp p x1 x2)) (congrArg L (emb_rLp p x1 x2))
    exact ⟨k _, k _, k _, k _, trivial⟩
  · have : ∀ p : Fin 4, po (F := Ideal) (fun p => View.ld A (rAp p)) (fun p => View.ld L (rLp p)) p ∈ listO (F := Ideal) (fun p => View.ld A (rAp p)) (fun p => View.ld L (rLp p)) := by
      intro h; fin_cases h <;> simp [listO]
    exact this _
  · idx_vars y
    show (ix3 y0 y1 y2 : S1x256x512.Idx) ∈ (rO (pairCol y2)).set
    have : (ix3 y0 y1 y2 : S1x256x512.Idx) = (rO (pairCol y2)).emb (ix3 0 y1 (laneCol y2)) := by
      rw [emb_rO, pcol_self, show y0 = 0 from Subsingleton.elim _ _]
    rw [this]; exact emb_mem _ _

end Cert.Fox

end
-- ==== Proof.Fox.Stores.lean ====
/- What each control path leaves in the scratches, as the stores of `Tile`'s functions on what the point loads. -/
module

public import proofs.«01_k».proof.Proof.Fox.Runs
public import proofs.«01_k».proof.Proof.Fox.Tile
public import Idealize.ShloMosaic.Lib.Pipeline.ReadBack

@[expose] public section

set_option maxRecDepth 16384

noncomputable section

namespace Cert.Fox

open Cert.KernelIdeal Cert.KernelIdeal.Gen
open Idealize.ShloMosaic
open Idealize.ShloMosaic.TcCoe

variable {F : FTy → Type} [FloatOps F] [Named F]

/-- A window of 256 rows of 512 columns. -/
abbrev MemQ : Type := Memref sig .tc .vmem S1x256x512 .f32
/-- A window of the transposed gates. -/
abbrev MemT : Type := Memref sig .tc .vmem S1x8x256 .f32
/-- A window of the gates. -/
abbrev MemC : Type := Memref sig .tc .vmem S1x256x128 .f32
/-- What the three kinds of windows hold. -/
abbrev ArrQ (F : FTy → Type) : Type := S1x256x512.Idx → Elt F .f32
@[inherit_doc ArrQ] abbrev ArrT (F : FTy → Type) : Type := S1x8x256.Idx → Elt F .f32
@[inherit_doc ArrQ] abbrev ArrC (F : FTy → Type) : Type := S1x256x128.Idx → Elt F .f32

/-- What a point of path A loads. -/
def ldA (arg4 arg5 arg6 : MemQ) (arg7 : MemC) (arg8 : MemT) (x0 x1 x2 : ArrQ F) (x3 : ArrC F) (x4 : ArrT F) : Loads F where
  q := fun r => View.readAt (Elt F) arg4.view (rQ r).toLoadRect (arg4.view.rep x0)
  k := View.readAt (Elt F) arg5.view (Rect.unit (s := S1x256x512) ![0, 0, 0] S1x256x512.size inb_S1x256x512_S1x256x512_0_0_0).toLoadRect (arg5.view.rep x1)
  v := View.readAt (Elt F) arg6.view (Rect.unit (s := S1x256x512) ![0, 0, 0] S1x256x512.size inb_S1x256x512_S1x256x512_0_0_0).toLoadRect (arg6.view.rep x2)
  t := View.readAt (Elt F) arg8.view (Rect.unit (s := S1x8x256) ![0, 0, 0] S1x8x256.size inb_S1x8x256_S1x8x256_0_0_0).toLoadRect (arg8.view.rep x4)
  cq := fun h r => scM0_3.view.readCov (kernelRun0_A.sl.HS3_8 arg7 x3) (rH h r).toLoadRect
  m := fun h r => View.ld (k0_pay10 (F := F)) (rH h r)
  m' := fun h r => View.ld (k0_pay10 (F := F)) (rH h r)
  l := fun p r => View.ld (k0_pay11 (F := F)) (rL p r)
  a := fun p r => View.ld (k0_pay12 (F := F)) (rA p r)

theorem hsA3_eq (arg7 : MemC) (x3 : ArrC F) : kernelRun0_A.sl.HS3_8 arg7 x3 = listC (View.readAt (Elt F) arg7.view (Rect.unit (s := S1x256x128) ![0, 0, 0] S1x256x128.size inb_S1x256x128_S1x256x128_0_0_0).toLoadRect (arg7.view.rep x3)) := rfl

theorem rdA0_0 (B : Rect S8x256x128) : scM0_0.view.readCov (kernelRun0_A.sl.HS0_1 (F := F)) B.toLoadRect = View.ld (k0_pay10 (F := F)) B :=
  View.readCov_fill _ _ _ _ _ (by decide)
theorem rdA0_1 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 1 → LoadRect.disj (rH h r) B.toLoadRect = true) : scM0_0.view.readCov (kernelRun0_A.sl.HS0_2 arg4 arg5 arg7 arg8 x0 x1 x3 x4) B.toLoadRect = View.ld (k0_pay10 (F := F)) B :=
  (View.readCov_skip _ _ _ _ _ (hd 0 0 (by decide))).trans (rdA0_0 B)
theorem rdA0_2 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 2 → LoadRect.disj (rH h r) B.toLoadRect = true) : scM0_0.view.readCov (kernelRun0_A.sl.HS0_3 arg4 arg5 arg7 arg8 x0 x1 x3 x4) B.toLoadRect = View.ld (k0_pay10 (F := F)) B :=
  (View.readCov_skip _ _ _ _ _ (hd 1 0 (by decide))).trans (rdA0_1 arg4 arg5 arg7 arg8 x0 x1 x3 x4 B fun h r hl => hd h r (by omega))
theorem rdA0_3 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 3 → LoadRect.disj (rH h r) B.toLoadRect = true) : scM0_0.view.readCov (kernelRun0_A.sl.HS0_4 arg4 arg5 arg7 arg8 x0 x1 x3 x4) B.toLoadRect = View.ld (k0_pay10 (F := F)) B :=
  (View.readCov_skip _ _ _ _ _ (hd 2 0 (by decide))).trans (rdA0_2 arg4 arg5 arg7 arg8 x0 x1 x3 x4 B fun h r hl => hd h r (by omega))
theorem rdA0_4 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 4 → LoadRect.disj (rH h r) B.toLoadRect = true) : scM0_0.view.readCov (kernelRun0_A.sl.HS0_5 arg4 arg5 arg7 arg8 x0 x1 x3 x4) B.toLoadRect = View.ld (k0_pay10 (F := F)) B :=
  (View.readCov_skip _ _ _ _ _ (hd 3 0 (by decide))).trans (rdA0_3 arg4 arg5 arg7 arg8 x0 x1 x3 x4 B fun h r hl => hd h r (by omega))
theorem rdA0_5 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 5 → LoadRect.disj (rH h r) B.toLoadRect = true) : scM0_0.view.readCov (kernelRun0_A.sl.HS0_6 arg4 arg5 arg7 arg8 x0 x1 x3 x4) B.toLoadRect = View.ld (k0_pay10 (F := F)) B :=
  (View.readCov_skip _ _ _ _ _ (hd 4 0 (by decide))).trans (rdA0_4 arg4 arg5 arg7 arg8 x0 x1 x3 x4 B fun h r hl => hd h r (by omega))
theorem rdA0_6 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 6 → LoadRect.disj (rH h r) B.toLoadRect = true) : scM0_0.view.readCov (kernelRun0_A.sl.HS0_7 arg4 arg5 arg7 arg8 x0 x1 x3 x4) B.toLoadRect = View.ld (k0_pay10 (F := F)) B :=
  (View.readCov_skip _ _ _ _ _ (hd 5 0 (by decide))).trans (rdA0_5 arg4 arg5 arg7 arg8 x0 x1 x3 x4 B fun h r hl => hd h r (by omega))
theorem rdA0_7 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 7 → LoadRect.disj (rH h r) B.toLoadRect = true) : scM0_0.view.readCov (kernelRun0_A.sl.HS0_8 arg4 arg5 arg7 arg8 x0 x1 x3 x4) B.toLoadRect = View.ld (k0_pay10 (F := F)) B :=
  (View.readCov_skip _ _ _ _ _ (hd 6 0 (by decide))).trans (rdA0_6 arg4 arg5 arg7 arg8 x0 x1 x3 x4 B fun h r hl => hd h r (by omega))
theorem rdA0_8 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 8 → LoadRect.disj (rH h r) B.toLoadRect = true) : scM0_0.view.readCov (kernelRun0_A.sl.HS0_9 arg4 arg5 arg7 arg8 x0 x1 x3 x4) B.toLoadRect = View.ld (k0_pay10 (F := F)) B :=
  (View.readCov_skip _ _ _ _ _ (hd 7 0 (by decide))).trans (rdA0_7 arg4 arg5 arg7 arg8 x0 x1 x3 x4 B fun h r hl => hd h r (by omega))
theorem rdA0_9 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 9 → LoadRect.disj (rH h r) B.toLoadRect = true) : scM0_0.view.readCov (kernelRun0_A.sl.HS0_10 arg4 arg5 arg7 arg8 x0 x1 x3 x4) B.toLoadRect = View.ld (k0_pay10 (F := F)) B :=
  (View.readCov_skip _ _ _ _ _ (hd 0 1 (by decide))).trans (rdA0_8 arg4 arg5 arg7 arg8 x0 x1 x3 x4 B fun h r hl => hd h r (by omega))
theorem rdA0_10 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 10 → LoadRect.disj (rH h r) B.toLoadRect = true) : scM0_0.view.readCov (kernelRun0_A.sl.HS0_11 arg4 arg5 arg7 arg8 x0 x1 x3 x4) B.toLoadRect = View.ld (k0_pay10 (F := F)) B :=
  (View.readCov_skip _ _ _ _ _ (hd 1 1 (by decide))).trans (rdA0_9 arg4 arg5 arg7 arg8 x0 x1 x3 x4 B fun h r hl => hd h r (by omega))
theorem rdA0_11 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 11 → LoadRect.disj (rH h r) B.toLoadRect = true) : scM0_0.view.readCov (kernelRun0_A.sl.HS0_12 arg4 arg5 arg7 arg8 x0 x1 x3 x4) B.toLoadRect = View.ld (k0_pay10 (F := F)) B :=
  (View.readCov_skip _ _ _ _ _ (hd 2 1 (by decide))).trans (rdA0_10 arg4 arg5 arg7 arg8 x0 x1 x3 x4 B fun h r hl => hd h r (by omega))
theorem rdA0_12 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 12 → LoadRect.disj (rH h r) B.toLoadRect = true) : scM0_0.view.readCov (kernelRun0_A.sl.HS0_13 arg4 arg5 arg7 arg8 x0 x1 x3 x4) B.toLoadRect = View.ld (k0_pay10 (F := F)) B :=
  (View.readCov_skip _ _ _ _ _ (hd 3 1 (by decide))).trans (rdA0_11 arg4 arg5 arg7 arg8 x0 x1 x3 x4 B fun h r hl => hd h r (by omega))
theorem rdA0_13 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 13 → LoadRect.disj (rH h r) B.toLoadRect = true) : scM0_0.view.readCov (kernelRun0_A.sl.HS0_14 arg4 arg5 arg7 arg8 x0 x1 x3 x4) B.toLoadRect = View.ld (k0_pay10 (F := F)) B :=
  (View.readCov_skip _ _ _ _ _ (hd 4 1 (by decide))).trans (rdA0_12 arg4 arg5 arg7 arg8 x0 x1 x3 x4 B fun h r hl => hd h r (by omega))
theorem rdA0_14 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 14 → LoadRect.disj (rH h r) B.toLoadRect = true) : scM0_0.view.readCov (kernelRun0_A.sl.HS0_15 arg4 arg5 arg7 arg8 x0 x1 x3 x4) B.toLoadRect = View.ld (k0_pay10 (F := F)) B :=
  (View.readCov_skip _ _ _ _ _ (hd 5 1 (by decide))).trans (rdA0_13 arg4 arg5 arg7 arg8 x0 x1 x3 x4 B fun h r hl => hd h r (by omega))
theorem rdA0_15 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 15 → LoadRect.disj (rH h r) B.toLoadRect = true) : scM0_0.view.readCov (kernelRun0_A.sl.HS0_16 arg4 arg5 arg7 arg8 x0 x1 x3 x4) B.toLoadRect = View.ld (k0_pay10 (F := F)) B :=
  (View.readCov_skip _ _ _ _ _ (hd 6 1 (by decide))).trans (rdA0_14 arg4 arg5 arg7 arg8 x0 x1 x3 x4 B fun h r hl => hd h r (by omega))

theorem rdA1_0 (B : Rect S4x256x128) : scM0_1.view.readCov (kernelRun0_A.sl.HS1_1 (F := F)) B.toLoadRect = View.ld (k0_pay11 (F := F)) B :=
  View.readCov_fill _ _ _ _ _ (by decide)
theorem rdA1_1 (arg4 arg5 arg6 : MemQ) (arg7 : MemC) (arg8 : MemT) (x0 x1 x2 : ArrQ F) (x3 : ArrC F) (x4 : ArrT F) (B : Rect S4x256x128) (hd : ∀ (h : Fin 4) (r : Fin 2), 4 * r.val + h.val < 1 → LoadRect.disj (rL h r) B.toLoadRect = true) : scM0_1.view.readCov (kernelRun0_A.sl.HS1_2 arg4 arg5 arg6 arg7 arg8 x0 x1 x2 x3 x4) B.toLoadRect = View.ld (k0_pay11 (F := F)) B :=
  (View.readCov_skip _ _ _ _ _ (hd 0 0 (by decide))).trans (rdA1_0 B)
theorem rdA1_2 (arg4 arg5 arg6 : MemQ) (arg7 : MemC) (arg8 : MemT) (x0 x1 x2 : ArrQ F) (x3 : ArrC F) (x4 : ArrT F) (B : Rect S4x256x128) (hd : ∀ (h : Fin 4) (r : Fin 2), 4 * r.val + h.val < 2 → LoadRect.disj (rL h r) B.toLoadRect = true) : scM0_1.view.readCov (kernelRun0_A.sl.HS1_3 arg4 arg5 arg6 arg7 arg8 x0 x1 x2 x3 x4) B.toLoadRect = View.ld (k0_pay11 (F := F)) B :=
  (View.readCov_skip _ _ _ _ _ (hd 1 0 (by decide))).trans (rdA1_1 arg4 arg5 arg6 arg7 arg8 x0 x1 x2 x3 x4 B fun h r hl => hd h r (by omega))
theorem rdA1_3 (arg4 arg5 arg6 : MemQ) (arg7 : MemC) (arg8 : MemT) (x0 x1 x2 : ArrQ F) (x3 : ArrC F) (x4 : ArrT F) (B : Rect S4x256x128) (hd : ∀ (h : Fin 4) (r : Fin 2), 4 * r.val + h.val < 3 → LoadRect.disj (rL h r) B.toLoadRect = true) : scM0_1.view.readCov (kernelRun0_A.sl.HS1_4 arg4 arg5 arg6 arg7 arg8 x0 x1 x2 x3 x4) B.toLoadRect = View.ld (k0_pay11 (F := F)) B :=
  (View.readCov_skip _ _ _ _ _ (hd 2 0 (by decide))).trans (rdA1_2 arg4 arg5 arg6 arg7 arg8 x0 x1 x2 x3 x4 B fun h r hl => hd h r (by omega))
theorem rdA1_4 (arg4 arg5 arg6 : MemQ) (arg7 : MemC) (arg8 : MemT) (x0 x1 x2 : ArrQ F) (x3 : ArrC F) (x4 : ArrT F) (B : Rect S4x256x128) (hd : ∀ (h : Fin 4) (r : Fin 2), 4 * r.val + h.val < 4 → LoadRect.disj (rL h r) B.toLoadRect = true) : scM0_1.view.readCov (kernelRun0_A.sl.HS1_5 arg4 arg5 arg6 arg7 arg8 x0 x1 x2 x3 x4) B.toLoadRect = View.ld (k0_pay11 (F := F)) B :=
  (View.readCov_skip _ _ _ _ _ (hd 3 0 (by decide))).trans (rdA1_3 arg4 arg5 arg6 arg7 arg8 x0 x1 x2 x3 x4 B fun h r hl => hd h r (by omega))
theorem rdA1_5 (arg4 arg5 arg6 : MemQ) (arg7 : MemC) (arg8 : MemT) (x0 x1 x2 : ArrQ F) (x3 : ArrC F) (x4 : ArrT F) (B : Rect S4x256x128) (hd : ∀ (h : Fin 4) (r : Fin 2), 4 * r.val + h.val < 5 → LoadRect.disj (rL h r) B.toLoadRect = true) : scM0_1.view.readCov (kernelRun0_A.sl.HS1_6 arg4 arg5 arg6 arg7 arg8 x0 x1 x2 x3 x4) B.toLoadRect = View.ld (k0_pay11 (F := F)) B :=
  (View.readCov_skip _ _ _ _ _ (hd 0 1 (by decide))).trans (rdA1_4 arg4 arg5 arg6 arg7 arg8 x0 x1 x2 x3 x4 B fun h r hl => hd h r (by omega))
theorem rdA1_6 (arg4 arg5 arg6 : MemQ) (arg7 : MemC) (arg8 : MemT) (x0 x1 x2 : ArrQ F) (x3 : ArrC F) (x4 : ArrT F) (B : Rect S4x256x128) (hd : ∀ (h : Fin 4) (r : Fin 2), 4 * r.val + h.val < 6 → LoadRect.disj (rL h r) B.toLoadRect = true) : scM0_1.view.readCov (kernelRun0_A.sl.HS1_7 arg4 arg5 arg6 arg7 arg8 x0 x1 x2 x3 x4) B.toLoadRect = View.ld (k0_pay11 (F := F)) B :=
  (View.readCov_skip _ _ _ _ _ (hd 1 1 (by decide))).trans (rdA1_5 arg4 arg5 arg6 arg7 arg8 x0 x1 x2 x3 x4 B fun h r hl => hd h r (by omega))
theorem rdA1_7 (arg4 arg5 arg6 : MemQ) (arg7 : MemC) (arg8 : MemT) (x0 x1 x2 : ArrQ F) (x3 : ArrC F) (x4 : ArrT F) (B : Rect S4x256x128) (hd : ∀ (h : Fin 4) (r : Fin 2), 4 * r.val + h.val < 7 → LoadRect.disj (rL h r) B.toLoadRect = true) : scM0_1.view.readCov (kernelRun0_A.sl.HS1_8 arg4 arg5 arg6 arg7 arg8 x0 x1 x2 x3 x4) B.toLoadRect = View.ld (k0_pay11 (F := F)) B :=
  (View.readCov_skip _ _ _ _ _ (hd 2 1 (by decide))).trans (rdA1_6 arg4 arg5 arg6 arg7 arg8 x0 x1 x2 x3 x4 B fun h r hl => hd h r (by omega))

theorem rdA2_0 (B : Rect S256x512) : scM0_2.view.readCov (kernelRun0_A.sl.HS2_1 (F := F)) B.toLoadRect = View.ld (k0_pay12 (F := F)) B :=
  View.readCov_fill _ _ _ _ _ (by decide)
theorem rdA2_1 (arg4 arg5 arg6 : MemQ) (arg7 : MemC) (arg8 : MemT) (x0 x1 x2 : ArrQ F) (x3 : ArrC F) (x4 : ArrT F) (B : Rect S256x512) (hd : ∀ (h : Fin 4) (r : Fin 2), 4 * r.val + h.val < 1 → LoadRect.disj (rA h r) B.toLoadRect = true) : scM0_2.view.readCov (kernelRun0_A.sl.HS2_2 arg4 arg5 arg6 arg7 arg8 x0 x1 x2 x3 x4) B.toLoadRect = View.ld (k0_pay12 (F := F)) B :=
  (View.readCov_skip _ _ _ _ _ (hd 0 0 (by decide))).trans (rdA2_0 B)
theorem rdA2_2 (arg4 arg5 arg6 : MemQ) (arg7 : MemC) (arg8 : MemT) (x0 x1 x2 : ArrQ F) (x3 : ArrC F) (x4 : ArrT F) (B : Rect S256x512) (hd : ∀ (h : Fin 4) (r : Fin 2), 4 * r.val + h.val < 2 → LoadRect.disj (rA h r) B.toLoadRect = true) : scM0_2.view.readCov (kernelRun0_A.sl.HS2_3 arg4 arg5 arg6 arg7 arg8 x0 x1 x2 x3 x4) B.toLoadRect = View.ld (k0_pay12 (F := F)) B :=
  (View.readCov_skip _ _ _ _ _ (hd 1 0 (by decide))).trans (rdA2_1 arg4 arg5 arg6 arg7 arg8 x0 x1 x2 x3 x4 B fun h r hl => hd h r (by omega))
theorem rdA2_3 (arg4 arg5 arg6 : MemQ) (arg7 : MemC) (arg8 : MemT) (x0 x1 x2 : ArrQ F) (x3 : ArrC F) (x4 : ArrT F) (B : Rect S256x512) (hd : ∀ (h : Fin 4) (r : Fin 2), 4 * r.val + h.val < 3 → LoadRect.disj (rA h r) B.toLoadRect = true) : scM0_2.view.readCov (kernelRun0_A.sl.HS2_4 arg4 arg5 arg6 arg7 arg8 x0 x1 x2 x3 x4) B.toLoadRect = View.ld (k0_pay12 (F := F)) B :=
  (View.readCov_skip _ _ _ _ _ (hd 2 0 (by decide))).trans (rdA2_2 arg4 arg5 arg6 arg7 arg8 x0 x1 x2 x3 x4 B fun h r hl => hd h r (by omega))
theorem rdA2_4 (arg4 arg5 arg6 : MemQ) (arg7 : MemC) (arg8 : MemT) (x0 x1 x2 : ArrQ F) (x3 : ArrC F) (x4 : ArrT F) (B : Rect S256x512) (hd : ∀ (h : Fin 4) (r : Fin 2), 4 * r.val + h.val < 4 → LoadRect.disj (rA h r) B.toLoadRect = true) : scM0_2.view.readCov (kernelRun0_A.sl.HS2_5 arg4 arg5 arg6 arg7 arg8 x0 x1 x2 x3 x4) B.toLoadRect = View.ld (k0_pay12 (F := F)) B :=
  (View.readCov_skip _ _ _ _ _ (hd 3 0 (by decide))).trans (rdA2_3 arg4 arg5 arg6 arg7 arg8 x0 x1 x2 x3 x4 B fun h r hl => hd h r (by omega))
theorem rdA2_5 (arg4 arg5 arg6 : MemQ) (arg7 : MemC) (arg8 : MemT) (x0 x1 x2 : ArrQ F) (x3 : ArrC F) (x4 : ArrT F) (B : Rect S256x512) (hd : ∀ (h : Fin 4) (r : Fin 2), 4 * r.val + h.val < 5 → LoadRect.disj (rA h r) B.toLoadRect = true) : scM0_2.view.readCov (kernelRun0_A.sl.HS2_6 arg4 arg5 arg6 arg7 arg8 x0 x1 x2 x3 x4) B.toLoadRect = View.ld (k0_pay12 (F := F)) B :=
  (View.readCov_skip _ _ _ _ _ (hd 0 1 (by decide))).trans (rdA2_4 arg4 arg5 arg6 arg7 arg8 x0 x1 x2 x3 x4 B fun h r hl => hd h r (by omega))
theorem rdA2_6 (arg4 arg5 arg6 : MemQ) (arg7 : MemC) (arg8 : MemT) (x0 x1 x2 : ArrQ F) (x3 : ArrC F) (x4 : ArrT F) (B : Rect S256x512) (hd : ∀ (h : Fin 4) (r : Fin 2), 4 * r.val + h.val < 6 → LoadRect.disj (rA h r) B.toLoadRect = true) : scM0_2.view.readCov (kernelRun0_A.sl.HS2_7 arg4 arg5 arg6 arg7 arg8 x0 x1 x2 x3 x4) B.toLoadRect = View.ld (k0_pay12 (F := F)) B :=
  (View.readCov_skip _ _ _ _ _ (hd 1 1 (by decide))).trans (rdA2_5 arg4 arg5 arg6 arg7 arg8 x0 x1 x2 x3 x4 B fun h r hl => hd h r (by omega))
theorem rdA2_7 (arg4 arg5 arg6 : MemQ) (arg7 : MemC) (arg8 : MemT) (x0 x1 x2 : ArrQ F) (x3 : ArrC F) (x4 : ArrT F) (B : Rect S256x512) (hd : ∀ (h : Fin 4) (r : Fin 2), 4 * r.val + h.val < 7 → LoadRect.disj (rA h r) B.toLoadRect = true) : scM0_2.view.readCov (kernelRun0_A.sl.HS2_8 arg4 arg5 arg6 arg7 arg8 x0 x1 x2 x3 x4) B.toLoadRect = View.ld (k0_pay12 (F := F)) B :=
  (View.readCov_skip _ _ _ _ _ (hd 2 1 (by decide))).trans (rdA2_6 arg4 arg5 arg6 arg7 arg8 x0 x1 x2 x3 x4 B fun h r hl => hd h r (by omega))

theorem stA0_0 (arg4 arg5 arg6 : MemQ) (arg7 : MemC) (arg8 : MemT) (x0 x1 x2 : ArrQ F) (x3 : ArrC F) (x4 : ArrT F) : kernelRun0_A.sl.HS0_2 arg4 arg5 arg7 arg8 x0 x1 x3 x4 = (ldA arg4 arg5 arg6 arg7 arg8 x0 x1 x2 x3 x4).pm true 0 0 :: kernelRun0_A.sl.HS0_1 (F := F) := by
  rw [Loads.pm_00, show (ldA arg4 arg5 arg6 arg7 arg8 x0 x1 x2 x3 x4).m 0 0 = _ from (rdA0_0 (rH 0 0)).symm, Loads.s_t00]
  dsimp only [ldA]
  rfl
theorem stA0_1 (arg4 arg5 arg6 : MemQ) (arg7 : MemC) (arg8 : MemT) (x0 x1 x2 : ArrQ F) (x3 : ArrC F) (x4 : ArrT F) : kernelRun0_A.sl.HS0_3 arg4 arg5 arg7 arg8 x0 x1 x3 x4 = (ldA arg4 arg5 arg6 arg7 arg8 x0 x1 x2 x3 x4).pm true 1 0 :: kernelRun0_A.sl.HS0_2 arg4 arg5 arg7 arg8 x0 x1 x3 x4 := by
  rw [Loads.pm_10, show (ldA arg4 arg5 arg6 arg7 arg8 x0 x1 x2 x3 x4).m 1 0 = _ from (rdA0_0 (rH 1 0)).symm, Loads.s_t10]
  dsimp only [ldA]
  rfl
theorem stA0_2 (arg4 arg5 arg6 : MemQ) (arg7 : MemC) (arg8 : MemT) (x0 x1 x2 : ArrQ F) (x3 : ArrC F) (x4 : ArrT F) : kernelRun0_A.sl.HS0_4 arg4 arg5 arg7 arg8 x0 x1 x3 x4 = (ldA arg4 arg5 arg6 arg7 arg8 x0 x1 x2 x3 x4).pm true 2 0 :: kernelRun0_A.sl.HS0_3 arg4 arg5 arg7 arg8 x0 x1 x3 x4 := by
  rw [Loads.pm_20, show (ldA arg4 arg5 arg6 arg7 arg8 x0 x1 x2 x3 x4).m 2 0 = _ from (rdA0_0 (rH 2 0)).symm, Loads.s_t20]
  dsimp only [ldA]
  rfl
theorem stA0_3 (arg4 arg5 arg6 : MemQ) (arg7 : MemC) (arg8 : MemT) (x0 x1 x2 : ArrQ F) (x3 : ArrC F) (x4 : ArrT F) : kernelRun0_A.sl.HS0_5 arg4 arg5 arg7 arg8 x0 x1 x3 x4 = (ldA arg4 arg5 arg6 arg7 arg8 x0 x1 x2 x3 x4).pm true 3 0 :: kernelRun0_A.sl.HS0_4 arg4 arg5 arg7 arg8 x0 x1 x3 x4 := by
  rw [Loads.pm_30, show (ldA arg4 arg5 arg6 arg7 arg8 x0 x1 x2 x3 x4).m 3 0 = _ from (rdA0_0 (rH 3 0)).symm, Loads.s_t30]
  dsimp only [ldA]
  rfl
theorem stA0_4 (arg4 arg5 arg6 : MemQ) (arg7 : MemC) (arg8 : MemT) (x0 x1 x2 : ArrQ F) (x3 : ArrC F) (x4 : ArrT F) : kernelRun0_A.sl.HS0_6 arg4 arg5 arg7 arg8 x0 x1 x3 x4 = (ldA arg4 arg5 arg6 arg7 arg8 x0 x1 x2 x3 x4).pm true 4 0 :: kernelRun0_A.sl.HS0_5 arg4 arg5 arg7 arg8 x0 x1 x3 x4 := by
  rw [Loads.pm_40, show (ldA arg4 arg5 arg6 arg7 arg8 x0 x1 x2 x3 x4).m 4 0 = _ from (rdA0_0 (rH 4 0)).symm, Loads.s_t40]
  dsimp only [ldA]
  rfl
theorem stA0_5 (arg4 arg5 arg6 : MemQ) (arg7 : MemC) (arg8 : MemT) (x0 x1 x2 : ArrQ F) (x3 : ArrC F) (x4 : ArrT F) : kernelRun0_A.sl.HS0_7 arg4 arg5 arg7 arg8 x0 x1 x3 x4 = (ldA arg4 arg5 arg6 arg7 arg8 x0 x1 x2 x3 x4).pm true 5 0 :: kernelRun0_A.sl.HS0_6 arg4 arg5 arg7 arg8 x0 x1 x3 x4 := by
  rw [Loads.pm_50, show (ldA arg4 arg5 arg6 arg7 arg8 x0 x1 x2 x3 x4).m 5 0 = _ from (rdA0_0 (rH 5 0)).symm, Loads.s_t50]
  dsimp only [ldA]
  rfl
theorem stA0_6 (arg4 arg5 arg6 : MemQ) (arg7 : MemC) (arg8 : MemT) (x0 x1 x2 : ArrQ F) (x3 : ArrC F) (x4 : ArrT F) : kernelRun0_A.sl.HS0_8 arg4 arg5 arg7 arg8 x0 x1 x3 x4 = (ldA arg4 arg5 arg6 arg7 arg8 x0 x1 x2 x3 x4).pm true 6 0 :: kernelRun0_A.sl.HS0_7 arg4 arg5 arg7 arg8 x0 x1 x3 x4 := by
  rw [Loads.pm_60, show (ldA arg4 arg5 arg6 arg7 arg8 x0 x1 x2 x3 x4).m 6 0 = _ from (rdA0_0 (rH 6 0)).symm, Loads.s_t60]
  dsimp only [ldA]
  rfl
theorem stA0_7 (arg4 arg5 arg6 : MemQ) (arg7 : MemC) (arg8 : MemT) (x0 x1 x2 : ArrQ F) (x3 : ArrC F) (x4 : ArrT F) : kernelRun0_A.sl.HS0_9 arg4 arg5 arg7 arg8 x0 x1 x3 x4 = (ldA arg4 arg5 arg6 arg7 arg8 x0 x1 x2 x3 x4).pm true 7 0 :: kernelRun0_A.sl.HS0_8 arg4 arg5 arg7 arg8 x0 x1 x3 x4 := by
  rw [Loads.pm_70, show (ldA arg4 arg5 arg6 arg7 arg8 x0 x1 x2 x3 x4).m 7 0 = _ from (rdA0_0 (rH 7 0)).symm, Loads.s_t70]
  dsimp only [ldA]
  rfl
theorem stA0_8 (arg4 arg5 arg6 : MemQ) (arg7 : MemC) (arg8 : MemT) (x0 x1 x2 : ArrQ F) (x3 : ArrC F) (x4 : ArrT F) : kernelRun0_A.sl.HS0_10 arg4 arg5 arg7 arg8 x0 x1 x3 x4 = (ldA arg4 arg5 arg6 arg7 arg8 x0 x1 x2 x3 x4).pm true 0 1 :: kernelRun0_A.sl.HS0_9 arg4 arg5 arg7 arg8 x0 x1 x3 x4 := by
  rw [Loads.pm_01, show (ldA arg4 arg5 arg6 arg7 arg8 x0 x1 x2 x3 x4).m 0 1 = _ from (rdA0_8 arg4 arg5 arg7 arg8 x0 x1 x3 x4 (rH 0 1) (by decide)).symm, Loads.s_t01]
  dsimp only [ldA]
  rfl
theorem stA0_9 (arg4 arg5 arg6 : MemQ) (arg7 : MemC) (arg8 : MemT) (x0 x1 x2 : ArrQ F) (x3 : ArrC F) (x4 : ArrT F) : kernelRun0_A.sl.HS0_11 arg4 arg5 arg7 arg8 x0 x1 x3 x4 = (ldA arg4 arg5 arg6 arg7 arg8 x0 x1 x2 x3 x4).pm true 1 1 :: kernelRun0_A.sl.HS0_10 arg4 arg5 arg7 arg8 x0 x1 x3 x4 := by
  rw [Loads.pm_11, show (ldA arg4 arg5 arg6 arg7 arg8 x0 x1 x2 x3 x4).m 1 1 = _ from (rdA0_8 arg4 arg5 arg7 arg8 x0 x1 x3 x4 (rH 1 1) (by decide)).symm, Loads.s_t11]
  dsimp only [ldA]
  rfl
theorem stA0_10 (arg4 arg5 arg6 : MemQ) (arg7 : MemC) (arg8 : MemT) (x0 x1 x2 : ArrQ F) (x3 : ArrC F) (x4 : ArrT F) : kernelRun0_A.sl.HS0_12 arg4 arg5 arg7 arg8 x0 x1 x3 x4 = (ldA arg4 arg5 arg6 arg7 arg8 x0 x1 x2 x3 x4).pm true 2 1 :: kernelRun0_A.sl.HS0_11 arg4 arg5 arg7 arg8 x0 x1 x3 x4 := by
  rw [Loads.pm_21, show (ldA arg4 arg5 arg6 arg7 arg8 x0 x1 x2 x3 x4).m 2 1 = _ from (rdA0_8 arg4 arg5 arg7 arg8 x0 x1 x3 x4 (rH 2 1) (by decide)).symm, Loads.s_t21]
  dsimp only [ldA]
  rfl
theorem stA0_11 (arg4 arg5 arg6 : MemQ) (arg7 : MemC) (arg8 : MemT) (x0 x1 x2 : ArrQ F) (x3 : ArrC F) (x4 : ArrT F) : kernelRun0_A.sl.HS0_13 arg4 arg5 arg7 arg8 x0 x1 x3 x4 = (ldA arg4 arg5 arg6 arg7 arg8 x0 x1 x2 x3 x4).pm true 3 1 :: kernelRun0_A.sl.HS0_12 arg4 arg5 arg7 arg8 x0 x1 x3 x4 := by
  rw [Loads.pm_31, show (ldA arg4 arg5 arg6 arg7 arg8 x0 x1 x2 x3 x4).m 3 1 = _ from (rdA0_8 arg4 arg5 arg7 arg8 x0 x1 x3 x4 (rH 3 1) (by decide)).symm, Loads.s_t31]
  dsimp only [ldA]
  rfl
theorem stA0_12 (arg4 arg5 arg6 : MemQ) (arg7 : MemC) (arg8 : MemT) (x0 x1 x2 : ArrQ F) (x3 : ArrC F) (x4 : ArrT F) : kernelRun0_A.sl.HS0_14 arg4 arg5 arg7 arg8 x0 x1 x3 x4 = (ldA arg4 arg5 arg6 arg7 arg8 x0 x1 x2 x3 x4).pm true 4 1 :: kernelRun0_A.sl.HS0_13 arg4 arg5 arg7 arg8 x0 x1 x3 x4 := by
  rw [Loads.pm_41, show (ldA arg4 arg5 arg6 arg7 arg8 x0 x1 x2 x3 x4).m 4 1 = _ from (rdA0_8 arg4 arg5 arg7 arg8 x0 x1 x3 x4 (rH 4 1) (by decide)).symm, Loads.s_t41]
  dsimp only [ldA]
  rfl
theorem stA0_13 (arg4 arg5 arg6 : MemQ) (arg7 : MemC) (arg8 : MemT) (x0 x1 x2 : ArrQ F) (x3 : ArrC F) (x4 : ArrT F) : kernelRun0_A.sl.HS0_15 arg4 arg5 arg7 arg8 x0 x1 x3 x4 = (ldA arg4 arg5 arg6 arg7 arg8 x0 x1 x2 x3 x4).pm true 5 1 :: kernelRun0_A.sl.HS0_14 arg4 arg5 arg7 arg8 x0 x1 x3 x4 := by
  rw [Loads.pm_51, show (ldA arg4 arg5 arg6 arg7 arg8 x0 x1 x2 x3 x4).m 5 1 = _ from (rdA0_8 arg4 arg5 arg7 arg8 x0 x1 x3 x4 (rH 5 1) (by decide)).symm, Loads.s_t51]
  dsimp only [ldA]
  rfl
theorem stA0_14 (arg4 arg5 arg6 : MemQ) (arg7 : MemC) (arg8 : MemT) (x0 x1 x2 : ArrQ F) (x3 : ArrC F) (x4 : ArrT F) : kernelRun0_A.sl.HS0_16 arg4 arg5 arg7 arg8 x0 x1 x3 x4 = (ldA arg4 arg5 arg6 arg7 arg8 x0 x1 x2 x3 x4).pm true 6 1 :: kernelRun0_A.sl.HS0_15 arg4 arg5 arg7 arg8 x0 x1 x3 x4 := by
  rw [Loads.pm_61, show (ldA arg4 arg5 arg6 arg7 arg8 x0 x1 x2 x3 x4).m 6 1 = _ from (rdA0_8 arg4 arg5 arg7 arg8 x0 x1 x3 x4 (rH 6 1) (by decide)).symm, Loads.s_t61]
  dsimp only [ldA]
  rfl
theorem stA0_15 (arg4 arg5 arg6 : MemQ) (arg7 : MemC) (arg8 : MemT) (x0 x1 x2 : ArrQ F) (x3 : ArrC F) (x4 : ArrT F) : kernelRun0_A.sl.HS0_17 arg4 arg5 arg7 arg8 x0 x1 x3 x4 = (ldA arg4 arg5 arg6 arg7 arg8 x0 x1 x2 x3 x4).pm true 7 1 :: kernelRun0_A.sl.HS0_16 arg4 arg5 arg7 arg8 x0 x1 x3 x4 := by
  rw [Loads.pm_71, show (ldA arg4 arg5 arg6 arg7 arg8 x0 x1 x2 x3 x4).m 7 1 = _ from (rdA0_8 arg4 arg5 arg7 arg8 x0 x1 x3 x4 (rH 7 1) (by decide)).symm, Loads.s_t71]
  dsimp only [ldA]
  rfl
theorem hsA0_eq (arg4 arg5 arg6 : MemQ) (arg7 : MemC) (arg8 : MemT) (x0 x1 x2 : ArrQ F) (x3 : ArrC F) (x4 : ArrT F) : kernelRun0_A.sl.HS0_17 arg4 arg5 arg7 arg8 x0 x1 x3 x4 = (ldA arg4 arg5 arg6 arg7 arg8 x0 x1 x2 x3 x4).listM true (kernelRun0_A.sl.HS0_1 (F := F)) := by
  rw [stA0_15 arg4 arg5 arg6 arg7 arg8 x0 x1 x2 x3 x4, stA0_14 arg4 arg5 arg6 arg7 arg8 x0 x1 x2 x3 x4, stA0_13 arg4 arg5 arg6 arg7 arg8 x0 x1 x2 x3 x4, stA0_12 arg4 arg5 arg6 arg7 arg8 x0 x1 x2 x3 x4, stA0_11 arg4 arg5 arg6 arg7 arg8 x0 x1 x2 x3 x4, stA0_10 arg4 arg5 arg6 arg7 arg8 x0 x1 x2 x3 x4, stA0_9 arg4 arg5 arg6 arg7 arg8 x0 x1 x2 x3 x4, stA0_8 arg4 arg5 arg6 arg7 arg8 x0 x1 x2 x3 x4, stA0_7 arg4 arg5 arg6 arg7 arg8 x0 x1 x2 x3 x4, stA0_6 arg4 arg5 arg6 arg7 arg8 x0 x1 x2 x3 x4, stA0_5 arg4 arg5 arg6 arg7 arg8 x0 x1 x2 x3 x4, stA0_4 arg4 arg5 arg6 arg7 arg8 x0 x1 x2 x3 x4, stA0_3 arg4 arg5 arg6 arg7 arg8 x0 x1 x2 x3 x4, stA0_2 arg4 arg5 arg6 arg7 arg8 x0 x1 x2 x3 x4, stA0_1 arg4 arg5 arg6 arg7 arg8 x0 x1 x2 x3 x4, stA0_0 arg4 arg5 arg6 arg7 arg8 x0 x1 x2 x3 x4, Loads.listM]

theorem stA1_0 (arg4 arg5 arg6 : MemQ) (arg7 : MemC) (arg8 : MemT) (x0 x1 x2 : ArrQ F) (x3 : ArrC F) (x4 : ArrT F) : kernelRun0_A.sl.HS1_2 arg4 arg5 arg6 arg7 arg8 x0 x1 x2 x3 x4 = (ldA arg4 arg5 arg6 arg7 arg8 x0 x1 x2 x3 x4).pl true 0 0 :: kernelRun0_A.sl.HS1_1 (F := F) := by
  rw [Loads.pl_00, show (ldA arg4 arg5 arg6 arg7 arg8 x0 x1 x2 x3 x4).m 0 0 = _ from (rdA0_0 (rH 0 0)).symm, show (ldA arg4 arg5 arg6 arg7 arg8 x0 x1 x2 x3 x4).m 1 0 = _ from (rdA0_0 (rH 1 0)).symm, show (ldA arg4 arg5 arg6 arg7 arg8 x0 x1 x2 x3 x4).m' 0 0 = _ from (rdA0_0 (rH 0 0)).symm, show (ldA arg4 arg5 arg6 arg7 arg8 x0 x1 x2 x3 x4).m' 1 0 = _ from (rdA0_1 arg4 arg5 arg7 arg8 x0 x1 x3 x4 (rH 1 0) (by decide)).symm, show (ldA arg4 arg5 arg6 arg7 arg8 x0 x1 x2 x3 x4).l 0 0 = _ from (rdA1_0 (rL 0 0)).symm, Loads.s_t00, Loads.s_t10]
  dsimp only [ldA]
  rfl
theorem stA1_1 (arg4 arg5 arg6 : MemQ) (arg7 : MemC) (arg8 : MemT) (x0 x1 x2 : ArrQ F) (x3 : ArrC F) (x4 : ArrT F) : kernelRun0_A.sl.HS1_3 arg4 arg5 arg6 arg7 arg8 x0 x1 x2 x3 x4 = (ldA arg4 arg5 arg6 arg7 arg8 x0 x1 x2 x3 x4).pl true 1 0 :: kernelRun0_A.sl.HS1_2 arg4 arg5 arg6 arg7 arg8 x0 x1 x2 x3 x4 := by
  rw [Loads.pl_10, show (ldA arg4 arg5 arg6 arg7 arg8 x0 x1 x2 x3 x4).m 2 0 = _ from (rdA0_0 (rH 2 0)).symm, show (ldA arg4 arg5 arg6 arg7 arg8 x0 x1 x2 x3 x4).m 3 0 = _ from (rdA0_0 (rH 3 0)).symm, show (ldA arg4 arg5 arg6 arg7 arg8 x0 x1 x2 x3 x4).m' 2 0 = _ from (rdA0_2 arg4 arg5 arg7 arg8 x0 x1 x3 x4 (rH 2 0) (by decide)).symm, show (ldA arg4 arg5 arg6 arg7 arg8 x0 x1 x2 x3 x4).m' 3 0 = _ from (rdA0_3 arg4 arg5 arg7 arg8 x0 x1 x3 x4 (rH 3 0) (by decide)).symm, show (ldA arg4 arg5 arg6 arg7 arg8 x0 x1 x2 x3 x4).l 1 0 = _ from (rdA1_1 arg4 arg5 arg6 arg7 arg8 x0 x1 x2 x3 x4 (rL 1 0) (by decide)).symm, Loads.s_t20, Loads.s_t30]
  dsimp only [ldA]
  rfl
theorem stA1_2 (arg4 arg5 arg6 : MemQ) (arg7 : MemC) (arg8 : MemT) (x0 x1 x2 : ArrQ F) (x3 : ArrC F) (x4 : ArrT F) : kernelRun0_A.sl.HS1_4 arg4 arg5 arg6 arg7 arg8 x0 x1 x2 x3 x4 = (ldA arg4 arg5 arg6 arg7 arg8 x0 x1 x2 x3 x4).pl true 2 0 :: kernelRun0_A.sl.HS1_3 arg4 arg5 arg6 arg7 arg8 x0 x1 x2 x3 x4 := by
  rw [Loads.pl_20, show (ldA arg4 arg5 arg6 arg7 arg8 x0 x1 x2 x3 x4).m 4 0 = _ from (rdA0_0 (rH 4 0)).symm, show (ldA arg4 arg5 arg6 arg7 arg8 x0 x1 x2 x3 x4).m 5 0 = _ from (rdA0_0 (rH 5 0)).symm, show (ldA arg4 arg5 arg6 arg7 arg8 x0 x1 x2 x3 x4).m' 4 0 = _ from (rdA0_4 arg4 arg5 arg7 arg8 x0 x1 x3 x4 (rH 4 0) (by decide)).symm, show (ldA arg4 arg5 arg6 arg7 arg8 x0 x1 x2 x3 x4).m' 5 0 = _ from (rdA0_5 arg4 arg5 arg7 arg8 x0 x1 x3 x4 (rH 5 0) (by decide)).symm, show (ldA arg4 arg5 arg6 arg7 arg8 x0 x1 x2 x3 x4).l 2 0 = _ from (rdA1_2 arg4 arg5 arg6 arg7 arg8 x0 x1 x2 x3 x4 (rL 2 0) (by decide)).symm, Loads.s_t40, Loads.s_t50]
  dsimp only [ldA]
  rfl
theorem stA1_3 (arg4 arg5 arg6 : MemQ) (arg7 : MemC) (arg8 : MemT) (x0 x1 x2 : ArrQ F) (x3 : ArrC F) (x4 : ArrT F) : kernelRun0_A.sl.HS1_5 arg4 arg5 arg6 arg7 arg8 x0 x1 x2 x3 x4 = (ldA arg4 arg5 arg6 arg7 arg8 x0 x1 x2 x3 x4).pl true 3 0 :: kernelRun0_A.sl.HS1_4 arg4 arg5 arg6 arg7 arg8 x0 x1 x2 x3 x4 := by
  rw [Loads.pl_30, show (ldA arg4 arg5 arg6 arg7 arg8 x0 x1 x2 x3 x4).m 6 0 = _ from (rdA0_0 (rH 6 0)).symm, show (ldA arg4 arg5 arg6 arg7 arg8 x0 x1 x2 x3 x4).m 7 0 = _ from (rdA0_0 (rH 7 0)).symm, show (ldA arg4 arg5 arg6 arg7 arg8 x0 x1 x2 x3 x4).m' 6 0 = _ from (rdA0_6 arg4 arg5 arg7 arg8 x0 x1 x3 x4 (rH 6 0) (by decide)).symm, show (ldA arg4 arg5 arg6 arg7 arg8 x0 x1 x2 x3 x4).m' 7 0 = _ from (rdA0_7 arg4 arg5 arg7 arg8 x0 x1 x3 x4 (rH 7 0) (by decide)).symm, show (ldA arg4 arg5 arg6 arg7 arg8 x0 x1 x2 x3 x4).l 3 0 = _ from (rdA1_3 arg4 arg5 arg6 arg7 arg8 x0 x1 x2 x3 x4 (rL 3 0) (by decide)).symm, Loads.s_t60, Loads.s_t70]
  dsimp only [ldA]
  rfl
theorem stA1_4 (arg4 arg5 arg6 : MemQ) (arg7 : MemC) (arg8 : MemT) (x0 x1 x2 : ArrQ F) (x3 : ArrC F) (x4 : ArrT F) : kernelRun0_A.sl.HS1_6 arg4 arg5 arg6 arg7 arg8 x0 x1 x2 x3 x4 = (ldA arg4 arg5 arg6 arg7 arg8 x0 x1 x2 x3 x4).pl true 0 1 :: kernelRun0_A.sl.HS1_5 arg4 arg5 arg6 arg7 arg8 x0 x1 x2 x3 x4 := by
  rw [Loads.pl_01, show (ldA arg4 arg5 arg6 arg7 arg8 x0 x1 x2 x3 x4).m 0 1 = _ from (rdA0_8 arg4 arg5 arg7 arg8 x0 x1 x3 x4 (rH 0 1) (by decide)).symm, show (ldA arg4 arg5 arg6 arg7 arg8 x0 x1 x2 x3 x4).m 1 1 = _ from (rdA0_8 arg4 arg5 arg7 arg8 x0 x1 x3 x4 (rH 1 1) (by decide)).symm, show (ldA arg4 arg5 arg6 arg7 arg8 x0 x1 x2 x3 x4).m' 0 1 = _ from (rdA0_8 arg4 arg5 arg7 arg8 x0 x1 x3 x4 (rH 0 1) (by decide)).symm, show (ldA arg4 arg5 arg6 arg7 arg8 x0 x1 x2 x3 x4).m' 1 1 = _ from (rdA0_9 arg4 arg5 arg7 arg8 x0 x1 x3 x4 (rH 1 1) (by decide)).symm, show (ldA arg4 arg5 arg6 arg7 arg8 x0 x1 x2 x3 x4).l 0 1 = _ from (rdA1_4 arg4 arg5 arg6 arg7 arg8 x0 x1 x2 x3 x4 (rL 0 1) (by decide)).symm, Loads.s_t01, Loads.s_t11]
  dsimp only [ldA]
  rfl
theorem stA1_5 (arg4 arg5 arg6 : MemQ) (arg7 : MemC) (arg8 : MemT) (x0 x1 x2 : ArrQ F) (x3 : ArrC F) (x4 : ArrT F) : kernelRun0_A.sl.HS1_7 arg4 arg5 arg6 arg7 arg8 x0 x1 x2 x3 x4 = (ldA arg4 arg5 arg6 arg7 arg8 x0 x1 x2 x3 x4).pl true 1 1 :: kernelRun0_A.sl.HS1_6 arg4 arg5 arg6 arg7 arg8 x0 x1 x2 x3 x4 := by
  rw [Loads.pl_11, show (ldA arg4 arg5 arg6 arg7 arg8 x0 x1 x2 x3 x4).m 2 1 = _ from (rdA0_8 arg4 arg5 arg7 arg8 x0 x1 x3 x4 (rH 2 1) (by decide)).symm, show (ldA arg4 arg5 arg6 arg7 arg8 x0 x1 x2 x3 x4).m 3 1 = _ from (rdA0_8 arg4 arg5 arg7 arg8 x0 x1 x3 x4 (rH 3 1) (by decide)).symm, show (ldA arg4 arg5 arg6 arg7 arg8 x0 x1 x2 x3 x4).m' 2 1 = _ from (rdA0_10 arg4 arg5 arg7 arg8 x0 x1 x3 x4 (rH 2 1) (by decide)).symm, show (ldA arg4 arg5 arg6 arg7 arg8 x0 x1 x2 x3 x4).m' 3 1 = _ from (rdA0_11 arg4 arg5 arg7 arg8 x0 x1 x3 x4 (rH 3 1) (by decide)).symm, show (ldA arg4 arg5 arg6 arg7 arg8 x0 x1 x2 x3 x4).l 1 1 = _ from (rdA1_5 arg4 arg5 arg6 arg7 arg8 x0 x1 x2 x3 x4 (rL 1 1) (by decide)).symm, Loads.s_t21, Loads.s_t31]
  dsimp only [ldA]
  rfl
theorem stA1_6 (arg4 arg5 arg6 : MemQ) (arg7 : MemC) (arg8 : MemT) (x0 x1 x2 : ArrQ F) (x3 : ArrC F) (x4 : ArrT F) : kernelRun0_A.sl.HS1_8 arg4 arg5 arg6 arg7 arg8 x0 x1 x2 x3 x4 = (ldA arg4 arg5 arg6 arg7 arg8 x0 x1 x2 x3 x4).pl true 2 1 :: kernelRun0_A.sl.HS1_7 arg4 arg5 arg6 arg7 arg8 x0 x1 x2 x3 x4 := by
  rw [Loads.pl_21, show (ldA arg4 arg5 arg6 arg7 arg8 x0 x1 x2 x3 x4).m 4 1 = _ from (rdA0_8 arg4 arg5 arg7 arg8 x0 x1 x3 x4 (rH 4 1) (by decide)).symm, show (ldA arg4 arg5 arg6 arg7 arg8 x0 x1 x2 x3 x4).m 5 1 = _ from (rdA0_8 arg4 arg5 arg7 arg8 x0 x1 x3 x4 (rH 5 1) (by decide)).symm, show (ldA arg4 arg5 arg6 arg7 arg8 x0 x1 x2 x3 x4).m' 4 1 = _ from (rdA0_12 arg4 arg5 arg7 arg8 x0 x1 x3 x4 (rH 4 1) (by decide)).symm, show (ldA arg4 arg5 arg6 arg7 arg8 x0 x1 x2 x3 x4).m' 5 1 = _ from (rdA0_13 arg4 arg5 arg7 arg8 x0 x1 x3 x4 (rH 5 1) (by decide)).symm, show (ldA arg4 arg5 arg6 arg7 arg8 x0 x1 x2 x3 x4).l 2 1 = _ from (rdA1_6 arg4 arg5 arg6 arg7 arg8 x0 x1 x2 x3 x4 (rL 2 1) (by decide)).symm, Loads.s_t41, Loads.s_t51]
  dsimp only [ldA]
  rfl
theorem stA1_7 (arg4 arg5 arg6 : MemQ) (arg7 : MemC) (arg8 : MemT) (x0 x1 x2 : ArrQ F) (x3 : ArrC F) (x4 : ArrT F) : kernelRun0_A.sl.HS1_9 arg4 arg5 arg6 arg7 arg8 x0 x1 x2 x3 x4 = (ldA arg4 arg5 arg6 arg7 arg8 x0 x1 x2 x3 x4).pl true 3 1 :: kernelRun0_A.sl.HS1_8 arg4 arg5 arg6 arg7 arg8 x0 x1 x2 x3 x4 := by
  rw [Loads.pl_31, show (ldA arg4 arg5 arg6 arg7 arg8 x0 x1 x2 x3 x4).m 6 1 = _ from (rdA0_8 arg4 arg5 arg7 arg8 x0 x1 x3 x4 (rH 6 1) (by decide)).symm, show (ldA arg4 arg5 arg6 arg7 arg8 x0 x1 x2 x3 x4).m 7 1 = _ from (rdA0_8 arg4 arg5 arg7 arg8 x0 x1 x3 x4 (rH 7 1) (by decide)).symm, show (ldA arg4 arg5 arg6 arg7 arg8 x0 x1 x2 x3 x4).m' 6 1 = _ from (rdA0_14 arg4 arg5 arg7 arg8 x0 x1 x3 x4 (rH 6 1) (by decide)).symm, show (ldA arg4 arg5 arg6 arg7 arg8 x0 x1 x2 x3 x4).m' 7 1 = _ from (rdA0_15 arg4 arg5 arg7 arg8 x0 x1 x3 x4 (rH 7 1) (by decide)).symm, show (ldA arg4 arg5 arg6 arg7 arg8 x0 x1 x2 x3 x4).l 3 1 = _ from (rdA1_7 arg4 arg5 arg6 arg7 arg8 x0 x1 x2 x3 x4 (rL 3 1) (by decide)).symm, Loads.s_t61, Loads.s_t71]
  dsimp only [ldA]
  rfl
theorem hsA1_eq (arg4 arg5 arg6 : MemQ) (arg7 : MemC) (arg8 : MemT) (x0 x1 x2 : ArrQ F) (x3 : ArrC F) (x4 : ArrT F) : kernelRun0_A.sl.HS1_9 arg4 arg5 arg6 arg7 arg8 x0 x1 x2 x3 x4 = (ldA arg4 arg5 arg6 arg7 arg8 x0 x1 x2 x3 x4).listL true (kernelRun0_A.sl.HS1_1 (F := F)) := by
  rw [stA1_7 arg4 arg5 arg6 arg7 arg8 x0 x1 x2 x3 x4, stA1_6 arg4 arg5 arg6 arg7 arg8 x0 x1 x2 x3 x4, stA1_5 arg4 arg5 arg6 arg7 arg8 x0 x1 x2 x3 x4, stA1_4 arg4 arg5 arg6 arg7 arg8 x0 x1 x2 x3 x4, stA1_3 arg4 arg5 arg6 arg7 arg8 x0 x1 x2 x3 x4, stA1_2 arg4 arg5 arg6 arg7 arg8 x0 x1 x2 x3 x4, stA1_1 arg4 arg5 arg6 arg7 arg8 x0 x1 x2 x3 x4, stA1_0 arg4 arg5 arg6 arg7 arg8 x0 x1 x2 x3 x4, Loads.listL]

theorem stA2_0 (arg4 arg5 arg6 : MemQ) (arg7 : MemC) (arg8 : MemT) (x0 x1 x2 : ArrQ F) (x3 : ArrC F) (x4 : ArrT F) : kernelRun0_A.sl.HS2_2 arg4 arg5 arg6 arg7 arg8 x0 x1 x2 x3 x4 = (ldA arg4 arg5 arg6 arg7 arg8 x0 x1 x2 x3 x4).pa true 0 0 :: kernelRun0_A.sl.HS2_1 (F := F) := by
  rw [Loads.pa_00, show (ldA arg4 arg5 arg6 arg7 arg8 x0 x1 x2 x3 x4).m 0 0 = _ from (rdA0_0 (rH 0 0)).symm, show (ldA arg4 arg5 arg6 arg7 arg8 x0 x1 x2 x3 x4).m 1 0 = _ from (rdA0_0 (rH 1 0)).symm, show (ldA arg4 arg5 arg6 arg7 arg8 x0 x1 x2 x3 x4).m' 0 0 = _ from (rdA0_0 (rH 0 0)).symm, show (ldA arg4 arg5 arg6 arg7 arg8 x0 x1 x2 x3 x4).m' 1 0 = _ from (rdA0_1 arg4 arg5 arg7 arg8 x0 x1 x3 x4 (rH 1 0) (by decide)).symm, show (ldA arg4 arg5 arg6 arg7 arg8 x0 x1 x2 x3 x4).a 0 0 = _ from (rdA2_0 (rA 0 0)).symm, Loads.s_t00, Loads.s_t10]
  dsimp only [ldA]
  rfl
theorem stA2_1 (arg4 arg5 arg6 : MemQ) (arg7 : MemC) (arg8 : MemT) (x0 x1 x2 : ArrQ F) (x3 : ArrC F) (x4 : ArrT F) : kernelRun0_A.sl.HS2_3 arg4 arg5 arg6 arg7 arg8 x0 x1 x2 x3 x4 = (ldA arg4 arg5 arg6 arg7 arg8 x0 x1 x2 x3 x4).pa true 1 0 :: kernelRun0_A.sl.HS2_2 arg4 arg5 arg6 arg7 arg8 x0 x1 x2 x3 x4 := by
  rw [Loads.pa_10, show (ldA arg4 arg5 arg6 arg7 arg8 x0 x1 x2 x3 x4).m 2 0 = _ from (rdA0_0 (rH 2 0)).symm, show (ldA arg4 arg5 arg6 arg7 arg8 x0 x1 x2 x3 x4).m 3 0 = _ from (rdA0_0 (rH 3 0)).symm, show (ldA arg4 arg5 arg6 arg7 arg8 x0 x1 x2 x3 x4).m' 2 0 = _ from (rdA0_2 arg4 arg5 arg7 arg8 x0 x1 x3 x4 (rH 2 0) (by decide)).symm, show (ldA arg4 arg5 arg6 arg7 arg8 x0 x1 x2 x3 x4).m' 3 0 = _ from (rdA0_3 arg4 arg5 arg7 arg8 x0 x1 x3 x4 (rH 3 0) (by decide)).symm, show (ldA arg4 arg5 arg6 arg7 arg8 x0 x1 x2 x3 x4).a 1 0 = _ from (rdA2_1 arg4 arg5 arg6 arg7 arg8 x0 x1 x2 x3 x4 (rA 1 0) (by decide)).symm, Loads.s_t20, Loads.s_t30]
  dsimp only [ldA]
  rfl
theorem stA2_2 (arg4 arg5 arg6 : MemQ) (arg7 : MemC) (arg8 : MemT) (x0 x1 x2 : ArrQ F) (x3 : ArrC F) (x4 : ArrT F) : kernelRun0_A.sl.HS2_4 arg4 arg5 arg6 arg7 arg8 x0 x1 x2 x3 x4 = (ldA arg4 arg5 arg6 arg7 arg8 x0 x1 x2 x3 x4).pa true 2 0 :: kernelRun0_A.sl.HS2_3 arg4 arg5 arg6 arg7 arg8 x0 x1 x2 x3 x4 := by
  rw [Loads.pa_20, show (ldA arg4 arg5 arg6 arg7 arg8 x0 x1 x2 x3 x4).m 4 0 = _ from (rdA0_0 (rH 4 0)).symm, show (ldA arg4 arg5 arg6 arg7 arg8 x0 x1 x2 x3 x4).m 5 0 = _ from (rdA0_0 (rH 5 0)).symm, show (ldA arg4 arg5 arg6 arg7 arg8 x0 x1 x2 x3 x4).m' 4 0 = _ from (rdA0_4 arg4 arg5 arg7 arg8 x0 x1 x3 x4 (rH 4 0) (by decide)).symm, show (ldA arg4 arg5 arg6 arg7 arg8 x0 x1 x2 x3 x4).m' 5 0 = _ from (rdA0_5 arg4 arg5 arg7 arg8 x0 x1 x3 x4 (rH 5 0) (by decide)).symm, show (ldA arg4 arg5 arg6 arg7 arg8 x0 x1 x2 x3 x4).a 2 0 = _ from (rdA2_2 arg4 arg5 arg6 arg7 arg8 x0 x1 x2 x3 x4 (rA 2 0) (by decide)).symm, Loads.s_t40, Loads.s_t50]
  dsimp only [ldA]
  rfl
theorem stA2_3 (arg4 arg5 arg6 : MemQ) (arg7 : MemC) (arg8 : MemT) (x0 x1 x2 : ArrQ F) (x3 : ArrC F) (x4 : ArrT F) : kernelRun0_A.sl.HS2_5 arg4 arg5 arg6 arg7 arg8 x0 x1 x2 x3 x4 = (ldA arg4 arg5 arg6 arg7 arg8 x0 x1 x2 x3 x4).pa true 3 0 :: kernelRun0_A.sl.HS2_4 arg4 arg5 arg6 arg7 arg8 x0 x1 x2 x3 x4 := by
  rw [Loads.pa_30, show (ldA arg4 arg5 arg6 arg7 arg8 x0 x1 x2 x3 x4).m 6 0 = _ from (rdA0_0 (rH 6 0)).symm, show (ldA arg4 arg5 arg6 arg7 arg8 x0 x1 x2 x3 x4).m 7 0 = _ from (rdA0_0 (rH 7 0)).symm, show (ldA arg4 arg5 arg6 arg7 arg8 x0 x1 x2 x3 x4).m' 6 0 = _ from (rdA0_6 arg4 arg5 arg7 arg8 x0 x1 x3 x4 (rH 6 0) (by decide)).symm, show (ldA arg4 arg5 arg6 arg7 arg8 x0 x1 x2 x3 x4).m' 7 0 = _ from (rdA0_7 arg4 arg5 arg7 arg8 x0 x1 x3 x4 (rH 7 0) (by decide)).symm, show (ldA arg4 arg5 arg6 arg7 arg8 x0 x1 x2 x3 x4).a 3 0 = _ from (rdA2_3 arg4 arg5 arg6 arg7 arg8 x0 x1 x2 x3 x4 (rA 3 0) (by decide)).symm, Loads.s_t60, Loads.s_t70]
  dsimp only [ldA]
  rfl
theorem stA2_4 (arg4 arg5 arg6 : MemQ) (arg7 : MemC) (arg8 : MemT) (x0 x1 x2 : ArrQ F) (x3 : ArrC F) (x4 : ArrT F) : kernelRun0_A.sl.HS2_6 arg4 arg5 arg6 arg7 arg8 x0 x1 x2 x3 x4 = (ldA arg4 arg5 arg6 arg7 arg8 x0 x1 x2 x3 x4).pa true 0 1 :: kernelRun0_A.sl.HS2_5 arg4 arg5 arg6 arg7 arg8 x0 x1 x2 x3 x4 := by
  rw [Loads.pa_01, show (ldA arg4 arg5 arg6 arg7 arg8 x0 x1 x2 x3 x4).m 0 1 = _ from (rdA0_8 arg4 arg5 arg7 arg8 x0 x1 x3 x4 (rH 0 1) (by decide)).symm, show (ldA arg4 arg5 arg6 arg7 arg8 x0 x1 x2 x3 x4).m 1 1 = _ from (rdA0_8 arg4 arg5 arg7 arg8 x0 x1 x3 x4 (rH 1 1) (by decide)).symm, show (ldA arg4 arg5 arg6 arg7 arg8 x0 x1 x2 x3 x4).m' 0 1 = _ from (rdA0_8 arg4 arg5 arg7 arg8 x0 x1 x3 x4 (rH 0 1) (by decide)).symm, show (ldA arg4 arg5 arg6 arg7 arg8 x0 x1 x2 x3 x4).m' 1 1 = _ from (rdA0_9 arg4 arg5 arg7 arg8 x0 x1 x3 x4 (rH 1 1) (by decide)).symm, show (ldA arg4 arg5 arg6 arg7 arg8 x0 x1 x2 x3 x4).a 0 1 = _ from (rdA2_4 arg4 arg5 arg6 arg7 arg8 x0 x1 x2 x3 x4 (rA 0 1) (by decide)).symm, Loads.s_t01, Loads.s_t11]
  dsimp only [ldA]
  rfl
theorem stA2_5 (arg4 arg5 arg6 : MemQ) (arg7 : MemC) (arg8 : MemT) (x0 x1 x2 : ArrQ F) (x3 : ArrC F) (x4 : ArrT F) : kernelRun0_A.sl.HS2_7 arg4 arg5 arg6 arg7 arg8 x0 x1 x2 x3 x4 = (ldA arg4 arg5 arg6 arg7 arg8 x0 x1 x2 x3 x4).pa true 1 1 :: kernelRun0_A.sl.HS2_6 arg4 arg5 arg6 arg7 arg8 x0 x1 x2 x3 x4 := by
  rw [Loads.pa_11, show (ldA arg4 arg5 arg6 arg7 arg8 x0 x1 x2 x3 x4).m 2 1 = _ from (rdA0_8 arg4 arg5 arg7 arg8 x0 x1 x3 x4 (rH 2 1) (by decide)).symm, show (ldA arg4 arg5 arg6 arg7 arg8 x0 x1 x2 x3 x4).m 3 1 = _ from (rdA0_8 arg4 arg5 arg7 arg8 x0 x1 x3 x4 (rH 3 1) (by decide)).symm, show (ldA arg4 arg5 arg6 arg7 arg8 x0 x1 x2 x3 x4).m' 2 1 = _ from (rdA0_10 arg4 arg5 arg7 arg8 x0 x1 x3 x4 (rH 2 1) (by decide)).symm, show (ldA arg4 arg5 arg6 arg7 arg8 x0 x1 x2 x3 x4).m' 3 1 = _ from (rdA0_11 arg4 arg5 arg7 arg8 x0 x1 x3 x4 (rH 3 1) (by decide)).symm, show (ldA arg4 arg5 arg6 arg7 arg8 x0 x1 x2 x3 x4).a 1 1 = _ from (rdA2_5 arg4 arg5 arg6 arg7 arg8 x0 x1 x2 x3 x4 (rA 1 1) (by decide)).symm, Loads.s_t21, Loads.s_t31]
  dsimp only [ldA]
  rfl
theorem stA2_6 (arg4 arg5 arg6 : MemQ) (arg7 : MemC) (arg8 : MemT) (x0 x1 x2 : ArrQ F) (x3 : ArrC F) (x4 : ArrT F) : kernelRun0_A.sl.HS2_8 arg4 arg5 arg6 arg7 arg8 x0 x1 x2 x3 x4 = (ldA arg4 arg5 arg6 arg7 arg8 x0 x1 x2 x3 x4).pa true 2 1 :: kernelRun0_A.sl.HS2_7 arg4 arg5 arg6 arg7 arg8 x0 x1 x2 x3 x4 := by
  rw [Loads.pa_21, show (ldA arg4 arg5 arg6 arg7 arg8 x0 x1 x2 x3 x4).m 4 1 = _ from (rdA0_8 arg4 arg5 arg7 arg8 x0 x1 x3 x4 (rH 4 1) (by decide)).symm, show (ldA arg4 arg5 arg6 arg7 arg8 x0 x1 x2 x3 x4).m 5 1 = _ from (rdA0_8 arg4 arg5 arg7 arg8 x0 x1 x3 x4 (rH 5 1) (by decide)).symm, show (ldA arg4 arg5 arg6 arg7 arg8 x0 x1 x2 x3 x4).m' 4 1 = _ from (rdA0_12 arg4 arg5 arg7 arg8 x0 x1 x3 x4 (rH 4 1) (by decide)).symm, show (ldA arg4 arg5 arg6 arg7 arg8 x0 x1 x2 x3 x4).m' 5 1 = _ from (rdA0_13 arg4 arg5 arg7 arg8 x0 x1 x3 x4 (rH 5 1) (by decide)).symm, show (ldA arg4 arg5 arg6 arg7 arg8 x0 x1 x2 x3 x4).a 2 1 = _ from (rdA2_6 arg4 arg5 arg6 arg7 arg8 x0 x1 x2 x3 x4 (rA 2 1) (by decide)).symm, Loads.s_t41, Loads.s_t51]
  dsimp only [ldA]
  rfl
theorem stA2_7 (arg4 arg5 arg6 : MemQ) (arg7 : MemC) (arg8 : MemT) (x0 x1 x2 : ArrQ F) (x3 : ArrC F) (x4 : ArrT F) : kernelRun0_A.sl.HS2_9 arg4 arg5 arg6 arg7 arg8 x0 x1 x2 x3 x4 = (ldA arg4 arg5 arg6 arg7 arg8 x0 x1 x2 x3 x4).pa true 3 1 :: kernelRun0_A.sl.HS2_8 arg4 arg5 arg6 arg7 arg8 x0 x1 x2 x3 x4 := by
  rw [Loads.pa_31, show (ldA arg4 arg5 arg6 arg7 arg8 x0 x1 x2 x3 x4).m 6 1 = _ from (rdA0_8 arg4 arg5 arg7 arg8 x0 x1 x3 x4 (rH 6 1) (by decide)).symm, show (ldA arg4 arg5 arg6 arg7 arg8 x0 x1 x2 x3 x4).m 7 1 = _ from (rdA0_8 arg4 arg5 arg7 arg8 x0 x1 x3 x4 (rH 7 1) (by decide)).symm, show (ldA arg4 arg5 arg6 arg7 arg8 x0 x1 x2 x3 x4).m' 6 1 = _ from (rdA0_14 arg4 arg5 arg7 arg8 x0 x1 x3 x4 (rH 6 1) (by decide)).symm, show (ldA arg4 arg5 arg6 arg7 arg8 x0 x1 x2 x3 x4).m' 7 1 = _ from (rdA0_15 arg4 arg5 arg7 arg8 x0 x1 x3 x4 (rH 7 1) (by decide)).symm, show (ldA arg4 arg5 arg6 arg7 arg8 x0 x1 x2 x3 x4).a 3 1 = _ from (rdA2_7 arg4 arg5 arg6 arg7 arg8 x0 x1 x2 x3 x4 (rA 3 1) (by decide)).symm, Loads.s_t61, Loads.s_t71]
  dsimp only [ldA]
  rfl
theorem hsA2_eq (arg4 arg5 arg6 : MemQ) (arg7 : MemC) (arg8 : MemT) (x0 x1 x2 : ArrQ F) (x3 : ArrC F) (x4 : ArrT F) : kernelRun0_A.sl.HS2_9 arg4 arg5 arg6 arg7 arg8 x0 x1 x2 x3 x4 = (ldA arg4 arg5 arg6 arg7 arg8 x0 x1 x2 x3 x4).listA true (kernelRun0_A.sl.HS2_1 (F := F)) := by
  rw [stA2_7 arg4 arg5 arg6 arg7 arg8 x0 x1 x2 x3 x4, stA2_6 arg4 arg5 arg6 arg7 arg8 x0 x1 x2 x3 x4, stA2_5 arg4 arg5 arg6 arg7 arg8 x0 x1 x2 x3 x4, stA2_4 arg4 arg5 arg6 arg7 arg8 x0 x1 x2 x3 x4, stA2_3 arg4 arg5 arg6 arg7 arg8 x0 x1 x2 x3 x4, stA2_2 arg4 arg5 arg6 arg7 arg8 x0 x1 x2 x3 x4, stA2_1 arg4 arg5 arg6 arg7 arg8 x0 x1 x2 x3 x4, stA2_0 arg4 arg5 arg6 arg7 arg8 x0 x1 x2 x3 x4, Loads.listA]

theorem hoA_eq (arg4 arg5 arg6 : MemQ) (arg7 : MemC) (arg8 : MemT) (x0 x1 x2 : ArrQ F) (x3 : ArrC F) (x4 : ArrT F) : kernelRun0_A.sl.HO5_4 arg4 arg5 arg6 arg7 arg8 x0 x1 x2 x3 x4 = listO (fun p => scM0_2.view.readCov (kernelRun0_A.sl.HS2_9 arg4 arg5 arg6 arg7 arg8 x0 x1 x2 x3 x4) (rAp p).toLoadRect) (fun p => scM0_1.view.readCov (kernelRun0_A.sl.HS1_9 arg4 arg5 arg6 arg7 arg8 x0 x1 x2 x3 x4) (rLp p).toLoadRect) := rfl

/-- What a point of path B loads. -/
def ldB (arg4 arg5 arg6 : MemQ) (arg7 : MemC) (arg8 : MemT) (x0 x1 x2 : ArrQ F) (x3 : ArrC F) (x4 : ArrT F) : Loads F where
  q := fun r => View.readAt (Elt F) arg4.view (rQ r).toLoadRect (arg4.view.rep x0)
  k := View.readAt (Elt F) arg5.view (Rect.unit (s := S1x256x512) ![0, 0, 0] S1x256x512.size inb_S1x256x512_S1x256x512_0_0_0).toLoadRect (arg5.view.rep x1)
  v := View.readAt (Elt F) arg6.view (Rect.unit (s := S1x256x512) ![0, 0, 0] S1x256x512.size inb_S1x256x512_S1x256x512_0_0_0).toLoadRect (arg6.view.rep x2)
  t := View.readAt (Elt F) arg8.view (Rect.unit (s := S1x8x256) ![0, 0, 0] S1x8x256.size inb_S1x8x256_S1x8x256_0_0_0).toLoadRect (arg8.view.rep x4)
  cq := fun h r => scM0_3.view.readCov (kernelRun0_B.sl.HS3_8 arg7 x3) (rH h r).toLoadRect
  m := fun h r => View.ld (k0_pay10 (F := F)) (rH h r)
  m' := fun h r => View.ld (k0_pay10 (F := F)) (rH h r)
  l := fun p r => View.ld (k0_pay11 (F := F)) (rL p r)
  a := fun p r => View.ld (k0_pay12 (F := F)) (rA p r)

theorem hsB3_eq (arg7 : MemC) (x3 : ArrC F) : kernelRun0_B.sl.HS3_8 arg7 x3 = listC (View.readAt (Elt F) arg7.view (Rect.unit (s := S1x256x128) ![0, 0, 0] S1x256x128.size inb_S1x256x128_S1x256x128_0_0_0).toLoadRect (arg7.view.rep x3)) := rfl

theorem rdB0_0 (B : Rect S8x256x128) : scM0_0.view.readCov (kernelRun0_B.sl.HS0_1 (F := F)) B.toLoadRect = View.ld (k0_pay10 (F := F)) B :=
  View.readCov_fill _ _ _ _ _ (by decide)
theorem rdB0_1 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 1 → LoadRect.disj (rH h r) B.toLoadRect = true) : scM0_0.view.readCov (kernelRun0_B.sl.HS0_2 arg4 arg5 arg7 arg8 x0 x1 x3 x4) B.toLoadRect = View.ld (k0_pay10 (F := F)) B :=
  (View.readCov_skip _ _ _ _ _ (hd 0 0 (by decide))).trans (rdB0_0 B)
theorem rdB0_2 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 2 → LoadRect.disj (rH h r) B.toLoadRect = true) : scM0_0.view.readCov (kernelRun0_B.sl.HS0_3 arg4 arg5 arg7 arg8 x0 x1 x3 x4) B.toLoadRect = View.ld (k0_pay10 (F := F)) B :=
  (View.readCov_skip _ _ _ _ _ (hd 1 0 (by decide))).trans (rdB0_1 arg4 arg5 arg7 arg8 x0 x1 x3 x4 B fun h r hl => hd h r (by omega))
theorem rdB0_3 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 3 → LoadRect.disj (rH h r) B.toLoadRect = true) : scM0_0.view.readCov (kernelRun0_B.sl.HS0_4 arg4 arg5 arg7 arg8 x0 x1 x3 x4) B.toLoadRect = View.ld (k0_pay10 (F := F)) B :=
  (View.readCov_skip _ _ _ _ _ (hd 2 0 (by decide))).trans (rdB0_2 arg4 arg5 arg7 arg8 x0 x1 x3 x4 B fun h r hl => hd h r (by omega))
theorem rdB0_4 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 4 → LoadRect.disj (rH h r) B.toLoadRect = true) : scM0_0.view.readCov (kernelRun0_B.sl.HS0_5 arg4 arg5 arg7 arg8 x0 x1 x3 x4) B.toLoadRect = View.ld (k0_pay10 (F := F)) B :=
  (View.readCov_skip _ _ _ _ _ (hd 3 0 (by decide))).trans (rdB0_3 arg4 arg5 arg7 arg8 x0 x1 x3 x4 B fun h r hl => hd h r (by omega))
theorem rdB0_5 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 5 → LoadRect.disj (rH h r) B.toLoadRect = true) : scM0_0.view.readCov (kernelRun0_B.sl.HS0_6 arg4 arg5 arg7 arg8 x0 x1 x3 x4) B.toLoadRect = View.ld (k0_pay10 (F := F)) B :=
  (View.readCov_skip _ _ _ _ _ (hd 4 0 (by decide))).trans (rdB0_4 arg4 arg5 arg7 arg8 x0 x1 x3 x4 B fun h r hl => hd h r (by omega))
theorem rdB0_6 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 6 → LoadRect.disj (rH h r) B.toLoadRect = true) : scM0_0.view.readCov (kernelRun0_B.sl.HS0_7 arg4 arg5 arg7 arg8 x0 x1 x3 x4) B.toLoadRect = View.ld (k0_pay10 (F := F)) B :=
  (View.readCov_skip _ _ _ _ _ (hd 5 0 (by decide))).trans (rdB0_5 arg4 arg5 arg7 arg8 x0 x1 x3 x4 B fun h r hl => hd h r (by omega))
theorem rdB0_7 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 7 → LoadRect.disj (rH h r) B.toLoadRect = true) : scM0_0.view.readCov (kernelRun0_B.sl.HS0_8 arg4 arg5 arg7 arg8 x0 x1 x3 x4) B.toLoadRect = View.ld (k0_pay10 (F := F)) B :=
  (View.readCov_skip _ _ _ _ _ (hd 6 0 (by decide))).trans (rdB0_6 arg4 arg5 arg7 arg8 x0 x1 x3 x4 B fun h r hl => hd h r (by omega))
theorem rdB0_8 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 8 → LoadRect.disj (rH h r) B.toLoadRect = true) : scM0_0.view.readCov (kernelRun0_B.sl.HS0_9 arg4 arg5 arg7 arg8 x0 x1 x3 x4) B.toLoadRect = View.ld (k0_pay10 (F := F)) B :=
  (View.readCov_skip _ _ _ _ _ (hd 7 0 (by decide))).trans (rdB0_7 arg4 arg5 arg7 arg8 x0 x1 x3 x4 B fun h r hl => hd h r (by omega))
theorem rdB0_9 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 9 → LoadRect.disj (rH h r) B.toLoadRect = true) : scM0_0.view.readCov (kernelRun0_B.sl.HS0_10 arg4 arg5 arg7 arg8 x0 x1 x3 x4) B.toLoadRect = View.ld (k0_pay10 (F := F)) B :=
  (View.readCov_skip _ _ _ _ _ (hd 0 1 (by decide))).trans (rdB0_8 arg4 arg5 arg7 arg8 x0 x1 x3 x4 B fun h r hl => hd h r (by omega))
theorem rdB0_10 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 10 → LoadRect.disj (rH h r) B.toLoadRect = true) : scM0_0.view.readCov (kernelRun0_B.sl.HS0_11 arg4 arg5 arg7 arg8 x0 x1 x3 x4) B.toLoadRect = View.ld (k0_pay10 (F := F)) B :=
  (View.readCov_skip _ _ _ _ _ (hd 1 1 (by decide))).trans (rdB0_9 arg4 arg5 arg7 arg8 x0 x1 x3 x4 B fun h r hl => hd h r (by omega))
theorem rdB0_11 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 11 → LoadRect.disj (rH h r) B.toLoadRect = true) : scM0_0.view.readCov (kernelRun0_B.sl.HS0_12 arg4 arg5 arg7 arg8 x0 x1 x3 x4) B.toLoadRect = View.ld (k0_pay10 (F := F)) B :=
  (View.readCov_skip _ _ _ _ _ (hd 2 1 (by decide))).trans (rdB0_10 arg4 arg5 arg7 arg8 x0 x1 x3 x4 B fun h r hl => hd h r (by omega))
theorem rdB0_12 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 12 → LoadRect.disj (rH h r) B.toLoadRect = true) : scM0_0.view.readCov (kernelRun0_B.sl.HS0_13 arg4 arg5 arg7 arg8 x0 x1 x3 x4) B.toLoadRect = View.ld (k0_pay10 (F := F)) B :=
  (View.readCov_skip _ _ _ _ _ (hd 3 1 (by decide))).trans (rdB0_11 arg4 arg5 arg7 arg8 x0 x1 x3 x4 B fun h r hl => hd h r (by omega))
theorem rdB0_13 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 13 → LoadRect.disj (rH h r) B.toLoadRect = true) : scM0_0.view.readCov (kernelRun0_B.sl.HS0_14 arg4 arg5 arg7 arg8 x0 x1 x3 x4) B.toLoadRect = View.ld (k0_pay10 (F := F)) B :=
  (View.readCov_skip _ _ _ _ _ (hd 4 1 (by decide))).trans (rdB0_12 arg4 arg5 arg7 arg8 x0 x1 x3 x4 B fun h r hl => hd h r (by omega))
theorem rdB0_14 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 14 → LoadRect.disj (rH h r) B.toLoadRect = true) : scM0_0.view.readCov (kernelRun0_B.sl.HS0_15 arg4 arg5 arg7 arg8 x0 x1 x3 x4) B.toLoadRect = View.ld (k0_pay10 (F := F)) B :=
  (View.readCov_skip _ _ _ _ _ (hd 5 1 (by decide))).trans (rdB0_13 arg4 arg5 arg7 arg8 x0 x1 x3 x4 B fun h r hl => hd h r (by omega))
theorem rdB0_15 (arg4 arg5 : MemQ) (arg7 : MemC) (arg8 : MemT) (x0 x1 : ArrQ F) (x3 : ArrC F) (x4 : ArrT F) (B : Rect S8x256x128) (hd : ∀ (h : Fin 8) (r : Fin 2), 8 * r.val + h.val < 15 → LoadRect.disj (rH h r) B.toLoadRect = true) : scM0_0.view.readCov (kernelRun0_B.sl.HS0_16 arg4 arg5 arg7 arg8 x0 x1 x3 x4) B.toLoadRect = View.ld (k0_pay10 (F := F)) B :=
  (View.readCov_skip _ _ _ _ _ (hd 6 1 (by decide))).trans (rdB0_14 arg4 arg5 arg7 arg8 x0 x1 x3 x4 B fun h r hl => hd h r (by omega))

theorem rdB1_0 (B : Rect S4x256x128) : scM0_1.view.readCov (kernelRun0_B.sl.HS1_1 (F := F)) B.toLoadRect = View.ld (k0_pay11 (F := F)) B :=
  View.readCov_fill _ _ _ _ _ (by decide)
theorem rdB1_1 (arg4 arg5 arg6 : MemQ) (arg7 : MemC) (arg8 : MemT) (x0 x1 x2 : ArrQ F) (x3 : ArrC F) (x4 : ArrT F) (B : Rect S4x256x128) (hd : ∀ (h : Fin 4) (r : Fin 2), 4 * r.val + h.val < 1 → LoadRect.disj (rL h r) B.toLoadRect = true) : scM0_1.view.readCov (kernelRun0_B.sl.HS1_2 arg4 arg5 arg6 arg7 arg8 x0 x1 x2 x3 x4) B.toLoadRect = View.ld (k0_pay11 (F := F)) B :=
  (View.readCov_skip _ _ _ _ _ (hd 0 0 (by decide))).trans (rdB1_0 B)
theorem rdB1_2 (arg4 arg5 arg6 : MemQ) (arg7 : MemC) (arg8 : MemT) (x0 x1 x2 : ArrQ F) (x3 : ArrC F) (x4 : ArrT F) (B : Rect S4x256x128) (hd : ∀ (h : Fin 4) (r : Fin 2), 4 * r.val + h.val < 2 → LoadRect.disj (rL h r) B.toLoadRect = true) : scM0_1.view.readCov (kernelRun0_B.sl.HS1_3 arg4 arg5 arg6 arg7 arg8 x0 x1 x2 x3 x4) B.toLoadRect = View.ld (k0_pay11 (F := F)) B :=
  (View.readCov_skip _ _ _ _ _ (hd 1 0 (by decide))).trans (rdB1_1 arg4 arg5 arg6 arg7 arg8 x0 x1 x2 x3 x4 B fun h r hl => hd h r (by omega))
theorem rdB1_3 (arg4 arg5 arg6 : MemQ) (arg7 : MemC) (arg8 : MemT) (x0 x1 x2 : ArrQ F) (x3 : ArrC F) (x4 : ArrT F) (B : Rect S4x256x128) (hd : ∀ (h : Fin 4) (r : Fin 2), 4 * r.val + h.val < 3 → LoadRect.disj (rL h r) B.toLoadRect = true) : scM0_1.view.readCov (kernelRun0_B.sl.HS1_4 arg4 arg5 arg6 arg7 arg8 x0 x1 x2 x3 x4) B.toLoadRect = View.ld (k0_pay11 (F := F)) B :=
  (View.readCov_skip _ _ _ _ _ (hd 2 0 (by decide))).trans (rdB1_2 arg4 arg5 arg6 arg7 arg8 x0 x1 x2 x3 x4 B fun h r hl => hd h r (by omega))
theorem rdB1_4 (arg4 arg5 arg6 : MemQ) (arg7 : MemC) (arg8 : MemT) (x0 x1 x2 : ArrQ F) (x3 : ArrC F) (x4 : ArrT F) (B : Rect S4x256x128) (hd : ∀ (h : Fin 4) (r : Fin 2), 4 * r.val + h.val < 4 → LoadRect.disj (rL h r) B.toLoadRect = true) : scM0_1.view.readCov (kernelRun0_B.sl.HS1_5 arg4 arg5 arg6 arg7 arg8 x0 x1 x2 x3 x4) B.toLoadRect = View.ld (k0_pay11 (F := F)) B :=
  (View.readCov_skip _ _ _ _ _ (hd 3 0 (by decide))).trans (rdB1_3 arg4 arg5 arg6 arg7 arg8 x0 x1 x2 x3 x4 B fun h r hl => hd h r (by omega))
theorem rdB1_5 (arg4 arg5 arg6 : MemQ) (arg7 : MemC) (arg8 : MemT) (x0 x1 x2 : ArrQ F) (x3 : ArrC F) (x4 : ArrT F) (B : Rect S4x256x128) (hd : ∀ (h : Fin 4) (r : Fin 2), 4 * r.val + h.val < 5 → LoadRect.disj (rL h r) B.toLoadRect = true) : scM0_1.view.readCov (kernelRun0_B.sl.HS1_6 arg4 arg5 arg6 arg7 arg8 x0 x1 x2 x3 x4) B.toLoadRect = View.ld (k0_pay11 (F := F)) B :=
  (View.readCov_skip _ _ _ _ _ (hd 0 1 (by decide))).trans (rdB1_4 arg4 arg5 arg6 arg7 arg8 x0 x1 x2 x3 x4 B fun h r hl => hd h r (by omega))
theorem rdB1_6 (arg4 arg5 arg6 : MemQ) (arg7 : MemC) (arg8 : MemT) (x0 x1 x2 : ArrQ F) (x3 : ArrC F) (x4 : ArrT F) (B : Rect S4x256x128) (hd : ∀ (h : Fin 4) (r : Fin 2), 4 * r.val + h.val < 6 → LoadRect.disj (rL h r) B.toLoadRect = true) : scM0_1.view.readCov (kernelRun0_B.sl.HS1_7 arg4 arg5 arg6 arg7 arg8 x0 x1 x2 x3 x4) B.toLoadRect = View.ld (k0_pay11 (F := F)) B :=
  (View.readCov_skip _ _ _ _ _ (hd 1 1 (by decide))).trans (rdB1_5 arg4 arg5 arg6 arg7 arg8 x0 x1 x2 x3 x4 B fun h r hl => hd h r (by omega))
theorem rdB1_7 (arg4 arg5 arg6 : MemQ) (arg7 : MemC) (arg8 : MemT) (x0 x1 x2 : ArrQ F) (x3 : ArrC F) (x4 : ArrT F) (B : Rect S4x256x128) (hd : ∀ (h : Fin 4) (r : Fin 2), 4 * r.val + h.val < 7 → LoadRect.disj (rL h r) B.toLoadRect = true) : scM0_1.view.readCov (kernelRun0_B.sl.HS1_8 arg4 arg5 arg6 arg7 arg8 x0 x1 x2 x3 x4) B.toLoadRect = View.ld (k0_pay11 (F := F)) B :=
  (View.readCov_skip _ _ _ _ _ (hd 2 1 (by decide))).trans (rdB1_6 arg4 arg5 arg6 arg7 arg8 x0 x1 x2 x3 x4 B fun h r hl => hd h r (by omega))

theorem rdB2_0 (B : Rect S256x512) : scM0_2.view.readCov (kernelRun0_B.sl.HS2_1 (F := F)) B.toLoadRect = View.ld (k0_pay12 (F := F)) B :=
  View.readCov_fill _ _ _ _ _ (by decide)
theorem rdB2_1 (arg4 arg5 arg6 : MemQ) (arg7 : MemC) (arg8 : MemT) (x0 x1 x2 : ArrQ F) (x3 : ArrC F) (x4 : ArrT F) (B : Rect S256x512) (hd : ∀ (h : Fin 4) (r : Fin 2), 4 * r.val + h.val < 1 → LoadRect.disj (rA h r) B.toLoadRect = true) : scM0_2.view.readCov (kernelRun0_B.sl.HS2_2 arg4 arg5 arg6 arg7 arg8 x0 x1 x2 x3 x4) B.toLoadRect = View.ld (k0_pay12 (F := F)) B :=
  (View.readCov_skip _ _ _ _ _ (hd 0 0 (by decide))).trans (rdB2_0 B)
theorem rdB2_2 (arg4 arg5 arg6 : MemQ) (arg7 : MemC) (arg8 : MemT) (x0 x1 x2 : ArrQ F) (x3 : ArrC F) (x4 : ArrT F) (B : Rect S256x512) (hd : ∀ (h : Fin 4) (r : Fin 2), 4 * r.val + h.val < 2 → LoadRect.disj (rA h r) B.toLoadRect = true) : scM0_2.view.readCov (kernelRun0_B.sl.HS2_3 arg4 arg5 arg6 arg7 arg8 x0 x1 x2 x3 x4) B.toLoadRect = View.ld (k0_pay12 (F := F)) B :=
  (View.readCov_skip _ _ _ _ _ (hd 1 0 (by decide))).trans (rdB2_1 arg4 arg5 arg6 arg7 arg8 x0 x1 x2 x3 x4 B fun h r hl => hd h r (by omega))
theorem rdB2_3 (arg4 arg5 arg6 : MemQ) (arg7 : MemC) (arg8 : MemT) (x0 x1 x2 : ArrQ F) (x3 : ArrC F) (x4 : ArrT F) (B : Rect S256x512) (hd : ∀ (h : Fin 4) (r : Fin 2), 4 * r.val + h.val < 3 → LoadRect.disj (rA h r) B.toLoadRect = true) : scM0_2.view.readCov (kernelRun0_B.sl.HS2_4 arg4 arg5 arg6 arg7 arg8 x0 x1 x2 x3 x4) B.toLoadRect = View.ld (k0_pay12 (F := F)) B :=
  (View.readCov_skip _ _ _ _ _ (hd 2 0 (by decide))).trans (rdB2_2 arg4 arg5 arg6 arg7 arg8 x0 x1 x2 x3 x4 B fun h r hl => hd h r (by omega))
theorem rdB2_4 (arg4 arg5 arg6 : MemQ) (arg7 : MemC) (arg8 : MemT) (x0 x1 x2 : ArrQ F) (x3 : ArrC F) (x4 : ArrT F) (B : Rect S256x512) (hd : ∀ (h : Fin 4) (r : Fin 2), 4 * r.val + h.val < 4 → LoadRect.disj (rA h r) B.toLoadRect = true) : scM0_2.view.readCov (kernelRun0_B.sl.HS2_5 arg4 arg5 arg6 arg7 arg8 x0 x1 x2 x3 x4) B.toLoadRect = View.ld (k0_pay12 (F := F)) B :=
  (View.readCov_skip _ _ _ _ _ (hd 3 0 (by decide))).trans (rdB2_3 arg4 arg5 arg6 arg7 arg8 x0 x1 x2 x3 x4 B fun h r hl => hd h r (by omega))
theorem rdB2_5 (arg4 arg5 arg6 : MemQ) (arg7 : MemC) (arg8 : MemT) (x0 x1 x2 : ArrQ F) (x3 : ArrC F) (x4 : ArrT F) (B : Rect S256x512) (hd : ∀ (h : Fin 4) (r : Fin 2), 4 * r.val + h.val < 5 → LoadRect.disj (rA h r) B.toLoadRect = true) : scM0_2.view.readCov (kernelRun0_B.sl.HS2_6 arg4 arg5 arg6 arg7 arg8 x0 x1 x2 x3 x4) B.toLoadRect = View.ld (k0_pay12 (F := F)) B :=
  (View.readCov_skip _ _ _ _ _ (hd 0 1 (by decide))).trans (rdB2_4 arg4 arg5 arg6 arg7 arg8 x0 x1 x2 x3 x4 B fun h r hl => hd h r (by omega))
theorem rdB2_6 (arg4 arg5 arg6 : MemQ) (arg7 : MemC) (arg8 : MemT) (x0 x1 x2 : ArrQ F) (x3 : ArrC F) (x4 : ArrT F) (B : Rect S256x512) (hd : ∀ (h : Fin 4) (r : Fin 2), 4 * r.val + h.val < 6 → LoadRect.disj (rA h r) B.toLoadRect = true) : scM0_2.view.readCov (kernelRun0_B.sl.HS2_7 arg4 arg5 arg6 arg7 arg8 x0 x1 x2 x3 x4) B.toLoadRect = View.ld (k0_pay12 (F := F)) B :=
  (View.readCov_skip _ _ _ _ _ (hd 1 1 (by decide))).trans (rdB2_5 arg4 arg5 arg6 arg7 arg8 x0 x1 x2 x3 x4 B fun h r hl => hd h r (by omega))
theorem rdB2_7 (arg4 arg5 arg6 : MemQ) (arg7 : MemC) (arg8 : MemT) (x0 x1 x2 : ArrQ F) (x3 : ArrC F) (x4 : ArrT F) (B : Rect S256x512) (hd : ∀ (h : Fin 4) (r : Fin 2), 4 * r.val + h.val < 7 → LoadRect.disj (rA h r) B.toLoadRect = true) : scM0_2.view.readCov (kernelRun0_B.sl.HS2_8 arg4 arg5 arg6 arg7 arg8 x0 x1 x2 x3 x4) B.toLoadRect = View.ld (k0_pay12 (F := F)) B :=
  (View.readCov_skip _ _ _ _ _ (hd 2 1 (by decide))).trans (rdB2_6 arg4 arg5 arg6 arg7 arg8 x0 x1 x2 x3 x4 B fun h r hl => hd h r (by omega))

theorem stB0_0 (arg4 arg5 arg6 : MemQ) (arg7 : MemC) (arg8 : MemT) (x0 x1 x2 : ArrQ F) (x3 : ArrC F) (x4 : ArrT F) : kernelRun0_B.sl.HS0_2 arg4 arg5 arg7 arg8 x0 x1 x3 x4 = (ldB arg4 arg5 arg6 arg7 arg8 x0 x1 x2 x3 x4).pm false 0 0 :: kernelRun0_B.sl.HS0_1 (F := F) := by
  rw [Loads.pm_00, show (ldB arg4 arg5 arg6 arg7 arg8 x0 x1 x2 x3 x4).m 0 0 = _ from (rdB0_0 (rH 0 0)).symm, Loads.s_f00]
  dsimp only [ldB]
  rfl
theorem stB0_1 (arg4 arg5 arg6 : MemQ) (arg7 : MemC) (arg8 : MemT) (x0 x1 x2 : ArrQ F) (x3 : ArrC F) (x4 : ArrT F) : kernelRun0_B.sl.HS0_3 arg4 arg5 arg7 arg8 x0 x1 x3 x4 = (ldB arg4 arg5 arg6 arg7 arg8 x0 x1 x2 x3 x4).pm false 1 0 :: kernelRun0_B.sl.HS0_2 arg4 arg5 arg7 arg8 x0 x1 x3 x4 := by
  rw [Loads.pm_10, show (ldB arg4 arg5 arg6 arg7 arg8 x0 x1 x2 x3 x4).m 1 0 = _ from (rdB0_0 (rH 1 0)).symm, Loads.s_f10]
  dsimp only [ldB]
  rfl
theorem stB0_2 (arg4 arg5 arg6 : MemQ) (arg7 : MemC) (arg8 : MemT) (x0 x1 x2 : ArrQ F) (x3 : ArrC F) (x4 : ArrT F) : kernelRun0_B.sl.HS0_4 arg4 arg5 arg7 arg8 x0 x1 x3 x4 = (ldB arg4 arg5 arg6 arg7 arg8 x0 x1 x2 x3 x4).pm false 2 0 :: kernelRun0_B.sl.HS0_3 arg4 arg5 arg7 arg8 x0 x1 x3 x4 := by
  rw [Loads.pm_20, show (ldB arg4 arg5 arg6 arg7 arg8 x0 x1 x2 x3 x4).m 2 0 = _ from (rdB0_0 (rH 2 0)).symm, Loads.s_f20]
  dsimp only [ldB]
  rfl
theorem stB0_3 (arg4 arg5 arg6 : MemQ) (arg7 : MemC) (arg8 : MemT) (x0 x1 x2 : ArrQ F) (x3 : ArrC F) (x4 : ArrT F) : kernelRun0_B.sl.HS0_5 arg4 arg5 arg7 arg8 x0 x1 x3 x4 = (ldB arg4 arg5 arg6 arg7 arg8 x0 x1 x2 x3 x4).pm false 3 0 :: kernelRun0_B.sl.HS0_4 arg4 arg5 arg7 arg8 x0 x1 x3 x4 := by
  rw [Loads.pm_30, show (ldB arg4 arg5 arg6 arg7 arg8 x0 x1 x2 x3 x4).m 3 0 = _ from (rdB0_0 (rH 3 0)).symm, Loads.s_f30]
  dsimp only [ldB]
  rfl
theorem stB0_4 (arg4 arg5 arg6 : MemQ) (arg7 : MemC) (arg8 : MemT) (x0 x1 x2 : ArrQ F) (x3 : ArrC F) (x4 : ArrT F) : kernelRun0_B.sl.HS0_6 arg4 arg5 arg7 arg8 x0 x1 x3 x4 = (ldB arg4 arg5 arg6 arg7 arg8 x0 x1 x2 x3 x4).pm false 4 0 :: kernelRun0_B.sl.HS0_5 arg4 arg5 arg7 arg8 x0 x1 x3 x4 := by
  rw [Loads.pm_40, show (ldB arg4 arg5 arg6 arg7 arg8 x0 x1 x2 x3 x4).m 4 0 = _ from (rdB0_0 (rH 4 0)).symm, Loads.s_f40]
  dsimp only [ldB]
  rfl
theorem stB0_5 (arg4 arg5 arg6 : MemQ) (arg7 : MemC) (arg8 : MemT) (x0 x1 x2 : ArrQ F) (x3 : ArrC F) (x4 : ArrT F) : kernelRun0_B.sl.HS0_7 arg4 arg5 arg7 arg8 x0 x1 x3 x4 = (ldB arg4 arg5 arg6 arg7 arg8 x0 x1 x2 x3 x4).pm false 5 0 :: kernelRun0_B.sl.HS0_6 arg4 arg5 arg7 arg8 x0 x1 x3 x4 := by
  rw [Loads.pm_50, show (ldB arg4 arg5 arg6 arg7 arg8 x0 x1 x2 x3 x4).m 5 0 = _ from (rdB0_0 (rH 5 0)).symm, Loads.s_f50]
  dsimp only [ldB]
  rfl
theorem stB0_6 (arg4 arg5 arg6 : MemQ) (arg7 : MemC) (arg8 : MemT) (x0 x1 x2 : ArrQ F) (x3 : ArrC F) (x4 : ArrT F) : kernelRun0_B.sl.HS0_8 arg4 arg5 arg7 arg8 x0 x1 x3 x4 = (ldB arg4 arg5 arg6 arg7 arg8 x0 x1 x2 x3 x4).pm false 6 0 :: kernelRun0_B.sl.HS0_7 arg4 arg5 arg7 arg8 x0 x1 x3 x4 := by
  rw [Loads.pm_60, show (ldB arg4 arg5 arg6 arg7 arg8 x0 x1 x2 x3 x4).m 6 0 = _ from (rdB0_0 (rH 6 0)).symm, Loads.s_f60]
  dsimp only [ldB]
  rfl
theorem stB0_7 (arg4 arg5 arg6 : MemQ) (arg7 : MemC) (arg8 : MemT) (x0 x1 x2 : ArrQ F) (x3 : ArrC F) (x4 : ArrT F) : kernelRun0_B.sl.HS0_9 arg4 arg5 arg7 arg8 x0 x1 x3 x4 = (ldB arg4 arg5 arg6 arg7 arg8 x0 x1 x2 x3 x4).pm false 7 0 :: kernelRun0_B.sl.HS0_8 arg4 arg5 arg7 arg8 x0 x1 x3 x4 := by
  rw [Loads.pm_70, show (ldB arg4 arg5 arg6 arg7 arg8 x0 x1 x2 x3 x4).m 7 0 = _ from (rdB0_0 (rH 7 0)).symm, Loads.s_f70]
  dsimp only [ldB]
  rfl
theorem stB0_8 (arg4 arg5 arg6 : MemQ) (arg7 : MemC) (arg8 : MemT) (x0 x1 x2 : ArrQ F) (x3 : ArrC F) (x4 : ArrT F) : kernelRun0_B.sl.HS0_10 arg4 arg5 arg7 arg8 x0 x1 x3 x4 = (ldB arg4 arg5 arg6 arg7 arg8 x0 x1 x2 x3 x4).pm false 0 1 :: kernelRun0_B.sl.HS0_9 arg4 arg5 arg7 arg8 x0 x1 x3 x4 := by
  rw [Loads.pm_01, show (ldB arg4 arg5 arg6 arg7 arg8 x0 x1 x2 x3 x4).m 0 1 = _ from (rdB0_8 arg4 arg5 arg7 arg8 x0 x1 x3 x4 (rH 0 1) (by decide)).symm, Loads.s_f01]
  dsimp only [ldB]
  rfl
theorem stB0_9 (arg4 arg5 arg6 : MemQ) (arg7 : MemC) (arg8 : MemT) (x0 x1 x2 : ArrQ F) (x3 : ArrC F) (x4 : ArrT F) : kernelRun0_B.sl.HS0_11 arg4 arg5 arg7 arg8 x0 x1 x3 x4 = (ldB arg4 arg5 arg6 arg7 arg8 x0 x1 x2 x3 x4).pm false 1 1 :: kernelRun0_B.sl.HS0_10 arg4 arg5 arg7 arg8 x0 x1 x3 x4 := by
  rw [Loads.pm_11, show (ldB arg4 arg5 arg6 arg7 arg8 x0 x1 x2 x3 x4).m 1 1 = _ from (rdB0_8 arg4 arg5 arg7 arg8 x0 x1 x3 x4 (rH 1 1) (by decide)).symm, Loads.s_f11]
  dsimp only [ldB]
  rfl
theorem stB0_10 (arg4 arg5 arg6 : MemQ) (arg7 : MemC) (arg8 : MemT) (x0 x1 x2 : ArrQ F) (x3 : ArrC F) (x4 : ArrT F) : kernelRun0_B.sl.HS0_12 arg4 arg5 arg7 arg8 x0 x1 x3 x4 = (ldB arg4 arg5 arg6 arg7 arg8 x0 x1 x2 x3 x4).pm false 2 1 :: kernelRun0_B.sl.HS0_11 arg4 arg5 arg7 arg8 x0 x1 x3 x4 := by
  rw [Loads.pm_21, show (ldB arg4 arg5 arg6 arg7 arg8 x0 x1 x2 x3 x4).m 2 1 = _ from (rdB0_8 arg4 arg5 arg7 arg8 x0 x1 x3 x4 (rH 2 1) (by decide)).symm, Loads.s_f21]
  dsimp only [ldB]
  rfl
theorem stB0_11 (arg4 arg5 arg6 : MemQ) (arg7 : MemC) (arg8 : MemT) (x0 x1 x2 : ArrQ F) (x3 : ArrC F) (x4 : ArrT F) : kernelRun0_B.sl.HS0_13 arg4 arg5 arg7 arg8 x0 x1 x3 x4 = (ldB arg4 arg5 arg6 arg7 arg8 x0 x1 x2 x3 x4).pm false 3 1 :: kernelRun0_B.sl.HS0_12 arg4 arg5 arg7 arg8 x0 x1 x3 x4 := by
  rw [Loads.pm_31, show (ldB arg4 arg5 arg6 arg7 arg8 x0 x1 x2 x3 x4).m 3 1 = _ from (rdB0_8 arg4 arg5 arg7 arg8 x0 x1 x3 x4 (rH 3 1) (by decide)).symm, Loads.s_f31]
  dsimp only [ldB]
  rfl
theorem stB0_12 (arg4 arg5 arg6 : MemQ) (arg7 : MemC) (arg8 : MemT) (x0 x1 x2 : ArrQ F) (x3 : ArrC F) (x4 : ArrT F) : kernelRun0_B.sl.HS0_14 arg4 arg5 arg7 arg8 x0 x1 x3 x4 = (ldB arg4 arg5 arg6 arg7 arg8 x0 x1 x2 x3 x4).pm false 4 1 :: kernelRun0_B.sl.HS0_13 arg4 arg5 arg7 arg8 x0 x1 x3 x4 := by
  rw [Loads.pm_41, show (ldB arg4 arg5 arg6 arg7 arg8 x0 x1 x2 x3 x4).m 4 1 = _ from (rdB0_8 arg4 arg5 arg7 arg8 x0 x1 x3 x4 (rH 4 1) (by decide)).symm, Loads.s_f41]
  dsimp only [ldB]
  rfl
theorem stB0_13 (arg4 arg5 arg6 : MemQ) (arg7 : MemC) (arg8 : MemT) (x0 x1 x2 : ArrQ F) (x3 : ArrC F) (x4 : ArrT F) : kernelRun0_B.sl.HS0_15 arg4 arg5 arg7 arg8 x0 x1 x3 x4 = (ldB arg4 arg5 arg6 arg7 arg8 x0 x1 x2 x3 x4).pm false 5 1 :: kernelRun0_B.sl.HS0_14 arg4 arg5 arg7 arg8 x0 x1 x3 x4 := by
  rw [Loads.pm_51, show (ldB arg4 arg5 arg6 arg7 arg8 x0 x1 x2 x3 x4).m 5 1 = _ from (rdB0_8 arg4 arg5 arg7 arg8 x0 x1 x3 x4 (rH 5 1) (by decide)).symm, Loads.s_f51]
  dsimp only [ldB]
  rfl
theorem stB0_14 (arg4 arg5 arg6 : MemQ) (arg7 : MemC) (arg8 : MemT) (x0 x1 x2 : ArrQ F) (x3 : ArrC F) (x4 : ArrT F) : kernelRun0_B.sl.HS0_16 arg4 arg5 arg7 arg8 x0 x1 x3 x4 = (ldB arg4 arg5 arg6 arg7 arg8 x0 x1 x2 x3 x4).pm false 6 1 :: kernelRun0_B.sl.HS0_15 arg4 arg5 arg7 arg8 x0 x1 x3 x4 := by
  rw [Loads.pm_61, show (ldB arg4 arg5 arg6 arg7 arg8 x0 x1 x2 x3 x4).m 6 1 = _ from (rdB0_8 arg4 arg5 arg7 arg8 x0 x1 x3 x4 (rH 6 1) (by decide)).symm, Loads.s_f61]
  dsimp only [ldB]
  rfl
theorem stB0_15 (arg4 arg5 arg6 : MemQ) (arg7 : MemC) (arg8 : MemT) (x0 x1 x2 : ArrQ F) (x3 : ArrC F) (x4 : ArrT F) : kernelRun0_B.sl.HS0_17 arg4 arg5 arg7 arg8 x0 x1 x3 x4 = (ldB arg4 arg5 arg6 arg7 arg8 x0 x1 x2 x3 x4).pm false 7 1 :: kernelRun0_B.sl.HS0_16 arg4 arg5 arg7 arg8 x0 x1 x3 x4 := by
  rw [Loads.pm_71, show (ldB arg4 arg5 arg6 arg7 arg8 x0 x1 x2 x3 x4).m 7 1 = _ from (rdB0_8 arg4 arg5 arg7 arg8 x0 x1 x3 x4 (rH 7 1) (by decide)).symm, Loads.s_f71]
  dsimp only [ldB]
  rfl
theorem hsB0_eq (arg4 arg5 arg6 : MemQ) (arg7 : MemC) (arg8 : MemT) (x0 x1 x2 : ArrQ F) (x3 : ArrC F) (x4 : ArrT F) : kernelRun0_B.sl.HS0_17 arg4 arg5 arg7 arg8 x0 x1 x3 x4 = (ldB arg4 arg5 arg6 arg7 arg8 x0 x1 x2 x3 x4).listM false (kernelRun0_B.sl.HS0_1 (F := F)) := by
  rw [stB0_15 arg4 arg5 arg6 arg7 arg8 x0 x1 x2 x3 x4, stB0_14 arg4 arg5 arg6 arg7 arg8 x0 x1 x2 x3 x4, stB0_13 arg4 arg5 arg6 arg7 arg8 x0 x1 x2 x3 x4, stB0_12 arg4 arg5 arg6 arg7 arg8 x0 x1 x2 x3 x4, stB0_11 arg4 arg5 arg6 arg7 arg8 x0 x1 x2 x3 x4, stB0_10 arg4 arg5 arg6 arg7 arg8 x0 x1 x2 x3 x4, stB0_9 arg4 arg5 arg6 arg7 arg8 x0 x1 x2 x3 x4, stB0_8 arg4 arg5 arg6 arg7 arg8 x0 x1 x2 x3 x4, stB0_7 arg4 arg5 arg6 arg7 arg8 x0 x1 x2 x3 x4, stB0_6 arg4 arg5 arg6 arg7 arg8 x0 x1 x2 x3 x4, stB0_5 arg4 arg5 arg6 arg7 arg8 x0 x1 x2 x3 x4, stB0_4 arg4 arg5 arg6 arg7 arg8 x0 x1 x2 x3 x4, stB0_3 arg4 arg5 arg6 arg7 arg8 x0 x1 x2 x3 x4, stB0_2 arg4 arg5 arg6 arg7 arg8 x0 x1 x2 x3 x4, stB0_1 arg4 arg5 arg6 arg7 arg8 x0 x1 x2 x3 x4, stB0_0 arg4 arg5 arg6 arg7 arg8 x0 x1 x2 x3 x4, Loads.listM]

theorem stB1_0 (arg4 arg5 arg6 : MemQ) (arg7 : MemC) (arg8 : MemT) (x0 x1 x2 : ArrQ F) (x3 : ArrC F) (x4 : ArrT F) : kernelRun0_B.sl.HS1_2 arg4 arg5 arg6 arg7 arg8 x0 x1 x2 x3 x4 = (ldB arg4 arg5 arg6 arg7 arg8 x0 x1 x2 x3 x4).pl false 0 0 :: kernelRun0_B.sl.HS1_1 (F := F) := by
  rw [Loads.pl_00, show (ldB arg4 arg5 arg6 arg7 arg8 x0 x1 x2 x3 x4).m 0 0 = _ from (rdB0_0 (rH 0 0)).symm, show (ldB arg4 arg5 arg6 arg7 arg8 x0 x1 x2 x3 x4).m 1 0 = _ from (rdB0_0 (rH 1 0)).symm, show (ldB arg4 arg5 arg6 arg7 arg8 x0 x1 x2 x3 x4).m' 0 0 = _ from (rdB0_0 (rH 0 0)).symm, show (ldB arg4 arg5 arg6 arg7 arg8 x0 x1 x2 x3 x4).m' 1 0 = _ from (rdB0_1 arg4 arg5 arg7 arg8 x0 x1 x3 x4 (rH 1 0) (by decide)).symm, show (ldB arg4 arg5 arg6 arg7 arg8 x0 x1 x2 x3 x4).l 0 0 = _ from (rdB1_0 (rL 0 0)).symm, Loads.s_f00, Loads.s_f10]
  dsimp only [ldB]
  rfl
theorem stB1_1 (arg4 arg5 arg6 : MemQ) (arg7 : MemC) (arg8 : MemT) (x0 x1 x2 : ArrQ F) (x3 : ArrC F) (x4 : ArrT F) : kernelRun0_B.sl.HS1_3 arg4 arg5 arg6 arg7 arg8 x0 x1 x2 x3 x4 = (ldB arg4 arg5 arg6 arg7 arg8 x0 x1 x2 x3 x4).pl false 1 0 :: kernelRun0_B.sl.HS1_2 arg4 arg5 arg6 arg7 arg8 x0 x1 x2 x3 x4 := by
  rw [Loads.pl_10, show (ldB arg4 arg5 arg6 arg7 arg8 x0 x1 x2 x3 x4).m 2 0 = _ from (rdB0_0 (rH 2 0)).symm, show (ldB arg4 arg5 arg6 arg7 arg8 x0 x1 x2 x3 x4).m 3 0 = _ from (rdB0_0 (rH 3 0)).symm, show (ldB arg4 arg5 arg6 arg7 arg8 x0 x1 x2 x3 x4).m' 2 0 = _ from (rdB0_2 arg4 arg5 arg7 arg8 x0 x1 x3 x4 (rH 2 0) (by decide)).symm, show (ldB arg4 arg5 arg6 arg7 arg8 x0 x1 x2 x3 x4).m' 3 0 = _ from (rdB0_3 arg4 arg5 arg7 arg8 x0 x1 x3 x4 (rH 3 0) (by decide)).symm, show (ldB arg4 arg5 arg6 arg7 arg8 x0 x1 x2 x3 x4).l 1 0 = _ from (rdB1_1 arg4 arg5 arg6 arg7 arg8 x0 x1 x2 x3 x4 (rL 1 0) (by decide)).symm, Loads.s_f20, Loads.s_f30]
  dsimp only [ldB]
  rfl
theorem stB1_2 (arg4 arg5 arg6 : MemQ) (arg7 : MemC) (arg8 : MemT) (x0 x1 x2 : ArrQ F) (x3 : ArrC F) (x4 : ArrT F) : kernelRun0_B.sl.HS1_4 arg4 arg5 arg6 arg7 arg8 x0 x1 x2 x3 x4 = (ldB arg4 arg5 arg6 arg7 arg8 x0 x1 x2 x3 x4).pl false 2 0 :: kernelRun0_B.sl.HS1_3 arg4 arg5 arg6 arg7 arg8 x0 x1 x2 x3 x4 := by
  rw [Loads.pl_20, show (ldB arg4 arg5 arg6 arg7 arg8 x0 x1 x2 x3 x4).m 4 0 = _ from (rdB0_0 (rH 4 0)).symm, show (ldB arg4 arg5 arg6 arg7 arg8 x0 x1 x2 x3 x4).m 5 0 = _ from (rdB0_0 (rH 5 0)).symm, show (ldB arg4 arg5 arg6 arg7 arg8 x0 x1 x2 x3 x4).m' 4 0 = _ from (rdB0_4 arg4 arg5 arg7 arg8 x0 x1 x3 x4 (rH 4 0) (by decide)).symm, show (ldB arg4 arg5 arg6 arg7 arg8 x0 x1 x2 x3 x4).m' 5 0 = _ from (rdB0_5 arg4 arg5 arg7 arg8 x0 x1 x3 x4 (rH 5 0) (by decide)).symm, show (ldB arg4 arg5 arg6 arg7 arg8 x0 x1 x2 x3 x4).l 2 0 = _ from (rdB1_2 arg4 arg5 arg6 arg7 arg8 x0 x1 x2 x3 x4 (rL 2 0) (by decide)).symm, Loads.s_f40, Loads.s_f50]
  dsimp only [ldB]
  rfl
theorem stB1_3 (arg4 arg5 arg6 : MemQ) (arg7 : MemC) (arg8 : MemT) (x0 x1 x2 : ArrQ F) (x3 : ArrC F) (x4 : ArrT F) : kernelRun0_B.sl.HS1_5 arg4 arg5 arg6 arg7 arg8 x0 x1 x2 x3 x4 = (ldB arg4 arg5 arg6 arg7 arg8 x0 x1 x2 x3 x4).pl false 3 0 :: kernelRun0_B.sl.HS1_4 arg4 arg5 arg6 arg7 arg8 x0 x1 x2 x3 x4 := by
  rw [Loads.pl_30, show (ldB arg4 arg5 arg6 arg7 arg8 x0 x1 x2 x3 x4).m 6 0 = _ from (rdB0_0 (rH 6 0)).symm, show (ldB arg4 arg5 arg6 arg7 arg8 x0 x1 x2 x3 x4).m 7 0 = _ from (rdB0_0 (rH 7 0)).symm, show (ldB arg4 arg5 arg6 arg7 arg8 x0 x1 x2 x3 x4).m' 6 0 = _ from (rdB0_6 arg4 arg5 arg7 arg8 x0 x1 x3 x4 (rH 6 0) (by decide)).symm, show (ldB arg4 arg5 arg6 arg7 arg8 x0 x1 x2 x3 x4).m' 7 0 = _ from (rdB0_7 arg4 arg5 arg7 arg8 x0 x1 x3 x4 (rH 7 0) (by decide)).symm, show (ldB arg4 arg5 arg6 arg7 arg8 x0 x1 x2 x3 x4).l 3 0 = _ from (rdB1_3 arg4 arg5 arg6 arg7 arg8 x0 x1 x2 x3 x4 (rL 3 0) (by decide)).symm, Loads.s_f60, Loads.s_f70]
  dsimp only [ldB]
  rfl
theorem stB1_4 (arg4 arg5 arg6 : MemQ) (arg7 : MemC) (arg8 : MemT) (x0 x1 x2 : ArrQ F) (x3 : ArrC F) (x4 : ArrT F) : kernelRun0_B.sl.HS1_6 arg4 arg5 arg6 arg7 arg8 x0 x1 x2 x3 x4 = (ldB arg4 arg5 arg6 arg7 arg8 x0 x1 x2 x3 x4).pl false 0 1 :: kernelRun0_B.sl.HS1_5 arg4 arg5 arg6 arg7 arg8 x0 x1 x2 x3 x4 := by
  rw [Loads.pl_01, show (ldB arg4 arg5 arg6 arg7 arg8 x0 x1 x2 x3 x4).m 0 1 = _ from (rdB0_8 arg4 arg5 arg7 arg8 x0 x1 x3 x4 (rH 0 1) (by decide)).symm, show (ldB arg4 arg5 arg6 arg7 arg8 x0 x1 x2 x3 x4).m 1 1 = _ from (rdB0_8 arg4 arg5 arg7 arg8 x0 x1 x3 x4 (rH 1 1) (by decide)).symm, show (ldB arg4 arg5 arg6 arg7 arg8 x0 x1 x2 x3 x4).m' 0 1 = _ from (rdB0_8 arg4 arg5 arg7 arg8 x0 x1 x3 x4 (rH 0 1) (by decide)).symm, show (ldB arg4 arg5 arg6 arg7 arg8 x0 x1 x2 x3 x4).m' 1 1 = _ from (rdB0_9 arg4 arg5 arg7 arg8 x0 x1 x3 x4 (rH 1 1) (by decide)).symm, show (ldB arg4 arg5 arg6 arg7 arg8 x0 x1 x2 x3 x4).l 0 1 = _ from (rdB1_4 arg4 arg5 arg6 arg7 arg8 x0 x1 x2 x3 x4 (rL 0 1) (by decide)).symm, Loads.s_f01, Loads.s_f11]
  dsimp only [ldB]
  rfl
theorem stB1_5 (arg4 arg5 arg6 : MemQ) (arg7 : MemC) (arg8 : MemT) (x0 x1 x2 : ArrQ F) (x3 : ArrC F) (x4 : ArrT F) : kernelRun0_B.sl.HS1_7 arg4 arg5 arg6 arg7 arg8 x0 x1 x2 x3 x4 = (ldB arg4 arg5 arg6 arg7 arg8 x0 x1 x2 x3 x4).pl false 1 1 :: kernelRun0_B.sl.HS1_6 arg4 arg5 arg6 arg7 arg8 x0 x1 x2 x3 x4 := by
  rw [Loads.pl_11, show (ldB arg4 arg5 arg6 arg7 arg8 x0 x1 x2 x3 x4).m 2 1 = _ from (rdB0_8 arg4 arg5 arg7 arg8 x0 x1 x3 x4 (rH 2 1) (by decide)).symm, show (ldB arg4 arg5 arg6 arg7 arg8 x0 x1 x2 x3 x4).m 3 1 = _ from (rdB0_8 arg4 arg5 arg7 arg8 x0 x1 x3 x4 (rH 3 1) (by decide)).symm, show (ldB arg4 arg5 arg6 arg7 arg8 x0 x1 x2 x3 x4).m' 2 1 = _ from (rdB0_10 arg4 arg5 arg7 arg8 x0 x1 x3 x4 (rH 2 1) (by decide)).symm, show (ldB arg4 arg5 arg6 arg7 arg8 x0 x1 x2 x3 x4).m' 3 1 = _ from (rdB0_11 arg4 arg5 arg7 arg8 x0 x1 x3 x4 (rH 3 1) (by decide)).symm, show (ldB arg4 arg5 arg6 arg7 arg8 x0 x1 x2 x3 x4).l 1 1 = _ from (rdB1_5 arg4 arg5 arg6 arg7 arg8 x0 x1 x2 x3 x4 (rL 1 1) (by decide)).symm, Loads.s_f21, Loads.s_f31]
  dsimp only [ldB]
  rfl
theorem stB1_6 (arg4 arg5 arg6 : MemQ) (arg7 : MemC) (arg8 : MemT) (x0 x1 x2 : ArrQ F) (x3 : ArrC F) (x4 : ArrT F) : kernelRun0_B.sl.HS1_8 arg4 arg5 arg6 arg7 arg8 x0 x1 x2 x3 x4 = (ldB arg4 arg5 arg6 arg7 arg8 x0 x1 x2 x3 x4).pl false 2 1 :: kernelRun0_B.sl.HS1_7 arg4 arg5 arg6 arg7 arg8 x0 x1 x2 x3 x4 := by
  rw [Loads.pl_21, show (ldB arg4 arg5 arg6 arg7 arg8 x0 x1 x2 x3 x4).m 4 1 = _ from (rdB0_8 arg4 arg5 arg7 arg8 x0 x1 x3 x4 (rH 4 1) (by decide)).symm, show (ldB arg4 arg5 arg6 arg7 arg8 x0 x1 x2 x3 x4).m 5 1 = _ from (rdB0_8 arg4 arg5 arg7 arg8 x0 x1 x3 x4 (rH 5 1) (by decide)).symm, show (ldB arg4 arg5 arg6 arg7 arg8 x0 x1 x2 x3 x4).m' 4 1 = _ from (rdB0_12 arg4 arg5 arg7 arg8 x0 x1 x3 x4 (rH 4 1) (by decide)).symm, show (ldB arg4 arg5 arg6 arg7 arg8 x0 x1 x2 x3 x4).m' 5 1 = _ from (rdB0_13 arg4 arg5 arg7 arg8 x0 x1 x3 x4 (rH 5 1) (by decide)).symm, show (ldB arg4 arg5 arg6 arg7 arg8 x0 x1 x2 x3 x4).l 2 1 = _ from (rdB1_6 arg4 arg5 arg6 arg7 arg8 x0 x1 x2 x3 x4 (rL 2 1) (by decide)).symm, Loads.s_f41, Loads.s_f51]
  dsimp only [ldB]
  rfl
theorem stB1_7 (arg4 arg5 arg6 : MemQ) (arg7 : MemC) (arg8 : MemT) (x0 x1 x2 : ArrQ F) (x3 : ArrC F) (x4 : ArrT F) : kernelRun0_B.sl.HS1_9 arg4 arg5 arg6 arg7 arg8 x0 x1 x2 x3 x4 = (ldB arg4 arg5 arg6 arg7 arg8 x0 x1 x2 x3 x4).pl false 3 1 :: kernelRun0_B.sl.HS1_8 arg4 arg5 arg6 arg7 arg8 x0 x1 x2 x3 x4 := by
  rw [Loads.pl_31, show (ldB arg4 arg5 arg6 arg7 arg8 x0 x1 x2 x3 x4).m 6 1 = _ from (rdB0_8 arg4 arg5 arg7 arg8 x0 x1 x3 x4 (rH 6 1) (by decide)).symm, show (ldB arg4 arg5 arg6 arg7 arg8 x0 x1 x2 x3 x4).m 7 1 = _ from (rdB0_8 arg4 arg5 arg7 arg8 x0 x1 x3 x4 (rH 7 1) (by decide)).symm, show (ldB arg4 arg5 arg6 arg7 arg8 x0 x1 x2 x3 x4).m' 6 1 = _ from (rdB0_14 arg4 arg5 arg7 arg8 x0 x1 x3 x4 (rH 6 1) (by decide)).symm, show (ldB arg4 arg5 arg6 arg7 arg8 x0 x1 x2 x3 x4).m' 7 1 = _ from (rdB0_15 arg4 arg5 arg7 arg8 x0 x1 x3 x4 (rH 7 1) (by decide)).symm, show (ldB arg4 arg5 arg6 arg7 arg8 x0 x1 x2 x3 x4).l 3 1 = _ from (rdB1_7 arg4 arg5 arg6 arg7 arg8 x0 x1 x2 x3 x4 (rL 3 1) (by decide)).symm, Loads.s_f61, Loads.s_f71]
  dsimp only [ldB]
  rfl
theorem hsB1_eq (arg4 arg5 arg6 : MemQ) (arg7 : MemC) (arg8 : MemT) (x0 x1 x2 : ArrQ F) (x3 : ArrC F) (x4 : ArrT F) : kernelRun0_B.sl.HS1_9 arg4 arg5 arg6 arg7 arg8 x0 x1 x2 x3 x4 = (ldB arg4 arg5 arg6 arg7 arg8 x0 x1 x2 x3 x4).listL false (kernelRun0_B.sl.HS1_1 (F := F)) := by
  rw [stB1_7 arg4 arg5 arg6 arg7 arg8 x0 x1 x2 x3 x4, stB1_6 arg4 arg5 arg6 arg7 arg8 x0 x1 x2 x3 x4, stB1_5 arg4 arg5 arg6 arg7 arg8 x0 x1 x2 x3 x4, stB1_4 arg4 arg5 arg6 arg7 arg8 x0 x1 x2 x3 x4, stB1_3 arg4 arg5 arg6 arg7 arg8 x0 x1 x2 x3 x4, stB1_2 arg4 arg5 arg6 arg7 arg8 x0 x1 x2 x3 x4, stB1_1 arg4 arg5 arg6 arg7 arg8 x0 x1 x2 x3 x4, stB1_0 arg4 arg5 arg6 arg7 arg8 x0 x1 x2 x3 x4, Loads.listL]

theorem stB2_0 (arg4 arg5 arg6 : MemQ) (arg7 : MemC) (arg8 : MemT) (x0 x1 x2 : ArrQ F) (x3 : ArrC F) (x4 : ArrT F) : kernelRun0_B.sl.HS2_2 arg4 arg5 arg6 arg7 arg8 x0 x1 x2 x3 x4 = (ldB arg4 arg5 arg6 arg7 arg8 x0 x1 x2 x3 x4).pa false 0 0 :: kernelRun0_B.sl.HS2_1 (F := F) := by
  rw [Loads.pa_00, show (ldB arg4 arg5 arg6 arg7 arg8 x0 x1 x2 x3 x4).m 0 0 = _ from (rdB0_0 (rH 0 0)).symm, show (ldB arg4 arg5 arg6 arg7 arg8 x0 x1 x2 x3 x4).m 1 0 = _ from (rdB0_0 (rH 1 0)).symm, show (ldB arg4 arg5 arg6 arg7 arg8 x0 x1 x2 x3 x4).m' 0 0 = _ from (rdB0_0 (rH 0 0)).symm, show (ldB arg4 arg5 arg6 arg7 arg8 x0 x1 x2 x3 x4).m' 1 0 = _ from (rdB0_1 arg4 arg5 arg7 arg8 x0 x1 x3 x4 (rH 1 0) (by decide)).symm, show (ldB arg4 arg5 arg6 arg7 arg8 x0 x1 x2 x3 x4).a 0 0 = _ from (rdB2_0 (rA 0 0)).symm, Loads.s_f00, Loads.s_f10]
  dsimp only [ldB]
  rfl
theorem stB2_1 (arg4 arg5 arg6 : MemQ) (arg7 : MemC) (arg8 : MemT) (x0 x1 x2 : ArrQ F) (x3 : ArrC F) (x4 : ArrT F) : kernelRun0_B.sl.HS2_3 arg4 arg5 arg6 arg7 arg8 x0 x1 x2 x3 x4 = (ldB arg4 arg5 arg6 arg7 arg8 x0 x1 x2 x3 x4).pa false 1 0 :: kernelRun0_B.sl.HS2_2 arg4 arg5 arg6 arg7 arg8 x0 x1 x2 x3 x4 := by
  rw [Loads.pa_10, show (ldB arg4 arg5 arg6 arg7 arg8 x0 x1 x2 x3 x4).m 2 0 = _ from (rdB0_0 (rH 2 0)).symm, show (ldB arg4 arg5 arg6 arg7 arg8 x0 x1 x2 x3 x4).m 3 0 = _ from (rdB0_0 (rH 3 0)).symm, show (ldB arg4 arg5 arg6 arg7 arg8 x0 x1 x2 x3 x4).m' 2 0 = _ from (rdB0_2 arg4 arg5 arg7 arg8 x0 x1 x3 x4 (rH 2 0) (by decide)).symm, show (ldB arg4 arg5 arg6 arg7 arg8 x0 x1 x2 x3 x4).m' 3 0 = _ from (rdB0_3 arg4 arg5 arg7 arg8 x0 x1 x3 x4 (rH 3 0) (by decide)).symm, show (ldB arg4 arg5 arg6 arg7 arg8 x0 x1 x2 x3 x4).a 1 0 = _ from (rdB2_1 arg4 arg5 arg6 arg7 arg8 x0 x1 x2 x3 x4 (rA 1 0) (by decide)).symm, Loads.s_f20, Loads.s_f30]
  dsimp only [ldB]
  rfl
theorem stB2_2 (arg4 arg5 arg6 : MemQ) (arg7 : MemC) (arg8 : MemT) (x0 x1 x2 : ArrQ F) (x3 : ArrC F) (x4 : ArrT F) : kernelRun0_B.sl.HS2_4 arg4 arg5 arg6 arg7 arg8 x0 x1 x2 x3 x4 = (ldB arg4 arg5 arg6 arg7 arg8 x0 x1 x2 x3 x4).pa false 2 0 :: kernelRun0_B.sl.HS2_3 arg4 arg5 arg6 arg7 arg8 x0 x1 x2 x3 x4 := by
  rw [Loads.pa_20, show (ldB arg4 arg5 arg6 arg7 arg8 x0 x1 x2 x3 x4).m 4 0 = _ from (rdB0_0 (rH 4 0)).symm, show (ldB arg4 arg5 arg6 arg7 arg8 x0 x1 x2 x3 x4).m 5 0 = _ from (rdB0_0 (rH 5 0)).symm, show (ldB arg4 arg5 arg6 arg7 arg8 x0 x1 x2 x3 x4).m' 4 0 = _ from (rdB0_4 arg4 arg5 arg7 arg8 x0 x1 x3 x4 (rH 4 0) (by decide)).symm, show (ldB arg4 arg5 arg6 arg7 arg8 x0 x1 x2 x3 x4).m' 5 0 = _ from (rdB0_5 arg4 arg5 arg7 arg8 x0 x1 x3 x4 (rH 5 0) (by decide)).symm, show (ldB arg4 arg5 arg6 arg7 arg8 x0 x1 x2 x3 x4).a 2 0 = _ from (rdB2_2 arg4 arg5 arg6 arg7 arg8 x0 x1 x2 x3 x4 (rA 2 0) (by decide)).symm, Loads.s_f40, Loads.s_f50]
  dsimp only [ldB]
  rfl
theorem stB2_3 (arg4 arg5 arg6 : MemQ) (arg7 : MemC) (arg8 : MemT) (x0 x1 x2 : ArrQ F) (x3 : ArrC F) (x4 : ArrT F) : kernelRun0_B.sl.HS2_5 arg4 arg5 arg6 arg7 arg8 x0 x1 x2 x3 x4 = (ldB arg4 arg5 arg6 arg7 arg8 x0 x1 x2 x3 x4).pa false 3 0 :: kernelRun0_B.sl.HS2_4 arg4 arg5 arg6 arg7 arg8 x0 x1 x2 x3 x4 := by
  rw [Loads.pa_30, show (ldB arg4 arg5 arg6 arg7 arg8 x0 x1 x2 x3 x4).m 6 0 = _ from (rdB0_0 (rH 6 0)).symm, show (ldB arg4 arg5 arg6 arg7 arg8 x0 x1 x2 x3 x4).m 7 0 = _ from (rdB0_0 (rH 7 0)).symm, show (ldB arg4 arg5 arg6 arg7 arg8 x0 x1 x2 x3 x4).m' 6 0 = _ from (rdB0_6 arg4 arg5 arg7 arg8 x0 x1 x3 x4 (rH 6 0) (by decide)).symm, show (ldB arg4 arg5 arg6 arg7 arg8 x0 x1 x2 x3 x4).m' 7 0 = _ from (rdB0_7 arg4 arg5 arg7 arg8 x0 x1 x3 x4 (rH 7 0) (by decide)).symm, show (ldB arg4 arg5 arg6 arg7 arg8 x0 x1 x2 x3 x4).a 3 0 = _ from (rdB2_3 arg4 arg5 arg6 arg7 arg8 x0 x1 x2 x3 x4 (rA 3 0) (by decide)).symm, Loads.s_f60, Loads.s_f70]
  dsimp only [ldB]
  rfl
theorem stB2_4 (arg4 arg5 arg6 : MemQ) (arg7 : MemC) (arg8 : MemT) (x0 x1 x2 : ArrQ F) (x3 : ArrC F) (x4 : ArrT F) : kernelRun0_B.sl.HS2_6 arg4 arg5 arg6 arg7 arg8 x0 x1 x2 x3 x4 = (ldB arg4 arg5 arg6 arg7 arg8 x0 x1 x2 x3 x4).pa false 0 1 :: kernelRun0_B.sl.HS2_5 arg4 arg5 arg6 arg7 arg8 x0 x1 x2 x3 x4 := by
  rw [Loads.pa_01, show (ldB arg4 arg5 arg6 arg7 arg8 x0 x1 x2 x3 x4).m 0 1 = _ from (rdB0_8 arg4 arg5 arg7 arg8 x0 x1 x3 x4 (rH 0 1) (by decide)).symm, show (ldB arg4 arg5 arg6 arg7 arg8 x0 x1 x2 x3 x4).m 1 1 = _ from (rdB0_8 arg4 arg5 arg7 arg8 x0 x1 x3 x4 (rH 1 1) (by decide)).symm, show (ldB arg4 arg5 arg6 arg7 arg8 x0 x1 x2 x3 x4).m' 0 1 = _ from (rdB0_8 arg4 arg5 arg7 arg8 x0 x1 x3 x4 (rH 0 1) (by decide)).symm, show (ldB arg4 arg5 arg6 arg7 arg8 x0 x1 x2 x3 x4).m' 1 1 = _ from (rdB0_9 arg4 arg5 arg7 arg8 x0 x1 x3 x4 (rH 1 1) (by decide)).symm, show (ldB arg4 arg5 arg6 arg7 arg8 x0 x1 x2 x3 x4).a 0 1 = _ from (rdB2_4 arg4 arg5 arg6 arg7 arg8 x0 x1 x2 x3 x4 (rA 0 1) (by decide)).symm, Loads.s_f01, Loads.s_f11]
  dsimp only [ldB]
  rfl
theorem stB2_5 (arg4 arg5 arg6 : MemQ) (arg7 : MemC) (arg8 : MemT) (x0 x1 x2 : ArrQ F) (x3 : ArrC F) (x4 : ArrT F) : kernelRun0_B.sl.HS2_7 arg4 arg5 arg6 arg7 arg8 x0 x1 x2 x3 x4 = (ldB arg4 arg5 arg6 arg7 arg8 x0 x1 x2 x3 x4).pa false 1 1 :: kernelRun0_B.sl.HS2_6 arg4 arg5 arg6 arg7 arg8 x0 x1 x2 x3 x4 := by
  rw [Loads.pa_11, show (ldB arg4 arg5 arg6 arg7 arg8 x0 x1 x2 x3 x4).m 2 1 = _ from (rdB0_8 arg4 arg5 arg7 arg8 x0 x1 x3 x4 (rH 2 1) (by decide)).symm, show (ldB arg4 arg5 arg6 arg7 arg8 x0 x1 x2 x3 x4).m 3 1 = _ from (rdB0_8 arg4 arg5 arg7 arg8 x0 x1 x3 x4 (rH 3 1) (by decide)).symm, show (ldB arg4 arg5 arg6 arg7 arg8 x0 x1 x2 x3 x4).m' 2 1 = _ from (rdB0_10 arg4 arg5 arg7 arg8 x0 x1 x3 x4 (rH 2 1) (by decide)).symm, show (ldB arg4 arg5 arg6 arg7 arg8 x0 x1 x2 x3 x4).m' 3 1 = _ from (rdB0_11 arg4 arg5 arg7 arg8 x0 x1 x3 x4 (rH 3 1) (by decide)).symm, show (ldB arg4 arg5 arg6 arg7 arg8 x0 x1 x2 x3 x4).a 1 1 = _ from (rdB2_5 arg4 arg5 arg6 arg7 arg8 x0 x1 x2 x3 x4 (rA 1 1) (by decide)).symm, Loads.s_f21, Loads.s_f31]
  dsimp only [ldB]
  rfl
theorem stB2_6 (arg4 arg5 arg6 : MemQ) (arg7 : MemC) (arg8 : MemT) (x0 x1 x2 : ArrQ F) (x3 : ArrC F) (x4 : ArrT F) : kernelRun0_B.sl.HS2_8 arg4 arg5 arg6 arg7 arg8 x0 x1 x2 x3 x4 = (ldB arg4 arg5 arg6 arg7 arg8 x0 x1 x2 x3 x4).pa false 2 1 :: kernelRun0_B.sl.HS2_7 arg4 arg5 arg6 arg7 arg8 x0 x1 x2 x3 x4 := by
  rw [Loads.pa_21, show (ldB arg4 arg5 arg6 arg7 arg8 x0 x1 x2 x3 x4).m 4 1 = _ from (rdB0_8 arg4 arg5 arg7 arg8 x0 x1 x3 x4 (rH 4 1) (by decide)).symm, show (ldB arg4 arg5 arg6 arg7 arg8 x0 x1 x2 x3 x4).m 5 1 = _ from (rdB0_8 arg4 arg5 arg7 arg8 x0 x1 x3 x4 (rH 5 1) (by decide)).symm, show (ldB arg4 arg5 arg6 arg7 arg8 x0 x1 x2 x3 x4).m' 4 1 = _ from (rdB0_12 arg4 arg5 arg7 arg8 x0 x1 x3 x4 (rH 4 1) (by decide)).symm, show (ldB arg4 arg5 arg6 arg7 arg8 x0 x1 x2 x3 x4).m' 5 1 = _ from (rdB0_13 arg4 arg5 arg7 arg8 x0 x1 x3 x4 (rH 5 1) (by decide)).symm, show (ldB arg4 arg5 arg6 arg7 arg8 x0 x1 x2 x3 x4).a 2 1 = _ from (rdB2_6 arg4 arg5 arg6 arg7 arg8 x0 x1 x2 x3 x4 (rA 2 1) (by decide)).symm, Loads.s_f41, Loads.s_f51]
  dsimp only [ldB]
  rfl
theorem stB2_7 (arg4 arg5 arg6 : MemQ) (arg7 : MemC) (arg8 : MemT) (x0 x1 x2 : ArrQ F) (x3 : ArrC F) (x4 : ArrT F) : kernelRun0_B.sl.HS2_9 arg4 arg5 arg6 arg7 arg8 x0 x1 x2 x3 x4 = (ldB arg4 arg5 arg6 arg7 arg8 x0 x1 x2 x3 x4).pa false 3 1 :: kernelRun0_B.sl.HS2_8 arg4 arg5 arg6 arg7 arg8 x0 x1 x2 x3 x4 := by
  rw [Loads.pa_31, show (ldB arg4 arg5 arg6 arg7 arg8 x0 x1 x2 x3 x4).m 6 1 = _ from (rdB0_8 arg4 arg5 arg7 arg8 x0 x1 x3 x4 (rH 6 1) (by decide)).symm, show (ldB arg4 arg5 arg6 arg7 arg8 x0 x1 x2 x3 x4).m 7 1 = _ from (rdB0_8 arg4 arg5 arg7 arg8 x0 x1 x3 x4 (rH 7 1) (by decide)).symm, show (ldB arg4 arg5 arg6 arg7 arg8 x0 x1 x2 x3 x4).m' 6 1 = _ from (rdB0_14 arg4 arg5 arg7 arg8 x0 x1 x3 x4 (rH 6 1) (by decide)).symm, show (ldB arg4 arg5 arg6 arg7 arg8 x0 x1 x2 x3 x4).m' 7 1 = _ from (rdB0_15 arg4 arg5 arg7 arg8 x0 x1 x3 x4 (rH 7 1) (by decide)).symm, show (ldB arg4 arg5 arg6 arg7 arg8 x0 x1 x2 x3 x4).a 3 1 = _ from (rdB2_7 arg4 arg5 arg6 arg7 arg8 x0 x1 x2 x3 x4 (rA 3 1) (by decide)).symm, Loads.s_f61, Loads.s_f71]
  dsimp only [ldB]
  rfl
theorem hsB2_eq (arg4 arg5 arg6 : MemQ) (arg7 : MemC) (arg8 : MemT) (x0 x1 x2 : ArrQ F) (x3 : ArrC F) (x4 : ArrT F) : kernelRun0_B.sl.HS2_9 arg4 arg5 arg6 arg7 arg8 x0 x1 x2 x3 x4 = (ldB arg4 arg5 arg6 arg7 arg8 x0 x1 x2 x3 x4).listA false (kernelRun0_B.sl.HS2_1 (F := F)) := by
  rw [stB2_7 arg4 arg5 arg6 arg7 arg8 x0 x1 x2 x3 x4, stB2_6 arg4 arg5 arg6 arg7 arg8 x0 x1 x2 x3 x4, stB2_5 arg4 arg5 arg6 arg7 arg8 x0 x1 x2 x3 x4, stB2_4 arg4 arg5 arg6 arg7 arg8 x0 x1 x2 x3 x4, stB2_3 arg4 arg5 arg6 arg7 arg8 x0 x1 x2 x3 x4, stB2_2 arg4 arg5 arg6 arg7 arg8 x0 x1 x2 x3 x4, stB2_1 arg4 arg5 arg6 arg7 arg8 x0 x1 x2 x3 x4, stB2_0 arg4 arg5 arg6 arg7 arg8 x0 x1 x2 x3 x4, Loads.listA]

/-- What a point of path C loads. -/
def ldC (c : Dev nD) (arg4 arg5 arg6 : MemQ) (arg8 : MemT) (x0 x1 x2 : ArrQ F) (x4 : ArrT F) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) : Loads F where
  q := fun r => View.readAt (Elt F) arg4.view (rQ r).toLoadRect (arg4.view.rep x0)
  k := View.readAt (Elt F) arg5.view (Rect.unit (s := S1x256x512) ![0, 0, 0] S1x256x512.size inb_S1x256x512_S1x256x512_0_0_0).toLoadRect (arg5.view.rep x1)
  v := View.readAt (Elt F) arg6.view (Rect.unit (s := S1x256x512) ![0, 0, 0] S1x256x512.size inb_S1x256x512_S1x256x512_0_0_0).toLoadRect (arg6.view.rep x2)
  t := View.readAt (Elt F) arg8.view (Rect.unit (s := S1x8x256) ![0, 0, 0] S1x8x256.size inb_S1x8x256_S1x8x256_0_0_0).toLoadRect (arg8.view.rep x4)
  cq := fun h r => View.readAt (Elt F) scM0_3.view (rH h r).toLoadRect xa3
  m := fun h r => View.readAt (Elt F) scM0_0.view (rH h r).toLoadRect xa0
  m' := fun h r => View.readAt (Elt F) scM0_0.view (rH h r).toLoadRect xa0
  l := fun p r => View.readAt (Elt F) scM0_1.view (rL p r).toLoadRect xa1
  a := fun p r => View.readAt (Elt F) scM0_2.view (rA p r).toLoadRect xa2

theorem hsC0_eq (c : Dev nD) (arg4 arg5 arg6 : MemQ) (arg8 : MemT) (x0 x1 x2 : ArrQ F) (x4 : ArrT F) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) : kernelRun0_C.sl.HS0_16 c arg4 arg5 arg8 x0 x1 x4 xa0 xa3 = (ldC c arg4 arg5 arg6 arg8 x0 x1 x2 x4 xa0 xa1 xa2 xa3).listM true [] := by
  rw [Loads.listM]
  simp only [Loads.pm_00, Loads.pm_01, Loads.pm_10, Loads.pm_11, Loads.pm_20, Loads.pm_21, Loads.pm_30, Loads.pm_31, Loads.pm_40, Loads.pm_41, Loads.pm_50, Loads.pm_51, Loads.pm_60, Loads.pm_61, Loads.pm_70, Loads.pm_71, Loads.s_t00, Loads.s_t01, Loads.s_t10, Loads.s_t11, Loads.s_t20, Loads.s_t21, Loads.s_t30, Loads.s_t31, Loads.s_t40, Loads.s_t41, Loads.s_t50, Loads.s_t51, Loads.s_t60, Loads.s_t61, Loads.s_t70, Loads.s_t71]
  dsimp only [ldC]
  rfl

theorem hsC1_eq (c : Dev nD) (arg4 arg5 arg6 : MemQ) (arg8 : MemT) (x0 x1 x2 : ArrQ F) (x4 : ArrT F) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) : kernelRun0_C.sl.HS1_8 c arg4 arg5 arg6 arg8 x0 x1 x2 x4 xa0 xa1 xa3 = (ldC c arg4 arg5 arg6 arg8 x0 x1 x2 x4 xa0 xa1 xa2 xa3).listL true [] := by
  rw [Loads.listL]
  simp only [Loads.pl_00, Loads.pl_01, Loads.pl_10, Loads.pl_11, Loads.pl_20, Loads.pl_21, Loads.pl_30, Loads.pl_31, Loads.s_t00, Loads.s_t01, Loads.s_t10, Loads.s_t11, Loads.s_t20, Loads.s_t21, Loads.s_t30, Loads.s_t31, Loads.s_t40, Loads.s_t41, Loads.s_t50, Loads.s_t51, Loads.s_t60, Loads.s_t61, Loads.s_t70, Loads.s_t71]
  dsimp only [ldC]
  rfl

theorem hsC2_eq (c : Dev nD) (arg4 arg5 arg6 : MemQ) (arg8 : MemT) (x0 x1 x2 : ArrQ F) (x4 : ArrT F) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) : kernelRun0_C.sl.HS2_8 c arg4 arg5 arg6 arg8 x0 x1 x2 x4 xa0 xa2 xa3 = (ldC c arg4 arg5 arg6 arg8 x0 x1 x2 x4 xa0 xa1 xa2 xa3).listA true [] := by
  rw [Loads.listA]
  simp only [Loads.pa_00, Loads.pa_01, Loads.pa_10, Loads.pa_11, Loads.pa_20, Loads.pa_21, Loads.pa_30, Loads.pa_31, Loads.s_t00, Loads.s_t01, Loads.s_t10, Loads.s_t11, Loads.s_t20, Loads.s_t21, Loads.s_t30, Loads.s_t31, Loads.s_t40, Loads.s_t41, Loads.s_t50, Loads.s_t51, Loads.s_t60, Loads.s_t61, Loads.s_t70, Loads.s_t71]
  dsimp only [ldC]
  rfl

theorem hoC_eq (c : Dev nD) (arg4 arg5 arg6 : MemQ) (arg8 : MemT) (x0 x1 x2 : ArrQ F) (x4 : ArrT F) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) : kernelRun0_C.sl.HO5_4 c arg4 arg5 arg6 arg8 x0 x1 x2 x4 xa0 xa1 xa2 xa3 = listO (fun p => scM0_2.view.readCov (kernelRun0_C.sl.HS2_8 c arg4 arg5 arg6 arg8 x0 x1 x2 x4 xa0 xa2 xa3) (rAp p).toLoadRect) (fun p => scM0_1.view.readCov (kernelRun0_C.sl.HS1_8 c arg4 arg5 arg6 arg8 x0 x1 x2 x4 xa0 xa1 xa3) (rLp p).toLoadRect) := rfl

/-- What a point of path D loads. -/
def ldD (c : Dev nD) (arg4 arg5 arg6 : MemQ) (arg8 : MemT) (x0 x1 x2 : ArrQ F) (x4 : ArrT F) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) : Loads F where
  q := fun r => View.readAt (Elt F) arg4.view (rQ r).toLoadRect (arg4.view.rep x0)
  k := View.readAt (Elt F) arg5.view (Rect.unit (s := S1x256x512) ![0, 0, 0] S1x256x512.size inb_S1x256x512_S1x256x512_0_0_0).toLoadRect (arg5.view.rep x1)
  v := View.readAt (Elt F) arg6.view (Rect.unit (s := S1x256x512) ![0, 0, 0] S1x256x512.size inb_S1x256x512_S1x256x512_0_0_0).toLoadRect (arg6.view.rep x2)
  t := View.readAt (Elt F) arg8.view (Rect.unit (s := S1x8x256) ![0, 0, 0] S1x8x256.size inb_S1x8x256_S1x8x256_0_0_0).toLoadRect (arg8.view.rep x4)
  cq := fun h r => View.readAt (Elt F) scM0_3.view (rH h r).toLoadRect xa3
  m := fun h r => View.readAt (Elt F) scM0_0.view (rH h r).toLoadRect xa0
  m' := fun h r => View.readAt (Elt F) scM0_0.view (rH h r).toLoadRect xa0
  l := fun p r => View.readAt (Elt F) scM0_1.view (rL p r).toLoadRect xa1
  a := fun p r => View.readAt (Elt F) scM0_2.view (rA p r).toLoadRect xa2

theorem hsD0_eq (c : Dev nD) (arg4 arg5 arg6 : MemQ) (arg8 : MemT) (x0 x1 x2 : ArrQ F) (x4 : ArrT F) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) : kernelRun0_D.sl.HS0_16 c arg4 arg5 arg8 x0 x1 x4 xa0 xa3 = (ldD c arg4 arg5 arg6 arg8 x0 x1 x2 x4 xa0 xa1 xa2 xa3).listM false [] := by
  rw [Loads.listM]
  simp only [Loads.pm_00, Loads.pm_01, Loads.pm_10, Loads.pm_11, Loads.pm_20, Loads.pm_21, Loads.pm_30, Loads.pm_31, Loads.pm_40, Loads.pm_41, Loads.pm_50, Loads.pm_51, Loads.pm_60, Loads.pm_61, Loads.pm_70, Loads.pm_71, Loads.s_f00, Loads.s_f01, Loads.s_f10, Loads.s_f11, Loads.s_f20, Loads.s_f21, Loads.s_f30, Loads.s_f31, Loads.s_f40, Loads.s_f41, Loads.s_f50, Loads.s_f51, Loads.s_f60, Loads.s_f61, Loads.s_f70, Loads.s_f71]
  dsimp only [ldD]
  rfl

theorem hsD1_eq (c : Dev nD) (arg4 arg5 arg6 : MemQ) (arg8 : MemT) (x0 x1 x2 : ArrQ F) (x4 : ArrT F) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) : kernelRun0_D.sl.HS1_8 c arg4 arg5 arg6 arg8 x0 x1 x2 x4 xa0 xa1 xa3 = (ldD c arg4 arg5 arg6 arg8 x0 x1 x2 x4 xa0 xa1 xa2 xa3).listL false [] := by
  rw [Loads.listL]
  simp only [Loads.pl_00, Loads.pl_01, Loads.pl_10, Loads.pl_11, Loads.pl_20, Loads.pl_21, Loads.pl_30, Loads.pl_31, Loads.s_f00, Loads.s_f01, Loads.s_f10, Loads.s_f11, Loads.s_f20, Loads.s_f21, Loads.s_f30, Loads.s_f31, Loads.s_f40, Loads.s_f41, Loads.s_f50, Loads.s_f51, Loads.s_f60, Loads.s_f61, Loads.s_f70, Loads.s_f71]
  dsimp only [ldD]
  rfl

theorem hsD2_eq (c : Dev nD) (arg4 arg5 arg6 : MemQ) (arg8 : MemT) (x0 x1 x2 : ArrQ F) (x4 : ArrT F) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) : kernelRun0_D.sl.HS2_8 c arg4 arg5 arg6 arg8 x0 x1 x2 x4 xa0 xa2 xa3 = (ldD c arg4 arg5 arg6 arg8 x0 x1 x2 x4 xa0 xa1 xa2 xa3).listA false [] := by
  rw [Loads.listA]
  simp only [Loads.pa_00, Loads.pa_01, Loads.pa_10, Loads.pa_11, Loads.pa_20, Loads.pa_21, Loads.pa_30, Loads.pa_31, Loads.s_f00, Loads.s_f01, Loads.s_f10, Loads.s_f11, Loads.s_f20, Loads.s_f21, Loads.s_f30, Loads.s_f31, Loads.s_f40, Loads.s_f41, Loads.s_f50, Loads.s_f51, Loads.s_f60, Loads.s_f61, Loads.s_f70, Loads.s_f71]
  dsimp only [ldD]
  rfl

end Cert.Fox

end
-- ==== Proof.Fox.Left.lean ====
/- The lists of stores behind each control path's contents. -/
module

public import proofs.«01_k».proof.Proof.Fox.Runs

@[expose] public section

set_option maxRecDepth 16384

noncomputable section

namespace Cert.Fox

open Cert.KernelIdeal Cert.KernelIdeal.Gen
open Idealize.ShloMosaic
open Idealize.ShloMosaic.TcCoe Idealize.SL.Sem

variable {F : FTy → Type} [FloatOps F] [Named F]

set_option maxHeartbeats 1000000 in
/-- What path A leaves, as its lists of stores. -/
theorem runA (c : Dev nD) (i : grid0.Coords) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x128 .f32) (harg7 : arg7.IsWhole) (arg8 : Memref sig .tc .vmem S1x8x256 .f32) (harg8 : arg8.IsWhole) (arg9 : Memref sig .tc .vmem S1x256x512 .f32) (harg9 : arg9.IsWhole) (T0 : (S136.Idx → Elt F .i32)) (T1 : (S136.Idx → Elt F .i32))      (x0 : (S1x256x512.Idx → Elt F .f32)) (x1 : (S1x256x512.Idx → Elt F .f32)) (x2 : (S1x256x512.Idx → Elt F .f32)) (x3 : (S1x256x128.Idx → Elt F .f32)) (x4 : (S1x8x256.Idx → Elt F .f32)) (hc0 : (Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt F) (tbM0_1).view (Rect.unit (s := S136) (k0_off1 i) S1.size (k0_off1_inb i)).toLoadRect T1 (Shape.Idx.first (numel1_S1.symm ▸ Nat.one_pos))) (View.readAt (Elt F) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) :
    (kernelRun0_A (F := F) c i arg4 harg4 arg5 harg5 arg6 harg6 arg7 harg7 arg8 harg8 arg9 harg9 T0 T1 x0 x1 x2 x3 x4 hc0 hc1 k0_h3).2.1 = scM0_0.view.writes (Elt F) scM0_0.view.junk (kernelRun0_A.sl.HS0_17 arg4 arg5 arg7 arg8 x0 x1 x3 x4)
      ∧ (kernelRun0_A (F := F) c i arg4 harg4 arg5 harg5 arg6 harg6 arg7 harg7 arg8 harg8 arg9 harg9 T0 T1 x0 x1 x2 x3 x4 hc0 hc1 k0_h3).2.2.1 = scM0_1.view.writes (Elt F) scM0_1.view.junk (kernelRun0_A.sl.HS1_9 arg4 arg5 arg6 arg7 arg8 x0 x1 x2 x3 x4)
      ∧ (kernelRun0_A (F := F) c i arg4 harg4 arg5 harg5 arg6 harg6 arg7 harg7 arg8 harg8 arg9 harg9 T0 T1 x0 x1 x2 x3 x4 hc0 hc1 k0_h3).2.2.2.1 = scM0_2.view.writes (Elt F) scM0_2.view.junk (kernelRun0_A.sl.HS2_9 arg4 arg5 arg6 arg7 arg8 x0 x1 x2 x3 x4)
      ∧ (kernelRun0_A (F := F) c i arg4 harg4 arg5 harg5 arg6 harg6 arg7 harg7 arg8 harg8 arg9 harg9 T0 T1 x0 x1 x2 x3 x4 hc0 hc1 k0_h3).2.2.2.2.1 = scM0_3.view.writes (Elt F) scM0_3.view.junk (kernelRun0_A.sl.HS3_8 arg7 x3)
      ∧ (kernelRun0_A (F := F) c i arg4 harg4 arg5 harg5 arg6 harg6 arg7 harg7 arg8 harg8 arg9 harg9 T0 T1 x0 x1 x2 x3 x4 hc0 hc1 k0_h3).1 = kernelRun0_A.sl.HO5_4 arg4 arg5 arg6 arg7 arg8 x0 x1 x2 x3 x4 := by
  refine ⟨?_, ?_, ?_, ?_, ?_⟩ <;> (unfold kernelRun0_A; rfl)

set_option maxHeartbeats 1000000 in
/-- What path B leaves, as its lists of stores. -/
theorem runB (c : Dev nD) (i : grid0.Coords) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x128 .f32) (harg7 : arg7.IsWhole) (arg8 : Memref sig .tc .vmem S1x8x256 .f32) (harg8 : arg8.IsWhole) (arg9 : Memref sig .tc .vmem S1x256x512 .f32) (harg9 : arg9.IsWhole) (T0 : (S136.Idx → Elt F .i32)) (T1 : (S136.Idx → Elt F .i32))      (x0 : (S1x256x512.Idx → Elt F .f32)) (x1 : (S1x256x512.Idx → Elt F .f32)) (x2 : (S1x256x512.Idx → Elt F .f32)) (x3 : (S1x256x128.Idx → Elt F .f32)) (x4 : (S1x8x256.Idx → Elt F .f32)) (hc0 : (Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt F) (tbM0_1).view (Rect.unit (s := S136) (k0_off1 i) S1.size (k0_off1_inb i)).toLoadRect T1 (Shape.Idx.first (numel1_S1.symm ▸ Nat.one_pos))) (View.readAt (Elt F) (tbM0_0).view (Rect.unit (s := S136) (k0_off1 i) S1.size (k0_off1_inb i)).toLoadRect T0 (Shape.Idx.first (numel1_S1.symm ▸ Nat.one_pos))))) 0#32) = 1#1) (k0_h3 : ¬(k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1)) :
    (kernelRun0_B (F := F) c i arg4 harg4 arg5 harg5 arg6 harg6 arg7 harg7 arg8 harg8 arg9 harg9 T0 T1 x0 x1 x2 x3 x4 hc0 hc1 k0_h3).1 = scM0_0.view.writes (Elt F) scM0_0.view.junk (kernelRun0_B.sl.HS0_17 arg4 arg5 arg7 arg8 x0 x1 x3 x4)
      ∧ (kernelRun0_B (F := F) c i arg4 harg4 arg5 harg5 arg6 harg6 arg7 harg7 arg8 harg8 arg9 harg9 T0 T1 x0 x1 x2 x3 x4 hc0 hc1 k0_h3).2.1 = scM0_1.view.writes (Elt F) scM0_1.view.junk (kernelRun0_B.sl.HS1_9 arg4 arg5 arg6 arg7 arg8 x0 x1 x2 x3 x4)
      ∧ (kernelRun0_B (F := F) c i arg4 harg4 arg5 harg5 arg6 harg6 arg7 harg7 arg8 harg8 arg9 harg9 T0 T1 x0 x1 x2 x3 x4 hc0 hc1 k0_h3).2.2.1 = scM0_2.view.writes (Elt F) scM0_2.view.junk (kernelRun0_B.sl.HS2_9 arg4 arg5 arg6 arg7 arg8 x0 x1 x2 x3 x4)
      ∧ (kernelRun0_B (F := F) c i arg4 harg4 arg5 harg5 arg6 harg6 arg7 harg7 arg8 harg8 arg9 harg9 T0 T1 x0 x1 x2 x3 x4 hc0 hc1 k0_h3).2.2.2.1 = scM0_3.view.writes (Elt F) scM0_3.view.junk (kernelRun0_B.sl.HS3_8 arg7 x3) := by
  refine ⟨?_, ?_, ?_, ?_⟩ <;> (unfold kernelRun0_B; rfl)

/-- What path C leaves, as its lists of stores. -/
theorem runC (c : Dev nD) (i : grid0.Coords) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x128 .f32) (harg7 : arg7.IsWhole) (arg8 : Memref sig .tc .vmem S1x8x256 .f32) (harg8 : arg8.IsWhole) (arg9 : Memref sig .tc .vmem S1x256x512 .f32) (harg9 : arg9.IsWhole) (T0 : (S136.Idx → Elt F .i32)) (T1 : (S136.Idx → Elt F .i32))      (x0 : (S1x256x512.Idx → Elt F .f32)) (x1 : (S1x256x512.Idx → Elt F .f32)) (x2 : (S1x256x512.Idx → Elt F .f32)) (x3 : (S1x256x128.Idx → Elt F .f32)) (x4 : (S1x8x256.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (hc0 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt F) (tbM0_1).view (Rect.unit (s := S136) (k0_off1 i) S1.size (k0_off1_inb i)).toLoadRect T1 (Shape.Idx.first (numel1_S1.symm ▸ Nat.one_pos))) (View.readAt (Elt F) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) :
    (kernelRun0_C (F := F) c i arg4 harg4 arg5 harg5 arg6 harg6 arg7 harg7 arg8 harg8 arg9 harg9 T0 T1 x0 x1 x2 x3 x4 xa0 xa1 xa2 xa3 hc0 hc1 k0_h3).2.1 = scM0_0.view.writes (Elt F) scM0_0.view.junk (kernelRun0_C.sl.HS0_16 c arg4 arg5 arg8 x0 x1 x4 xa0 xa3)
      ∧ (kernelRun0_C (F := F) c i arg4 harg4 arg5 harg5 arg6 harg6 arg7 harg7 arg8 harg8 arg9 harg9 T0 T1 x0 x1 x2 x3 x4 xa0 xa1 xa2 xa3 hc0 hc1 k0_h3).2.2.1 = scM0_1.view.writes (Elt F) scM0_1.view.junk (kernelRun0_C.sl.HS1_8 c arg4 arg5 arg6 arg8 x0 x1 x2 x4 xa0 xa1 xa3)
      ∧ (kernelRun0_C (F := F) c i arg4 harg4 arg5 harg5 arg6 harg6 arg7 harg7 arg8 harg8 arg9 harg9 T0 T1 x0 x1 x2 x3 x4 xa0 xa1 xa2 xa3 hc0 hc1 k0_h3).2.2.2.1 = scM0_2.view.writes (Elt F) scM0_2.view.junk (kernelRun0_C.sl.HS2_8 c arg4 arg5 arg6 arg8 x0 x1 x2 x4 xa0 xa2 xa3)
      ∧ (kernelRun0_C (F := F) c i arg4 harg4 arg5 harg5 arg6 harg6 arg7 harg7 arg8 harg8 arg9 harg9 T0 T1 x0 x1 x2 x3 x4 xa0 xa1 xa2 xa3 hc0 hc1 k0_h3).2.2.2.2.1 = xa3
      ∧ (kernelRun0_C (F := F) c i arg4 harg4 arg5 harg5 arg6 harg6 arg7 harg7 arg8 harg8 arg9 harg9 T0 T1 x0 x1 x2 x3 x4 xa0 xa1 xa2 xa3 hc0 hc1 k0_h3).1 = kernelRun0_C.sl.HO5_4 c arg4 arg5 arg6 arg8 x0 x1 x2 x4 xa0 xa1 xa2 xa3 := by
  refine ⟨?_, ?_, ?_, ?_, ?_⟩ <;> (unfold kernelRun0_C; rfl)

/-- What path D leaves, as its lists of stores. -/
theorem runD (c : Dev nD) (i : grid0.Coords) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x128 .f32) (harg7 : arg7.IsWhole) (arg8 : Memref sig .tc .vmem S1x8x256 .f32) (harg8 : arg8.IsWhole) (arg9 : Memref sig .tc .vmem S1x256x512 .f32) (harg9 : arg9.IsWhole) (T0 : (S136.Idx → Elt F .i32)) (T1 : (S136.Idx → Elt F .i32))      (x0 : (S1x256x512.Idx → Elt F .f32)) (x1 : (S1x256x512.Idx → Elt F .f32)) (x2 : (S1x256x512.Idx → Elt F .f32)) (x3 : (S1x256x128.Idx → Elt F .f32)) (x4 : (S1x8x256.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (hc0 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt F) (tbM0_1).view (Rect.unit (s := S136) (k0_off1 i) S1.size (k0_off1_inb i)).toLoadRect T1 (Shape.Idx.first (numel1_S1.symm ▸ Nat.one_pos))) (View.readAt (Elt F) (tbM0_0).view (Rect.unit (s := S136) (k0_off1 i) S1.size (k0_off1_inb i)).toLoadRect T0 (Shape.Idx.first (numel1_S1.symm ▸ Nat.one_pos))))) 0#32) = 1#1) (k0_h3 : ¬(k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1)) :
    (kernelRun0_D (F := F) c i arg4 harg4 arg5 harg5 arg6 harg6 arg7 harg7 arg8 harg8 arg9 harg9 T0 T1 x0 x1 x2 x3 x4 xa0 xa1 xa2 xa3 hc0 hc1 k0_h3).1 = scM0_0.view.writes (Elt F) scM0_0.view.junk (kernelRun0_D.sl.HS0_16 c arg4 arg5 arg8 x0 x1 x4 xa0 xa3)
      ∧ (kernelRun0_D (F := F) c i arg4 harg4 arg5 harg5 arg6 harg6 arg7 harg7 arg8 harg8 arg9 harg9 T0 T1 x0 x1 x2 x3 x4 xa0 xa1 xa2 xa3 hc0 hc1 k0_h3).2.1 = scM0_1.view.writes (Elt F) scM0_1.view.junk (kernelRun0_D.sl.HS1_8 c arg4 arg5 arg6 arg8 x0 x1 x2 x4 xa0 xa1 xa3)
      ∧ (kernelRun0_D (F := F) c i arg4 harg4 arg5 harg5 arg6 harg6 arg7 harg7 arg8 harg8 arg9 harg9 T0 T1 x0 x1 x2 x3 x4 xa0 xa1 xa2 xa3 hc0 hc1 k0_h3).2.2.1 = scM0_2.view.writes (Elt F) scM0_2.view.junk (kernelRun0_D.sl.HS2_8 c arg4 arg5 arg6 arg8 x0 x1 x2 x4 xa0 xa2 xa3)
      ∧ (kernelRun0_D (F := F) c i arg4 harg4 arg5 harg5 arg6 harg6 arg7 harg7 arg8 harg8 arg9 harg9 T0 T1 x0 x1 x2 x3 x4 xa0 xa1 xa2 xa3 hc0 hc1 k0_h3).2.2.2.1 = xa3 := by
  refine ⟨?_, ?_, ?_, ?_⟩ <;> (unfold kernelRun0_D; rfl)

end Cert.Fox

end
-- ==== Proof.Fox.Points.lean ====
/- What each control path leaves, over the extended reals, as arrays. -/
module

public import proofs.«01_k».proof.Proof.Fox.Blocks
public import proofs.«01_k».proof.Proof.Fox.Stores
public import proofs.«01_k».proof.Proof.Fox.Left
public import proofs.«01_k».proof.Proof.Fox.Body
public import proofs.«01_k».proof.Proof.Fox.DecidedIdeal

@[expose] public section

set_option maxRecDepth 16384

noncomputable section

namespace Cert.Fox

open Cert.KernelIdeal Cert.KernelIdeal.Gen
open Idealize.ShloMosaic
open Idealize.ShloMosaic.TcCoe Idealize.SL.Sem

/-- The scratches' contents as arrays. -/
abbrev rd0 (c : Dev nD) (x : Buf (Elt Ideal) ((c : Thread nD τ).loc cc0_scratch0)) : FVec Ideal S8x256x128 .f32 := scM0_0.view.read (Elt Ideal) x
abbrev rd1 (c : Dev nD) (x : Buf (Elt Ideal) ((c : Thread nD τ).loc cc0_scratch1)) : FVec Ideal S4x256x128 .f32 := scM0_1.view.read (Elt Ideal) x
abbrev rd2 (c : Dev nD) (x : Buf (Elt Ideal) ((c : Thread nD τ).loc cc0_scratch2)) : FVec Ideal S256x512 .f32 := scM0_2.view.read (Elt Ideal) x
abbrev rd3 (c : Dev nD) (x : Buf (Elt Ideal) ((c : Thread nD τ).loc cc0_scratch3)) : FVec Ideal S8x256x128 .f32 := scM0_3.view.read (Elt Ideal) x

/-- A load of a whole block is the block. -/
theorem whole3 {a b d : ℕ} (v : View sig .tc .vmem ⟨3, ![a, b, d]⟩ .f32) (x : (⟨3, ![a, b, d]⟩ : Shape).Idx → Elt Ideal .f32)
    (inb : ∀ e, (![0, 0, 0] : Fin 3 → ℕ) e + (⟨3, ![a, b, d]⟩ : Shape).size e ≤ (⟨3, ![a, b, d]⟩ : Shape).size e) :
    View.readAt (Elt Ideal) v (Rect.unit (s := ⟨3, ![a, b, d]⟩) ![0, 0, 0] (⟨3, ![a, b, d]⟩ : Shape).size inb).toLoadRect (v.rep x) = x := by
  rw [View.readAt_rep]
  funext y
  refine congrArg x (funext fun e => Fin.ext ?_)
  show ![0, 0, 0] e + 1 * (y e).val = (y e).val
  fin_cases e <;> simp

theorem ldA_blk (arg4 : Memref sig .tc .vmem S1x256x512 .f32) (arg5 : Memref sig .tc .vmem S1x256x512 .f32) (arg6 : Memref sig .tc .vmem S1x256x512 .f32) (arg7 : Memref sig .tc .vmem S1x256x128 .f32) (arg8 : Memref sig .tc .vmem S1x8x256 .f32) (x0 : FVec Ideal S1x256x512 .f32) (x1 : FVec Ideal S1x256x512 .f32) (x2 : FVec Ideal S1x256x512 .f32) (x3 : FVec Ideal S1x256x128 .f32) (x4 : FVec Ideal S1x8x256 .f32) :
    ldA (F := Ideal) arg4 arg5 arg6 arg7 arg8 x0 x1 x2 x3 x4 = (Blk.mk x0 x1 x2 x4 (newC x3) (fun _ => ⊥) (fun _ => 0) (fun _ => 0)).loads := by
  rw [ldA, Blk.loads, Loads.mk.injEq]
  refine ⟨funext fun r => View.readAt_rep _ _ _, whole3 _ _ _, whole3 _ _ _, whole3 _ _ _, ?_, rfl, rfl, ?_, ?_⟩
  · funext h r
    rw [View.readCov_eq_canon', hsA3_eq, canonC, whole3]
  · funext p r y
    show Ideal.ofBits .f32 0x00000000#32 = 0
    simp [Ideal.ofBits, Ideal.ieee]
  · funext p r y
    show Ideal.ofBits .f32 0x00000000#32 = 0
    simp [Ideal.ofBits, Ideal.ieee]

theorem ldB_blk (arg4 : Memref sig .tc .vmem S1x256x512 .f32) (arg5 : Memref sig .tc .vmem S1x256x512 .f32) (arg6 : Memref sig .tc .vmem S1x256x512 .f32) (arg7 : Memref sig .tc .vmem S1x256x128 .f32) (arg8 : Memref sig .tc .vmem S1x8x256 .f32) (x0 : FVec Ideal S1x256x512 .f32) (x1 : FVec Ideal S1x256x512 .f32) (x2 : FVec Ideal S1x256x512 .f32) (x3 : FVec Ideal S1x256x128 .f32) (x4 : FVec Ideal S1x8x256 .f32) :
    ldB (F := Ideal) arg4 arg5 arg6 arg7 arg8 x0 x1 x2 x3 x4 = (Blk.mk x0 x1 x2 x4 (newC x3) (fun _ => ⊥) (fun _ => 0) (fun _ => 0)).loads := by
  rw [ldB, Blk.loads, Loads.mk.injEq]
  refine ⟨funext fun r => View.readAt_rep _ _ _, whole3 _ _ _, whole3 _ _ _, whole3 _ _ _, ?_, rfl, rfl, ?_, ?_⟩
  · funext h r
    rw [View.readCov_eq_canon', hsB3_eq, canonC, whole3]
  · funext p r y
    show Ideal.ofBits .f32 0x00000000#32 = 0
    simp [Ideal.ofBits, Ideal.ieee]
  · funext p r y
    show Ideal.ofBits .f32 0x00000000#32 = 0
    simp [Ideal.ofBits, Ideal.ieee]

theorem ldC_blk (c : Dev nD) (arg4 : Memref sig .tc .vmem S1x256x512 .f32) (arg5 : Memref sig .tc .vmem S1x256x512 .f32) (arg6 : Memref sig .tc .vmem S1x256x512 .f32) (arg8 : Memref sig .tc .vmem S1x8x256 .f32) (x0 : FVec Ideal S1x256x512 .f32) (x1 : FVec Ideal S1x256x512 .f32) (x2 : FVec Ideal S1x256x512 .f32) (x4 : FVec Ideal S1x8x256 .f32) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) :
    ldC (F := Ideal) c arg4 arg5 arg6 arg8 x0 x1 x2 x4 xa0 xa1 xa2 xa3 = (Blk.mk x0 x1 x2 x4 (rd3 c xa3) (rd0 c xa0) (rd1 c xa1) (rd2 c xa2)).loads := by
  rw [ldC, Blk.loads, Loads.mk.injEq]
  exact ⟨funext fun r => View.readAt_rep _ _ _, whole3 _ _ _, whole3 _ _ _, whole3 _ _ _, rfl, rfl, rfl, rfl, rfl⟩

theorem ldD_blk (c : Dev nD) (arg4 : Memref sig .tc .vmem S1x256x512 .f32) (arg5 : Memref sig .tc .vmem S1x256x512 .f32) (arg6 : Memref sig .tc .vmem S1x256x512 .f32) (arg8 : Memref sig .tc .vmem S1x8x256 .f32) (x0 : FVec Ideal S1x256x512 .f32) (x1 : FVec Ideal S1x256x512 .f32) (x2 : FVec Ideal S1x256x512 .f32) (x4 : FVec Ideal S1x8x256 .f32) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) :
    ldD (F := Ideal) c arg4 arg5 arg6 arg8 x0 x1 x2 x4 xa0 xa1 xa2 xa3 = (Blk.mk x0 x1 x2 x4 (rd3 c xa3) (rd0 c xa0) (rd1 c xa1) (rd2 c xa2)).loads := by
  rw [ldD, Blk.loads, Loads.mk.injEq]
  exact ⟨funext fun r => View.readAt_rep _ _ _, whole3 _ _ _, whole3 _ _ _, whole3 _ _ _, rfl, rfl, rfl, rfl, rfl⟩

/-- The state a point works on: the block windows, the scratches. -/
abbrev St (c : Dev nD) : Type := (S1x256x512.Idx → Elt Ideal .f32) × Buf (Elt Ideal) ((c : Thread nD τ).loc cc0_scratch0) × Buf (Elt Ideal) ((c : Thread nD τ).loc cc0_scratch1)
  × Buf (Elt Ideal) ((c : Thread nD τ).loc cc0_scratch2) × Buf (Elt Ideal) ((c : Thread nD τ).loc cc0_scratch3)

variable (m : (ℓ : Loc nD τ sig) → Buf (Elt Ideal) ℓ) (ρ : Dev nD → PrngReg)

/-- The point's blocks with the scratches as found, and with the scratches reset. -/
def found (c : Dev nD) (t : Fin (cfgA Ideal).N) (prev : St c) : Blk :=
  ⟨iblk Ideal m ρ c (0 : Fin 6) t, iblk Ideal m ρ c (1 : Fin 6) t, iblk Ideal m ρ c (2 : Fin 6) t, iblk Ideal m ρ c (4 : Fin 6) t,
    rd3 c prev.2.2.2.2, rd0 c prev.2.1, rd1 c prev.2.2.1, rd2 c prev.2.2.2.1⟩
def reset (c : Dev nD) (t : Fin (cfgA Ideal).N) : Blk :=
  ⟨iblk Ideal m ρ c (0 : Fin 6) t, iblk Ideal m ρ c (1 : Fin 6) t, iblk Ideal m ρ c (2 : Fin 6) t, iblk Ideal m ρ c (4 : Fin 6) t,
    newC (iblk Ideal m ρ c (3 : Fin 6) t), fun _ => ⊥, fun _ => 0, fun _ => 0⟩

/-- The state after a point that left the block `B` of it. -/
structure Left (c : Dev nD) (B : Blk) (dg : Bool) (s : St c) : Prop where
  m : rd0 c s.2.1 = B.newM dg
  l : rd1 c s.2.2.1 = B.newL dg
  a : rd2 c s.2.2.2.1 = B.newA dg
  c' : rd3 c s.2.2.2.2 = B.C
  o : dg = true → s.1 = newO (B.newL dg) (B.newA dg)

theorem point_A (c : Dev nD) (t : Fin (cfgA Ideal).N) (prev : St c) (q0 : P0_0 Ideal t) (q1 : ¬P0_1 Ideal t) :
    Left c (reset m ρ c t) true (step0 Ideal m ρ c t prev) := by
  rw [step0_A Ideal m ρ c t prev q0 q1]
  have e0 : View.canon (Val := Elt Ideal) (kernelRun0_A.sl.HS0_17 (ms0_0 Ideal t) (ms0_1 Ideal t) (ms0_3 Ideal t) (ms0_4 Ideal t) (iblk Ideal m ρ c (0 : Fin 6) t) (iblk Ideal m ρ c (1 : Fin 6) t) (iblk Ideal m ρ c (3 : Fin 6) t) (iblk Ideal m ρ c (4 : Fin 6) t)) = (reset m ρ c t).newM true := by
    rw [hsA0_eq (ms0_0 Ideal t) (ms0_1 Ideal t) (ms0_2 Ideal t) (ms0_3 Ideal t) (ms0_4 Ideal t) (iblk Ideal m ρ c (0 : Fin 6) t) (iblk Ideal m ρ c (1 : Fin 6) t) (iblk Ideal m ρ c (2 : Fin 6) t) (iblk Ideal m ρ c (3 : Fin 6) t) (iblk Ideal m ρ c (4 : Fin 6) t), ldA_blk]
    exact Blk.canonM _ _ _
  have e1 : View.canon (Val := Elt Ideal) (kernelRun0_A.sl.HS1_9 (ms0_0 Ideal t) (ms0_1 Ideal t) (ms0_2 Ideal t) (ms0_3 Ideal t) (ms0_4 Ideal t) (iblk Ideal m ρ c (0 : Fin 6) t) (iblk Ideal m ρ c (1 : Fin 6) t) (iblk Ideal m ρ c (2 : Fin 6) t) (iblk Ideal m ρ c (3 : Fin 6) t) (iblk Ideal m ρ c (4 : Fin 6) t)) = (reset m ρ c t).newL true := by
    rw [hsA1_eq (ms0_0 Ideal t) (ms0_1 Ideal t) (ms0_2 Ideal t) (ms0_3 Ideal t) (ms0_4 Ideal t) (iblk Ideal m ρ c (0 : Fin 6) t) (iblk Ideal m ρ c (1 : Fin 6) t) (iblk Ideal m ρ c (2 : Fin 6) t) (iblk Ideal m ρ c (3 : Fin 6) t) (iblk Ideal m ρ c (4 : Fin 6) t), ldA_blk]
    exact Blk.canonL _ _ _
  have e2 : View.canon (Val := Elt Ideal) (kernelRun0_A.sl.HS2_9 (ms0_0 Ideal t) (ms0_1 Ideal t) (ms0_2 Ideal t) (ms0_3 Ideal t) (ms0_4 Ideal t) (iblk Ideal m ρ c (0 : Fin 6) t) (iblk Ideal m ρ c (1 : Fin 6) t) (iblk Ideal m ρ c (2 : Fin 6) t) (iblk Ideal m ρ c (3 : Fin 6) t) (iblk Ideal m ρ c (4 : Fin 6) t)) = (reset m ρ c t).newA true := by
    rw [hsA2_eq (ms0_0 Ideal t) (ms0_1 Ideal t) (ms0_2 Ideal t) (ms0_3 Ideal t) (ms0_4 Ideal t) (iblk Ideal m ρ c (0 : Fin 6) t) (iblk Ideal m ρ c (1 : Fin 6) t) (iblk Ideal m ρ c (2 : Fin 6) t) (iblk Ideal m ρ c (3 : Fin 6) t) (iblk Ideal m ρ c (4 : Fin 6) t), ldA_blk]
    exact Blk.canonA _ _ _
  refine ⟨?_, ?_, ?_, ?_, ?_⟩ <;> dsimp only
  · rw [(runA ..).1]; exact (View.read_writes_junk_eq_canon _ _).trans e0
  · rw [(runA ..).2.1]; exact (View.read_writes_junk_eq_canon _ _).trans e1
  · rw [(runA ..).2.2.1]; exact (View.read_writes_junk_eq_canon _ _).trans e2
  · rw [(runA ..).2.2.2.1]
    refine (View.read_writes_junk_eq_canon _ _).trans ?_
    show View.canon (Val := Elt Ideal) (kernelRun0_A.sl.HS3_8 (ms0_3 Ideal t) (iblk Ideal m ρ c (3 : Fin 6) t)) = _
    rw [hsA3_eq, canonC, whole3]
    rfl
  · intro _
    rw [out0_A_5, (runA ..).2.2.2.2]
    refine (View.read_writes_junk_eq_canon _ _).trans ?_
    show View.canon (Val := Elt Ideal) (kernelRun0_A.sl.HO5_4 (ms0_0 Ideal t) (ms0_1 Ideal t) (ms0_2 Ideal t) (ms0_3 Ideal t) (ms0_4 Ideal t) (iblk Ideal m ρ c (0 : Fin 6) t) (iblk Ideal m ρ c (1 : Fin 6) t) (iblk Ideal m ρ c (2 : Fin 6) t) (iblk Ideal m ρ c (3 : Fin 6) t) (iblk Ideal m ρ c (4 : Fin 6) t)) = _
    rw [hoA_eq]
    simp only [View.readCov_eq_canon']
    rw [e1, e2]
    exact canonO _ _

theorem point_B (c : Dev nD) (t : Fin (cfgA Ideal).N) (prev : St c) (q0 : P0_0 Ideal t) (q1 : P0_1 Ideal t) :
    Left c (reset m ρ c t) false (step0 Ideal m ρ c t prev) := by
  rw [step0_B Ideal m ρ c t prev q0 q1]
  have e0 : View.canon (Val := Elt Ideal) (kernelRun0_B.sl.HS0_17 (ms0_0 Ideal t) (ms0_1 Ideal t) (ms0_3 Ideal t) (ms0_4 Ideal t) (iblk Ideal m ρ c (0 : Fin 6) t) (iblk Ideal m ρ c (1 : Fin 6) t) (iblk Ideal m ρ c (3 : Fin 6) t) (iblk Ideal m ρ c (4 : Fin 6) t)) = (reset m ρ c t).newM false := by
    rw [hsB0_eq (ms0_0 Ideal t) (ms0_1 Ideal t) (ms0_2 Ideal t) (ms0_3 Ideal t) (ms0_4 Ideal t) (iblk Ideal m ρ c (0 : Fin 6) t) (iblk Ideal m ρ c (1 : Fin 6) t) (iblk Ideal m ρ c (2 : Fin 6) t) (iblk Ideal m ρ c (3 : Fin 6) t) (iblk Ideal m ρ c (4 : Fin 6) t), ldB_blk]
    exact Blk.canonM _ _ _
  have e1 : View.canon (Val := Elt Ideal) (kernelRun0_B.sl.HS1_9 (ms0_0 Ideal t) (ms0_1 Ideal t) (ms0_2 Ideal t) (ms0_3 Ideal t) (ms0_4 Ideal t) (iblk Ideal m ρ c (0 : Fin 6) t) (iblk Ideal m ρ c (1 : Fin 6) t) (iblk Ideal m ρ c (2 : Fin 6) t) (iblk Ideal m ρ c (3 : Fin 6) t) (iblk Ideal m ρ c (4 : Fin 6) t)) = (reset m ρ c t).newL false := by
    rw [hsB1_eq (ms0_0 Ideal t) (ms0_1 Ideal t) (ms0_2 Ideal t) (ms0_3 Ideal t) (ms0_4 Ideal t) (iblk Ideal m ρ c (0 : Fin 6) t) (iblk Ideal m ρ c (1 : Fin 6) t) (iblk Ideal m ρ c (2 : Fin 6) t) (iblk Ideal m ρ c (3 : Fin 6) t) (iblk Ideal m ρ c (4 : Fin 6) t), ldB_blk]
    exact Blk.canonL _ _ _
  have e2 : View.canon (Val := Elt Ideal) (kernelRun0_B.sl.HS2_9 (ms0_0 Ideal t) (ms0_1 Ideal t) (ms0_2 Ideal t) (ms0_3 Ideal t) (ms0_4 Ideal t) (iblk Ideal m ρ c (0 : Fin 6) t) (iblk Ideal m ρ c (1 : Fin 6) t) (iblk Ideal m ρ c (2 : Fin 6) t) (iblk Ideal m ρ c (3 : Fin 6) t) (iblk Ideal m ρ c (4 : Fin 6) t)) = (reset m ρ c t).newA false := by
    rw [hsB2_eq (ms0_0 Ideal t) (ms0_1 Ideal t) (ms0_2 Ideal t) (ms0_3 Ideal t) (ms0_4 Ideal t) (iblk Ideal m ρ c (0 : Fin 6) t) (iblk Ideal m ρ c (1 : Fin 6) t) (iblk Ideal m ρ c (2 : Fin 6) t) (iblk Ideal m ρ c (3 : Fin 6) t) (iblk Ideal m ρ c (4 : Fin 6) t), ldB_blk]
    exact Blk.canonA _ _ _
  refine ⟨?_, ?_, ?_, ?_, ?_⟩ <;> dsimp only
  · rw [(runB ..).1]; exact (View.read_writes_junk_eq_canon _ _).trans e0
  · rw [(runB ..).2.1]; exact (View.read_writes_junk_eq_canon _ _).trans e1
  · rw [(runB ..).2.2.1]; exact (View.read_writes_junk_eq_canon _ _).trans e2
  · rw [(runB ..).2.2.2]
    refine (View.read_writes_junk_eq_canon _ _).trans ?_
    show View.canon (Val := Elt Ideal) (kernelRun0_B.sl.HS3_8 (ms0_3 Ideal t) (iblk Ideal m ρ c (3 : Fin 6) t)) = _
    rw [hsB3_eq, canonC, whole3]
    rfl
  · exact fun h => absurd h (by decide)

theorem point_C (c : Dev nD) (t : Fin (cfgA Ideal).N) (prev : St c) (q0 : ¬P0_0 Ideal t) (q1 : ¬P0_1 Ideal t) :
    Left c (found m ρ c t prev) true (step0 Ideal m ρ c t prev) := by
  rw [step0_C Ideal m ρ c t prev q0 q1]
  have e0 : View.canon (Val := Elt Ideal) (kernelRun0_C.sl.HS0_16 c (ms0_0 Ideal t) (ms0_1 Ideal t) (ms0_4 Ideal t) (iblk Ideal m ρ c (0 : Fin 6) t) (iblk Ideal m ρ c (1 : Fin 6) t) (iblk Ideal m ρ c (4 : Fin 6) t) prev.2.1 prev.2.2.2.2) = (found m ρ c t prev).newM true := by
    rw [hsC0_eq c (ms0_0 Ideal t) (ms0_1 Ideal t) (ms0_2 Ideal t) (ms0_4 Ideal t) (iblk Ideal m ρ c (0 : Fin 6) t) (iblk Ideal m ρ c (1 : Fin 6) t) (iblk Ideal m ρ c (2 : Fin 6) t) (iblk Ideal m ρ c (4 : Fin 6) t) prev.2.1 prev.2.2.1 prev.2.2.2.1 prev.2.2.2.2, ldC_blk]
    exact Blk.canonM _ _ _
  have e1 : View.canon (Val := Elt Ideal) (kernelRun0_C.sl.HS1_8 c (ms0_0 Ideal t) (ms0_1 Ideal t) (ms0_2 Ideal t) (ms0_4 Ideal t) (iblk Ideal m ρ c (0 : Fin 6) t) (iblk Ideal m ρ c (1 : Fin 6) t) (iblk Ideal m ρ c (2 : Fin 6) t) (iblk Ideal m ρ c (4 : Fin 6) t) prev.2.1 prev.2.2.1 prev.2.2.2.2) = (found m ρ c t prev).newL true := by
    rw [hsC1_eq c (ms0_0 Ideal t) (ms0_1 Ideal t) (ms0_2 Ideal t) (ms0_4 Ideal t) (iblk Ideal m ρ c (0 : Fin 6) t) (iblk Ideal m ρ c (1 : Fin 6) t) (iblk Ideal m ρ c (2 : Fin 6) t) (iblk Ideal m ρ c (4 : Fin 6) t) prev.2.1 prev.2.2.1 prev.2.2.2.1 prev.2.2.2.2, ldC_blk]
    exact Blk.canonL _ _ _
  have e2 : View.canon (Val := Elt Ideal) (kernelRun0_C.sl.HS2_8 c (ms0_0 Ideal t) (ms0_1 Ideal t) (ms0_2 Ideal t) (ms0_4 Ideal t) (iblk Ideal m ρ c (0 : Fin 6) t) (iblk Ideal m ρ c (1 : Fin 6) t) (iblk Ideal m ρ c (2 : Fin 6) t) (iblk Ideal m ρ c (4 : Fin 6) t) prev.2.1 prev.2.2.2.1 prev.2.2.2.2) = (found m ρ c t prev).newA true := by
    rw [hsC2_eq c (ms0_0 Ideal t) (ms0_1 Ideal t) (ms0_2 Ideal t) (ms0_4 Ideal t) (iblk Ideal m ρ c (0 : Fin 6) t) (iblk Ideal m ρ c (1 : Fin 6) t) (iblk Ideal m ρ c (2 : Fin 6) t) (iblk Ideal m ρ c (4 : Fin 6) t) prev.2.1 prev.2.2.1 prev.2.2.2.1 prev.2.2.2.2, ldC_blk]
    exact Blk.canonA _ _ _
  refine ⟨?_, ?_, ?_, ?_, ?_⟩ <;> dsimp only
  · rw [(runC ..).1]; exact (View.read_writes_junk_eq_canon _ _).trans e0
  · rw [(runC ..).2.1]; exact (View.read_writes_junk_eq_canon _ _).trans e1
  · rw [(runC ..).2.2.1]; exact (View.read_writes_junk_eq_canon _ _).trans e2
  · rw [(runC ..).2.2.2.1]; rfl
  · intro _
    rw [out0_C_5, (runC ..).2.2.2.2]
    refine (View.read_writes_junk_eq_canon _ _).trans ?_
    show View.canon (Val := Elt Ideal) (kernelRun0_C.sl.HO5_4 c (ms0_0 Ideal t) (ms0_1 Ideal t) (ms0_2 Ideal t) (ms0_4 Ideal t) (iblk Ideal m ρ c (0 : Fin 6) t) (iblk Ideal m ρ c (1 : Fin 6) t) (iblk Ideal m ρ c (2 : Fin 6) t) (iblk Ideal m ρ c (4 : Fin 6) t) prev.2.1 prev.2.2.1 prev.2.2.2.1 prev.2.2.2.2) = _
    rw [hoC_eq]
    simp only [View.readCov_eq_canon']
    rw [e1, e2]
    exact canonO _ _

theorem point_D (c : Dev nD) (t : Fin (cfgA Ideal).N) (prev : St c) (q0 : ¬P0_0 Ideal t) (q1 : P0_1 Ideal t) :
    Left c (found m ρ c t prev) false (step0 Ideal m ρ c t prev) := by
  rw [step0_D Ideal m ρ c t prev q0 q1]
  have e0 : View.canon (Val := Elt Ideal) (kernelRun0_D.sl.HS0_16 c (ms0_0 Ideal t) (ms0_1 Ideal t) (ms0_4 Ideal t) (iblk Ideal m ρ c (0 : Fin 6) t) (iblk Ideal m ρ c (1 : Fin 6) t) (iblk Ideal m ρ c (4 : Fin 6) t) prev.2.1 prev.2.2.2.2) = (found m ρ c t prev).newM false := by
    rw [hsD0_eq c (ms0_0 Ideal t) (ms0_1 Ideal t) (ms0_2 Ideal t) (ms0_4 Ideal t) (iblk Ideal m ρ c (0 : Fin 6) t) (iblk Ideal m ρ c (1 : Fin 6) t) (iblk Ideal m ρ c (2 : Fin 6) t) (iblk Ideal m ρ c (4 : Fin 6) t) prev.2.1 prev.2.2.1 prev.2.2.2.1 prev.2.2.2.2, ldD_blk]
    exact Blk.canonM _ _ _
  have e1 : View.canon (Val := Elt Ideal) (kernelRun0_D.sl.HS1_8 c (ms0_0 Ideal t) (ms0_1 Ideal t) (ms0_2 Ideal t) (ms0_4 Ideal t) (iblk Ideal m ρ c (0 : Fin 6) t) (iblk Ideal m ρ c (1 : Fin 6) t) (iblk Ideal m ρ c (2 : Fin 6) t) (iblk Ideal m ρ c (4 : Fin 6) t) prev.2.1 prev.2.2.1 prev.2.2.2.2) = (found m ρ c t prev).newL false := by
    rw [hsD1_eq c (ms0_0 Ideal t) (ms0_1 Ideal t) (ms0_2 Ideal t) (ms0_4 Ideal t) (iblk Ideal m ρ c (0 : Fin 6) t) (iblk Ideal m ρ c (1 : Fin 6) t) (iblk Ideal m ρ c (2 : Fin 6) t) (iblk Ideal m ρ c (4 : Fin 6) t) prev.2.1 prev.2.2.1 prev.2.2.2.1 prev.2.2.2.2, ldD_blk]
    exact Blk.canonL _ _ _
  have e2 : View.canon (Val := Elt Ideal) (kernelRun0_D.sl.HS2_8 c (ms0_0 Ideal t) (ms0_1 Ideal t) (ms0_2 Ideal t) (ms0_4 Ideal t) (iblk Ideal m ρ c (0 : Fin 6) t) (iblk Ideal m ρ c (1 : Fin 6) t) (iblk Ideal m ρ c (2 : Fin 6) t) (iblk Ideal m ρ c (4 : Fin 6) t) prev.2.1 prev.2.2.2.1 prev.2.2.2.2) = (found m ρ c t prev).newA false := by
    rw [hsD2_eq c (ms0_0 Ideal t) (ms0_1 Ideal t) (ms0_2 Ideal t) (ms0_4 Ideal t) (iblk Ideal m ρ c (0 : Fin 6) t) (iblk Ideal m ρ c (1 : Fin 6) t) (iblk Ideal m ρ c (2 : Fin 6) t) (iblk Ideal m ρ c (4 : Fin 6) t) prev.2.1 prev.2.2.1 prev.2.2.2.1 prev.2.2.2.2, ldD_blk]
    exact Blk.canonA _ _ _
  refine ⟨?_, ?_, ?_, ?_, ?_⟩ <;> dsimp only
  · rw [(runD ..).1]; exact (View.read_writes_junk_eq_canon _ _).trans e0
  · rw [(runD ..).2.1]; exact (View.read_writes_junk_eq_canon _ _).trans e1
  · rw [(runD ..).2.2.1]; exact (View.read_writes_junk_eq_canon _ _).trans e2
  · rw [(runD ..).2.2.2]; rfl
  · exact fun h => absurd h (by decide)

end Cert.Fox

end
-- ==== Proof.Fox.Geo.lean ====
/- A point's blocks as pieces of the arguments. -/
module

public import proofs.«01_k».proof.Proof.Fox.Where
public import proofs.«01_k».proof.Proof.Fox.Points

@[expose] public section

set_option maxRecDepth 16384

noncomputable section

namespace Cert.Fox

open Cert.KernelIdeal Cert.KernelIdeal.Gen
open Idealize.ShloMosaic
open Idealize.ShloMosaic.TcCoe

variable (m : (ℓ : Loc nD τ sig) → Buf (Elt Ideal) ℓ) (ρ : Dev nD → PrngReg) (c : Dev nD) (t : Fin (cfgA Ideal).N)

/-- The two arguments. -/
abbrev X0 : FVec Ideal S2x4096x7168 .f32 := m ((c : Thread nD τ).loc main_arg0)
abbrev X1 : FVec Ideal S2x4096x128 .f32 := m ((c : Thread nD τ).loc main_arg1)

/-- The point's sequence, a row of its queries and a row of its keys. -/
abbrev sq : Fin 2 := ⟨bi t, (bounds t).1⟩
abbrev qrow (R : Fin 256) : Fin 4096 := ⟨256 * qi t + R.val, by have := bounds t; omega⟩
abbrev krow (x : Fin 256) : Fin 4096 := ⟨256 * kj t + x.val, by have := bounds t; omega⟩

theorem emb0 (R : Fin 256) (y : Fin 512) : ((((cfgA Ideal).win (0 : Fin 6)).blk t).view.emb (ix3 0 R y : S1x256x512.Idx)) = (ix3 (sq t) (qrow t R) ⟨3072 + y.val, by omega⟩ : S2x4096x7168.Idx) := by
  funext a; apply Fin.ext; fin_cases a
  · show ((cfgA Ideal).win (0 : Fin 6)).index t 0 * 1 + 1 * 0 = bi t
    rw [(idx t).1]; simp only [Matrix.cons_val]; omega
  · show ((cfgA Ideal).win (0 : Fin 6)).index t 1 * 256 + 1 * R.val = 256 * qi t + R.val
    rw [(idx t).1]; simp only [Matrix.cons_val]; omega
  · show ((cfgA Ideal).win (0 : Fin 6)).index t 2 * 512 + 1 * y.val = 3072 + y.val
    rw [(idx t).1]; simp only [Matrix.cons_val]; omega
theorem emb1 (x : Fin 256) (y : Fin 512) : ((((cfgA Ideal).win (1 : Fin 6)).blk t).view.emb (ix3 0 x y : S1x256x512.Idx)) = (ix3 (sq t) (krow t x) ⟨3584 + y.val, by omega⟩ : S2x4096x7168.Idx) := by
  funext a; apply Fin.ext; fin_cases a
  · show ((cfgA Ideal).win (1 : Fin 6)).index t 0 * 1 + 1 * 0 = bi t
    rw [(idx t).2.1]; simp only [Matrix.cons_val]; omega
  · show ((cfgA Ideal).win (1 : Fin 6)).index t 1 * 256 + 1 * x.val = 256 * kj t + x.val
    rw [(idx t).2.1]; simp only [Matrix.cons_val]; omega
  · show ((cfgA Ideal).win (1 : Fin 6)).index t 2 * 512 + 1 * y.val = 3584 + y.val
    rw [(idx t).2.1]; simp only [Matrix.cons_val]; omega
theorem emb2 (x : Fin 256) (y : Fin 512) : ((((cfgA Ideal).win (2 : Fin 6)).blk t).view.emb (ix3 0 x y : S1x256x512.Idx)) = (ix3 (sq t) (krow t x) ⟨4096 + y.val, by omega⟩ : S2x4096x7168.Idx) := by
  funext a; apply Fin.ext; fin_cases a
  · show ((cfgA Ideal).win (2 : Fin 6)).index t 0 * 1 + 1 * 0 = bi t
    rw [(idx t).2.2.1]; simp only [Matrix.cons_val]; omega
  · show ((cfgA Ideal).win (2 : Fin 6)).index t 1 * 256 + 1 * x.val = 256 * kj t + x.val
    rw [(idx t).2.2.1]; simp only [Matrix.cons_val]; omega
  · show ((cfgA Ideal).win (2 : Fin 6)).index t 2 * 512 + 1 * y.val = 4096 + y.val
    rw [(idx t).2.2.1]; simp only [Matrix.cons_val]; omega
theorem emb3 (R : Fin 256) (y : Fin 128) : ((((cfgA Ideal).win (3 : Fin 6)).blk t).view.emb (ix3 0 R y : S1x256x128.Idx)) = (ix3 (sq t) (qrow t R) y : S2x4096x128.Idx) := by
  funext a; apply Fin.ext; fin_cases a
  · show ((cfgA Ideal).win (3 : Fin 6)).index t 0 * 1 + 1 * 0 = bi t
    rw [(idx t).2.2.2.1]; simp only [Matrix.cons_val]; omega
  · show ((cfgA Ideal).win (3 : Fin 6)).index t 1 * 256 + 1 * R.val = 256 * qi t + R.val
    rw [(idx t).2.2.2.1]; simp only [Matrix.cons_val]; omega
  · show ((cfgA Ideal).win (3 : Fin 6)).index t 2 * 128 + 1 * y.val = y.val
    rw [(idx t).2.2.2.1]; simp only [Matrix.cons_val]; omega
theorem emb4 (h : Fin 8) (x : Fin 256) : ((((cfgA Ideal).win (4 : Fin 6)).blk t).view.emb (ix3 0 h x : S1x8x256.Idx)) = (ix3 (sq t) h (krow t x) : S2x8x4096.Idx) := by
  funext a; apply Fin.ext; fin_cases a
  · show ((cfgA Ideal).win (4 : Fin 6)).index t 0 * 1 + 1 * 0 = bi t
    rw [(idx t).2.2.2.2.1]; simp only [Matrix.cons_val]; omega
  · show ((cfgA Ideal).win (4 : Fin 6)).index t 1 * 8 + 1 * h.val = h.val
    rw [(idx t).2.2.2.2.1]; simp only [Matrix.cons_val]; omega
  · show ((cfgA Ideal).win (4 : Fin 6)).index t 2 * 256 + 1 * x.val = 256 * kj t + x.val
    rw [(idx t).2.2.2.2.1]; simp only [Matrix.cons_val]; omega
theorem emb5 (R : Fin 256) (y : Fin 512) : ((((cfgA Ideal).win (5 : Fin 6)).blk t).view.emb (ix3 0 R y : S1x256x512.Idx)) = (ix3 (sq t) (qrow t R) y : S2x4096x512.Idx) := by
  funext a; apply Fin.ext; fin_cases a
  · show ((cfgA Ideal).win (5 : Fin 6)).index t 0 * 1 + 1 * 0 = bi t
    rw [(idx t).2.2.2.2.2]; simp only [Matrix.cons_val]; omega
  · show ((cfgA Ideal).win (5 : Fin 6)).index t 1 * 256 + 1 * R.val = 256 * qi t + R.val
    rw [(idx t).2.2.2.2.2]; simp only [Matrix.cons_val]; omega
  · show ((cfgA Ideal).win (5 : Fin 6)).index t 2 * 512 + 1 * y.val = y.val
    rw [(idx t).2.2.2.2.2]; simp only [Matrix.cons_val]; omega

theorem blk0 (R : Fin 256) (y : Fin 512) :
    (iblk Ideal m ρ c (0 : Fin 6) t : FVec Ideal S1x256x512 .f32) (ix3 0 R y) = X0 m c (ix3 (sq t) (qrow t R) ⟨3072 + y.val, by omega⟩) := by
  have e : (iblk Ideal m ρ c (0 : Fin 6) t : FVec Ideal S1x256x512 .f32) (ix3 0 R y) = V Ideal m ρ c main_arg0 ((((cfgA Ideal).win (0 : Fin 6)).blk t).view.emb (ix3 0 R y : S1x256x512.Idx)) := rfl
  rw [e, emb0, V_arg0]
theorem blk1 (x : Fin 256) (y : Fin 512) :
    (iblk Ideal m ρ c (1 : Fin 6) t : FVec Ideal S1x256x512 .f32) (ix3 0 x y) = X0 m c (ix3 (sq t) (krow t x) ⟨3584 + y.val, by omega⟩) := by
  have e : (iblk Ideal m ρ c (1 : Fin 6) t : FVec Ideal S1x256x512 .f32) (ix3 0 x y) = V Ideal m ρ c main_arg0 ((((cfgA Ideal).win (1 : Fin 6)).blk t).view.emb (ix3 0 x y : S1x256x512.Idx)) := rfl
  rw [e, emb1, V_arg0]
theorem blk2 (x : Fin 256) (y : Fin 512) :
    (iblk Ideal m ρ c (2 : Fin 6) t : FVec Ideal S1x256x512 .f32) (ix3 0 x y) = X0 m c (ix3 (sq t) (krow t x) ⟨4096 + y.val, by omega⟩) := by
  have e : (iblk Ideal m ρ c (2 : Fin 6) t : FVec Ideal S1x256x512 .f32) (ix3 0 x y) = V Ideal m ρ c main_arg0 ((((cfgA Ideal).win (2 : Fin 6)).blk t).view.emb (ix3 0 x y : S1x256x512.Idx)) := rfl
  rw [e, emb2, V_arg0]
theorem blk3 (R : Fin 256) (y : Fin 128) :
    (iblk Ideal m ρ c (3 : Fin 6) t : FVec Ideal S1x256x128 .f32) (ix3 0 R y) = X1 m c (ix3 (sq t) (qrow t R) y) := by
  have e : (iblk Ideal m ρ c (3 : Fin 6) t : FVec Ideal S1x256x128 .f32) (ix3 0 R y) = V Ideal m ρ c main_arg1 ((((cfgA Ideal).win (3 : Fin 6)).blk t).view.emb (ix3 0 R y : S1x256x128.Idx)) := rfl
  rw [e, emb3, V_arg1]

theorem gates_row (b : Fin 2) (h : Fin 8) (x : Fin 4096) :
    (V Ideal m ρ c main_v1 : FVec Ideal S2x8x4096 .f32) (ix3 b h x) = X1 m c (ix3 b x ⟨80 + h.val, by omega⟩) := by
  entry_read
  pointwise
theorem blk4 (h : Fin 8) (x : Fin 256) :
    (iblk Ideal m ρ c (4 : Fin 6) t : FVec Ideal S1x8x256 .f32) (ix3 0 h x) = X1 m c (ix3 (sq t) (krow t x) ⟨80 + h.val, by omega⟩) := by
  have e : (iblk Ideal m ρ c (4 : Fin 6) t : FVec Ideal S1x8x256 .f32) (ix3 0 h x) = V Ideal m ρ c main_v1 ((((cfgA Ideal).win (4 : Fin 6)).blk t).view.emb (ix3 0 h x : S1x8x256.Idx)) := rfl
  rw [e, emb4, gates_row]

end Cert.Fox

end
-- ==== Proof.Fox.Softmax.lean ====
/- A causal softmax's sums taken block by block, and the same sums taken at once. -/
module

public import Idealize.ShloMosaic.PureOps.Ideal
public import Mathlib.Analysis.SpecialFunctions.Pow.Real

@[expose] public section

noncomputable section

namespace Cert.Fox

open Idealize.ShloMosaic

/-- The weights' sum over the columns below `n` that row `g` sees, the scores (in units of `log 2`) less `mu`. -/
def psum (σ w : ℕ → ℝ) (g : ℕ) (mu : ℝ) (n : ℕ) : ℝ := ∑ C ∈ Finset.range n, if C ≤ g then Real.rpow 2 (σ C - mu) * w C else 0

/-- Row `g`'s scores at the block of columns starting at `n`. -/
def blkScore (σ : ℕ → ℝ) (g n : ℕ) (x : Fin 256) : EReal := if n + x.val ≤ g then ((σ (n + x.val) : ℝ) : EReal) else ⊥

theorem fold_max_real {ι : Type} (s : Finset ι) (f : ι → EReal) (h : ∀ x ∈ s, f x = ⊥ ∨ ∃ r : ℝ, f x = r) :
    s.fold max ⊥ f = ⊥ ∧ (∀ x ∈ s, f x = ⊥) ∨ ∃ r : ℝ, s.fold max ⊥ f = r := by
  classical
  induction s using Finset.induction_on with
  | empty => left; simp
  | insert a s ha ih =>
    rw [Finset.fold_insert ha]
    have ih := ih fun x hx => h x (Finset.mem_insert_of_mem hx)
    rcases h a (Finset.mem_insert_self a s) with e | ⟨r, e⟩
    · rw [e, max_eq_right bot_le]
      rcases ih with ⟨i, j⟩ | i
      · exact Or.inl ⟨i, by intro x hx; rcases Finset.mem_insert.mp hx with rfl | hx; exacts [e, j x hx]⟩
      · exact Or.inr i
    · right
      rw [e]
      rcases ih with ⟨i, -⟩ | ⟨q, i⟩
      · exact ⟨r, by rw [i, max_eq_left bot_le]⟩
      · exact ⟨max r q, by rw [i]; exact (EReal.coe_strictMono.monotone.map_max).symm⟩

/-- The new maximum is a number. -/
theorem max_real (σ : ℕ → ℝ) (g n : ℕ) (hn : n ≤ g) (m : EReal) (hm : m = ⊥ ∨ ∃ mu : ℝ, m = mu) :
    ∃ mu : ℝ, max m (Finset.univ.fold max ⊥ (blkScore σ g n)) = mu := by
  have h : ∃ r : ℝ, Finset.univ.fold max ⊥ (blkScore σ g n) = r := by
    rcases fold_max_real Finset.univ (blkScore σ g n) (fun x _ => by
      unfold blkScore; split
      · exact Or.inr ⟨_, rfl⟩
      · exact Or.inl rfl) with ⟨-, h⟩ | h
    · have := h 0 (Finset.mem_univ _)
      rw [blkScore, if_pos (by simpa using hn)] at this
      exact absurd this (EReal.coe_ne_bot _)
    · exact h
  obtain ⟨r, e⟩ := h
  rcases hm with rfl | ⟨mu, rfl⟩
  · exact ⟨r, by rw [e, max_eq_right bot_le]⟩
  · exact ⟨max mu r, by rw [e]; exact (EReal.coe_strictMono.monotone.map_max).symm⟩

theorem sum_coe {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

theorem rpow_shift (a b c : ℝ) : Real.rpow 2 (a - b) * Real.rpow 2 (c - a) = Real.rpow 2 (c - b) := by
  show (2 : ℝ) ^ (a - b) * (2 : ℝ) ^ (c - a) = (2 : ℝ) ^ (c - b)
  rw [← Real.rpow_add (by norm_num)]
  congr 1; ring

theorem psum_shift (σ w : ℕ → ℝ) (g : ℕ) (mu mu' : ℝ) (n : ℕ) : Real.rpow 2 (mu - mu') * psum σ w g mu n = psum σ w g mu' n := by
  rw [psum, psum, Finset.mul_sum]
  refine Finset.sum_congr rfl fun C _ => ?_
  split
  · rw [← mul_assoc, rpow_shift]
  · rw [mul_zero]

theorem psum_add (σ w : ℕ → ℝ) (g : ℕ) (mu : ℝ) (n : ℕ) :
    psum σ w g mu (n + 256) = psum σ w g mu n + ∑ x : Fin 256, if n + x.val ≤ g then Real.rpow 2 (σ (n + x.val) - mu) * w (n + x.val) else 0 := by
  rw [psum, Finset.sum_range_add, psum, Finset.sum_range (n := 256)]

theorem weight_coe (σ : ℕ → ℝ) (g n : ℕ) (mu w : ℝ) (x : Fin 256) :
    Ideal.exp2 (blkScore σ g n x - mu) * (w : EReal) = ((if n + x.val ≤ g then Real.rpow 2 (σ (n + x.val) - mu) * w else 0 : ℝ) : EReal) := by
  unfold blkScore
  split
  · rw [← EReal.coe_sub, Ideal.exp2_coe, ← EReal.coe_mul]
  · rw [EReal.bot_sub, Ideal.exp2_bot, zero_mul]; rfl

/-- A sum's step: what was there, rescaled to the new maximum, and the block's own weights. -/
theorem step_sum (σ w : ℕ → ℝ) (g n : ℕ) (m l : EReal) (mu' : ℝ) (u : Fin 256 → EReal) (hu : ∀ x, u x = ((w (n + x.val) : ℝ) : EReal))
    (h : (n = 0 ∧ m = ⊥ ∧ l = 0) ∨ ∃ mu : ℝ, m = mu ∧ l = ((psum σ w g mu n : ℝ) : EReal)) :
    Ideal.exp2 (m - mu') * l + ∑ x : Fin 256, Ideal.exp2 (blkScore σ g n x - mu') * u x = ((psum σ w g mu' (n + 256) : ℝ) : EReal) := by
  rw [psum_add, EReal.coe_add, ← sum_coe]
  congr 1
  · rcases h with ⟨rfl, -, rfl⟩ | ⟨mu, rfl, rfl⟩
    · rw [mul_zero]; simp [psum]
    · rw [← EReal.coe_sub, Ideal.exp2_coe, ← EReal.coe_mul, psum_shift]
  · exact Finset.sum_congr rfl fun x _ => by rw [hu, weight_coe]

/-- The attention of row `g`: its weights' mean of `w`. -/
def att (ζ w : ℕ → ℝ) (g : ℕ) : ℝ :=
  (∑ C ∈ Finset.range 4096, if C ≤ g then Real.exp (ζ C) * w C else 0) / ∑ C ∈ Finset.range 4096, if C ≤ g then Real.exp (ζ C) else 0

theorem sum_upto (f : ℕ → ℝ) (g n : ℕ) (hn : g < n) : (∑ C ∈ Finset.range n, if C ≤ g then f C else 0) = ∑ C ∈ Finset.range (g + 1), f C := by
  rw [← Finset.sum_filter]
  refine Finset.sum_congr ?_ fun _ _ => rfl
  ext C; simp only [Finset.mem_filter, Finset.mem_range]; omega

theorem div_coe (a b : ℝ) (hb : 0 < b) : Ideal.div (a : EReal) (b : EReal) = ((a / b : ℝ) : EReal) := by
  rw [Ideal.div, if_neg (by exact_mod_cast hb.ne'), ← EReal.coe_inv, ← EReal.coe_mul, div_eq_mul_inv]

theorem rpow_log (z mu : ℝ) : Real.rpow 2 (z / Real.log 2 - mu) = Real.rpow 2 (-mu) * Real.exp z := by
  show (2 : ℝ) ^ (z / Real.log 2 - mu) = (2 : ℝ) ^ (-mu) * Real.exp z
  rw [sub_eq_add_neg, Real.rpow_add (by norm_num), mul_comm]
  congr 1
  rw [Real.rpow_def_of_pos (by norm_num), mul_div_cancel₀ _ (Real.log_pos (by norm_num)).ne']

theorem psum_exp (ζ w : ℕ → ℝ) (g : ℕ) (mu : ℝ) (n : ℕ) (hn : g < n) :
    psum (fun C => ζ C / Real.log 2) w g mu n = Real.rpow 2 (-mu) * ∑ C ∈ Finset.range (g + 1), Real.exp (ζ C) * w C := by
  rw [psum, sum_upto _ _ _ hn, Finset.mul_sum]
  exact Finset.sum_congr rfl fun C _ => by rw [rpow_log, mul_assoc]

theorem exp_pos_sum (ζ : ℕ → ℝ) (g : ℕ) : 0 < ∑ C ∈ Finset.range (g + 1), Real.exp (ζ C) :=
  Finset.sum_pos (fun _ _ => Real.exp_pos _) ⟨0, by simp⟩

/-- The block-by-block sums' quotient is the attention. -/
theorem quotient (ζ w : ℕ → ℝ) (g : ℕ) (mu : ℝ) (n : ℕ) (hn : g < n) (hg : g < 4096) :
    Ideal.div ((psum (fun C => ζ C / Real.log 2) w g mu n : ℝ) : EReal) ((psum (fun C => ζ C / Real.log 2) (fun _ => 1) g mu n : ℝ) : EReal)
      = ((att ζ w g : ℝ) : EReal) := by
  have hp : 0 < Real.rpow 2 (-mu) := Real.rpow_pos_of_pos (by norm_num) _
  rw [psum_exp _ _ _ _ _ hn, psum_exp _ _ _ _ _ hn, att, sum_upto (fun C => Real.exp (ζ C) * w C) _ _ hg, sum_upto (fun C => Real.exp (ζ C)) _ _ hg]
  simp only [mul_one]
  rw [div_coe _ _ (mul_pos hp (exp_pos_sum ζ g)), mul_div_mul_left _ _ hp.ne']

/-- The softmax over all columns, dotted with `w`, is the attention. -/
theorem softmax (ζ w : ℕ → ℝ) (g : ℕ) (hg : g < 4096) (s u : Fin 4096 → EReal) (hs : ∀ C, s C = if C.val ≤ g then ((ζ C.val : ℝ) : EReal) else ⊥)
    (hu : ∀ C, u C = ((w C.val : ℝ) : EReal)) (M : EReal) (hM : M = Finset.univ.fold max ⊥ s) :
    ∑ C, u C * Ideal.div (Ideal.exp (s C - M)) (∑ C', Ideal.exp (s C' - M)) = ((att ζ w g : ℝ) : EReal) := by
  obtain ⟨mu, e⟩ : ∃ mu : ℝ, M = mu := by
    rcases fold_max_real Finset.univ s (fun x _ => by
      rw [hs]; split
      · exact Or.inr ⟨_, rfl⟩
      · exact Or.inl rfl) with ⟨-, h⟩ | ⟨r, h⟩
    · have := h ⟨0, by norm_num⟩ (Finset.mem_univ _)
      rw [hs, if_pos (Nat.zero_le _)] at this
      exact absurd this (EReal.coe_ne_bot _)
    · exact ⟨r, hM.trans h⟩
  have ex : ∀ C, Ideal.exp (s C - M) = ((if C.val ≤ g then Real.exp (ζ C.val) * Real.exp (-mu) else 0 : ℝ) : EReal) := by
    intro C
    rw [hs, e]
    split
    · rw [← EReal.coe_sub, Ideal.exp_coe, sub_eq_add_neg, Real.exp_add]
    · rw [EReal.bot_sub, Ideal.exp_bot]; rfl
  have hp : 0 < Real.exp (-mu) := Real.exp_pos _
  have den : (∑ C : Fin 4096, if C.val ≤ g then Real.exp (ζ C.val) * Real.exp (-mu) else 0) = (∑ C ∈ Finset.range (g + 1), Real.exp (ζ C)) * Real.exp (-mu) := by
    rw [← Finset.sum_range (fun C => if C ≤ g then Real.exp (ζ C) * Real.exp (-mu) else 0), sum_upto (fun C => Real.exp (ζ C) * Real.exp (-mu)) _ _ hg, Finset.sum_mul]
  simp only [ex, hu, sum_coe]
  rw [den]
  simp only [div_coe _ _ (mul_pos (exp_pos_sum ζ g) hp), ← EReal.coe_mul, sum_coe]
  congr 1
  rw [att, sum_upto (fun C => Real.exp (ζ C) * w C) _ _ hg, sum_upto (fun C => Real.exp (ζ C)) _ _ hg, Finset.sum_div,
    ← sum_upto (fun C => Real.exp (ζ C) * w C / _) _ _ hg]
  refine Eq.trans (Finset.sum_congr rfl fun C _ => ?_) (Finset.sum_range (n := 4096) _).symm
  split
  · rw [mul_div_mul_right _ _ hp.ne']; ring
  · rw [zero_div, mul_zero]

end Cert.Fox

end
-- ==== Proof.Fox.RefVal.lean ====
/- The reference's value: each row's softmax attention over the numbers the arguments hold. -/
module

public import proofs.«01_k».proof.Proof.Gen.ReferenceIdeal.Read
public import proofs.«01_k».proof.Proof.Fox.Softmax
public import Idealize.ShloMosaic.Lib.Pointwise

@[expose] public section

set_option maxRecDepth 16384

noncomputable section

namespace Cert.Fox

open Idealize.ShloMosaic Idealize.ShloMosaic.TcCoe

abbrev Main : Shape := ⟨3, ![2, 4096, 7168]⟩
abbrev Gates : Shape := ⟨3, ![2, 4096, 128]⟩

/-- A column's number as a row of the keys. -/
abbrev key (C : ℕ) : Fin 4096 := ⟨C % 4096, Nat.mod_lt _ (by norm_num)⟩
theorem key_val (C : Fin 4096) : key C.val = C := Fin.ext (Nat.mod_eq_of_lt C.isLt)

/-- Head `h`'s scores of query row `R` of sequence `b`, and column `col` of the values. -/
def zeta (r0 : Main.Idx → ℝ) (r1 : Gates.Idx → ℝ) (b : Fin 2) (h : Fin 8) (R : Fin 4096) (C : ℕ) : ℝ :=
  (∑ d : Fin 64, r0 (ix3 b R ⟨3072 + (64 * h.val + d.val), by omega⟩) * r0 (ix3 b (key C) ⟨3584 + (64 * h.val + d.val), by omega⟩)) * (1 / 8)
    + r1 (ix3 b R ⟨80 + h.val, by omega⟩) - r1 (ix3 b (key C) ⟨80 + h.val, by omega⟩)
def vcol (r0 : Main.Idx → ℝ) (b : Fin 2) (col : Fin 512) (C : ℕ) : ℝ := r0 (ix3 b (key C) ⟨4096 + col.val, by omega⟩)
/-- The attention's value. -/
def fox (r0 : Main.Idx → ℝ) (r1 : Gates.Idx → ℝ) (b : Fin 2) (R : Fin 4096) (col : Fin 512) : ℝ :=
  att (zeta r0 r1 b ⟨col.val / 64, by omega⟩ R) (vcol r0 b col) R.val

open Cert.ReferenceIdeal Cert.ReferenceIdeal.Gen Cert.ReferenceIdeal.Read

variable (x0 : FVec Ideal S2x4096x7168 .f32) (x1 : FVec Ideal S2x4096x128 .f32)

theorem q_eq (b : Fin 2) (R : Fin 4096) (h : Fin 8) (d : Fin 64) :
    val_main_v4 (F := Ideal) x0 (ix4 b R h d) = x0 (ix3 b R ⟨3072 + (64 * h.val + d.val), by omega⟩) := by
  rw [val_main_v4_apply, val_main_v1_apply, val_main_v0_apply]
  refine congrArg x0 (funext fun a => Fin.ext ?_)
  fin_cases a <;> simp <;> omega
theorem k_eq (b : Fin 2) (R : Fin 4096) (h : Fin 8) (d : Fin 64) :
    val_main_v5 (F := Ideal) x0 (ix4 b R h d) = x0 (ix3 b R ⟨3584 + (64 * h.val + d.val), by omega⟩) := by
  rw [val_main_v5_apply, val_main_v2_apply, val_main_v0_apply]
  refine congrArg x0 (funext fun a => Fin.ext ?_)
  fin_cases a <;> simp <;> omega
theorem v_eq (b : Fin 2) (R : Fin 4096) (h : Fin 8) (d : Fin 64) :
    val_main_v6 (F := Ideal) x0 (ix4 b R h d) = x0 (ix3 b R ⟨4096 + (64 * h.val + d.val), by omega⟩) := by
  rw [val_main_v6_apply, val_main_v3_apply, val_main_v0_apply]
  refine congrArg x0 (funext fun a => Fin.ext ?_)
  fin_cases a <;> simp <;> omega
theorem c_eq (b : Fin 2) (R : Fin 4096) (h : Fin 8) :
    val_main_v7 (F := Ideal) x1 (ix3 b R h) = x1 (ix3 b R ⟨80 + h.val, by omega⟩) := by
  rw [val_main_v7_apply]
  refine congrArg x1 (funext fun a => Fin.ext ?_)
  fin_cases a <;> simp

theorem eighth : Ideal.ofBits .f32 0x3E000000#32 = ((1 / 8 : ℝ) : EReal) := by
  simp [Ideal.ofBits, Ideal.ieee]
  rw [← EReal.coe_mul]
  norm_num
theorem neg_inf : Ideal.ofBits .f32 0xFF800000#32 = ⊥ := by
  simp [Ideal.ofBits, Ideal.ieee]

theorem score_eq (b : Fin 2) (h : Fin 8) (R C : Fin 4096) :
    val_main_v19 (F := Ideal) x0 x1 (ix4 b h R C)
      = (∑ d : Fin 64, x0 (ix3 b R ⟨3072 + (64 * h.val + d.val), by omega⟩) * x0 (ix3 b C ⟨3584 + (64 * h.val + d.val), by omega⟩)) * ((1 / 8 : ℝ) : EReal)
        + x1 (ix3 b R ⟨80 + h.val, by omega⟩) - x1 (ix3 b C ⟨80 + h.val, by omega⟩) := by
  rw [val_main_v19_apply, val_main_v15_apply, val_main_v11_apply, val_main_v9_apply, val_main_v10_apply, val_main_cst_apply,
    val_main_v14_apply, val_main_v13_apply, val_main_v12_apply, val_main_v18_apply, val_main_v17_apply, val_main_v16_apply]
  show (∑ k : Fin 64, val_main_v4 (F := Ideal) x0 (lidx_main_v9 (ix4 b h R C) k) * val_main_v5 (F := Ideal) x0 (ridx_main_v9 (ix4 b h R C) k))
    * Ideal.ofBits .f32 0x3E000000#32 + _ - _ = _
  rw [eighth]
  congr 1
  · congr 1
    · congr 1
      refine Finset.sum_congr rfl fun d _ => ?_
      rw [← q_eq x0 b R h d, ← k_eq x0 b C h d]
      congr 1
    · rw [← c_eq x1 b R h]
      exact congrArg _ (funext fun a => by fin_cases a <;> rfl)
  · rw [← c_eq x1 b C h]
    exact congrArg _ (funext fun a => by fin_cases a <;> rfl)

theorem le_eq (R C : Fin 4096) : val_main_v24 (F := Ideal) (ix2 R C) = if C.val ≤ R.val then 1#1 else 0#1 := by
  rw [val_main_v24_apply, val_main_v22_apply, val_main_v20_apply, val_main_v8_apply, val_main_v23_apply, val_main_v21_apply, val_main_v8_apply]
  show IntOp.cmpi .sle (BitVec.ofNat 32 C.val) (BitVec.ofNat 32 R.val) = _
  have e : ∀ n : Fin 4096, (BitVec.ofNat 32 n.val).toInt = (n.val : ℤ) := by
    intro n
    rw [BitVec.toInt_eq_toNat_of_lt] <;> rw [BitVec.toNat_ofNat, Nat.mod_eq_of_lt] <;> omega
  by_cases hc : C.val ≤ R.val
  · rw [if_pos hc]
    exact IntOp.cmpi_sle.2 (by rw [e, e]; exact_mod_cast hc)
  · rw [if_neg hc]
    have hn : ¬ IntOp.cmpi .sle (BitVec.ofNat 32 C.val) (BitVec.ofNat 32 R.val) = 1#1 := fun h => hc (by
      have := IntOp.cmpi_sle.1 h; rw [e, e] at this; exact_mod_cast this)
    revert hn
    generalize IntOp.cmpi .sle (BitVec.ofNat 32 C.val) (BitVec.ofNat 32 R.val) = w
    revert w; decide

theorem masked_eq (b : Fin 2) (h : Fin 8) (R C : Fin 4096) :
    val_main_v26 (F := Ideal) x0 x1 (ix4 b h R C) = if C.val ≤ R.val then val_main_v19 (F := Ideal) x0 x1 (ix4 b h R C) else ⊥ := by
  rw [val_main_v26_apply, val_main_call0_v1_apply, val_main_v25_apply, val_main_call0_v2_apply, val_main_call0_v0_apply, val_main_cst_0_apply]
  rw [show (idx_main_v25 (idx_main_call0_v1 (ix4 b h R C)) : S4096x4096.Idx) = ix2 R C from funext fun a => by fin_cases a <;> rfl, le_eq]
  split
  · rfl
  · exact neg_inf

theorem fold_eq (y : FVec Ideal S2x8x4096x4096 .f32) (b : Fin 2) (h : Fin 8) (R : Fin 4096) :
    Host.reduce (FloatOps.maximumf (F := Ideal) (φ := .f32)) y (constant (F := Ideal) S_ .f32 0xFF800000#32) reducesTo_S2x8x4096x4096_S2x8x4096_d3 h_S_ (ix3 b h R)
      = Finset.univ.fold max ⊥ fun C : Fin 4096 => y (ix4 b h R C) := by
  rw [← neg_inf]
  pointwise []

theorem max_eq (b : Fin 2) (h : Fin 8) (R : Fin 4096) :
    val_main_v29 (F := Ideal) x0 x1 (ix3 b h R) = Finset.univ.fold max ⊥ fun C : Fin 4096 => val_main_v26 (F := Ideal) x0 x1 (ix4 b h R C) := by
  rw [val_main_v29_apply, val_main_v28_apply, val_main_cst_2_apply]
  refine Eq.trans (congrArg (max (Ideal.ofBits .f32 0xFF800000#32)) (fold_eq (val_main_v26 (F := Ideal) x0 x1) b h R)) ?_
  rw [neg_inf, max_eq_right bot_le]

theorem expo_eq (b : Fin 2) (h : Fin 8) (R C : Fin 4096) :
    val_main_v33 (F := Ideal) x0 x1 (ix4 b h R C)
      = Ideal.exp (val_main_v26 (F := Ideal) x0 x1 (ix4 b h R C) - val_main_v29 (F := Ideal) x0 x1 (ix3 b h R)) := by
  rw [val_main_v33_apply, val_main_v32_apply, val_main_v31_apply, val_main_v30_apply]
  rw [show (idx_main_v30 (idx_main_v31 (ix4 b h R C)) : S2x8x4096.Idx) = ix3 b h R from funext fun a => by fin_cases a <;> rfl]
  rfl

theorem prob_eq (b : Fin 2) (h : Fin 8) (R C : Fin 4096) :
    val_main_v37 (F := Ideal) x0 x1 (ix4 b h R C)
      = Ideal.div (val_main_v33 (F := Ideal) x0 x1 (ix4 b h R C)) (∑ C' : Fin 4096, val_main_v33 (F := Ideal) x0 x1 (ix4 b h R C')) := by
  rw [val_main_v37_apply, val_main_v36_apply, val_main_v35_apply, val_main_v34_apply]
  show Ideal.div _ (Ideal.ofBits .f32 0x00000000#32 + _) = _
  rw [show Ideal.ofBits .f32 0x00000000#32 = 0 by simp [Ideal.ofBits, Ideal.ieee], zero_add]
  refine congrArg (Ideal.div _) (Finset.sum_congr rfl fun C' _ => ?_)
  exact congrArg _ (funext fun a => by fin_cases a <;> rfl)

/-- The reference's result, where the arguments hold numbers. -/
theorem reference_value (r0 : Main.Idx → ℝ) (r1 : Gates.Idx → ℝ) (h0 : ∀ i, x0 i = ((r0 i : ℝ) : EReal)) (h1 : ∀ i, x1 i = ((r1 i : ℝ) : EReal))
    (b : Fin 2) (R : Fin 4096) (col : Fin 512) :
    val_main_v40 (F := Ideal) x0 x1 (ix3 b R col) = ((fox r0 r1 b R col : ℝ) : EReal) := by
  rw [val_main_v40_apply, val_main_v39_apply, val_main_v38_apply, fox]
  rw [← softmax (zeta r0 r1 b ⟨col.val / 64, by omega⟩ R) (vcol r0 b col) R.val R.isLt
    (fun C => val_main_v26 (F := Ideal) x0 x1 (ix4 b ⟨col.val / 64, by omega⟩ R C))
    (fun C => x0 (ix3 b C ⟨4096 + col.val, by omega⟩)) ?_ ?_ (val_main_v29 (F := Ideal) x0 x1 (ix3 b ⟨col.val / 64, by omega⟩ R)) (max_eq x0 x1 b _ R)]
  · refine Finset.sum_congr rfl fun C _ => ?_
    rw [show (lidx_main_v38 (idx_main_v39 (idx_main_v40 (ix3 b R col))) C : S2x4096x8x64.Idx) = ix4 b C ⟨col.val / 64, by omega⟩ ⟨col.val % 64, by omega⟩ from
        funext fun a => Fin.ext (by fin_cases a <;> simp <;> omega),
      show (ridx_main_v38 (idx_main_v39 (idx_main_v40 (ix3 b R col))) C : S2x8x4096x4096.Idx) = ix4 b ⟨col.val / 64, by omega⟩ R C from
        funext fun a => Fin.ext (by fin_cases a <;> simp <;> omega), prob_eq, v_eq]
    simp only [expo_eq]
    congr 1
    refine congrArg x0 (funext fun a => Fin.ext ?_)
    fin_cases a <;> simp
    omega
  · intro C
    rw [masked_eq, score_eq]
    simp only [h0, h1, ← EReal.coe_mul, sum_coe, ← EReal.coe_add, ← EReal.coe_sub]
    rw [zeta, key_val]
  · intro C
    rw [h0, vcol, key_val]

end Cert.Fox

end
-- ==== Proof.Fox.Invariant.lean ====
/- The running softmax: what the blocks of keys up to some column leave in the scratches, and one further block. -/
module

public import proofs.«01_k».proof.Proof.Fox.Blocks
public import proofs.«01_k».proof.Proof.Fox.Softmax
public import proofs.«01_k».proof.Proof.Fox.RefVal

@[expose] public section

set_option maxRecDepth 16384

noncomputable section

namespace Cert.Fox

open Cert.KernelIdeal Cert.KernelIdeal.Gen
open Idealize.ShloMosaic
open Idealize.ShloMosaic.TcCoe

variable (r0 : Main.Idx → ℝ) (r1 : Gates.Idx → ℝ) (b : Fin 2)

/-- A row of a block of rows. -/
abbrev rowOf (i : Fin 16) (R : Fin 256) : Fin 4096 := ⟨256 * i.val + R.val, by omega⟩

/-- The scores of a row in units of `log 2`. -/
def zlog (h : Fin 8) (g : Fin 4096) (C : ℕ) : ℝ := zeta r0 r1 b h g C / Real.log 2

/-- The blocks are those of the queries of block `i` and the keys of block `j`. -/
structure Reads (i j : Fin 16) (B : Blk) : Prop where
  q : ∀ R y, B.q (ix3 0 R y) = ((r0 (ix3 b (rowOf i R) ⟨3072 + y.val, by omega⟩) : ℝ) : EReal)
  k : ∀ x y, B.k (ix3 0 x y) = ((r0 (ix3 b (rowOf j x) ⟨3584 + y.val, by omega⟩) : ℝ) : EReal)
  v : ∀ x y, B.v (ix3 0 x y) = ((r0 (ix3 b (rowOf j x) ⟨4096 + y.val, by omega⟩) : ℝ) : EReal)
  t : ∀ h x, B.t (ix3 0 h x) = ((r1 (ix3 b (rowOf j x) ⟨80 + h.val, by omega⟩) : ℝ) : EReal)

/-- The scratch of the queries' gates, scaled. -/
def GateRows (i : Fin 16) (C : FVec Ideal S8x256x128 .f32) : Prop :=
  ∀ h R x, C (ix3 h R x) = ((r1 (ix3 b (rowOf i R) ⟨80 + h.val, by omega⟩) : ℝ) : EReal) * kl

/-- The scratches hold the sums over the first `n` columns. -/
def Holds (i : Fin 16) (n : ℕ) (M : FVec Ideal S8x256x128 .f32) (L : FVec Ideal S4x256x128 .f32) (A : FVec Ideal S256x512 .f32) : Prop :=
  ∀ h R, ∃ mu : ℝ, (∀ c, M (ix3 h R c) = (mu : EReal)) ∧
    ∀ p c, hd p c = h → L (ix3 p R c) = ((psum (zlog r0 r1 b h (rowOf i R)) (fun _ => 1) (rowOf i R).val mu n : ℝ) : EReal)
      ∧ A (ix2 R (pcol p c)) = ((psum (zlog r0 r1 b h (rowOf i R)) (vcol r0 b (pcol p c)) (rowOf i R).val mu n : ℝ) : EReal)

/-- The scratches before the first block of keys. -/
def Fresh (M : FVec Ideal S8x256x128 .f32) (L : FVec Ideal S4x256x128 .f32) (A : FVec Ideal S256x512 .f32) : Prop :=
  (∀ y, M y = ⊥) ∧ (∀ y, L y = 0) ∧ ∀ y, A y = 0

theorem key_row (j : Fin 16) (x : Fin 256) : key (256 * j.val + x.val) = rowOf j x :=
  Fin.ext (Nat.mod_eq_of_lt (by omega))

variable {r0 r1 b}

theorem score_real {i j : Fin 16} {B : Blk} (H : Reads r0 r1 b i j B) (G : GateRows r1 b i B.C) (h : Fin 8) (R x : Fin 256) :
    B.sc h R x = ((zlog r0 r1 b h (rowOf i R) (256 * j.val + x.val) : ℝ) : EReal) := by
  rw [Blk.sc, G h R, H.t]
  simp only [H.q, H.k, kq, kl]
  simp only [← EReal.coe_mul]
  rw [sum_coe, ← EReal.coe_add, ← EReal.coe_sub]
  refine congrArg _ ?_
  rw [zlog, zeta, key_row, Finset.sum_mul, div_eq_mul_inv, sub_mul, add_mul, Finset.sum_mul]
  refine congrArg (· + _ - _) (Finset.sum_congr rfl fun d _ => ?_)
  rw [mul_inv]
  ring

theorem masked {i j : Fin 16} {B : Blk} (H : Reads r0 r1 b i j B) (G : GateRows r1 b i B.C) (dg : Bool) (hj : j ≤ i) (hd : dg = true ↔ j = i)
    (h : Fin 8) (R x : Fin 256) :
    B.sE dg h R x = blkScore (zlog r0 r1 b h (rowOf i R)) (rowOf i R).val (256 * j.val) x := by
  rw [Blk.sE, blkScore, score_real H G]
  cases dg
  · have : j < i := lt_of_le_of_ne hj fun e => by simpa using hd.mpr e
    rw [cond_false, if_pos]
    show 256 * j.val + x.val ≤ 256 * i.val + R.val
    have : j.val < i.val := this
    omega
  · obtain rfl := hd.mp rfl
    rw [cond_true]
    refine if_congr ?_ rfl rfl
    show _ ↔ 256 * j.val + x.val ≤ 256 * j.val + R.val
    omega

/-- One further block of keys. -/
theorem holds_step {i j : Fin 16} {B : Blk} (H : Reads r0 r1 b i j B) (G : GateRows r1 b i B.C) (dg : Bool) (hj : j ≤ i) (hd : dg = true ↔ j = i)
    (S : (j.val = 0 ∧ Fresh B.M B.L B.A) ∨ Holds r0 r1 b i (256 * j.val) B.M B.L B.A) :
    Holds r0 r1 b i (256 * (j.val + 1)) (B.newM dg) (B.newL dg) (B.newA dg) := by
  intro h R
  have hji : j.val ≤ i.val := hj
  have hs : B.sE dg h R = blkScore (zlog r0 r1 b h (rowOf i R)) (rowOf i R).val (256 * j.val) := funext fun x => masked H G dg hj hd h R x
  have before : ∃ mm : EReal, (∀ c, B.M (ix3 h R c) = mm) ∧ (mm = ⊥ ∨ ∃ mu : ℝ, mm = mu) := by
    rcases S with ⟨-, S, -⟩ | S
    · exact ⟨⊥, fun c => S _, .inl rfl⟩
    · obtain ⟨mu, h1, -⟩ := S h R
      exact ⟨mu, h1, .inr ⟨mu, rfl⟩⟩
  obtain ⟨mm, hm, hm'⟩ := before
  obtain ⟨mu', e⟩ := max_real (zlog r0 r1 b h (rowOf i R)) (rowOf i R).val (256 * j.val) (by show _ ≤ 256 * i.val + R.val; omega) mm hm'
  have hmE : ∀ c, B.mE dg h R c = (mu' : EReal) := fun c => by rw [Blk.mE, hm, hs]; exact e
  have hw : ∀ x, B.wE dg h R x = Ideal.exp2 (blkScore (zlog r0 r1 b h (rowOf i R)) (rowOf i R).val (256 * j.val) x - mu') := fun x => by
    rw [Blk.wE, hmE, hs]
  refine ⟨mu', hmE, fun p c hp => ?_⟩
  have hf : B.fE dg h R c = Ideal.exp2 (mm - mu') := by rw [Blk.fE, hmE, hm]
  have hn : 256 * (j.val + 1) = 256 * j.val + 256 := by omega
  constructor
  · show B.lE dg p R c = _
    rw [Blk.lE, hp, hf, hn, ← step_sum (zlog r0 r1 b h (rowOf i R)) (fun _ => 1) (rowOf i R).val (256 * j.val) mm (B.L (ix3 p R c)) mu' (fun _ => ((1 : ℝ) : EReal)) (fun _ => rfl)]
    · simp only [hw, EReal.coe_one, mul_one]
    · rcases S with ⟨h0, S, S', -⟩ | S
      · exact .inl ⟨by omega, by rw [← hm c]; exact S _, S' _⟩
      · obtain ⟨mu, h1, h2⟩ := S h R
        exact .inr ⟨mu, (hm c).symm.trans (h1 c), (h2 p c hp).1⟩
  · have e2 : B.newA dg (ix2 R (pcol p c)) = B.aE dg p R c := by
      show B.aE dg (pairCol (pcol p c)) R (laneCol (pcol p c)) = _
      rw [pairCol_pcol, laneCol_pcol]
    rw [e2, Blk.aE, hp, hf, hn, ← step_sum (zlog r0 r1 b h (rowOf i R)) (vcol r0 b (pcol p c)) (rowOf i R).val (256 * j.val) mm (B.A (ix2 R (pcol p c))) mu' (fun x => B.v (ix3 0 x (pcol p c)))]
    · simp only [hw]
    · intro x
      rw [H.v, vcol, key_row]
    · rcases S with ⟨h0, S, -, S'⟩ | S
      · exact .inl ⟨by omega, by rw [← hm c]; exact S _, S' _⟩
      · obtain ⟨mu, h1, h2⟩ := S h R
        exact .inr ⟨mu, (hm c).symm.trans (h1 c), (h2 p c hp).2⟩

/-- The quotient after the diagonal block. -/
theorem out_real {i : Fin 16} {M : FVec Ideal S8x256x128 .f32} {L : FVec Ideal S4x256x128 .f32} {A : FVec Ideal S256x512 .f32}
    (S : Holds r0 r1 b i (256 * (i.val + 1)) M L A) (R : Fin 256) (col : Fin 512) :
    newO L A (ix3 0 R col) = ((fox r0 r1 b (rowOf i R) col : ℝ) : EReal) := by
  obtain ⟨mu, -, S⟩ := S ⟨col.val / 64, by omega⟩ R
  obtain ⟨sl, sa⟩ := S (pairCol col) (laneCol col) (Fin.ext (by simp only [hd, pairCol, laneCol]; omega))
  rw [pcol_self] at sa
  show Ideal.div (A (ix2 R col)) (L (ix3 (pairCol col) R (laneCol col))) = _
  rw [sl, sa]
  exact quotient (zeta r0 r1 b ⟨col.val / 64, by omega⟩ (rowOf i R)) (vcol r0 b col) (rowOf i R).val mu (256 * (i.val + 1)) (by show 256 * i.val + R.val < _; omega) (rowOf i R).isLt

end Cert.Fox

end
-- ==== Proof.Fox.Output.lean ====
/- The result array: every block of queries ends with the attention's rows. -/
module

public import proofs.«01_k».proof.Proof.Fox.Geo
public import proofs.«01_k».proof.Proof.Fox.Invariant

@[expose] public section

set_option maxRecDepth 16384

noncomputable section

namespace Cert.Fox

open Cert.KernelIdeal Cert.KernelIdeal.Gen
open Idealize.ShloMosaic
open Idealize.ShloMosaic.TcCoe

variable (m : (ℓ : Loc nD τ sig) → Buf (Elt Ideal) ℓ) (ρ : Dev nD → PrngReg) (c : Dev nD)
  (r0 : Main.Idx → ℝ) (r1 : Gates.Idx → ℝ) (h0 : ∀ i, X0 m c i = ((r0 i : ℝ) : EReal)) (h1 : ∀ i, X1 m c i = ((r1 i : ℝ) : EReal))

/-- The numbers of the point's blocks. -/
abbrev qb (t : Fin (cfgA Ideal).N) : Fin 16 := ⟨qi t, (bounds t).2.1⟩
abbrev kb (t : Fin (cfgA Ideal).N) : Fin 16 := ⟨kj t, lt_of_le_of_lt (bounds t).2.2 (bounds t).2.1⟩

/-- What the points up to `t` leave. -/
structure After (t : Fin (cfgA Ideal).N) (s : St c) : Prop where
  sums : Holds r0 r1 (sq t) (qb t) (256 * (kj t + 1)) (rd0 c s.2.1) (rd1 c s.2.2.1) (rd2 c s.2.2.2.1)
  gates : GateRows r1 (sq t) (qb t) (rd3 c s.2.2.2.2)
  out : kj t = qi t → ∀ R col, s.1 (ix3 0 R col) = ((fox r0 r1 (sq t) (rowOf (qb t) R) col : ℝ) : EReal)

include h0 h1

theorem reads_reset (t : Fin (cfgA Ideal).N) : Reads r0 r1 (sq t) (qb t) (kb t) (reset m ρ c t) :=
  ⟨fun R y => (blk0 m ρ c t R y).trans (h0 _), fun R y => (blk1 m ρ c t R y).trans (h0 _), fun R y => (blk2 m ρ c t R y).trans (h0 _),
    fun h x => (blk4 m ρ c t h x).trans (h1 _)⟩
theorem reads_found (t : Fin (cfgA Ideal).N) (prev : St c) : Reads r0 r1 (sq t) (qb t) (kb t) (found m ρ c t prev) :=
  ⟨fun R y => (blk0 m ρ c t R y).trans (h0 _), fun R y => (blk1 m ρ c t R y).trans (h0 _), fun R y => (blk2 m ρ c t R y).trans (h0 _),
    fun h x => (blk4 m ρ c t h x).trans (h1 _)⟩
omit h0 in
theorem gates_reset (t : Fin (cfgA Ideal).N) : GateRows r1 (sq t) (qb t) (reset m ρ c t).C := fun h R x =>
  congrArg (· * kl) ((blk3 m ρ c t R (gateCol h)).trans (h1 _))

omit h0 h1 in
/-- A point whose blocks are read and whose scratches hold the sums so far. -/
theorem after_of_left (t : Fin (cfgA Ideal).N) (B : Blk) (dg : Bool) (s : St c) (hd : dg = true ↔ kj t = qi t) (E : Left c B dg s)
    (H : Reads r0 r1 (sq t) (qb t) (kb t) B) (G : GateRows r1 (sq t) (qb t) B.C)
    (S : (kj t = 0 ∧ Fresh B.M B.L B.A) ∨ Holds r0 r1 (sq t) (qb t) (256 * kj t) B.M B.L B.A) : After c r0 r1 t s := by
  have N := holds_step H G dg (bounds t).2.2 (hd.trans (by simp only [Fin.mk.injEq])) S
  refine ⟨?_, ?_, fun e R col => ?_⟩
  · rw [E.m, E.l, E.a]; exact N
  · rw [E.c']; exact G
  · rw [E.o (hd.mpr e)]
    refine out_real (i := qb t) (M := B.newM dg) ?_ R col
    show Holds r0 r1 (sq t) (qb t) (256 * (qi t + 1)) _ _ _
    rw [← e]; exact N

theorem after_point : ∀ (n : ℕ) (t : Fin (cfgA Ideal).N), t.val = n → After c r0 r1 t (traj0 Ideal m ρ c t.val t.isLt) := by
  intro n
  induction n using Nat.strong_induction_on with
  | _ n ih =>
    intro t ht
    rw [traj0_eq]
    have hb := bounds t
    by_cases q0 : P0_0 Ideal t
    · have z := (first_iff t).mp q0
      have S : (kj t = 0 ∧ Fresh (reset m ρ c t).M (reset m ρ c t).L (reset m ρ c t).A) ∨ Holds r0 r1 (sq t) (qb t) (256 * kj t) (reset m ρ c t).M (reset m ρ c t).L (reset m ρ c t).A :=
        .inl ⟨z, fun _ => rfl, fun _ => rfl, fun _ => rfl⟩
      by_cases q1 : P0_1 Ideal t
      · exact after_of_left c r0 r1 t _ false _ (by have := (inner_iff t).mp q1; simp only [Bool.false_eq_true, false_iff]; omega) (point_B m ρ c t _ q0 q1) (reads_reset m ρ c r0 r1 h0 h1 t) (gates_reset m ρ c r1 h1 t) S
      · exact after_of_left c r0 r1 t _ true _ (by have := mt (inner_iff t).mpr q1; simp only [true_iff]; omega) (point_A m ρ c t _ q0 q1) (reads_reset m ρ c r0 r1 h0 h1 t) (gates_reset m ρ c r1 h1 t) S
    · have z : kj t ≠ 0 := mt (first_iff t).mpr q0
      have hp := before_pos t z
      obtain ⟨t', ht'⟩ : ∃ t' : Fin (cfgA Ideal).N, t'.val + 1 = t.val := ⟨⟨t.val - 1, by omega⟩, by simp only []; omega⟩
      have P := ih t'.val (by omega) t' rfl
      obtain ⟨e1, e2, e3⟩ := before t t' ht' z
      have ep : prev0 Ideal m ρ c t = traj0 Ideal m ρ c t'.val t'.isLt := by
        have : t.val - 1 = t'.val := by omega
        rw [prev0, dif_neg (by omega)]
        simp only [this]
      rw [ep]
      have b1 : sq t' = sq t := Fin.ext e1
      have b2 : qb t' = qb t := Fin.ext e2
      have S := P.sums
      have G := P.gates
      rw [b1, b2] at S G
      rw [e3] at S
      by_cases q1 : P0_1 Ideal t
      · exact after_of_left c r0 r1 t _ false _ (by have := (inner_iff t).mp q1; simp only [Bool.false_eq_true, false_iff]; omega) (point_D m ρ c t _ q0 q1) (reads_found m ρ c r0 r1 h0 h1 t _) G (.inr S)
      · exact after_of_left c r0 r1 t _ true _ (by have := mt (inner_iff t).mpr q1; simp only [true_iff]; omega) (point_C m ρ c t _ q0 q1) (reads_found m ρ c r0 r1 h0 h1 t _) G (.inr S)

/-- The result array. -/
def foxArr (r0 : Main.Idx → ℝ) (r1 : Gates.Idx → ℝ) : FVec Ideal S2x4096x512 .f32 := fun y => ((fox r0 r1 (y 0) (y 1) (y 2) : ℝ) : EReal)

theorem result : (dats Ideal m ρ 0 c).arrAt (5 : Fin 6) (cfgA Ideal).N = foxArr r0 r1 := by
  refine (dats Ideal m ρ 0 c).arrAt_eq_of_covers (5 : Fin 6) (foxArr r0 r1) covers fun t hf y => ?_
  obtain ⟨R, col, rfl⟩ : ∃ (R : Fin 256) (col : Fin 512), y = (ix3 0 R col : S1x256x512.Idx) :=
    ⟨y 1, y 2, by funext a; fin_cases a <;> first | rfl | exact Subsingleton.elim (α := Fin 1) _ _⟩
  have e := (after_point m ρ c r0 r1 h0 h1 t.val t rfl).out ((flush_iff t).mp hf) R col
  show (traj0 Ideal m ρ c t.val t.isLt).1 (ix3 0 R col) = foxArr r0 r1 ((((cfgA Ideal).win (5 : Fin 6)).blk t).view.emb (ix3 0 R col : S1x256x512.Idx))
  rw [emb5]
  exact e

end Cert.Fox

end
-- ==== Proof.Fox.Finite.lean ====
/- The precondition: every element of the arguments is a real number. -/
module

public import proofs.«01_k».proof.Defs
public import proofs.«01_k».proof.Proof.Fox.Output
public import Idealize.ShloMosaic.Lib.ReduceAll

@[expose] public section

set_option maxRecDepth 16384

noncomputable section

namespace Cert.Fox

open Idealize.ShloMosaic
open Idealize.ShloMosaic.TcCoe

theorem real_of_abs (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

theorem inf_bits : Ideal.ofBits .f32 0x7F800000#32 = ⊤ := by simp [Ideal.ofBits, Ideal.ieee]

variable [hP : Cert.Pre_finite.Facts] (m : (ℓ : Loc Cert.KernelIdeal.nD Cert.KernelIdeal.τ Cert.KernelIdeal.sig) → Buf (Elt Ideal) ℓ)

theorem reals (h : Cert.Pre_KernelIdeal_finite m) (c : Dev Cert.KernelIdeal.nD) :
    (∀ i, ∃ r : ℝ, X0 m c i = (r : EReal)) ∧ ∀ i, ∃ r : ℝ, X1 m c i = (r : EReal) := by
  have e := congrFun (h c) default
  obtain ⟨e0, e1⟩ := IntOp.andi_eq_one.mp e
  have f0 := Host.reduce_andi_all _ _ _ _ _ e0
  have f1 := Host.reduce_andi_all _ _ _ _ _ e1
  refine ⟨fun i => real_of_abs _ ?_, fun i => real_of_abs _ ?_⟩
  · rw [← inf_bits]; exact f0 i
  · rw [← inf_bits]; exact f1 i

end Cert.Fox

end
-- ==== Proof.Fox.Value.lean ====
/- The kernel and the reference end with the same array. -/
module

public import proofs.«01_k».proof.Defs
public import proofs.«01_k».proof.Proof.Gen.KernelIdeal
public import proofs.«01_k».proof.Proof.Gen.ReferenceIdeal.Run
public import proofs.«01_k».proof.Proof.Gen.ReferenceIdeal.Read
public import proofs.«01_k».proof.Proof.Fox.Finite
public import proofs.«01_k».proof.Proof.Fox.RefVal

@[expose] public section

set_option maxRecDepth 16384

noncomputable section

namespace Cert.Fox

open Idealize.ShloMosaic Idealize.SL.Sem
open Idealize.ShloMosaic.TcCoe

/-- The reference's array, index by index. -/
theorem reference_array (x0 : FVec Ideal Main .f32) (x1 : FVec Ideal Gates .f32) (r0 : Main.Idx → ℝ) (r1 : Gates.Idx → ℝ)
    (h0 : ∀ i, x0 i = ((r0 i : ℝ) : EReal)) (h1 : ∀ i, x1 i = ((r1 i : ℝ) : EReal)) :
    Cert.ReferenceIdeal.Read.val_main_v40 (F := Ideal) x0 x1 = foxArr r0 r1 := by
  funext y
  obtain ⟨b, R, col, rfl⟩ : ∃ (b : Fin 2) (R : Fin 4096) (col : Fin 512), y = ix3 b R col :=
    ⟨y 0, y 1, y 2, by funext a; fin_cases a <;> rfl⟩
  exact reference_value x0 x1 r0 r1 h0 h1 b R col

theorem same_results [hP : Cert.Pre_finite.Facts] : Cert.algebraic_KernelIdeal_ReferenceIdeal_pre_finite := by
  intro m g m' g' hp agree
  have hr := reals m hp
  choose h0 h1 using hr
  choose r0 h0 using h0
  choose r1 h1 using h1
  refine ⟨fun c => foxArr (r0 c) (r1 c), ?_, ?_⟩
  · refine (θ_run (Cert.KernelIdeal.defs (F := Ideal)) _ _).mono (fun r h c => ⟨?_, args_unchanged (F := Ideal) m g r h.1 c⟩) (run_main (F := Ideal) m g)
    exact ((h.1 c).1 (5 : Fin 6)).trans (result m g c (r0 c) (r1 c) (h0 c) (h1 c))
  · refine (θ_run (Cert.ReferenceIdeal.defs (F := Ideal)) _ _).mono (fun r h c => ⟨?_, (h c).2⟩) (Cert.ReferenceIdeal.Value.run (F := Ideal) m' g')
    rw [(h c).1, Cert.ReferenceIdeal.Read.val_main_v40_eq]
    obtain ⟨a0, a1⟩ := agree c
    refine reference_array _ _ (r0 c) (r1 c) (fun i => ?_) fun i => ?_
    · exact (congrFun a0 i).trans (h0 c i)
    · exact (congrFun a1 i).trans (h1 c i)

end Cert.Fox

end
-- ==== Proof.Out.Row.lean ====
/- One row of the output projection: the gated mixers times the weights, the residual, and the layer norm; the program's
   block of 256 rows and the reference's array, each at an index. -/
module

public import proofs.«01_k».proof.Proof.Gen.OutKernelIdeal.Frame
public import proofs.«01_k».proof.Proof.Gen.OutReferenceIdeal.Read
public import Idealize.ShloMosaic.Lib.Pointwise

@[expose] public section

set_option maxRecDepth 16384

noncomputable section

namespace Cert.Out

open Idealize.ShloMosaic Idealize.ShloMosaic.TcCoe

/-- A mixer's output `o` times `z · 1/(1 + e^(-z))`. -/
def gated (o z : EReal) : EReal := o * (z * Ideal.div 1 (1 + Ideal.exp (0 - z)))

/-- One mixer's 512 columns times one column of its weights. -/
def part (o z w : Fin 512 → EReal) : EReal := ∑ k, gated (o k) (z k) * w k

/-- The residual plus the four mixers' parts, from the left. -/
def acc (x p0 p1 p2 p3 : EReal) : EReal := Ideal.ofBits .f32 0x3FB504F3#32 * x + p0 + p1 + p2 + p3

/-- A row's mean. -/
def mean (a : Fin 2048 → EReal) : EReal := Ideal.div (∑ k, a k) (Ideal.ofBits .f32 0x45000000#32)
/-- A row's layer norm at column `j`. -/
def norm (a : Fin 2048 → EReal) (g b : EReal) (j : Fin 2048) : EReal :=
  (a j - mean a) * Ideal.rsqrt (mean (fun k => (a k - mean a) * (a k - mean a)) + Ideal.ofBits .f32 0x3727C5AC#32) * g + b

section Block
open Cert.OutKernelIdeal Cert.OutKernelIdeal.Gen

variable (x : Vec Ideal S256x2048 .f32) (o0 o1 o2 o3 z0 z1 z2 z3 : Vec Ideal S256x512 .f32) (w0 w1 w2 w3 : Vec Ideal S512x2048 .bf16)
  (g b : Vec Ideal S1x2048 .f32)

/-- Row `i` of the block before the norm. -/
def rowB (i : Fin 256) (j : Fin 2048) : EReal :=
  acc (x (ix2 i j)) (part (fun k => o0 (ix2 i k)) (fun k => z0 (ix2 i k)) fun k => w0 (ix2 k j))
    (part (fun k => o1 (ix2 i k)) (fun k => z1 (ix2 i k)) fun k => w1 (ix2 k j))
    (part (fun k => o2 (ix2 i k)) (fun k => z2 (ix2 i k)) fun k => w2 (ix2 k j))
    (part (fun k => o3 (ix2 i k)) (fun k => z3 (ix2 i k)) fun k => w3 (ix2 k j))

theorem first_half (i : Fin 256) (j : Fin 2048) : k0_pay2 (F := Ideal) x o0 z0 w0 o1 z1 w1 (ix2 i j)
    = Ideal.ofBits .f32 0x3FB504F3#32 * x (ix2 i j) + part (fun k => o0 (ix2 i k)) (fun k => z0 (ix2 i k)) (fun k => w0 (ix2 k j))
      + part (fun k => o1 (ix2 i k)) (fun k => z1 (ix2 i k)) (fun k => w1 (ix2 k j)) := by
  pointwise [k0_pay2]
  rfl

theorem centred (i : Fin 256) (j : Fin 2048) :
    k0_pay3 (F := Ideal) (k0_pay2 x o0 z0 w0 o1 z1 w1) o2 z2 w2 o3 z3 w3 (ix2 i j)
      = rowB x o0 o1 o2 o3 z0 z1 z2 z3 w0 w1 w2 w3 i j - mean (rowB x o0 o1 o2 o3 z0 z1 z2 z3 w0 w1 w2 w3 i) := by
  pointwise [k0_pay3, first_half]
  rfl

theorem block_row (i : Fin 256) (j : Fin 2048) :
    k0_pay1 (F := Ideal) (k0_pay3 (k0_pay2 x o0 z0 w0 o1 z1 w1) o2 z2 w2 o3 z3 w3) (k0_pay4 (k0_pay2 x o0 z0 w0 o1 z1 w1) o2 z2 w2 o3 z3 w3) g b (ix2 i j)
      = norm (rowB x o0 o1 o2 o3 z0 z1 z2 z3 w0 w1 w2 w3 i) (g (ix2 0 j)) (b (ix2 0 j)) j := by
  pointwise [k0_pay1, k0_pay4, centred]
  rfl

end Block

section Reference
open Cert.OutReferenceIdeal Cert.OutReferenceIdeal.Gen Cert.OutReferenceIdeal.Read

variable (x0 x1 x2 x3 : FVec Ideal S8192x512 .f32) (x4 : FVec Ideal S8192x7168 .f32) (x5 : FVec Ideal S8192x2048 .f32) (x6 : FVec Ideal S2048x2048 .f32)
  (x7 x8 : FVec Ideal S2048 .f32)

/-- Row `R` before the norm, from the arrays. -/
def rowA (R : Fin 8192) (j : Fin 2048) : EReal :=
  acc (x5 (ix2 R j)) (part (fun k => x0 (ix2 R k)) (fun k => x4 (ix2 R ⟨4608 + k.val, by omega⟩)) fun k => x6 (ix2 ⟨k.val, by omega⟩ j))
    (part (fun k => x1 (ix2 R k)) (fun k => x4 (ix2 R ⟨5120 + k.val, by omega⟩)) fun k => x6 (ix2 ⟨512 + k.val, by omega⟩ j))
    (part (fun k => x2 (ix2 R k)) (fun k => x4 (ix2 R ⟨5632 + k.val, by omega⟩)) fun k => x6 (ix2 ⟨1024 + k.val, by omega⟩ j))
    (part (fun k => x3 (ix2 R k)) (fun k => x4 (ix2 R ⟨6656 + k.val, by omega⟩)) fun k => x6 (ix2 ⟨1536 + k.val, by omega⟩ j))
/-- The output projection's array. -/
def outA (y : S8192x2048.Idx) : EReal := norm (rowA x0 x1 x2 x3 x4 x5 x6 (y 0)) (x7 (ix1 (y 1))) (x8 (ix1 (y 1))) (y 1)

theorem gated0 (R : Fin 8192) (k : Fin 512) : val_main_v11 (F := Ideal) x0 x4 (ix2 R k) = gated (x0 (ix2 R k)) (x4 (ix2 R ⟨4608 + k.val, by omega⟩)) := by
  pointwise [val_main_v11, val_main_v10, val_main_v9, val_main_v8, val_main_v7, val_main_v6, val_main_v5, val_main_v4, val_main_v0, val_main_cst, val_main_cst_0, gated]
  rw [zero_sub]
theorem gated1 (R : Fin 8192) (k : Fin 512) : val_main_v19 (F := Ideal) x1 x4 (ix2 R k) = gated (x1 (ix2 R k)) (x4 (ix2 R ⟨5120 + k.val, by omega⟩)) := by
  pointwise [val_main_v19, val_main_v18, val_main_v17, val_main_v16, val_main_v15, val_main_v14, val_main_v13, val_main_v12, val_main_v1, val_main_cst_1, val_main_cst_2, gated]
  rw [zero_sub]
theorem gated2 (R : Fin 8192) (k : Fin 512) : val_main_v27 (F := Ideal) x2 x4 (ix2 R k) = gated (x2 (ix2 R k)) (x4 (ix2 R ⟨5632 + k.val, by omega⟩)) := by
  pointwise [val_main_v27, val_main_v26, val_main_v25, val_main_v24, val_main_v23, val_main_v22, val_main_v21, val_main_v20, val_main_v2, val_main_cst_3, val_main_cst_4, gated]
  rw [zero_sub]
theorem gated3 (R : Fin 8192) (k : Fin 512) : val_main_v35 (F := Ideal) x3 x4 (ix2 R k) = gated (x3 (ix2 R k)) (x4 (ix2 R ⟨6656 + k.val, by omega⟩)) := by
  pointwise [val_main_v35, val_main_v34, val_main_v33, val_main_v32, val_main_v31, val_main_v30, val_main_v29, val_main_v28, val_main_v3, val_main_cst_5, val_main_cst_6, gated]
  rw [zero_sub]

/-- A sum over 2048 in four runs of 512. -/
theorem sum_four (f : Fin 2048 → EReal) : ∑ k, f k
    = (∑ k : Fin 512, f ⟨k.val, by omega⟩) + (∑ k : Fin 512, f ⟨512 + k.val, by omega⟩)
      + (∑ k : Fin 512, f ⟨1024 + k.val, by omega⟩) + ∑ k : Fin 512, f ⟨1536 + k.val, by omega⟩ := by
  have split (a b n : ℕ) (h : a + b = n) (g : Fin n → EReal) :
      ∑ k, g k = (∑ k : Fin a, g ⟨k.val, by omega⟩) + ∑ k : Fin b, g ⟨a + k.val, by omega⟩ := by
    subst h; rw [Fin.sum_univ_add]; rfl
  rw [split 1536 512 2048 rfl f, split 1024 512 1536 rfl, split 512 512 1024 rfl]

/-- The four gated mixers side by side. -/
theorem cat (R : Fin 8192) (k : Fin 512) :
    val_main_v36 (F := Ideal) x0 x1 x2 x3 x4 (ix2 R ⟨k.val, by omega⟩) = gated (x0 (ix2 R k)) (x4 (ix2 R ⟨4608 + k.val, by omega⟩))
    ∧ val_main_v36 (F := Ideal) x0 x1 x2 x3 x4 (ix2 R ⟨512 + k.val, by omega⟩) = gated (x1 (ix2 R k)) (x4 (ix2 R ⟨5120 + k.val, by omega⟩))
    ∧ val_main_v36 (F := Ideal) x0 x1 x2 x3 x4 (ix2 R ⟨1024 + k.val, by omega⟩) = gated (x2 (ix2 R k)) (x4 (ix2 R ⟨5632 + k.val, by omega⟩))
    ∧ val_main_v36 (F := Ideal) x0 x1 x2 x3 x4 (ix2 R ⟨1536 + k.val, by omega⟩) = gated (x3 (ix2 R k)) (x4 (ix2 R ⟨6656 + k.val, by omega⟩)) := by
  rw [← gated0, ← gated1, ← gated2, ← gated3]
  unfold val_main_v36
  generalize val_main_v11 (F := Ideal) x0 x4 = y0
  generalize val_main_v19 (F := Ideal) x1 x4 = y1
  generalize val_main_v27 (F := Ideal) x2 x4 = y2
  generalize val_main_v35 (F := Ideal) x3 x4 = y3
  have hk := k.isLt
  refine ⟨?_, ?_, ?_, ?_⟩
  · pointwise
  · pointwise
  · pointwise
    rw [dif_neg (by omega), dif_neg (by omega), dif_pos (by omega)]
    simp only [show 1024 + k.val - 512 - 512 = k.val by omega]
  · pointwise
    rw [dif_neg (by omega), dif_neg (by omega), dif_neg (by omega)]
    simp only [show 1536 + k.val - 512 - 512 - 512 = k.val by omega]

theorem reference_acc (R : Fin 8192) (j : Fin 2048) : val_main_v40 (F := Ideal) x0 x1 x2 x3 x4 x5 x6 (ix2 R j) = rowA x0 x1 x2 x3 x4 x5 x6 R j := by
  pointwise [val_main_v40, val_main_v39, val_main_v38, val_main_cst_7, val_main_v37]
  rw [sum_four, rowA, acc, ← add_assoc, ← add_assoc, ← add_assoc]
  refine congrArg₂ (· + ·) (congrArg₂ (· + ·) (congrArg₂ (· + ·) (congrArg₂ (· + ·) rfl ?_) ?_) ?_) ?_ <;>
    refine Finset.sum_congr rfl fun k _ => congrArg (· * _) ?_
  · exact (cat x0 x1 x2 x3 x4 R k).1
  · exact (cat x0 x1 x2 x3 x4 R k).2.1
  · exact (cat x0 x1 x2 x3 x4 R k).2.2.1
  · exact (cat x0 x1 x2 x3 x4 R k).2.2.2

theorem reference_row (R : Fin 8192) (j : Fin 2048) : val_main_v64 (F := Ideal) x0 x1 x2 x3 x4 x5 x6 x7 x8 (ix2 R j)
    = outA x0 x1 x2 x3 x4 x5 x6 x7 x8 (ix2 R j) := by
  pointwise [val_main_v64, val_main_v63, val_main_v62, val_main_v61, val_main_v60, val_main_v59, val_main_v58, val_main_v57, val_main_v56, val_main_v55,
    val_main_v54, val_main_v53, val_main_v52, val_main_v51, val_main_v50, val_main_v49, val_main_v48, val_main_v47, val_main_v46, val_main_v45, val_main_v44,
    val_main_v43, val_main_v42, val_main_v41, val_main_cst_8, val_main_cst_9, val_main_cst_10, val_main_cst_11, val_main_cst_12, reference_acc]
  rfl

theorem reference_array : val_main_v64 (F := Ideal) x0 x1 x2 x3 x4 x5 x6 x7 x8 = outA x0 x1 x2 x3 x4 x5 x6 x7 x8 := by
  funext y
  obtain ⟨R, j, rfl⟩ : ∃ (R : Fin 8192) (j : Fin 2048), y = ix2 R j := ⟨y 0, y 1, by funext a; fin_cases a <;> rfl⟩
  exact reference_row x0 x1 x2 x3 x4 x5 x6 x7 x8 R j

end Reference

end Cert.Out

end
-- ==== Proof.Out.Value.lean ====
/- The output projection's array after the run, and the reference's: the same. -/
module

public import proofs.«01_k».proof.Defs
public import proofs.«01_k».proof.Proof.Gen.OutKernelIdeal.Value
public import proofs.«01_k».proof.Proof.Gen.OutReferenceIdeal.Run
public import proofs.«01_k».proof.Proof.Out.Row
public import Idealize.ShloMosaic.Lib.Pipeline.ValueKit

@[expose] public section

set_option maxRecDepth 16384

noncomputable section

namespace Cert.Out

open Cert.OutKernelIdeal Cert.OutKernelIdeal.Gen
open Idealize.ShloMosaic Idealize.SL.Sem
open Idealize.ShloMosaic.TcCoe

variable (m : (ℓ : Loc nD τ sig) → Buf (Elt Ideal) ℓ) (ρ : Dev nD → PrngReg) (c : Dev nD)

/-- Point `t` takes the `t`-th 256 rows of every row array, the columns at their places, and the weights whole. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 9] ∧ win0_5.index t = ![t.val, 10] ∧ win0_6.index t = ![t.val, 11] ∧ win0_7.index t = ![t.val, 13]
    ∧ win0_8.index t = ![t.val, 0] ∧ win0_9.index t = ![0, 0] ∧ win0_10.index t = ![0, 0] ∧ win0_11.index t = ![0, 0] ∧ win0_12.index t = ![t.val, 0]
    ∧ t.val < 32 :=
  (by decide +kernel : ∀ t : Fin grid0.N, _)

/-- The array, of the launch's arguments. -/
abbrev result : S8192x2048.Idx → EReal :=
  outA (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8))

/-- The weights' change of format keeps the numbers, and the norm's gain and offset only gain an axis. -/
theorem V_w (i : S2048x2048.Idx) : V m c main_v0 i = m ((c : Thread nD τ).loc main_arg6) i := by
  entry_read
  rfl
theorem V_g (j : Fin 2048) : V m c main_v1 (ix2 0 j) = m ((c : Thread nD τ).loc main_arg7) (ix1 j) := by
  entry_read
  pointwise
theorem V_b (j : Fin 2048) : V m c main_v2 (ix2 0 j) = m ((c : Thread nD τ).loc main_arg8) (ix1 j) := by
  entry_read
  pointwise

/-- Point `t` leaves its 256 rows of the array. -/
theorem point (t : Fin cfg0.N) (i : Fin 256) (j : Fin 2048) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i j)
      = result m c (ix2 ⟨256 * t.val + i.val, by have := (idx t).2.2.2.2.2.2.2.2.2.2.2.2.2; omega⟩ j) := by
  unfold_out out0_12
  frame_out
  rw [block_row, show ∀ R : Fin 8192, result m c (ix2 R j) = norm _ _ _ _ from fun _ => rfl]
  refine congr (congr (congr (congrArg norm (funext fun j' => ?_)) ?_) ?_) rfl
  · unfold rowB rowA
    blk_point [iblk, V, idx t]
  · refine (congrArg (V m c main_v1) (?_ : _ = ix2 0 j)).trans (V_g m c j)
    blk_ext [iblk, V, idx t]
  · refine (congrArg (V m c main_v2) (?_ : _ = ix2 0 j)).trans (V_b m c j)
    blk_ext [iblk, V, idx t]

theorem final : (dats m 0 c).arrAt 12 (cfgs 0).N = result m c := by
  refine (dats m 0 c).arrAt_eq_of_covers 12 (result m c) (by decide +kernel) fun t _ y => ?_
  obtain ⟨i, j, rfl⟩ : ∃ (i : Fin 256) (j : Fin 2048), y = ix2 i j := ⟨y 0, y 1, by funext a; fin_cases a <;> rfl⟩
  blk_simp
  rw [after0_12]
  refine (point m c t i j).trans (congrArg (result m c) ?_)
  blk_ext [idx t]

theorem same_results : Cert.algebraic_OutKernelIdeal_OutReferenceIdeal := by
  intro m g m' g' _ agree
  refine ⟨fun c => result m c, ?_, ?_⟩
  · refine (θ_run (Cert.OutKernelIdeal.defs (F := Ideal)) _ _).mono (fun r h c => ⟨(h c).1.trans (final m c), (h c).2⟩) (Cert.OutKernelIdeal.Value.run_blocks (F := Ideal) m g)
  · refine (θ_run (Cert.OutReferenceIdeal.defs (F := Ideal)) _ _).mono (fun r h c => ⟨?_, (h c).2⟩) (Cert.OutReferenceIdeal.Value.run (F := Ideal) m' g')
    obtain ⟨a0, a1, a2, a3, a4, a5, a6, a7, a8⟩ := agree c
    rw [(h c).1, Cert.OutReferenceIdeal.Read.val_main_v64_eq, a0, a1, a2, a3, a4, a5, a6, a7, a8]
    exact reference_array _ _ _ _ _ _ _ _ _

theorem frame_ideal : Cert.quiescent_OutKernelIdeal := fun m ρ _ => Cert.OutKernelIdeal.Gen.frame (F := Ideal) m ρ
theorem frame_reference : Cert.quiescent_OutReferenceIdeal := fun m ρ _ =>
  (θ_run (Cert.OutReferenceIdeal.defs (F := Ideal)) _ _).mono
    (fun r h => ⟨fun c => (h c).2, Idealize.ShloMosaic.sem_eq_zero_of_no_sems (by decide) r.2⟩)
    (Cert.OutReferenceIdeal.Value.run (F := Ideal) m ρ)

end Cert.Out

end
-- ==== Proof.Proj.Kit.lean ====
/- The projection kernel up to its body: what the host operations leave, the blocks, the branch conditions over the grid, the idle points. -/
module

public import proofs.«01_k».proof.Proof.Gen.ProjKernelIdeal.Launch
public import proofs.«01_k».proof.Proof.Gen.ProjKernelIdeal.Skeleton
public import proofs.«01_k».proof.Proof.Gen.ProjKernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384
set_option Elab.async false

noncomputable section

namespace Cert.Proj

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments after a frame run, for any proof data whose arrays are the region-entry contents: as launched. -/
theorem kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 7) — by arithmetic of the point. -/
theorem hcond0_0 : ∀ t : Fin cfg0.N, cond0_0 (grid0.coords t) ↔ t.val % 7 = 0 :=
  (fun t => by
    have ht : t.val < 56 := Nat.lt_of_lt_of_eq t.isLt N_0
    have e0 : (grid0.coords t 0).val = t.val / 7 % 8 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 0)

/-- The condition of the body's `scf.if` 1 (`k0_h2`), from the grid coordinates (the skeleton's scalar
    chain substituted). -/
abbrev cond0_1 (i : grid0.Coords) : Prop := k0_cond2 i = 1#1
/-- It holds at the points ≡ 3 (mod 7) — by arithmetic of the point. -/
theorem hcond0_1 : ∀ t : Fin cfg0.N, cond0_1 (grid0.coords t) ↔ t.val % 7 = 3 :=
  (fun t => by
    have ht : t.val < 56 := Nat.lt_of_lt_of_eq t.isLt N_0
    have e0 : (grid0.coords t 0).val = t.val / 7 % 8 := Pipeline.Grid.coords_val t 0 (by decide) rfl
    have e1 : (grid0.coords t 1).val = t.val / 1 % 7 := Pipeline.Grid.coords_val t 1 (by decide) rfl
    simp only [cond0_1, k0_cond2, e0, e1]
    word_cmp
   : ∀ t : Fin grid0.N, cond0_1 (grid0.coords t) ↔ t.val % 7 = 3)

/-- The condition of the body's `scf.if` 2 (`k0_h3`), from the grid coordinates (the skeleton's scalar
    chain substituted). -/
abbrev cond0_2 (i : grid0.Coords) : Prop := k0_cond3 i = 1#1
/-- It holds at the points ≡ 4 (mod 7) — by arithmetic of the point. -/
theorem hcond0_2 : ∀ t : Fin cfg0.N, cond0_2 (grid0.coords t) ↔ t.val % 7 = 4 :=
  (fun t => by
    have ht : t.val < 56 := Nat.lt_of_lt_of_eq t.isLt N_0
    have e0 : (grid0.coords t 0).val = t.val / 7 % 8 := Pipeline.Grid.coords_val t 0 (by decide) rfl
    have e1 : (grid0.coords t 1).val = t.val / 1 % 7 := Pipeline.Grid.coords_val t 1 (by decide) rfl
    simp only [cond0_2, k0_cond3, e0, e1]
    word_cmp
   : ∀ t : Fin grid0.N, cond0_2 (grid0.coords t) ↔ t.val % 7 = 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- At the points of case A the printed configuration (`Cfg.idle`) calls output 4 live: the case stores into it. -/
theorem liveAt0_4_A : ∀ t : Fin cfg0.N, cond0_0 (grid0.coords t) → ¬cond0_1 (grid0.coords t) → ¬cond0_2 (grid0.coords t) → cfg0.idle 4 (grid0.coords t) = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → ¬cond0_2 (grid0.coords t) → cfg0.idle 4 (grid0.coords t) = true := by decide +kernel
/-- At the points of case C the printed configuration (`Cfg.idle`) calls output 4 idle: the case stores nothing into it. -/
theorem idleAt0_4_C : ∀ t : Fin cfg0.N, ¬cond0_0 (grid0.coords t) → cond0_1 (grid0.coords t) → ¬cond0_2 (grid0.coords t) → cfg0.idle 4 (grid0.coords t) = true := by decide +kernel
/-- At the points of case C the pipeline does not write output 4's block back. -/
theorem noFlush0_4_C : ∀ t : Fin cfg0.N, ¬cond0_0 (grid0.coords t) → cond0_1 (grid0.coords t) → ¬cond0_2 (grid0.coords t) → (cfg0.win 4).flush t = false := by decide +kernel
/-- At the points of case D the printed configuration (`Cfg.idle`) calls output 4 idle: the case stores nothing into it. -/
theorem idleAt0_4_D : ∀ t : Fin cfg0.N, ¬cond0_0 (grid0.coords t) → ¬cond0_1 (grid0.coords t) → cond0_2 (grid0.coords t) → cfg0.idle 4 (grid0.coords t) = true := by decide +kernel
/-- At the points of case D the pipeline does not write output 4's block back. -/
theorem noFlush0_4_D : ∀ t : Fin cfg0.N, ¬cond0_0 (grid0.coords t) → ¬cond0_1 (grid0.coords t) → cond0_2 (grid0.coords t) → (cfg0.win 4).flush t = false := by decide +kernel
/-- At the points of case A the printed configuration (`Cfg.idle`) calls output 5 idle: the case stores nothing into it. -/
theorem idleAt0_5_A : ∀ t : Fin cfg0.N, cond0_0 (grid0.coords t) → ¬cond0_1 (grid0.coords t) → ¬cond0_2 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → ¬cond0_2 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → ¬cond0_2 (grid0.coords t) → cfg0.idle 5 (grid0.coords t) = true := by decide +kernel
/-- At the points of case C the printed configuration (`Cfg.idle`) calls output 5 live: the case stores into it. -/
theorem liveAt0_5_C : ∀ t : Fin cfg0.N, ¬cond0_0 (grid0.coords t) → cond0_1 (grid0.coords t) → ¬cond0_2 (grid0.coords t) → cfg0.idle 5 (grid0.coords t) = false := by decide +kernel
/-- At the points of case D the printed configuration (`Cfg.idle`) calls output 5 idle: the case stores nothing into it. -/
theorem idleAt0_5_D : ∀ t : Fin cfg0.N, ¬cond0_0 (grid0.coords t) → ¬cond0_1 (grid0.coords t) → cond0_2 (grid0.coords t) → cfg0.idle 5 (grid0.coords t) = true := by decide +kernel
/-- At the points of case D the pipeline does not write output 5's block back. -/
theorem noFlush0_5_D : ∀ t : Fin cfg0.N, ¬cond0_0 (grid0.coords t) → ¬cond0_1 (grid0.coords t) → cond0_2 (grid0.coords t) → (cfg0.win 5).flush t = false := by decide +kernel
/-- At the points of case A the printed configuration (`Cfg.idle`) calls output 6 idle: the case stores nothing into it. -/
theorem idleAt0_6_A : ∀ t : Fin cfg0.N, cond0_0 (grid0.coords t) → ¬cond0_1 (grid0.coords t) → ¬cond0_2 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → ¬cond0_2 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → ¬cond0_2 (grid0.coords t) → cfg0.idle 6 (grid0.coords t) = true := by decide +kernel
/-- At the points of case C the printed configuration (`Cfg.idle`) calls output 6 idle: the case stores nothing into it. -/
theorem idleAt0_6_C : ∀ t : Fin cfg0.N, ¬cond0_0 (grid0.coords t) → cond0_1 (grid0.coords t) → ¬cond0_2 (grid0.coords t) → cfg0.idle 6 (grid0.coords t) = true := by decide +kernel
/-- At the points of case C the pipeline does not write output 6's block back. -/
theorem noFlush0_6_C : ∀ t : Fin cfg0.N, ¬cond0_0 (grid0.coords t) → cond0_1 (grid0.coords t) → ¬cond0_2 (grid0.coords t) → (cfg0.win 6).flush t = false := by decide +kernel
/-- At the points of case D the printed configuration (`Cfg.idle`) calls output 6 live: the case stores into it. -/
theorem liveAt0_6_D : ∀ t : Fin cfg0.N, ¬cond0_0 (grid0.coords t) → ¬cond0_1 (grid0.coords t) → cond0_2 (grid0.coords t) → cfg0.idle 6 (grid0.coords t) = false := by decide +kernel

/-! ## The kernel body on any staging memrefs: a subtype the run finds -/

/-- One staging buffer of output window 3, through which its contents are stated (`View.read_writes_of_cover`: the
    choice does not matter). -/
abbrev VO0_3 : View sig .tc .vmem S1024x1024 .f32 := (Memref.whole cc0_stg3_0 : Memref sig .tc .vmem S1024x1024 .f32).view
/-- One staging buffer of output window 4, through which its contents are stated (`View.read_writes_of_cover`: the
    choice does not matter). -/
abbrev VO0_4 : View sig .tc .vmem S1024x128 .f32 := (Memref.whole cc0_stg4_0 : Memref sig .tc .vmem S1024x128 .f32).view
/-- One staging buffer of output window 5, through which its contents are stated (`View.read_writes_of_cover`: the
    choice does not matter). -/
abbrev VO0_5 : View sig .tc .vmem S1x1x512x1024 .f32 := (Memref.whole cc0_stg5_0 : Memref sig .tc .vmem S1x1x512x1024 .f32).view
/-- One staging buffer of output window 6, through which its contents are stated (`View.read_writes_of_cover`: the
    choice does not matter). -/
abbrev VO0_6 : View sig .tc .vmem S1x1x512x1024 .f32 := (Memref.whole cc0_stg6_0 : Memref sig .tc .vmem S1x1x512x1024 .f32).view
/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512x1024 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x2048 .bf16 := Memref.whole cc0_scratch0
/-- The scratch `arg11` the kernel carries between points, as a view: what it holds is stated through it. -/
abbrev VS0_0 : View sig .tc .vmem S1024x2048 .bf16 := scM0_0.view

/-- The frame kit's invariant with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Proj

end
-- ==== Proof.Proj.Runs.lean ====
/- The kernel body run once per control path, on any whole staging buffers. -/
module

public import proofs.«01_k».proof.Proof.Proj.Kit

@[expose] public section

set_option maxRecDepth 16384
set_option Elab.async false

noncomputable section

namespace Cert.Proj

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.proofsInPublic true in
set_option maxHeartbeats 1000000 in
/-- At the first column block of a row block (points 0, 7, … 49): the rows are cast and kept, the small columns and the block stored. The pieces each output ends with are the witness; an output the body does not touch is handed back. -/
noncomputable def kernelRun0_A (c : Dev nD) (i : grid0.Coords) (arg2 : Memref sig .tc .vmem S1024x2048 .f32) (harg2 : arg2.IsWhole) (arg3 : Memref sig .tc .vmem S2048x1024 .bf16) (harg3 : arg3.IsWhole) (arg4 : Memref sig .tc .vmem S2048x128 .bf16) (harg4 : arg4.IsWhole) (arg7 : Memref sig .tc .vmem S1024x1024 .f32) (harg7 : arg7.IsWhole) (arg8 : Memref sig .tc .vmem S1024x128 .f32) (harg8 : arg8.IsWhole) (arg9 : Memref sig .tc .vmem S1x1x512x1024 .f32) (harg9 : arg9.IsWhole) (arg10 : Memref sig .tc .vmem S1x1x512x1024 .f32) (harg10 : arg10.IsWhole) (arg11 : Memref sig .tc .vmem S1024x2048 .bf16) (harg11 : arg11.IsWhole) (hc0 : cond0_0 i) (hc1 : ¬cond0_1 i) (hc2 : ¬cond0_2 i)
    (x0 : Vec F S1024x2048 .f32) (x1 : Vec F S2048x1024 .bf16) (x2 : Vec F S2048x128 .bf16) :
    Σ' (L3 : List (View.Piece (Elt F) S1024x1024 .f32)), Σ' (L4 : List (View.Piece (Elt F) S1024x128 .f32)), Σ' (L5 : List (View.Piece (Elt F) S1x1x512x1024 .f32)), Σ' (L6 : List (View.Piece (Elt F) S1x1x512x1024 .f32)), { LS0 : List (View.Piece (Elt F) S1024x2048 .bf16) //
      ∀ (xi5 : Vec F S1x1x512x1024 .f32) (xi6 : Vec F S1x1x512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg7 fullShare d) ∗ (∃ d, owns (c : Thread nD τ) arg8 fullShare d) ∗ owns (c : Thread nD τ) arg9 fullShare xi5 ∗ owns (c : Thread nD τ) arg10 fullShare xi6 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f L4) ∗ owns (c : Thread nD τ) arg9 fullShare xi5 ∗ owns (c : Thread nD τ) arg10 fullShare xi6 ∗ (∃ f, arg11.view.loc (c : Thread nD τ) ↦[arg11.view.set]{fullShare} arg11.view.writes (Elt F) f LS0)) -∗ K ⟨⟩))
          ⊢ wp frame (wpE (defs₀ (F := F)) Variants.none c none) E (cc0_proj i arg2 harg2 arg3 harg3 arg4 harg4 (Memref.whole main_arg3) (Memref.isWhole_whole _) (Memref.whole main_arg4) (Memref.isWhole_whole _) arg7 harg7 arg8 harg8 arg9 harg9 arg10 harg10 arg11 harg11) K } := by
  refine ⟨?_, ?_, [], [], ?_, fun xi5 xi6 E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg9.eq_unread hf5; obtain rfl := harg10.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]
    · iexists _; isplitr; · ipureintro; exact harg9.read_unread _
      iexact H5
    isplitl [H6]
    · iexists _; isplitr; · ipureintro; exact harg10.read_unread _
      iexact H6
    iexists _; iexact HS0

set_option backward.proofsInPublic true in
set_option maxHeartbeats 1000000 in
/-- At a column block that holds neither keys nor values: the block is stored and nothing else. The pieces each output ends with are the witness; an output the body does not touch is handed back. -/
noncomputable def kernelRun0_B (c : Dev nD) (i : grid0.Coords) (arg2 : Memref sig .tc .vmem S1024x2048 .f32) (harg2 : arg2.IsWhole) (arg3 : Memref sig .tc .vmem S2048x1024 .bf16) (harg3 : arg3.IsWhole) (arg4 : Memref sig .tc .vmem S2048x128 .bf16) (harg4 : arg4.IsWhole) (arg7 : Memref sig .tc .vmem S1024x1024 .f32) (harg7 : arg7.IsWhole) (arg8 : Memref sig .tc .vmem S1024x128 .f32) (harg8 : arg8.IsWhole) (arg9 : Memref sig .tc .vmem S1x1x512x1024 .f32) (harg9 : arg9.IsWhole) (arg10 : Memref sig .tc .vmem S1x1x512x1024 .f32) (harg10 : arg10.IsWhole) (arg11 : Memref sig .tc .vmem S1024x2048 .bf16) (harg11 : arg11.IsWhole) (hc0 : ¬cond0_0 i) (hc1 : ¬cond0_1 i) (hc2 : ¬cond0_2 i)
    (x0 : Vec F S1024x2048 .f32) (x1 : Vec F S2048x1024 .bf16) (x2 : Vec F S2048x128 .bf16) (xs0 : Vec F S1024x2048 .bf16) :
    Σ' (L3 : List (View.Piece (Elt F) S1024x1024 .f32)), Σ' (L4 : List (View.Piece (Elt F) S1024x128 .f32)), Σ' (L5 : List (View.Piece (Elt F) S1x1x512x1024 .f32)), Σ' (L6 : List (View.Piece (Elt F) S1x1x512x1024 .f32)), { LS0 : List (View.Piece (Elt F) S1024x2048 .bf16) //
      ∀ (xi4 : Vec F S1024x128 .f32) (xi5 : Vec F S1x1x512x1024 .f32) (xi6 : Vec F S1x1x512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg7 fullShare d) ∗ owns (c : Thread nD τ) arg8 fullShare xi4 ∗ owns (c : Thread nD τ) arg9 fullShare xi5 ∗ owns (c : Thread nD τ) arg10 fullShare xi6 ∗ owns (c : Thread nD τ) arg11 fullShare xs0
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f L3) ∗ owns (c : Thread nD τ) arg8 fullShare xi4 ∗ owns (c : Thread nD τ) arg9 fullShare xi5 ∗ owns (c : Thread nD τ) arg10 fullShare xi6 ∗ owns (c : Thread nD τ) arg11 fullShare xs0) -∗ K ⟨⟩))
          ⊢ wp frame (wpE (defs₀ (F := F)) Variants.none c none) E (cc0_proj i arg2 harg2 arg3 harg3 arg4 harg4 (Memref.whole main_arg3) (Memref.isWhole_whole _) (Memref.whole main_arg4) (Memref.isWhole_whole _) arg7 harg7 arg8 harg8 arg9 harg9 arg10 harg10 arg11 harg11) K } := by
  refine ⟨?_, [], [], [], [], fun xi4 xi5 xi6 E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg8.eq_unread hf4; obtain rfl := harg9.eq_unread hf5; obtain rfl := harg10.eq_unread hf6; obtain rfl := harg11.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    iexists _; isplitr; · ipureintro; exact harg11.read_unread _
    iexact HS0

set_option backward.proofsInPublic true in
set_option maxHeartbeats 1000000 in
/-- At the column block that holds the keys (points ≡ 3): the block and the keys transposed are stored. The pieces each output ends with are the witness; an output the body does not touch is handed back. -/
noncomputable def kernelRun0_C (c : Dev nD) (i : grid0.Coords) (arg2 : Memref sig .tc .vmem S1024x2048 .f32) (harg2 : arg2.IsWhole) (arg3 : Memref sig .tc .vmem S2048x1024 .bf16) (harg3 : arg3.IsWhole) (arg4 : Memref sig .tc .vmem S2048x128 .bf16) (harg4 : arg4.IsWhole) (arg7 : Memref sig .tc .vmem S1024x1024 .f32) (harg7 : arg7.IsWhole) (arg8 : Memref sig .tc .vmem S1024x128 .f32) (harg8 : arg8.IsWhole) (arg9 : Memref sig .tc .vmem S1x1x512x1024 .f32) (harg9 : arg9.IsWhole) (arg10 : Memref sig .tc .vmem S1x1x512x1024 .f32) (harg10 : arg10.IsWhole) (arg11 : Memref sig .tc .vmem S1024x2048 .bf16) (harg11 : arg11.IsWhole) (hc0 : ¬cond0_0 i) (hc1 : cond0_1 i) (hc2 : ¬cond0_2 i)
    (x0 : Vec F S1024x2048 .f32) (x1 : Vec F S2048x1024 .bf16) (x2 : Vec F S2048x128 .bf16) (xs0 : Vec F S1024x2048 .bf16) :
    Σ' (L3 : List (View.Piece (Elt F) S1024x1024 .f32)), Σ' (L4 : List (View.Piece (Elt F) S1024x128 .f32)), Σ' (L5 : List (View.Piece (Elt F) S1x1x512x1024 .f32)), Σ' (L6 : List (View.Piece (Elt F) S1x1x512x1024 .f32)), { LS0 : List (View.Piece (Elt F) S1024x2048 .bf16) //
      ∀ (xi4 : Vec F S1024x128 .f32) (xi6 : Vec F S1x1x512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg7 fullShare d) ∗ owns (c : Thread nD τ) arg8 fullShare xi4 ∗ (∃ d, owns (c : Thread nD τ) arg9 fullShare d) ∗ owns (c : Thread nD τ) arg10 fullShare xi6 ∗ owns (c : Thread nD τ) arg11 fullShare xs0
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f L3) ∗ owns (c : Thread nD τ) arg8 fullShare xi4 ∗ (∃ f, arg9.view.loc (c : Thread nD τ) ↦[arg9.view.set]{fullShare} arg9.view.writes (Elt F) f L5) ∗ owns (c : Thread nD τ) arg10 fullShare xi6 ∗ owns (c : Thread nD τ) arg11 fullShare xs0) -∗ K ⟨⟩))
          ⊢ wp frame (wpE (defs₀ (F := F)) Variants.none c none) E (cc0_proj i arg2 harg2 arg3 harg3 arg4 harg4 (Memref.whole main_arg3) (Memref.isWhole_whole _) (Memref.whole main_arg4) (Memref.isWhole_whole _) arg7 harg7 arg8 harg8 arg9 harg9 arg10 harg10 arg11 harg11) K } := by
  refine ⟨?_, [], ?_, [], [], fun xi4 xi6 E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg8.eq_unread hf4; obtain rfl := harg10.eq_unread hf6; obtain rfl := harg11.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg8.read_unread _
      iexact H4
    isplitl [H5]; · iexists _; iexact H5
    isplitl [H6]
    · iexists _; isplitr; · ipureintro; exact harg10.read_unread _
      iexact H6
    iexists _; isplitr; · ipureintro; exact harg11.read_unread _
    iexact HS0

set_option backward.proofsInPublic true in
set_option maxHeartbeats 1000000 in
/-- At the column block that holds the values (points ≡ 4): the block and the values transposed are stored. The pieces each output ends with are the witness; an output the body does not touch is handed back. -/
noncomputable def kernelRun0_D (c : Dev nD) (i : grid0.Coords) (arg2 : Memref sig .tc .vmem S1024x2048 .f32) (harg2 : arg2.IsWhole) (arg3 : Memref sig .tc .vmem S2048x1024 .bf16) (harg3 : arg3.IsWhole) (arg4 : Memref sig .tc .vmem S2048x128 .bf16) (harg4 : arg4.IsWhole) (arg7 : Memref sig .tc .vmem S1024x1024 .f32) (harg7 : arg7.IsWhole) (arg8 : Memref sig .tc .vmem S1024x128 .f32) (harg8 : arg8.IsWhole) (arg9 : Memref sig .tc .vmem S1x1x512x1024 .f32) (harg9 : arg9.IsWhole) (arg10 : Memref sig .tc .vmem S1x1x512x1024 .f32) (harg10 : arg10.IsWhole) (arg11 : Memref sig .tc .vmem S1024x2048 .bf16) (harg11 : arg11.IsWhole) (hc0 : ¬cond0_0 i) (hc1 : ¬cond0_1 i) (hc2 : cond0_2 i)
    (x0 : Vec F S1024x2048 .f32) (x1 : Vec F S2048x1024 .bf16) (x2 : Vec F S2048x128 .bf16) (xs0 : Vec F S1024x2048 .bf16) :
    Σ' (L3 : List (View.Piece (Elt F) S1024x1024 .f32)), Σ' (L4 : List (View.Piece (Elt F) S1024x128 .f32)), Σ' (L5 : List (View.Piece (Elt F) S1x1x512x1024 .f32)), Σ' (L6 : List (View.Piece (Elt F) S1x1x512x1024 .f32)), { LS0 : List (View.Piece (Elt F) S1024x2048 .bf16) //
      ∀ (xi4 : Vec F S1024x128 .f32) (xi5 : Vec F S1x1x512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg7 fullShare d) ∗ owns (c : Thread nD τ) arg8 fullShare xi4 ∗ owns (c : Thread nD τ) arg9 fullShare xi5 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f L3) ∗ owns (c : Thread nD τ) arg8 fullShare xi4 ∗ owns (c : Thread nD τ) arg9 fullShare xi5 ∗ (∃ f, arg10.view.loc (c : Thread nD τ) ↦[arg10.view.set]{fullShare} arg10.view.writes (Elt F) f L6) ∗ owns (c : Thread nD τ) arg11 fullShare xs0) -∗ K ⟨⟩))
          ⊢ wp frame (wpE (defs₀ (F := F)) Variants.none c none) E (cc0_proj i arg2 harg2 arg3 harg3 arg4 harg4 (Memref.whole main_arg3) (Memref.isWhole_whole _) (Memref.whole main_arg4) (Memref.isWhole_whole _) arg7 harg7 arg8 harg8 arg9 harg9 arg10 harg10 arg11 harg11) K } := by
  refine ⟨?_, [], [], ?_, [], fun xi4 xi5 E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg8.eq_unread hf4; obtain rfl := harg9.eq_unread hf5; obtain rfl := harg11.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg8.read_unread _
      iexact H4
    isplitl [H5]
    · iexists _; isplitr; · ipureintro; exact harg9.read_unread _
      iexact H5
    isplitl [H6]; · iexists _; iexact H6
    iexists _; isplitr; · ipureintro; exact harg11.read_unread _
    iexact HS0

end Cert.Proj

end
-- ==== Proof.Proj.Frame.lean ====
/- What each point leaves in the outputs and the cast rows, the body obligation, the launch and the frame. -/
module

public import proofs.«01_k».proof.Proof.Proj.Runs

@[expose] public section

set_option maxRecDepth 16384
set_option Elab.async false

noncomputable section

namespace Cert.Proj

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The four paths' runs, at a point's buffers and blocks -/

theorem no0_0 (t : Fin cfg0.N) (h : ¬t.val % 7 = 0) : ¬cond0_0 (grid0.coords t) := fun h' => h ((hcond0_0 t).mp h')
theorem no0_1 (t : Fin cfg0.N) (h : ¬t.val % 7 = 3) : ¬cond0_1 (grid0.coords t) := fun h' => h ((hcond0_1 t).mp h')
theorem no0_2 (t : Fin cfg0.N) (h : ¬t.val % 7 = 4) : ¬cond0_2 (grid0.coords t) := fun h' => h ((hcond0_2 t).mp h')

variable (c : Dev nD) (t : Fin cfg0.N)

abbrev runA (h0 : t.val % 7 = 0) (h1 : ¬t.val % 7 = 3) (h2 : ¬t.val % 7 = 4) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    ((hcond0_0 t).mpr h0) (no0_1 t h1) (no0_2 t h2) (iblk m c 0 t) (iblk m c 1 t) (iblk m c 2 t)
abbrev runB (h0 : ¬t.val % 7 = 0) (h1 : ¬t.val % 7 = 3) (h2 : ¬t.val % 7 = 4) (xs : Vec F S1024x2048 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (no0_0 t h0) (no0_1 t h1) (no0_2 t h2) (iblk m c 0 t) (iblk m c 1 t) (iblk m c 2 t) xs
abbrev runC (h0 : ¬t.val % 7 = 0) (h1 : t.val % 7 = 3) (h2 : ¬t.val % 7 = 4) (xs : Vec F S1024x2048 .bf16) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (no0_0 t h0) ((hcond0_1 t).mpr h1) (no0_2 t h2) (iblk m c 0 t) (iblk m c 1 t) (iblk m c 2 t) xs
abbrev runD (h0 : ¬t.val % 7 = 0) (h1 : ¬t.val % 7 = 3) (h2 : t.val % 7 = 4) (xs : Vec F S1024x2048 .bf16) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (no0_0 t h0) (no0_1 t h1) ((hcond0_2 t).mpr h2) (iblk m c 0 t) (iblk m c 1 t) (iblk m c 2 t) xs

/-! Path A: its pieces cover what it stores into, and what it leaves there is the pieces read back. -/

section
variable (h0 : t.val % 7 = 0) (h1 : ¬t.val % 7 = 3) (h2 : ¬t.val % 7 = 4)
theorem cover0_A_3 (y : S1024x1024.Idx) : ∃ pc ∈ (runA m c t h0 h1 h2).1, y ∈ pc.1.set :=
  View.cover_of_tiledL _ S1024x1024.size (by sl_kernel_rfl) y
def out0_A_3 : Vec F S1024x1024 .f32 := VO0_3.read (Elt F) (VO0_3.writes (Elt F) VO0_3.junk (runA m c t h0 h1 h2).1)
theorem cover0_A_4 (y : S1024x128.Idx) : ∃ pc ∈ (runA m c t h0 h1 h2).2.1, y ∈ pc.1.set :=
  View.cover_of_tiledL _ S1024x128.size (by sl_kernel_rfl) y
def out0_A_4 : Vec F S1024x128 .f32 := VO0_4.read (Elt F) (VO0_4.writes (Elt F) VO0_4.junk (runA m c t h0 h1 h2).2.1)
theorem scover0_A_0 (y : S1024x2048.Idx) : ∃ pc ∈ (runA m c t h0 h1 h2).2.2.2.2.1, y ∈ pc.1.set :=
  View.cover_of_tiledL _ S1024x2048.size (by sl_kernel_rfl) y
def sout0_A_0 : Vec F S1024x2048 .bf16 := VS0_0.read (Elt F) (VS0_0.writes (Elt F) VS0_0.junk (runA m c t h0 h1 h2).2.2.2.2.1)
end

/-! Path B: its pieces cover what it stores into, and what it leaves there is the pieces read back. -/

section
variable (h0 : ¬t.val % 7 = 0) (h1 : ¬t.val % 7 = 3) (h2 : ¬t.val % 7 = 4) (xs : Vec F S1024x2048 .bf16)
theorem cover0_B_3 (y : S1024x1024.Idx) : ∃ pc ∈ (runB m c t h0 h1 h2 xs).1, y ∈ pc.1.set :=
  View.cover_of_tiledL _ S1024x1024.size (by sl_kernel_rfl) y
def out0_B_3 : Vec F S1024x1024 .f32 := VO0_3.read (Elt F) (VO0_3.writes (Elt F) VO0_3.junk (runB m c t h0 h1 h2 xs).1)
end

/-! Path C: its pieces cover what it stores into, and what it leaves there is the pieces read back. -/

section
variable (h0 : ¬t.val % 7 = 0) (h1 : t.val % 7 = 3) (h2 : ¬t.val % 7 = 4) (xs : Vec F S1024x2048 .bf16)
theorem cover0_C_3 (y : S1024x1024.Idx) : ∃ pc ∈ (runC m c t h0 h1 h2 xs).1, y ∈ pc.1.set :=
  View.cover_of_tiledL _ S1024x1024.size (by sl_kernel_rfl) y
def out0_C_3 : Vec F S1024x1024 .f32 := VO0_3.read (Elt F) (VO0_3.writes (Elt F) VO0_3.junk (runC m c t h0 h1 h2 xs).1)
theorem cover0_C_5 (y : S1x1x512x1024.Idx) : ∃ pc ∈ (runC m c t h0 h1 h2 xs).2.2.1, y ∈ pc.1.set :=
  View.cover_of_tiledL _ S1x1x512x1024.size (by sl_kernel_rfl) y
def out0_C_5 : Vec F S1x1x512x1024 .f32 := VO0_5.read (Elt F) (VO0_5.writes (Elt F) VO0_5.junk (runC m c t h0 h1 h2 xs).2.2.1)
end

/-! Path D: its pieces cover what it stores into, and what it leaves there is the pieces read back. -/

section
variable (h0 : ¬t.val % 7 = 0) (h1 : ¬t.val % 7 = 3) (h2 : t.val % 7 = 4) (xs : Vec F S1024x2048 .bf16)
theorem cover0_D_3 (y : S1024x1024.Idx) : ∃ pc ∈ (runD m c t h0 h1 h2 xs).1, y ∈ pc.1.set :=
  View.cover_of_tiledL _ S1024x1024.size (by sl_kernel_rfl) y
def out0_D_3 : Vec F S1024x1024 .f32 := VO0_3.read (Elt F) (VO0_3.writes (Elt F) VO0_3.junk (runD m c t h0 h1 h2 xs).1)
theorem cover0_D_6 (y : S1x1x512x1024.Idx) : ∃ pc ∈ (runD m c t h0 h1 h2 xs).2.2.2.1, y ∈ pc.1.set :=
  View.cover_of_tiledL _ S1x1x512x1024.size (by sl_kernel_rfl) y
def out0_D_6 : Vec F S1x1x512x1024 .f32 := VO0_6.read (Elt F) (VO0_6.writes (Elt F) VO0_6.junk (runD m c t h0 h1 h2 xs).2.2.2.1)
end

/-! ## What the outputs hold after each point -/

/-- The four outputs' buffers, then the cast rows. -/
abbrev Outs (F : FTy → Type) := Vec F S1024x1024 .f32 × Vec F S1024x128 .f32 × Vec F S1x1x512x1024 .f32 × Vec F S1x1x512x1024 .f32 × Vec F S1024x2048 .bf16

/-- What a point of path A leaves. -/
abbrev leftA (h0 : t.val % 7 = 0) (h1 : ¬t.val % 7 = 3) (h2 : ¬t.val % 7 = 4) : Outs F :=
  (out0_A_3 m c t h0 h1 h2, out0_A_4 m c t h0 h1 h2, VO0_5.read (Elt F) VO0_5.junk, VO0_6.read (Elt F) VO0_6.junk, sout0_A_0 m c t h0 h1 h2)
/-- What a point of path B leaves, over what the point before left. -/
abbrev leftB (h0 : ¬t.val % 7 = 0) (h1 : ¬t.val % 7 = 3) (h2 : ¬t.val % 7 = 4) (b : Outs F) : Outs F :=
  (out0_B_3 m c t h0 h1 h2 b.2.2.2.2, b.2.1, b.2.2.1, b.2.2.2.1, b.2.2.2.2)
/-- What a point of path C leaves, over what the point before left. -/
abbrev leftC (h0 : ¬t.val % 7 = 0) (h1 : t.val % 7 = 3) (h2 : ¬t.val % 7 = 4) (b : Outs F) : Outs F :=
  (out0_C_3 m c t h0 h1 h2 b.2.2.2.2, b.2.1, out0_C_5 m c t h0 h1 h2 b.2.2.2.2, b.2.2.2.1, b.2.2.2.2)
/-- What a point of path D leaves, over what the point before left. -/
abbrev leftD (h0 : ¬t.val % 7 = 0) (h1 : ¬t.val % 7 = 3) (h2 : t.val % 7 = 4) (b : Outs F) : Outs F :=
  (out0_D_3 m c t h0 h1 h2 b.2.2.2.2, b.2.1, b.2.2.1, out0_D_6 m c t h0 h1 h2 b.2.2.2.2, b.2.2.2.2)

/-- What the buffers hold after point `n`. -/
def outsAt0 : (n : ℕ) → n < cfg0.N → Outs F
  | 0, hn => leftA m c ⟨0, hn⟩ (Nat.zero_mod _) (by dsimp only; omega) (by dsimp only; omega)
  | n + 1, hn =>
    if h0 : (n + 1) % 7 = 0 then leftA m c ⟨n + 1, hn⟩ h0 (by dsimp only; omega) (by dsimp only; omega)
    else if h1 : (n + 1) % 7 = 3 then leftC m c ⟨n + 1, hn⟩ h0 h1 (by dsimp only; omega) (outsAt0 n (Nat.lt_of_succ_lt hn))
    else if h2 : (n + 1) % 7 = 4 then leftD m c ⟨n + 1, hn⟩ h0 h1 h2 (outsAt0 n (Nat.lt_of_succ_lt hn))
    else leftB m c ⟨n + 1, hn⟩ h0 h1 h2 (outsAt0 n (Nat.lt_of_succ_lt hn))

/-- What the point before left. -/
abbrev prev : Outs F := outsAt0 m c (t.val - 1) (Nat.lt_of_le_of_lt (Nat.sub_le _ _) t.isLt)

theorem outsAt0_A (h0 : t.val % 7 = 0) (h1 : ¬t.val % 7 = 3) (h2 : ¬t.val % 7 = 4) :
    outsAt0 m c t.val t.isLt = (out0_A_3 m c t h0 h1 h2, out0_A_4 m c t h0 h1 h2, VO0_5.read (Elt F) VO0_5.junk, VO0_6.read (Elt F) VO0_6.junk, sout0_A_0 m c t h0 h1 h2) := by
  obtain ⟨n, hn⟩ := t
  cases n with
  | zero => exact rfl
  | succ n => exact (dif_pos h0).trans rfl

theorem outsAt0_B (h0 : ¬t.val % 7 = 0) (h1 : ¬t.val % 7 = 3) (h2 : ¬t.val % 7 = 4) :
    outsAt0 m c t.val t.isLt = (out0_B_3 m c t h0 h1 h2 (prev m c t).2.2.2.2, (prev m c t).2.1, (prev m c t).2.2.1, (prev m c t).2.2.2.1, (prev m c t).2.2.2.2) := by
  obtain ⟨n, hn⟩ := t
  cases n with
  | zero => exact absurd (Nat.zero_mod _) h0
  | succ n => exact (dif_neg h0).trans ((dif_neg h1).trans ((dif_neg h2).trans rfl))

theorem outsAt0_C (h0 : ¬t.val % 7 = 0) (h1 : t.val % 7 = 3) (h2 : ¬t.val % 7 = 4) :
    outsAt0 m c t.val t.isLt = (out0_C_3 m c t h0 h1 h2 (prev m c t).2.2.2.2, (prev m c t).2.1, out0_C_5 m c t h0 h1 h2 (prev m c t).2.2.2.2, (prev m c t).2.2.2.1, (prev m c t).2.2.2.2) := by
  obtain ⟨n, hn⟩ := t
  cases n with
  | zero => exact absurd (Nat.zero_mod _) h0
  | succ n => exact (dif_neg h0).trans ((dif_pos h1).trans rfl)

theorem outsAt0_D (h0 : ¬t.val % 7 = 0) (h1 : ¬t.val % 7 = 3) (h2 : t.val % 7 = 4) :
    outsAt0 m c t.val t.isLt = (out0_D_3 m c t h0 h1 h2 (prev m c t).2.2.2.2, (prev m c t).2.1, (prev m c t).2.2.1, out0_D_6 m c t h0 h1 h2 (prev m c t).2.2.2.2, (prev m c t).2.2.2.2) := by
  obtain ⟨n, hn⟩ := t
  cases n with
  | zero => exact absurd (Nat.zero_mod _) h0
  | succ n => exact (dif_neg h0).trans ((dif_neg h1).trans ((dif_pos h2).trans rfl))

/-- Between points the scratch holds what the point before left in it, and the generator register some state. -/
def PhiS  : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero  (n : ℕ) (h : n ≤ cfg0.N) (hz : n = 0) : PhiS m c n h = Pipeline.ΦA spec0 c := by
  subst hz; rfl

/-- After point `n` (before point `n + 1`): the carried scratch at that point's contents. -/
theorem PhiS_succ  (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first: the carried scratch at what the point before left. -/
theorem PhiS_pos  (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The pipeline's data: the arrays as the call finds them, each input's block, the outputs at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2.1
  Φ t := PhiS m c t.val (Nat.le_of_lt_succ t.isLt)
  q _ := fullShare
  owed _ := 0

theorem A_eq  (w : Fin cfg0.W) : (dats m 0 c).A w = V m c (Pipeline.arrRef spec0 w) := by
  dsimp only [dats]

/-- The invariant at a point's start (the proof data at `t.castSucc`), restated at `t.val`. -/
theorem PhiS_castSucc  :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0  : (dats m 0 c).after 0 t = iblk m c 0 t := by dsimp only [dats]
theorem after0_1  : (dats m 0 c).after 1 t = iblk m c 1 t := by dsimp only [dats]
theorem after0_2  : (dats m 0 c).after 2 t = iblk m c 2 t := by dsimp only [dats]
theorem after0_3  : (dats m 0 c).after 3 t = (outsAt0 m c t.val t.isLt).1 := by dsimp only [dats]
theorem after0_4  : (dats m 0 c).after 4 t = (outsAt0 m c t.val t.isLt).2.1 := by dsimp only [dats]
theorem after0_5  : (dats m 0 c).after 5 t = (outsAt0 m c t.val t.isLt).2.2.1 := by dsimp only [dats]
theorem after0_6  : (dats m 0 c).after 6 t = (outsAt0 m c t.val t.isLt).2.2.2.1 := by dsimp only [dats]

/-- Each input's current staging buffer holds its block at every point, fetched there or not (`beforeK_W_of`). -/
theorem before0_0  (d) : (dats m 0 c).before 0 t d = iblk m c 0 t :=
  before0_0_of m (dats m 0 c) (A_eq m c 0) (after0_0 m c) t d
theorem before0_1  (d) : (dats m 0 c).before 1 t d = iblk m c 1 t :=
  before0_1_of m (dats m 0 c) (A_eq m c 1) (after0_1 m c) t d
theorem before0_2  (d) : (dats m 0 c).before 2 t d = iblk m c 2 t :=
  before0_2_of m (dats m 0 c) (A_eq m c 2) (after0_2 m c) t d

/-- What is left of the windows live at every point. -/
theorem leaves0_0 : (dats m 0 c).leavesExact 0 t = owns (c : Thread nD τ) (ms0_0 t) fullShare (iblk m c 0 t) := by
  unfold Dat.leavesExact; rw [liveAt0_0 t, after0_0]
theorem leaves0_1 : (dats m 0 c).leavesExact 1 t = owns (c : Thread nD τ) (ms0_1 t) fullShare (iblk m c 1 t) := by
  unfold Dat.leavesExact; rw [liveAt0_1 t, after0_1]
theorem leaves0_2 : (dats m 0 c).leavesExact 2 t = owns (c : Thread nD τ) (ms0_2 t) fullShare (iblk m c 2 t) := by
  unfold Dat.leavesExact; rw [liveAt0_2 t, after0_2]
theorem leaves0_3 : (dats m 0 c).leavesExact 3 t = owns (c : Thread nD τ) (ms0_3 t) fullShare (outsAt0 m c t.val t.isLt).1 := by
  unfold Dat.leavesExact; rw [liveAt0_3 t, after0_3]

/-! ## The outputs the body leaves idle -/

/-- Where output 4 is written back it has been stored since the write-back before. -/
theorem kept0_4 : ∀ t : Fin cfg0.N, (cfg0.win 4).flush t = true → cfg0.fresh 4 t.val = false := by decide +kernel

/-- Output 4's contents carry through the points that leave it idle. -/
theorem hcarry0_4  (hz : t.val ≠ 0) (hi : cfg0.idle 4 (grid0.coords t) = true) (hf : cfg0.fresh 4 t.val = false) :
    (dats m 0 c).after 4 t = (dats m 0 c).after 4 ⟨t.val - 1, by omega⟩ := by
  rw [after0_4, after0_4]
  by_cases h0 : t.val % 7 = 0
  · exact absurd hi (by rw [liveAt0_4_A t ((hcond0_0 t).mpr h0) (fun h => by have := (hcond0_1 t).mp h; omega) (fun h => by have := (hcond0_2 t).mp h; omega)]; decide)
  by_cases h1 : t.val % 7 = 3
  · rw [outsAt0_C m c t h0 h1 (by omega)]
  by_cases h2 : t.val % 7 = 4
  · rw [outsAt0_D m c t h0 h1 h2]
  rw [outsAt0_B m c t h0 h1 h2]

/-- A point of path B hands output 4 back as it found it, which at a write-back is what the carry says. -/
theorem leaves0_4_B  (hz : t.val ≠ 0) (hi : cfg0.idle 4 (grid0.coords t) = true) (d) :
    owns (c : Thread nD τ) (ms0_4 t) fullShare ((dats m 0 c).before 4 t d) ⊢ (dats m 0 c).leavesExact 4 t := by
  by_cases hf : (cfg0.win 4).flush t = true
  · have hfr := kept0_4 t hf
    rw [show (dats m 0 c).leavesExact 4 t = owns (c : Thread nD τ) (ms0_4 t) fullShare ((dats m 0 c).after 4 t) from by
      unfold Dat.leavesExact; rw [hi, hf]]
    rw [(dats m 0 c).before_out_traj 4 rfl (fun _ _ => rfl) (hcarry0_4 m c) t.val t rfl d, hfr, if_neg Bool.false_ne_true, ← hcarry0_4 m c t hz hi hfr]
  · rw [Dat.leavesExact_idle (dats m 0 c) 4 t hi (by rw [Bool.not_eq_true] at hf; exact hf)]
    iintro H; iexists d; iexact H

/-- Where output 5 is written back it has been stored since the write-back before. -/
theorem kept0_5 : ∀ t : Fin cfg0.N, (cfg0.win 5).flush t = true → cfg0.fresh 5 t.val = false := by decide +kernel
/-- At the first column block nothing has been stored into output 5 since its write-back. -/
theorem fresh0_5_A : ∀ t : Fin cfg0.N, cond0_0 (grid0.coords t) → cfg0.fresh 5 t.val = true := by decide +kernel

/-- Output 5's contents carry through the points that leave it idle. -/
theorem hcarry0_5  (hz : t.val ≠ 0) (hi : cfg0.idle 5 (grid0.coords t) = true) (hf : cfg0.fresh 5 t.val = false) :
    (dats m 0 c).after 5 t = (dats m 0 c).after 5 ⟨t.val - 1, by omega⟩ := by
  rw [after0_5, after0_5]
  by_cases h0 : t.val % 7 = 0
  · exact absurd (fresh0_5_A t ((hcond0_0 t).mpr h0)) (by rw [hf]; decide)
  by_cases h1 : t.val % 7 = 3
  · exact absurd hi (by rw [liveAt0_5_C t (no0_0 t h0) ((hcond0_1 t).mpr h1) (fun h => by have := (hcond0_2 t).mp h; omega)]; decide)
  by_cases h2 : t.val % 7 = 4
  · rw [outsAt0_D m c t h0 h1 h2]
  rw [outsAt0_B m c t h0 h1 h2]

/-- A point of path B hands output 5 back as it found it, which at a write-back is what the carry says. -/
theorem leaves0_5_B  (hz : t.val ≠ 0) (hi : cfg0.idle 5 (grid0.coords t) = true) (d) :
    owns (c : Thread nD τ) (ms0_5 t) fullShare ((dats m 0 c).before 5 t d) ⊢ (dats m 0 c).leavesExact 5 t := by
  by_cases hf : (cfg0.win 5).flush t = true
  · have hfr := kept0_5 t hf
    rw [show (dats m 0 c).leavesExact 5 t = owns (c : Thread nD τ) (ms0_5 t) fullShare ((dats m 0 c).after 5 t) from by
      unfold Dat.leavesExact; rw [hi, hf]]
    rw [(dats m 0 c).before_out_traj 5 rfl (fun _ _ => rfl) (hcarry0_5 m c) t.val t rfl d, hfr, if_neg Bool.false_ne_true, ← hcarry0_5 m c t hz hi hfr]
  · rw [Dat.leavesExact_idle (dats m 0 c) 5 t hi (by rw [Bool.not_eq_true] at hf; exact hf)]
    iintro H; iexists d; iexact H

/-- Where output 6 is written back it has been stored since the write-back before. -/
theorem kept0_6 : ∀ t : Fin cfg0.N, (cfg0.win 6).flush t = true → cfg0.fresh 6 t.val = false := by decide +kernel
/-- At the first column block nothing has been stored into output 6 since its write-back. -/
theorem fresh0_6_A : ∀ t : Fin cfg0.N, cond0_0 (grid0.coords t) → cfg0.fresh 6 t.val = true := by decide +kernel

/-- Output 6's contents carry through the points that leave it idle. -/
theorem hcarry0_6  (hz : t.val ≠ 0) (hi : cfg0.idle 6 (grid0.coords t) = true) (hf : cfg0.fresh 6 t.val = false) :
    (dats m 0 c).after 6 t = (dats m 0 c).after 6 ⟨t.val - 1, by omega⟩ := by
  rw [after0_6, after0_6]
  by_cases h0 : t.val % 7 = 0
  · exact absurd (fresh0_6_A t ((hcond0_0 t).mpr h0)) (by rw [hf]; decide)
  by_cases h1 : t.val % 7 = 3
  · rw [outsAt0_C m c t h0 h1 (by omega)]
  by_cases h2 : t.val % 7 = 4
  · exact absurd hi (by rw [liveAt0_6_D t (no0_0 t h0) (no0_1 t h1) ((hcond0_2 t).mpr h2)]; decide)
  rw [outsAt0_B m c t h0 h1 h2]

/-- A point of path B hands output 6 back as it found it, which at a write-back is what the carry says. -/
theorem leaves0_6_B  (hz : t.val ≠ 0) (hi : cfg0.idle 6 (grid0.coords t) = true) (d) :
    owns (c : Thread nD τ) (ms0_6 t) fullShare ((dats m 0 c).before 6 t d) ⊢ (dats m 0 c).leavesExact 6 t := by
  by_cases hf : (cfg0.win 6).flush t = true
  · have hfr := kept0_6 t hf
    rw [show (dats m 0 c).leavesExact 6 t = owns (c : Thread nD τ) (ms0_6 t) fullShare ((dats m 0 c).after 6 t) from by
      unfold Dat.leavesExact; rw [hi, hf]]
    rw [(dats m 0 c).before_out_traj 6 rfl (fun _ _ => rfl) (hcarry0_6 m c) t.val t rfl d, hfr, if_neg Bool.false_ne_true, ← hcarry0_6 m c t hz hi hfr]
  · rw [Dat.leavesExact_idle (dats m 0 c) 6 t hi (by rw [Bool.not_eq_true] at hf; exact hf)]
    iintro H; iexists d; iexact H

/-! ## The body obligation, at a generic point -/

/-- What the body is called with at point `t`, -/
def bodyPre  : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost  : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 12800000 in
/-- The body at any point, path by path. -/
theorem sound_body  :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 56 := lt_of_lt_of_eq t.isLt (show cfg0.N = 56 from N_0)
  by_cases h0 : t.val % 7 = 0
  · by_cases h1 : t.val % 7 = 3
    · exfalso; omega
    · by_cases h2 : t.val % 7 = 4
      · exfalso; omega
      · rw [leaves0_0, leaves0_1, leaves0_2, leaves0_3]
        rw [show (dats m 0 c).leavesExact 4 t = owns (c : Thread nD τ) (ms0_4 t) fullShare ((dats m 0 c).after 4 t) from by
      unfold Dat.leavesExact; rw [liveAt0_4_A t ((hcond0_0 t).mpr h0) (no0_1 t h1) (no0_2 t h2)], after0_4]
        rw [Dat.leavesExact_idle (dats m 0 c) 5 t (idleAt0_5_A t ((hcond0_0 t).mpr h0) (no0_1 t h1) (no0_2 t h2)) (noFlush0_5_A t ((hcond0_0 t).mpr h0) (no0_1 t h1) (no0_2 t h2))]
        rw [Dat.leavesExact_idle (dats m 0 c) 6 t (idleAt0_6_A t ((hcond0_0 t).mpr h0) (no0_1 t h1) (no0_2 t h2)) (noFlush0_6_A t ((hcond0_0 t).mpr h0) (no0_1 t h1) (no0_2 t h2))]
        by_cases hz : t.val = 0
        · rw [PhiS_castSucc m c t, PhiS_zero m c _ _ hz, PhiA0_eq]
          rw [outsAt0_A m c t h0 h1 h2]
          unfold out0_A_3 out0_A_4 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((runA m c t h0 h1 h2).2.2.2.2.2 _ _ Set.univ _)
          isplitl [H0]; · iexact H0
          isplitl [H1]; · iexact H1
          isplitl [H2]; · iexact H2
          isplitl [H3]; · iexists _; iexact H3
          isplitl [H4]; · iexists _; iexact H4
          isplitl [H5]; · iexact H5
          isplitl [H6]; · iexact H6
          isplitl [HS0]; · iexact HS0
          iintro ⟨H0, H1, H2, ⟨%e3, H3⟩, ⟨%e4, H4⟩, H5, H6, ⟨%es0, HS0⟩⟩
          isplitl [HS0 Hg]
          · isplitl [HS0]
            · unfold owns; iexists _; isplitr
              swap; · iexact HS0
              ipureintro; exact View.read_writes_of_cover _ _ _ _ _ (scover0_A_0 m c t h0 h1 h2)
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_A_3 m c t h0 h1 h2)
          isplitl [H4]
          · unfold owns; iexists _; isplitr
            swap; · iexact H4
            ipureintro; exact View.read_writes_of_cover _ _ _ _ _ (cover0_A_4 m c t h0 h1 h2)
          isplitl [H5]; · iexists _; iexact H5
          iexists _; iexact H6
        · rw [PhiS_castSucc m c t, PhiS_pos m c _ _ hz]
          rw [outsAt0_A m c t h0 h1 h2]
          unfold out0_A_3 out0_A_4 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((runA m c t h0 h1 h2).2.2.2.2.2 _ _ Set.univ _)
          isplitl [H0]; · iexact H0
          isplitl [H1]; · iexact H1
          isplitl [H2]; · iexact H2
          isplitl [H3]; · iexists _; iexact H3
          isplitl [H4]; · iexists _; iexact H4
          isplitl [H5]; · iexact H5
          isplitl [H6]; · iexact H6
          isplitl [HS0]; · iexists _; iexact HS0
          iintro ⟨H0, H1, H2, ⟨%e3, H3⟩, ⟨%e4, H4⟩, H5, H6, ⟨%es0, HS0⟩⟩
          isplitl [HS0 Hg]
          · isplitl [HS0]
            · unfold owns; iexists _; isplitr
              swap; · iexact HS0
              ipureintro; exact View.read_writes_of_cover _ _ _ _ _ (scover0_A_0 m c t h0 h1 h2)
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_A_3 m c t h0 h1 h2)
          isplitl [H4]
          · unfold owns; iexists _; isplitr
            swap; · iexact H4
            ipureintro; exact View.read_writes_of_cover _ _ _ _ _ (cover0_A_4 m c t h0 h1 h2)
          isplitl [H5]; · iexists _; iexact H5
          iexists _; iexact H6
  · by_cases h1 : t.val % 7 = 3
    · by_cases h2 : t.val % 7 = 4
      · exfalso; omega
      · rw [leaves0_0, leaves0_1, leaves0_2, leaves0_3]
        rw [Dat.leavesExact_idle (dats m 0 c) 4 t (idleAt0_4_C t (no0_0 t h0) ((hcond0_1 t).mpr h1) (no0_2 t h2)) (noFlush0_4_C t (no0_0 t h0) ((hcond0_1 t).mpr h1) (no0_2 t h2))]
        rw [show (dats m 0 c).leavesExact 5 t = owns (c : Thread nD τ) (ms0_5 t) fullShare ((dats m 0 c).after 5 t) from by
      unfold Dat.leavesExact; rw [liveAt0_5_C t (no0_0 t h0) ((hcond0_1 t).mpr h1) (no0_2 t h2)], after0_5]
        rw [Dat.leavesExact_idle (dats m 0 c) 6 t (idleAt0_6_C t (no0_0 t h0) ((hcond0_1 t).mpr h1) (no0_2 t h2)) (noFlush0_6_C t (no0_0 t h0) ((hcond0_1 t).mpr h1) (no0_2 t h2))]
        by_cases hz : t.val = 0
        · exfalso; have hN : t.val < 56 := lt_of_lt_of_eq t.isLt (show cfg0.N = 56 from N_0); omega
        · rw [PhiS_castSucc m c t, PhiS_pos m c _ _ hz]
          rw [outsAt0_C m c t h0 h1 h2]
          unfold out0_C_3 out0_C_5; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((runC m c t h0 h1 h2 _).2.2.2.2.2 _ _ Set.univ _)
          isplitl [H0]; · iexact H0
          isplitl [H1]; · iexact H1
          isplitl [H2]; · iexact H2
          isplitl [H3]; · iexists _; iexact H3
          isplitl [H4]; · iexact H4
          isplitl [H5]; · iexists _; iexact H5
          isplitl [H6]; · iexact H6
          isplitl [HS0]; · iexact HS0
          iintro ⟨H0, H1, H2, ⟨%e3, H3⟩, H4, ⟨%e5, H5⟩, H6, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_C_3 m c t h0 h1 h2 _)
          isplitl [H4]; · iexists _; iexact H4
          isplitl [H5]
          · unfold owns; iexists _; isplitr
            swap; · iexact H5
            ipureintro; exact View.read_writes_of_cover _ _ _ _ _ (cover0_C_5 m c t h0 h1 h2 _)
          iexists _; iexact H6
    · by_cases h2 : t.val % 7 = 4
      · rw [leaves0_0, leaves0_1, leaves0_2, leaves0_3]
        rw [Dat.leavesExact_idle (dats m 0 c) 4 t (idleAt0_4_D t (no0_0 t h0) (no0_1 t h1) ((hcond0_2 t).mpr h2)) (noFlush0_4_D t (no0_0 t h0) (no0_1 t h1) ((hcond0_2 t).mpr h2))]
        rw [Dat.leavesExact_idle (dats m 0 c) 5 t (idleAt0_5_D t (no0_0 t h0) (no0_1 t h1) ((hcond0_2 t).mpr h2)) (noFlush0_5_D t (no0_0 t h0) (no0_1 t h1) ((hcond0_2 t).mpr h2))]
        rw [show (dats m 0 c).leavesExact 6 t = owns (c : Thread nD τ) (ms0_6 t) fullShare ((dats m 0 c).after 6 t) from by
      unfold Dat.leavesExact; rw [liveAt0_6_D t (no0_0 t h0) (no0_1 t h1) ((hcond0_2 t).mpr h2)], after0_6]
        by_cases hz : t.val = 0
        · exfalso; have hN : t.val < 56 := lt_of_lt_of_eq t.isLt (show cfg0.N = 56 from N_0); omega
        · rw [PhiS_castSucc m c t, PhiS_pos m c _ _ hz]
          rw [outsAt0_D m c t h0 h1 h2]
          unfold out0_D_3 out0_D_6; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((runD m c t h0 h1 h2 _).2.2.2.2.2 _ _ Set.univ _)
          isplitl [H0]; · iexact H0
          isplitl [H1]; · iexact H1
          isplitl [H2]; · iexact H2
          isplitl [H3]; · iexists _; iexact H3
          isplitl [H4]; · iexact H4
          isplitl [H5]; · iexact H5
          isplitl [H6]; · iexists _; iexact H6
          isplitl [HS0]; · iexact HS0
          iintro ⟨H0, H1, H2, ⟨%e3, H3⟩, H4, H5, ⟨%e6, H6⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_D_3 m c t h0 h1 h2 _)
          isplitl [H4]; · iexists _; iexact H4
          isplitl [H5]; · iexists _; iexact H5
          unfold owns; iexists _; isplitr
          swap; · iexact H6
          ipureintro; exact View.read_writes_of_cover _ _ _ _ _ (cover0_D_6 m c t h0 h1 h2 _)
      · rw [leaves0_0, leaves0_1, leaves0_2, leaves0_3]
        by_cases hz : t.val = 0
        · exfalso; have hN : t.val < 56 := lt_of_lt_of_eq t.isLt (show cfg0.N = 56 from N_0); omega
        · rw [PhiS_castSucc m c t, PhiS_pos m c _ _ hz]
          rw [outsAt0_B m c t h0 h1 h2]
          unfold out0_B_3; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((runB m c t h0 h1 h2 _).2.2.2.2.2 _ _ _ Set.univ _)
          isplitl [H0]; · iexact H0
          isplitl [H1]; · iexact H1
          isplitl [H2]; · iexact H2
          isplitl [H3]; · iexists _; iexact H3
          isplitl [H4]; · iexact H4
          isplitl [H5]; · iexact H5
          isplitl [H6]; · iexact H6
          isplitl [HS0]; · iexact HS0
          iintro ⟨H0, H1, H2, ⟨%e3, H3⟩, H4, H5, H6, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_B_3 m c t h0 h1 h2 _)
          isplitl [H4]; · iapply leaves0_4_B m c t hz (idleAt0_4_B t (no0_0 t h0) (no0_1 t h1) (no0_2 t h2)) d4; iexact H4
          isplitl [H5]; · iapply leaves0_5_B m c t hz (idleAt0_5_B t (no0_0 t h0) (no0_1 t h1) (no0_2 t h2)) d5; iexact H5
          iapply leaves0_6_B m c t hz (idleAt0_6_B t (no0_0 t h0) (no0_1 t h1) (no0_2 t h2)) d6; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation  : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin  : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out  (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout  : (dats m 0 c).Φ (Fin.last cfg0.N) ⊢ Pipeline.ΦA spec0 c :=
  Phi_out m c _ (by rw [Fin.val_last]; have : cfg0.N = 56 := N_0; omega)

/-! ## The run and the frame -/

-- `θ_run_frame_track`'s implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data, every other unscoped buffer as the region found it, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept m (dats m) (A_eq m) r h.1 c, h.2⟩) (run_main m ρ)

end Cert.Proj

end
-- ==== Proof.Proj.Row.lean ====
/- The projection's arrays, entry by entry: the products of a block of 1024 rows, and the reference's arrays. -/
module

public import proofs.«01_k».proof.Proof.Gen.ProjKernelIdeal.Skeleton
public import proofs.«01_k».proof.Proof.Gen.ProjReferenceIdeal.Read
public import Idealize.ShloMosaic.Lib.Pointwise

@[expose] public section

set_option maxRecDepth 16384

noncomputable section

namespace Cert.Proj

open Idealize.ShloMosaic Idealize.ShloMosaic.TcCoe

/-- A row times a column. -/
def dot (x w : Fin 2048 → EReal) : EReal := ∑ k, x k * w k

section Block
open Cert.ProjKernelIdeal Cert.ProjKernelIdeal.Gen

variable (x : Vec Ideal S1024x2048 .f32) (xb : Vec Ideal S1024x2048 .bf16) (w : Vec Ideal S2048x1024 .bf16) (ws : Vec Ideal S2048x128 .bf16)

theorem cast_rows (i : Fin 1024) (k : Fin 2048) : k0_pay2 (F := Ideal) x (ix2 i k) = x (ix2 i k) := by
  pointwise [k0_pay2, k0_pay1]

theorem small_block (i : Fin 1024) (j : Fin 128) : k0_pay3 (F := Ideal) x ws (ix2 i j) = dot (fun k => x (ix2 i k)) fun k => ws (ix2 k j) := by
  pointwise [k0_pay3, k0_pay1, dot]

theorem main_block (i j : Fin 1024) : k0_pay4 (F := Ideal) xb w (ix2 i j) = dot (fun k => xb (ix2 i k)) fun k => w (ix2 k j) := by
  pointwise [k0_pay4, dot]

theorem key_block (j : Fin 512) (i : Fin 1024) : k0_pay5 (F := Ideal) xb w (ix4 0 0 j i)
    = dot (fun k => xb (ix2 i k)) fun k => w (ix2 k ⟨512 + j.val, by omega⟩) := by
  pointwise [k0_pay5, main_block]

theorem value_block (j : Fin 512) (i : Fin 1024) : k0_pay6 (F := Ideal) xb w (ix4 0 0 j i)
    = dot (fun k => xb (ix2 i k)) fun k => w (ix2 k ⟨j.val, by omega⟩) := by
  pointwise [k0_pay6, main_block]

end Block

section Arrays
open Cert.ProjReferenceIdeal Cert.ProjReferenceIdeal.Read

variable (x : S2x4096x2048.Idx → EReal) (w : S2048x7168.Idx → EReal) (ws : S2048x128.Idx → EReal) (old : S2x2x512x4096.Idx → EReal)

/-- The two prompts' tokens, one after the other. -/
abbrev rows : S8192x2048.Idx → EReal := fun i => x (ix3 ⟨(i 0).val / 4096, by have : (i 0).val < 8192 := (i 0).isLt; omega⟩ ⟨(i 0).val % 4096, Nat.mod_lt _ (by decide)⟩ (i 1))

/-- The projection onto the large weights. -/
def mainA : S8192x7168.Idx → EReal := fun i => dot (fun k => rows x (ix2 (i 0) k)) fun k => w (ix2 k (i 1))

/-- The projection onto the small weights. -/
def smallA : S8192x128.Idx → EReal := fun i => dot (fun k => rows x (ix2 (i 0) k)) fun k => ws (ix2 k (i 1))

/-- The projection's 512 columns from `o` on, tokens last, in the first layer's place of `old`. -/
def layerA (o : ℕ) (ho : o + 512 ≤ 7168) : S2x2x512x4096.Idx → EReal := fun i =>
  if (i 0).val = 0 then mainA x w (ix2 ⟨4096 * (i 1).val + (i 3).val, by have : (i 1).val < 2 := (i 1).isLt; have : (i 3).val < 4096 := (i 3).isLt; omega⟩
    ⟨o + (i 2).val, by have : (i 2).val < 512 := (i 2).isLt; omega⟩)
  else old i

theorem reference_main : val_main_v2 (F := Ideal) x w = mainA x w := by
  funext i
  idx_vars i
  pointwise [val_main_v2, val_main_v0, val_main_v1, mainA, dot, rows]

theorem reference_small : val_main_v4 (F := Ideal) x ws = smallA x ws := by
  funext i
  idx_vars i
  pointwise [val_main_v4, val_main_v0, val_main_v3, smallA, dot, rows]

/-- The two layers' entries, stacked. -/
theorem pick (o : ℕ) (ho : o + 512 ≤ 7168) (i0 i1 : Fin 2) (i2 : Fin 512) (i3 : Fin 4096) (h : i1.val * 4096 + i3.val < 8192) (h' : o + i2.val < 7168) :
    (if _ : i0.val < 1 then mainA x w (ix2 ⟨i1.val * 4096 + i3.val, h⟩ ⟨o + i2.val, h'⟩) else old (ix4 1 i1 i2 i3)) = layerA x w old o ho (ix4 i0 i1 i2 i3) := by
  rw [show layerA x w old o ho (ix4 i0 i1 i2 i3) = if i0.val = 0 then mainA x w (ix2 ⟨4096 * i1.val + i3.val, by omega⟩ ⟨o + i2.val, h'⟩) else old (ix4 i0 i1 i2 i3) from rfl]
  by_cases h0 : i0.val = 0
  · rw [dif_pos (by omega), if_pos h0]
    simp only [Nat.mul_comm]
  · rw [dif_neg (by omega), if_neg h0, show i0 = 1 from Fin.ext (by show i0.val = 1; omega)]

theorem reference_keys : val_main_v15 (F := Ideal) x w old = layerA x w old 3584 (by decide) := by
  funext i
  idx_vars i
  pointwise [val_main_v15, val_main_v14, val_main_v13, val_main_v12, val_main_v11, val_main_v7, val_main_v6, val_main_v5, reference_main]
  exact pick x w old _ _ i0 i1 i2 i3 _ _

theorem reference_values : val_main_v20 (F := Ideal) x w old = layerA x w old 4096 (by decide) := by
  funext i
  idx_vars i
  pointwise [val_main_v20, val_main_v19, val_main_v18, val_main_v17, val_main_v16, val_main_v10, val_main_v9, val_main_v8, reference_main]
  exact pick x w old _ _ i0 i1 i2 i3 _ _

end Arrays

end Cert.Proj

end
-- ==== Proof.Proj.Value.lean ====
/- The projection's arrays after the run, and the reference's: the same. -/
module

public import proofs.«01_k».proof.Defs
public import proofs.«01_k».proof.Proof.Proj.Frame
public import proofs.«01_k».proof.Proof.Proj.Row
public import proofs.«01_k».proof.Proof.Gen.ProjReferenceIdeal.Run
public import proofs.«01_k».proof.Proof.Gen.ProjKernel
public import Idealize.ShloMosaic.Lib.Pipeline.ValueKit

@[expose] public section

set_option maxRecDepth 16384

noncomputable section

namespace Cert.Proj

open Cert.ProjKernelIdeal Cert.ProjKernelIdeal.Gen
open Idealize.ShloMosaic Idealize.SL.Sem
open Idealize.ShloMosaic.TcCoe

variable (m : (ℓ : Loc nD τ sig) → Buf (Elt Ideal) ℓ) (ρ : Dev nD → PrngReg) (c : Dev nD)

/-- Point `t` takes row block `t / 7` and column block `t % 7`; the keys and values of a row block are one prompt's
    quarter, in the first layer's place. -/
theorem idx : ∀ t : Fin cfg0.N, win0_0.index t = ![t.val / 7, 0] ∧ win0_1.index t = ![0, t.val % 7] ∧ win0_2.index t = ![0, 0]
    ∧ win0_3.index t = ![t.val / 7, t.val % 7] ∧ win0_4.index t = ![t.val / 7, 0]
    ∧ win0_5.index t = ![0, t.val / 28, 0, t.val / 7 % 4] ∧ win0_6.index t = ![0, t.val / 28, 0, t.val / 7 % 4] ∧ t.val < 56 :=
  (by decide +kernel : ∀ t : Fin grid0.N, _)

theorem lt (t : Fin cfg0.N) : t.val < 56 := (idx t).2.2.2.2.2.2.2

/-- The arguments. -/
abbrev X : S2x4096x2048.Idx → EReal := m ((c : Thread nD τ).loc main_arg0)
abbrev W : S2048x7168.Idx → EReal := m ((c : Thread nD τ).loc main_arg1)
abbrev WS : S2048x128.Idx → EReal := m ((c : Thread nD τ).loc main_arg2)
abbrev K : S2x2x512x4096.Idx → EReal := m ((c : Thread nD τ).loc main_arg3)
abbrev VS : S2x2x512x4096.Idx → EReal := m ((c : Thread nD τ).loc main_arg4)

/-- The two prompts' tokens are laid end to end before the call. -/
theorem V_x (r : Fin 8192) (k : Fin 2048) : V m c main_v0 (ix2 r k) = rows (X m c) (ix2 r k) := by
  entry_read
  pointwise [rows]

/-- Row `i` of point `t`'s block of tokens. -/
theorem block_rows (t : Fin cfg0.N) (i : Fin 1024) (k : Fin 2048) :
    iblk m c 0 t (ix2 i k) = rows (X m c) (ix2 ⟨1024 * (t.val / 7) + i.val, by have := lt t; omega⟩ k) := by
  refine Eq.trans (congrArg (V m c main_v0) (?_ : _ = ix2 ⟨1024 * (t.val / 7) + i.val, by have := lt t; omega⟩ k)) (V_x m c _ k)
  blk_ext [iblk, V, idx t]

/-- The scratch holds the row block's tokens at all of its points. -/
theorem scratch (n : ℕ) : ∀ (hn : n < cfg0.N) (i : Fin 1024) (k : Fin 2048),
    (outsAt0 m c n hn).2.2.2.2 (ix2 i k) = rows (X m c) (ix2 ⟨1024 * (n / 7) + i.val, by have := lt ⟨n, hn⟩; dsimp only at this; omega⟩ k) := by
  induction n with
  | zero =>
    intro hn i k
    rw [outsAt0_A m c ⟨0, hn⟩ (by dsimp only) (by dsimp only; omega) (by dsimp only; omega)]
    unfold sout0_A_0 runA
    frame_out
    exact (cast_rows _ i k).trans (block_rows m c ⟨0, hn⟩ i k)
  | succ n ih =>
    intro hn i k
    by_cases h0 : (n + 1) % 7 = 0
    · rw [outsAt0_A m c ⟨n + 1, hn⟩ h0 (by dsimp only; omega) (by dsimp only; omega)]
      unfold sout0_A_0 runA
      frame_out
      exact (cast_rows _ i k).trans (block_rows m c ⟨n + 1, hn⟩ i k)
    have step : (outsAt0 m c (n + 1) hn).2.2.2.2 = (outsAt0 m c n (by omega)).2.2.2.2 := by
      by_cases h1 : (n + 1) % 7 = 3
      · rw [outsAt0_C m c ⟨n + 1, hn⟩ h0 h1 (by dsimp only; omega)]; rfl
      by_cases h2 : (n + 1) % 7 = 4
      · rw [outsAt0_D m c ⟨n + 1, hn⟩ h0 h1 h2]; rfl
      rw [outsAt0_B m c ⟨n + 1, hn⟩ h0 h1 h2]; rfl
    rw [step, ih (by omega) i k]
    simp only [show (n + 1) / 7 = n / 7 by omega]

/-- So does the scratch a later point of the row block finds. -/
theorem found (t : Fin cfg0.N) (h0 : ¬t.val % 7 = 0) (i : Fin 1024) (k : Fin 2048) :
    (outsAt0 m c (t.val - 1) (Nat.lt_of_le_of_lt (Nat.sub_le _ _) t.isLt)).2.2.2.2 (ix2 i k) = rows (X m c) (ix2 ⟨1024 * (t.val / 7) + i.val, by have := lt t; omega⟩ k) := by
  rw [scratch m c (t.val - 1) _ i k]
  simp only [show (t.val - 1) / 7 = t.val / 7 by omega]

/-- The same of the scratch as the body reads it. -/
theorem found_read (t : Fin cfg0.N) (h0 : ¬t.val % 7 = 0) (i : Fin 1024) (k : Fin 2048) :
    View.read (Elt Ideal) (View.whole cc0_scratch0)
      ((Memref.isWhole_whole cc0_scratch0).unread (outsAt0 m c (t.val - 1) (Nat.lt_of_le_of_lt (Nat.sub_le _ _) t.isLt)).2.2.2.2) (ix2 i k)
      = rows (X m c) (ix2 ⟨1024 * (t.val / 7) + i.val, by have := lt t; omega⟩ k) := by
  exact (congrFun ((Memref.isWhole_whole cc0_scratch0).read_unread _) _).trans (found m c t h0 i k)

/-- Column `j` of point `t`'s block of the large weights. -/
theorem block_cols (t : Fin cfg0.N) (k : Fin 2048) (j : Fin 1024) :
    iblk m c 1 t (ix2 k j) = W m c (ix2 k ⟨1024 * (t.val % 7) + j.val, by omega⟩) := by
  blk_ext [iblk, V, idx t]

/-- The small weights come whole. -/
theorem block_small (t : Fin cfg0.N) (k : Fin 2048) (j : Fin 128) : iblk m c 2 t (ix2 k j) = WS m c (ix2 k j) := by
  blk_ext [iblk, V, idx t]

/-- A product of the row block's tokens and the point's columns. -/
theorem product (t : Fin cfg0.N) (xb : Vec Ideal S1024x2048 .bf16) (i j : Fin 1024)
    (h : ∀ k : Fin 2048, xb (ix2 i k) = rows (X m c) (ix2 ⟨1024 * (t.val / 7) + i.val, by have := lt t; omega⟩ k)) :
    (dot (fun k => xb (ix2 i k)) fun k => iblk m c 1 t (ix2 k j))
      = mainA (X m c) (W m c) (ix2 ⟨1024 * (t.val / 7) + i.val, by have := lt t; omega⟩ ⟨1024 * (t.val % 7) + j.val, by omega⟩) :=
  congr (congrArg dot (funext h)) (funext fun k => block_cols m c t k j)

/-- Point `t` leaves its block of the large projection. -/
theorem main_point (t : Fin cfg0.N) (i j : Fin 1024) : (outsAt0 m c t.val t.isLt).1 (ix2 i j)
    = mainA (X m c) (W m c) (ix2 ⟨1024 * (t.val / 7) + i.val, by have := lt t; omega⟩ ⟨1024 * (t.val % 7) + j.val, by omega⟩) := by
  by_cases h0 : t.val % 7 = 0
  · rw [outsAt0_A m c t h0 (by omega) (by omega)]
    unfold out0_A_3 runA
    frame_out
    exact (main_block _ _ i j).trans (product m c t _ i j fun k => (cast_rows _ i k).trans (block_rows m c t i k))
  by_cases h1 : t.val % 7 = 3
  · rw [outsAt0_C m c t h0 h1 (by omega)]
    unfold out0_C_3 runC
    frame_out
    exact (main_block _ _ i j).trans (product m c t _ i j (found_read m c t h0 i))
  by_cases h2 : t.val % 7 = 4
  · rw [outsAt0_D m c t h0 h1 h2]
    unfold out0_D_3 runD
    frame_out
    exact (main_block _ _ i j).trans (product m c t _ i j (found_read m c t h0 i))
  rw [outsAt0_B m c t h0 h1 h2]
  unfold out0_B_3 runB
  frame_out
  exact (main_block _ _ i j).trans (product m c t _ i j (found_read m c t h0 i))

/-- The small projection's block is stored at a row block's first point. -/
theorem small_first (t : Fin cfg0.N) (h0 : t.val % 7 = 0) (i : Fin 1024) (j : Fin 128) : (outsAt0 m c t.val t.isLt).2.1 (ix2 i j)
    = smallA (X m c) (WS m c) (ix2 ⟨1024 * (t.val / 7) + i.val, by have := lt t; omega⟩ j) := by
  rw [outsAt0_A m c t h0 (by omega) (by omega)]
  unfold out0_A_4 runA
  frame_out
  refine (small_block _ _ i j).trans ?_
  exact congr (congrArg dot (funext fun k => block_rows m c t i k)) (funext fun k => block_small m c t k j)

/-- The keys' block is stored at the fourth point. -/
theorem keys_first (t : Fin cfg0.N) (h1 : t.val % 7 = 3) (j : Fin 512) (i : Fin 1024) : (outsAt0 m c t.val t.isLt).2.2.1 (ix4 0 0 j i)
    = mainA (X m c) (W m c) (ix2 ⟨1024 * (t.val / 7) + i.val, by have := lt t; omega⟩ ⟨3584 + j.val, by omega⟩) := by
  rw [outsAt0_C m c t (by omega) h1 (by omega)]
  unfold out0_C_5 runC
  frame_out
  refine (key_block _ _ j i).trans ((product m c t _ i _ (found_read m c t (by omega) i)).trans ?_)
  simp only [h1]
  congr 3
  omega

/-- The values' block is stored at the fifth point. -/
theorem values_first (t : Fin cfg0.N) (h2 : t.val % 7 = 4) (j : Fin 512) (i : Fin 1024) : (outsAt0 m c t.val t.isLt).2.2.2.1 (ix4 0 0 j i)
    = mainA (X m c) (W m c) (ix2 ⟨1024 * (t.val / 7) + i.val, by have := lt t; omega⟩ ⟨4096 + j.val, by omega⟩) := by
  rw [outsAt0_D m c t (by omega) (by omega) h2]
  unfold out0_D_6 runD
  frame_out
  refine (value_block _ _ j i).trans ((product m c t _ i _ (found_read m c t (by omega) i)).trans ?_)
  simp only [h2]

/-- What a point leaves alone is what the point before left. -/
theorem carry (n : ℕ) (hn : n + 1 < cfg0.N) (h0 : ¬(n + 1) % 7 = 0) :
    (outsAt0 m c (n + 1) hn).2.1 = (outsAt0 m c n (by omega)).2.1
    ∧ (¬(n + 1) % 7 = 3 → (outsAt0 m c (n + 1) hn).2.2.1 = (outsAt0 m c n (by omega)).2.2.1)
    ∧ (¬(n + 1) % 7 = 4 → (outsAt0 m c (n + 1) hn).2.2.2.1 = (outsAt0 m c n (by omega)).2.2.2.1) := by
  by_cases h1 : (n + 1) % 7 = 3
  · rw [outsAt0_C m c ⟨n + 1, hn⟩ h0 h1 (by dsimp only; omega)]
    exact ⟨rfl, fun h => absurd h1 h, fun _ => rfl⟩
  by_cases h2 : (n + 1) % 7 = 4
  · rw [outsAt0_D m c ⟨n + 1, hn⟩ h0 h1 h2]
    exact ⟨rfl, fun _ => rfl, fun h => absurd h2 h⟩
  rw [outsAt0_B m c ⟨n + 1, hn⟩ h0 h1 h2]
  exact ⟨rfl, fun _ => rfl, fun _ => rfl⟩

/-- A row block's last point writes the three blocks back as they were stored: the block carried from point `n` on. -/
theorem carried (n : ℕ) (d : ℕ) : ∀ hn : n + d < cfg0.N, n % 7 + d < 7 →
    (outsAt0 m c (n + d) hn).2.1 = (outsAt0 m c n (by omega)).2.1
    ∧ (n % 7 = 3 → (outsAt0 m c (n + d) hn).2.2.1 = (outsAt0 m c n (by omega)).2.2.1)
    ∧ (n % 7 = 4 → (outsAt0 m c (n + d) hn).2.2.2.1 = (outsAt0 m c n (by omega)).2.2.2.1) := by
  induction d with
  | zero => exact fun hn _ => ⟨rfl, fun _ => rfl, fun _ => rfl⟩
  | succ d ih =>
    intro hn hd
    obtain ⟨a, b, e⟩ := carry m c (n + d) hn (by omega)
    obtain ⟨a', b', e'⟩ := ih (by omega) (by omega)
    exact ⟨a.trans a', fun h => (b (by omega)).trans (b' h), fun h => (e (by omega)).trans (e' h)⟩

theorem final_main : (dats m 0 c).arrAt 3 (cfgs 0).N = mainA (X m c) (W m c) := by
  refine (dats m 0 c).arrAt_eq_of_covers 3 (mainA (X m c) (W m c)) (by decide +kernel) fun t _ y => ?_
  obtain ⟨i, j, rfl⟩ : ∃ i j : Fin 1024, y = ix2 i j := ⟨y 0, y 1, by funext a; fin_cases a <;> rfl⟩
  blk_simp
  rw [after0_3]
  refine (main_point m c t i j).trans (congrArg (mainA (X m c) (W m c)) ?_)
  blk_ext [idx t]

/-- A row block's small projection goes back at its last point. -/
theorem last : ∀ t : Fin cfg0.N, ((cfg0.win 4).flush t = true → t.val % 7 = 6) ∧ ((cfg0.win 5).flush t = true → t.val % 7 = 6)
    ∧ ((cfg0.win 6).flush t = true → t.val % 7 = 6) := by decide +kernel

theorem final_small : (dats m 0 c).arrAt 4 (cfgs 0).N = smallA (X m c) (WS m c) := by
  refine (dats m 0 c).arrAt_eq_of_covers 4 (smallA (X m c) (WS m c)) (by decide +kernel) fun t hf y => ?_
  obtain ⟨i, j, rfl⟩ : ∃ (i : Fin 1024) (j : Fin 128), y = ix2 i j := ⟨y 0, y 1, by funext a; fin_cases a <;> rfl⟩
  have h6 := (last t).1 hf
  blk_simp
  rw [after0_4]
  obtain ⟨n, hn⟩ := t
  dsimp only at h6
  obtain ⟨d, rfl⟩ : ∃ d, n = d + 6 := ⟨n - 6, by omega⟩
  refine (congrFun (carried m c d 6 hn (by omega)).1 _).trans ((small_first m c ⟨d, Nat.lt_of_le_of_lt (Nat.le_add_right _ _) hn⟩ (by dsimp only; omega) i j).trans (congrArg (smallA (X m c) (WS m c)) ?_))
  blk_ext [idx ⟨d + 6, hn⟩]

/-- The first layer's entry at a row block's token. -/
theorem layer_at (x : S2x4096x2048.Idx → EReal) (w : S2048x7168.Idx → EReal) (old : S2x2x512x4096.Idx → EReal) (o : ℕ) (ho : o + 512 ≤ 7168)
    (n : ℕ) (hn : n < 56) (j : Fin 512) (i : Fin 1024) :
    layerA x w old o ho (ix4 0 ⟨n / 28, by omega⟩ j ⟨1024 * (n / 7 % 4) + i.val, by omega⟩)
      = mainA x w (ix2 ⟨1024 * (n / 7) + i.val, by omega⟩ ⟨o + j.val, by omega⟩) := by
  refine (if_pos rfl).trans ?_
  show mainA x w (ix2 ⟨4096 * (n / 28) + (1024 * (n / 7 % 4) + i.val), _⟩ ⟨o + j.val, _⟩) = _
  simp only [show 4096 * (n / 28) + (1024 * (n / 7 % 4) + i.val) = 1024 * (n / 7) + i.val by omega]

/-- The results k and v start as copies of the arrays given. -/
theorem V_keys : V m c main_v1_2 = K m c := by
  unfold V
  after_results
  try rfl
theorem V_values : V m c main_v1_3 = VS m c := by
  unfold V
  after_results
  try rfl

theorem final_keys : (dats m 0 c).arrAt 5 (cfgs 0).N = layerA (X m c) (W m c) (K m c) 3584 (by decide) := by
  have key := (dats m 0 c).arrAt_eq_of_coversWhere (P := fun i : S2x2x512x4096.Idx => (i 0).val = 0) 5 (layerA (X m c) (W m c) (K m c) 3584 (by decide))
    (fun β => β 0 = 0) (by decide +kernel) (fun t hf y => ?_) (fun j => by blk_simp [Pipeline.Window.cell_apply]; rw [Nat.div_one])
  · rw [key]
    funext i
    by_cases h : (i 0).val = 0
    · rw [if_pos h]
    · rw [if_neg h, A_eq]
      exact (congrFun (V_keys m c) i).trans (if_neg h).symm
  obtain ⟨j, i, rfl⟩ : ∃ (j : Fin 512) (i : Fin 1024), y = ix4 0 0 j i :=
    ⟨y 2, y 3, by funext a; match a with | 0 => exact Subsingleton.elim (α := Fin 1) _ _ | 1 => exact Subsingleton.elim (α := Fin 1) _ _ | 2 => rfl | 3 => rfl⟩
  have h6 := (last t).2.1 hf
  blk_simp
  rw [after0_5]
  obtain ⟨n, hn⟩ := t
  dsimp only at h6
  obtain ⟨d, rfl⟩ : ∃ d, n = d + 3 := ⟨n - 3, by omega⟩
  have h56 := lt ⟨d + 3, hn⟩
  dsimp only at h56
  refine (congrFun ((carried m c d 3 hn (by omega)).2.1 (by omega)) _).trans
    ((keys_first m c ⟨d, Nat.lt_of_le_of_lt (Nat.le_add_right _ _) hn⟩ (by dsimp only; omega) j i).trans ?_)
  refine Eq.trans ?_ ((layer_at (X m c) (W m c) (K m c) 3584 (by decide) (d + 3) h56 j i).symm.trans (congrArg (layerA (X m c) (W m c) (K m c) 3584 (by decide)) ?_))
  · simp only [show (d + 3) / 7 = d / 7 by omega]
  · blk_ext [idx ⟨d + 3, hn⟩]

theorem final_values : (dats m 0 c).arrAt 6 (cfgs 0).N = layerA (X m c) (W m c) (VS m c) 4096 (by decide) := by
  have key := (dats m 0 c).arrAt_eq_of_coversWhere (P := fun i : S2x2x512x4096.Idx => (i 0).val = 0) 6 (layerA (X m c) (W m c) (VS m c) 4096 (by decide))
    (fun β => β 0 = 0) (by decide +kernel) (fun t hf y => ?_) (fun j => by blk_simp [Pipeline.Window.cell_apply]; rw [Nat.div_one])
  · rw [key]
    funext i
    by_cases h : (i 0).val = 0
    · rw [if_pos h]
    · rw [if_neg h, A_eq]
      exact (congrFun (V_values m c) i).trans (if_neg h).symm
  obtain ⟨j, i, rfl⟩ : ∃ (j : Fin 512) (i : Fin 1024), y = ix4 0 0 j i :=
    ⟨y 2, y 3, by funext a; match a with | 0 => exact Subsingleton.elim (α := Fin 1) _ _ | 1 => exact Subsingleton.elim (α := Fin 1) _ _ | 2 => rfl | 3 => rfl⟩
  have h6 := (last t).2.2 hf
  blk_simp
  rw [after0_6]
  obtain ⟨n, hn⟩ := t
  dsimp only at h6
  obtain ⟨d, rfl⟩ : ∃ d, n = d + 2 := ⟨n - 2, by omega⟩
  have h56 := lt ⟨d + 2, hn⟩
  dsimp only at h56
  refine (congrFun ((carried m c d 2 hn (by omega)).2.2 (by omega)) _).trans
    ((values_first m c ⟨d, Nat.lt_of_le_of_lt (Nat.le_add_right _ _) hn⟩ (by dsimp only; omega) j i).trans ?_)
  refine Eq.trans ?_ ((layer_at (X m c) (W m c) (VS m c) 4096 (by decide) (d + 2) h56 j i).symm.trans (congrArg (layerA (X m c) (W m c) (VS m c) 4096 (by decide)) ?_))
  · simp only [show (d + 2) / 7 = d / 7 by omega]
  · blk_ext [idx ⟨d + 2, hn⟩]

theorem same_results : Cert.algebraic_ProjKernelIdeal_ProjReferenceIdeal := by
  intro m g m' g' _ agree
  refine ⟨fun c => mainA (X m c) (W m c), fun c => smallA (X m c) (WS m c), fun c => layerA (X m c) (W m c) (K m c) 3584 (by decide),
    fun c => layerA (X m c) (W m c) (VS m c) 4096 (by decide), ?_, ?_⟩
  · refine (θ_run (Cert.ProjKernelIdeal.defs (F := Ideal)) _ _).mono (fun r h c => ?_) (run_main (F := Ideal) m g)
    exact ⟨((h.1 c).1 3).trans (final_main m c), ((h.1 c).1 4).trans (final_small m c), ((h.1 c).1 5).trans (final_keys m c),
      ((h.1 c).1 6).trans (final_values m c), kept m (dats m) (A_eq m) r h.1 c⟩
  · refine (θ_run (Cert.ProjReferenceIdeal.defs (F := Ideal)) _ _).mono (fun r h c => ?_) (Cert.ProjReferenceIdeal.Value.run (F := Ideal) m' g')
    obtain ⟨a0, a1, a2, a3, a4⟩ := agree c
    obtain ⟨h0, h1, h2, h3, hr⟩ := h c
    refine ⟨h0.trans ?_, h1.trans ?_, h2.trans ?_, h3.trans ?_, hr⟩
    · rw [Cert.ProjReferenceIdeal.Read.val_main_v2_eq, a0, a1]
      exact reference_main _ _
    · rw [Cert.ProjReferenceIdeal.Read.val_main_v4_eq, a0, a2]
      exact reference_small _ _
    · rw [Cert.ProjReferenceIdeal.Read.val_main_v15_eq, a0, a1, a3]
      exact reference_keys _ _ _
    · rw [Cert.ProjReferenceIdeal.Read.val_main_v20_eq, a0, a1, a4]
      exact reference_values _ _ _

/-- The kernel as compiled is the same program. -/
theorem main_same : Cert.ProjKernel.main (F := Bits) = Cert.ProjKernelIdeal.main (F := Bits) := rfl
theorem defs_same : Cert.ProjKernel.defs (F := Bits) = Cert.ProjKernelIdeal.defs (F := Bits) := by sl_kernel_rfl

theorem frame_kernel : Cert.quiescent_ProjKernel := fun m ρ _ => by
  rw [main_same, defs_same]
  exact frame (F := Bits) m ρ
theorem frame_ideal : Cert.quiescent_ProjKernelIdeal := fun m ρ _ => frame (F := Ideal) m ρ
theorem frame_reference : Cert.quiescent_ProjReferenceIdeal := fun m ρ _ =>
  (θ_run (Cert.ProjReferenceIdeal.defs (F := Ideal)) _ _).mono
    (fun r h => ⟨fun c => (h c).2.2.2.2, Idealize.ShloMosaic.sem_eq_zero_of_no_sems (by decide) r.2⟩)
    (Cert.ProjReferenceIdeal.Value.run (F := Ideal) m ρ)

end Cert.Proj

end
-- ==== Proof.Prep.Value.lean ====
/- The first layer's prepared weights after the run, and the reference's: the same. -/
module

public import proofs.«01_k».proof.Defs
public import proofs.«01_k».proof.Proof.Gen.PrepKernel.Frame
public import proofs.«01_k».proof.Proof.Gen.PrepKernelIdeal.Value
public import proofs.«01_k».proof.Proof.Gen.PrepReferenceIdeal.Run
public import proofs.«01_k».proof.Proof.Gen.PrepReferenceIdeal.Read
public import Idealize.ShloMosaic.Lib.Pointwise
public import Idealize.ShloMosaic.Lib.Pipeline.ValueKit

@[expose] public section

set_option maxRecDepth 16384

noncomputable section

namespace Cert.Prep

open Cert.PrepKernelIdeal Cert.PrepKernelIdeal.Gen
open Idealize.ShloMosaic Idealize.SL.Sem
open Idealize.ShloMosaic.TcCoe

variable (m : (ℓ : Loc nD τ sig) → Buf (Elt Ideal) ℓ) (c : Dev nD)

/-- Point `t` takes the weights' input rows `256 t` on, all columns. -/
theorem idx : ∀ t : Fin cfg0.N, win0_0.index t = ![0, 0, t.val] ∧ win0_1.index t = ![t.val, 0] ∧ win0_2.index t = ![t.val, 0] ∧ t.val < 8 :=
  (by decide +kernel : ∀ t : Fin grid0.N, _)

/-- The weights given. -/
abbrev W : S2x2048x7256.Idx → EReal := m ((c : Thread nD τ).loc main_arg0)

/-- The call takes them with the last two axes exchanged. -/
theorem V_w (l : Fin 2) (j : Fin 7256) (i : Fin 2048) : V m c main_v0 (ix3 l j i) = W m c (ix3 l i j) := by
  entry_read
  pointwise

/-- Point `t`'s block of the weights. -/
theorem block (t : Fin cfg0.N) (j : Fin 7256) (i : Fin 256) :
    iblk m c 0 t (ix3 0 j i) = W m c (ix3 0 ⟨256 * t.val + i.val, by have := (idx t).2.2.2; omega⟩ j) := by
  refine Eq.trans (congrArg (V m c main_v0) (?_ : _ = ix3 0 j ⟨256 * t.val + i.val, by have := (idx t).2.2.2; omega⟩)) (V_w m c 0 j _)
  blk_ext [iblk, V, idx t]

/-- The two arrays, of the weights given: the large columns and the small ones. -/
abbrev large (w : S2x2048x7256.Idx → EReal) : S2048x7168.Idx → EReal := Cert.PrepReferenceIdeal.Read.val_main_v16 (F := Ideal) w
abbrev small (w : S2x2048x7256.Idx → EReal) : S2048x128.Idx → EReal := Cert.PrepReferenceIdeal.Read.val_main_v17 (F := Ideal) w

open Cert.PrepReferenceIdeal.Read in
theorem large_point (t : Fin cfg0.N) (i : Fin 256) (j : Fin 7168) :
    k0_pay2 (F := Ideal) (iblk m c 0 t) (ix2 i j) = large (W m c) (ix2 ⟨256 * t.val + i.val, by have := (idx t).2.2.2; omega⟩ j) := by
  pointwise [k0_pay2, k0_pay1, block, large, val_main_v16, val_main_v10, val_main_v9, val_main_v8, val_main_v7, val_main_v6, val_main_v5, val_main_v4, val_main_v3, val_main_v2, val_main_v1, val_main_v0]

open Cert.PrepReferenceIdeal.Read in
theorem small_point (t : Fin cfg0.N) (i : Fin 256) (j : Fin 128) :
    k0_pay3 (F := Ideal) (iblk m c 0 t) (ix2 i j) = small (W m c) (ix2 ⟨256 * t.val + i.val, by have := (idx t).2.2.2; omega⟩ j) := by
  pointwise [k0_pay3, k0_pay1, block, small, val_main_v17, val_main_v15, val_main_v14, val_main_v13, val_main_v12, val_main_v11, val_main_v1, val_main_v0, val_main_cst]

theorem final_large : (dats m 0 c).arrAt 1 (cfgs 0).N = large (W m c) := by
  refine (dats m 0 c).arrAt_eq_of_covers 1 (large (W m c)) (by decide +kernel) fun t _ y => ?_
  obtain ⟨i, j, rfl⟩ : ∃ (i : Fin 256) (j : Fin 7168), y = ix2 i j := ⟨y 0, y 1, by funext a; fin_cases a <;> rfl⟩
  blk_simp
  rw [after0_1]
  unfold out0_1
  frame_out
  refine (large_point m c t i j).trans (congrArg (large (W m c)) ?_)
  blk_ext [idx t]

theorem final_small : (dats m 0 c).arrAt 2 (cfgs 0).N = small (W m c) := by
  refine (dats m 0 c).arrAt_eq_of_covers 2 (small (W m c)) (by decide +kernel) fun t _ y => ?_
  obtain ⟨i, j, rfl⟩ : ∃ (i : Fin 256) (j : Fin 128), y = ix2 i j := ⟨y 0, y 1, by funext a; fin_cases a <;> rfl⟩
  blk_simp
  rw [after0_2]
  unfold out0_2
  frame_out
  refine (small_point m c t i j).trans (congrArg (small (W m c)) ?_)
  blk_ext [idx t]

theorem same_results : Cert.algebraic_PrepKernelIdeal_PrepReferenceIdeal := by
  intro m g m' g' _ agree
  refine ⟨fun c => large (W m c), fun c => small (W m c), ?_, ?_⟩
  · refine (θ_run (Cert.PrepKernelIdeal.defs (F := Ideal)) _ _).mono (fun r h c => ⟨(h c).1.trans (final_large m c), (h c).2.1.trans (final_small m c), (h c).2.2⟩)
      (Cert.PrepKernelIdeal.Value.run_blocks (F := Ideal) m g)
  · refine (θ_run (Cert.PrepReferenceIdeal.defs (F := Ideal)) _ _).mono (fun r h c => ⟨(h c).1.trans ?_, (h c).2.1.trans ?_, (h c).2.2⟩)
      (Cert.PrepReferenceIdeal.Value.run (F := Ideal) m' g')
    · rw [Cert.PrepReferenceIdeal.Read.val_main_v16_eq, agree c]
    · rw [Cert.PrepReferenceIdeal.Read.val_main_v17_eq, agree c]

theorem frame_kernel : Cert.quiescent_PrepKernel := fun m ρ _ => Cert.PrepKernel.Gen.frame (F := Bits) m ρ
theorem frame_ideal : Cert.quiescent_PrepKernelIdeal := fun m ρ _ => Cert.PrepKernelIdeal.Gen.frame (F := Ideal) m ρ
theorem frame_reference : Cert.quiescent_PrepReferenceIdeal := fun m ρ _ =>
  (θ_run (Cert.PrepReferenceIdeal.defs (F := Ideal)) _ _).mono
    (fun r h => ⟨fun c => (h c).2.2, Idealize.ShloMosaic.sem_eq_zero_of_no_sems (by decide) r.2⟩)
    (Cert.PrepReferenceIdeal.Value.run (F := Ideal) m ρ)

end Cert.Prep

end
-- ==== Proof.ProjSecond.Kit.lean ====
/- The projection kernel up to its body: what the host operations leave, the blocks, the branch conditions over the grid, the idle points. -/
module

public import proofs.«01_k».proof.Proof.Gen.ProjSecondKernelIdeal.Launch
public import proofs.«01_k».proof.Proof.Gen.ProjSecondKernelIdeal.Skeleton
public import proofs.«01_k».proof.Proof.Gen.ProjSecondKernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384
set_option Elab.async false

noncomputable section

namespace Cert.ProjSecond

open Cert.ProjSecondKernelIdeal Cert.ProjSecondKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments after a frame run, for any proof data whose arrays are the region-entry contents: as launched. -/
theorem kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 7) — by arithmetic of the point. -/
theorem hcond0_0 : ∀ t : Fin cfg0.N, cond0_0 (grid0.coords t) ↔ t.val % 7 = 0 :=
  (fun t => by
    have ht : t.val < 56 := Nat.lt_of_lt_of_eq t.isLt N_0
    have e0 : (grid0.coords t 0).val = t.val / 7 % 8 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 0)

/-- The condition of the body's `scf.if` 1 (`k0_h2`), from the grid coordinates (the skeleton's scalar
    chain substituted). -/
abbrev cond0_1 (i : grid0.Coords) : Prop := k0_cond2 i = 1#1
/-- It holds at the points ≡ 3 (mod 7) — by arithmetic of the point. -/
theorem hcond0_1 : ∀ t : Fin cfg0.N, cond0_1 (grid0.coords t) ↔ t.val % 7 = 3 :=
  (fun t => by
    have ht : t.val < 56 := Nat.lt_of_lt_of_eq t.isLt N_0
    have e0 : (grid0.coords t 0).val = t.val / 7 % 8 := Pipeline.Grid.coords_val t 0 (by decide) rfl
    have e1 : (grid0.coords t 1).val = t.val / 1 % 7 := Pipeline.Grid.coords_val t 1 (by decide) rfl
    simp only [cond0_1, k0_cond2, e0, e1]
    word_cmp
   : ∀ t : Fin grid0.N, cond0_1 (grid0.coords t) ↔ t.val % 7 = 3)

/-- The condition of the body's `scf.if` 2 (`k0_h3`), from the grid coordinates (the skeleton's scalar
    chain substituted). -/
abbrev cond0_2 (i : grid0.Coords) : Prop := k0_cond3 i = 1#1
/-- It holds at the points ≡ 4 (mod 7) — by arithmetic of the point. -/
theorem hcond0_2 : ∀ t : Fin cfg0.N, cond0_2 (grid0.coords t) ↔ t.val % 7 = 4 :=
  (fun t => by
    have ht : t.val < 56 := Nat.lt_of_lt_of_eq t.isLt N_0
    have e0 : (grid0.coords t 0).val = t.val / 7 % 8 := Pipeline.Grid.coords_val t 0 (by decide) rfl
    have e1 : (grid0.coords t 1).val = t.val / 1 % 7 := Pipeline.Grid.coords_val t 1 (by decide) rfl
    simp only [cond0_2, k0_cond3, e0, e1]
    word_cmp
   : ∀ t : Fin grid0.N, cond0_2 (grid0.coords t) ↔ t.val % 7 = 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- At the points of case A the printed configuration (`Cfg.idle`) calls output 4 live: the case stores into it. -/
theorem liveAt0_4_A : ∀ t : Fin cfg0.N, cond0_0 (grid0.coords t) → ¬cond0_1 (grid0.coords t) → ¬cond0_2 (grid0.coords t) → cfg0.idle 4 (grid0.coords t) = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → ¬cond0_2 (grid0.coords t) → cfg0.idle 4 (grid0.coords t) = true := by decide +kernel
/-- At the points of case C the printed configuration (`Cfg.idle`) calls output 4 idle: the case stores nothing into it. -/
theorem idleAt0_4_C : ∀ t : Fin cfg0.N, ¬cond0_0 (grid0.coords t) → cond0_1 (grid0.coords t) → ¬cond0_2 (grid0.coords t) → cfg0.idle 4 (grid0.coords t) = true := by decide +kernel
/-- At the points of case C the pipeline does not write output 4's block back. -/
theorem noFlush0_4_C : ∀ t : Fin cfg0.N, ¬cond0_0 (grid0.coords t) → cond0_1 (grid0.coords t) → ¬cond0_2 (grid0.coords t) → (cfg0.win 4).flush t = false := by decide +kernel
/-- At the points of case D the printed configuration (`Cfg.idle`) calls output 4 idle: the case stores nothing into it. -/
theorem idleAt0_4_D : ∀ t : Fin cfg0.N, ¬cond0_0 (grid0.coords t) → ¬cond0_1 (grid0.coords t) → cond0_2 (grid0.coords t) → cfg0.idle 4 (grid0.coords t) = true := by decide +kernel
/-- At the points of case D the pipeline does not write output 4's block back. -/
theorem noFlush0_4_D : ∀ t : Fin cfg0.N, ¬cond0_0 (grid0.coords t) → ¬cond0_1 (grid0.coords t) → cond0_2 (grid0.coords t) → (cfg0.win 4).flush t = false := by decide +kernel
/-- At the points of case A the printed configuration (`Cfg.idle`) calls output 5 idle: the case stores nothing into it. -/
theorem idleAt0_5_A : ∀ t : Fin cfg0.N, cond0_0 (grid0.coords t) → ¬cond0_1 (grid0.coords t) → ¬cond0_2 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → ¬cond0_2 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → ¬cond0_2 (grid0.coords t) → cfg0.idle 5 (grid0.coords t) = true := by decide +kernel
/-- At the points of case C the printed configuration (`Cfg.idle`) calls output 5 live: the case stores into it. -/
theorem liveAt0_5_C : ∀ t : Fin cfg0.N, ¬cond0_0 (grid0.coords t) → cond0_1 (grid0.coords t) → ¬cond0_2 (grid0.coords t) → cfg0.idle 5 (grid0.coords t) = false := by decide +kernel
/-- At the points of case D the printed configuration (`Cfg.idle`) calls output 5 idle: the case stores nothing into it. -/
theorem idleAt0_5_D : ∀ t : Fin cfg0.N, ¬cond0_0 (grid0.coords t) → ¬cond0_1 (grid0.coords t) → cond0_2 (grid0.coords t) → cfg0.idle 5 (grid0.coords t) = true := by decide +kernel
/-- At the points of case D the pipeline does not write output 5's block back. -/
theorem noFlush0_5_D : ∀ t : Fin cfg0.N, ¬cond0_0 (grid0.coords t) → ¬cond0_1 (grid0.coords t) → cond0_2 (grid0.coords t) → (cfg0.win 5).flush t = false := by decide +kernel
/-- At the points of case A the printed configuration (`Cfg.idle`) calls output 6 idle: the case stores nothing into it. -/
theorem idleAt0_6_A : ∀ t : Fin cfg0.N, cond0_0 (grid0.coords t) → ¬cond0_1 (grid0.coords t) → ¬cond0_2 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → ¬cond0_2 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → ¬cond0_2 (grid0.coords t) → cfg0.idle 6 (grid0.coords t) = true := by decide +kernel
/-- At the points of case C the printed configuration (`Cfg.idle`) calls output 6 idle: the case stores nothing into it. -/
theorem idleAt0_6_C : ∀ t : Fin cfg0.N, ¬cond0_0 (grid0.coords t) → cond0_1 (grid0.coords t) → ¬cond0_2 (grid0.coords t) → cfg0.idle 6 (grid0.coords t) = true := by decide +kernel
/-- At the points of case C the pipeline does not write output 6's block back. -/
theorem noFlush0_6_C : ∀ t : Fin cfg0.N, ¬cond0_0 (grid0.coords t) → cond0_1 (grid0.coords t) → ¬cond0_2 (grid0.coords t) → (cfg0.win 6).flush t = false := by decide +kernel
/-- At the points of case D the printed configuration (`Cfg.idle`) calls output 6 live: the case stores into it. -/
theorem liveAt0_6_D : ∀ t : Fin cfg0.N, ¬cond0_0 (grid0.coords t) → ¬cond0_1 (grid0.coords t) → cond0_2 (grid0.coords t) → cfg0.idle 6 (grid0.coords t) = false := by decide +kernel

/-! ## The kernel body on any staging memrefs: a subtype the run finds -/

/-- One staging buffer of output window 3, through which its contents are stated (`View.read_writes_of_cover`: the
    choice does not matter). -/
abbrev VO0_3 : View sig .tc .vmem S1024x1024 .f32 := (Memref.whole cc0_stg3_0 : Memref sig .tc .vmem S1024x1024 .f32).view
/-- One staging buffer of output window 4, through which its contents are stated (`View.read_writes_of_cover`: the
    choice does not matter). -/
abbrev VO0_4 : View sig .tc .vmem S1024x128 .f32 := (Memref.whole cc0_stg4_0 : Memref sig .tc .vmem S1024x128 .f32).view
/-- One staging buffer of output window 5, through which its contents are stated (`View.read_writes_of_cover`: the
    choice does not matter). -/
abbrev VO0_5 : View sig .tc .vmem S1x1x512x1024 .f32 := (Memref.whole cc0_stg5_0 : Memref sig .tc .vmem S1x1x512x1024 .f32).view
/-- One staging buffer of output window 6, through which its contents are stated (`View.read_writes_of_cover`: the
    choice does not matter). -/
abbrev VO0_6 : View sig .tc .vmem S1x1x512x1024 .f32 := (Memref.whole cc0_stg6_0 : Memref sig .tc .vmem S1x1x512x1024 .f32).view
/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512x1024 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x2048 .bf16 := Memref.whole cc0_scratch0
/-- The scratch `arg11` the kernel carries between points, as a view: what it holds is stated through it. -/
abbrev VS0_0 : View sig .tc .vmem S1024x2048 .bf16 := scM0_0.view

/-- The frame kit's invariant with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.ProjSecond

end
-- ==== Proof.ProjSecond.Runs.lean ====
/- The kernel body run once per control path, on any whole staging buffers. -/
module

public import proofs.«01_k».proof.Proof.ProjSecond.Kit

@[expose] public section

set_option maxRecDepth 16384
set_option Elab.async false

noncomputable section

namespace Cert.ProjSecond

open Cert.ProjSecondKernelIdeal Cert.ProjSecondKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.proofsInPublic true in
set_option maxHeartbeats 1000000 in
/-- At the first column block of a row block (points 0, 7, … 49): the rows are cast and kept, the small columns and the block stored. The pieces each output ends with are the witness; an output the body does not touch is handed back. -/
noncomputable def kernelRun0_A (c : Dev nD) (i : grid0.Coords) (arg2 : Memref sig .tc .vmem S1024x2048 .f32) (harg2 : arg2.IsWhole) (arg3 : Memref sig .tc .vmem S2048x1024 .bf16) (harg3 : arg3.IsWhole) (arg4 : Memref sig .tc .vmem S2048x128 .bf16) (harg4 : arg4.IsWhole) (arg7 : Memref sig .tc .vmem S1024x1024 .f32) (harg7 : arg7.IsWhole) (arg8 : Memref sig .tc .vmem S1024x128 .f32) (harg8 : arg8.IsWhole) (arg9 : Memref sig .tc .vmem S1x1x512x1024 .f32) (harg9 : arg9.IsWhole) (arg10 : Memref sig .tc .vmem S1x1x512x1024 .f32) (harg10 : arg10.IsWhole) (arg11 : Memref sig .tc .vmem S1024x2048 .bf16) (harg11 : arg11.IsWhole) (hc0 : cond0_0 i) (hc1 : ¬cond0_1 i) (hc2 : ¬cond0_2 i)
    (x0 : Vec F S1024x2048 .f32) (x1 : Vec F S2048x1024 .bf16) (x2 : Vec F S2048x128 .bf16) :
    Σ' (L3 : List (View.Piece (Elt F) S1024x1024 .f32)), Σ' (L4 : List (View.Piece (Elt F) S1024x128 .f32)), Σ' (L5 : List (View.Piece (Elt F) S1x1x512x1024 .f32)), Σ' (L6 : List (View.Piece (Elt F) S1x1x512x1024 .f32)), { LS0 : List (View.Piece (Elt F) S1024x2048 .bf16) //
      ∀ (xi5 : Vec F S1x1x512x1024 .f32) (xi6 : Vec F S1x1x512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg7 fullShare d) ∗ (∃ d, owns (c : Thread nD τ) arg8 fullShare d) ∗ owns (c : Thread nD τ) arg9 fullShare xi5 ∗ owns (c : Thread nD τ) arg10 fullShare xi6 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f L4) ∗ owns (c : Thread nD τ) arg9 fullShare xi5 ∗ owns (c : Thread nD τ) arg10 fullShare xi6 ∗ (∃ f, arg11.view.loc (c : Thread nD τ) ↦[arg11.view.set]{fullShare} arg11.view.writes (Elt F) f LS0)) -∗ K ⟨⟩))
          ⊢ wp frame (wpE (defs₀ (F := F)) Variants.none c none) E (cc0_proj i arg2 harg2 arg3 harg3 arg4 harg4 (Memref.whole main_arg3) (Memref.isWhole_whole _) (Memref.whole main_arg4) (Memref.isWhole_whole _) arg7 harg7 arg8 harg8 arg9 harg9 arg10 harg10 arg11 harg11) K } := by
  refine ⟨?_, ?_, [], [], ?_, fun xi5 xi6 E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg9.eq_unread hf5; obtain rfl := harg10.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]
    · iexists _; isplitr; · ipureintro; exact harg9.read_unread _
      iexact H5
    isplitl [H6]
    · iexists _; isplitr; · ipureintro; exact harg10.read_unread _
      iexact H6
    iexists _; iexact HS0

set_option backward.proofsInPublic true in
set_option maxHeartbeats 1000000 in
/-- At a column block that holds neither keys nor values: the block is stored and nothing else. The pieces each output ends with are the witness; an output the body does not touch is handed back. -/
noncomputable def kernelRun0_B (c : Dev nD) (i : grid0.Coords) (arg2 : Memref sig .tc .vmem S1024x2048 .f32) (harg2 : arg2.IsWhole) (arg3 : Memref sig .tc .vmem S2048x1024 .bf16) (harg3 : arg3.IsWhole) (arg4 : Memref sig .tc .vmem S2048x128 .bf16) (harg4 : arg4.IsWhole) (arg7 : Memref sig .tc .vmem S1024x1024 .f32) (harg7 : arg7.IsWhole) (arg8 : Memref sig .tc .vmem S1024x128 .f32) (harg8 : arg8.IsWhole) (arg9 : Memref sig .tc .vmem S1x1x512x1024 .f32) (harg9 : arg9.IsWhole) (arg10 : Memref sig .tc .vmem S1x1x512x1024 .f32) (harg10 : arg10.IsWhole) (arg11 : Memref sig .tc .vmem S1024x2048 .bf16) (harg11 : arg11.IsWhole) (hc0 : ¬cond0_0 i) (hc1 : ¬cond0_1 i) (hc2 : ¬cond0_2 i)
    (x0 : Vec F S1024x2048 .f32) (x1 : Vec F S2048x1024 .bf16) (x2 : Vec F S2048x128 .bf16) (xs0 : Vec F S1024x2048 .bf16) :
    Σ' (L3 : List (View.Piece (Elt F) S1024x1024 .f32)), Σ' (L4 : List (View.Piece (Elt F) S1024x128 .f32)), Σ' (L5 : List (View.Piece (Elt F) S1x1x512x1024 .f32)), Σ' (L6 : List (View.Piece (Elt F) S1x1x512x1024 .f32)), { LS0 : List (View.Piece (Elt F) S1024x2048 .bf16) //
      ∀ (xi4 : Vec F S1024x128 .f32) (xi5 : Vec F S1x1x512x1024 .f32) (xi6 : Vec F S1x1x512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg7 fullShare d) ∗ owns (c : Thread nD τ) arg8 fullShare xi4 ∗ owns (c : Thread nD τ) arg9 fullShare xi5 ∗ owns (c : Thread nD τ) arg10 fullShare xi6 ∗ owns (c : Thread nD τ) arg11 fullShare xs0
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f L3) ∗ owns (c : Thread nD τ) arg8 fullShare xi4 ∗ owns (c : Thread nD τ) arg9 fullShare xi5 ∗ owns (c : Thread nD τ) arg10 fullShare xi6 ∗ owns (c : Thread nD τ) arg11 fullShare xs0) -∗ K ⟨⟩))
          ⊢ wp frame (wpE (defs₀ (F := F)) Variants.none c none) E (cc0_proj i arg2 harg2 arg3 harg3 arg4 harg4 (Memref.whole main_arg3) (Memref.isWhole_whole _) (Memref.whole main_arg4) (Memref.isWhole_whole _) arg7 harg7 arg8 harg8 arg9 harg9 arg10 harg10 arg11 harg11) K } := by
  refine ⟨?_, [], [], [], [], fun xi4 xi5 xi6 E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg8.eq_unread hf4; obtain rfl := harg9.eq_unread hf5; obtain rfl := harg10.eq_unread hf6; obtain rfl := harg11.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    iexists _; isplitr; · ipureintro; exact harg11.read_unread _
    iexact HS0

set_option backward.proofsInPublic true in
set_option maxHeartbeats 1000000 in
/-- At the column block that holds the keys (points ≡ 3): the block and the keys transposed are stored. The pieces each output ends with are the witness; an output the body does not touch is handed back. -/
noncomputable def kernelRun0_C (c : Dev nD) (i : grid0.Coords) (arg2 : Memref sig .tc .vmem S1024x2048 .f32) (harg2 : arg2.IsWhole) (arg3 : Memref sig .tc .vmem S2048x1024 .bf16) (harg3 : arg3.IsWhole) (arg4 : Memref sig .tc .vmem S2048x128 .bf16) (harg4 : arg4.IsWhole) (arg7 : Memref sig .tc .vmem S1024x1024 .f32) (harg7 : arg7.IsWhole) (arg8 : Memref sig .tc .vmem S1024x128 .f32) (harg8 : arg8.IsWhole) (arg9 : Memref sig .tc .vmem S1x1x512x1024 .f32) (harg9 : arg9.IsWhole) (arg10 : Memref sig .tc .vmem S1x1x512x1024 .f32) (harg10 : arg10.IsWhole) (arg11 : Memref sig .tc .vmem S1024x2048 .bf16) (harg11 : arg11.IsWhole) (hc0 : ¬cond0_0 i) (hc1 : cond0_1 i) (hc2 : ¬cond0_2 i)
    (x0 : Vec F S1024x2048 .f32) (x1 : Vec F S2048x1024 .bf16) (x2 : Vec F S2048x128 .bf16) (xs0 : Vec F S1024x2048 .bf16) :
    Σ' (L3 : List (View.Piece (Elt F) S1024x1024 .f32)), Σ' (L4 : List (View.Piece (Elt F) S1024x128 .f32)), Σ' (L5 : List (View.Piece (Elt F) S1x1x512x1024 .f32)), Σ' (L6 : List (View.Piece (Elt F) S1x1x512x1024 .f32)), { LS0 : List (View.Piece (Elt F) S1024x2048 .bf16) //
      ∀ (xi4 : Vec F S1024x128 .f32) (xi6 : Vec F S1x1x512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg7 fullShare d) ∗ owns (c : Thread nD τ) arg8 fullShare xi4 ∗ (∃ d, owns (c : Thread nD τ) arg9 fullShare d) ∗ owns (c : Thread nD τ) arg10 fullShare xi6 ∗ owns (c : Thread nD τ) arg11 fullShare xs0
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f L3) ∗ owns (c : Thread nD τ) arg8 fullShare xi4 ∗ (∃ f, arg9.view.loc (c : Thread nD τ) ↦[arg9.view.set]{fullShare} arg9.view.writes (Elt F) f L5) ∗ owns (c : Thread nD τ) arg10 fullShare xi6 ∗ owns (c : Thread nD τ) arg11 fullShare xs0) -∗ K ⟨⟩))
          ⊢ wp frame (wpE (defs₀ (F := F)) Variants.none c none) E (cc0_proj i arg2 harg2 arg3 harg3 arg4 harg4 (Memref.whole main_arg3) (Memref.isWhole_whole _) (Memref.whole main_arg4) (Memref.isWhole_whole _) arg7 harg7 arg8 harg8 arg9 harg9 arg10 harg10 arg11 harg11) K } := by
  refine ⟨?_, [], ?_, [], [], fun xi4 xi6 E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg8.eq_unread hf4; obtain rfl := harg10.eq_unread hf6; obtain rfl := harg11.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg8.read_unread _
      iexact H4
    isplitl [H5]; · iexists _; iexact H5
    isplitl [H6]
    · iexists _; isplitr; · ipureintro; exact harg10.read_unread _
      iexact H6
    iexists _; isplitr; · ipureintro; exact harg11.read_unread _
    iexact HS0

set_option backward.proofsInPublic true in
set_option maxHeartbeats 1000000 in
/-- At the column block that holds the values (points ≡ 4): the block and the values transposed are stored. The pieces each output ends with are the witness; an output the body does not touch is handed back. -/
noncomputable def kernelRun0_D (c : Dev nD) (i : grid0.Coords) (arg2 : Memref sig .tc .vmem S1024x2048 .f32) (harg2 : arg2.IsWhole) (arg3 : Memref sig .tc .vmem S2048x1024 .bf16) (harg3 : arg3.IsWhole) (arg4 : Memref sig .tc .vmem S2048x128 .bf16) (harg4 : arg4.IsWhole) (arg7 : Memref sig .tc .vmem S1024x1024 .f32) (harg7 : arg7.IsWhole) (arg8 : Memref sig .tc .vmem S1024x128 .f32) (harg8 : arg8.IsWhole) (arg9 : Memref sig .tc .vmem S1x1x512x1024 .f32) (harg9 : arg9.IsWhole) (arg10 : Memref sig .tc .vmem S1x1x512x1024 .f32) (harg10 : arg10.IsWhole) (arg11 : Memref sig .tc .vmem S1024x2048 .bf16) (harg11 : arg11.IsWhole) (hc0 : ¬cond0_0 i) (hc1 : ¬cond0_1 i) (hc2 : cond0_2 i)
    (x0 : Vec F S1024x2048 .f32) (x1 : Vec F S2048x1024 .bf16) (x2 : Vec F S2048x128 .bf16) (xs0 : Vec F S1024x2048 .bf16) :
    Σ' (L3 : List (View.Piece (Elt F) S1024x1024 .f32)), Σ' (L4 : List (View.Piece (Elt F) S1024x128 .f32)), Σ' (L5 : List (View.Piece (Elt F) S1x1x512x1024 .f32)), Σ' (L6 : List (View.Piece (Elt F) S1x1x512x1024 .f32)), { LS0 : List (View.Piece (Elt F) S1024x2048 .bf16) //
      ∀ (xi4 : Vec F S1024x128 .f32) (xi5 : Vec F S1x1x512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg7 fullShare d) ∗ owns (c : Thread nD τ) arg8 fullShare xi4 ∗ owns (c : Thread nD τ) arg9 fullShare xi5 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f L3) ∗ owns (c : Thread nD τ) arg8 fullShare xi4 ∗ owns (c : Thread nD τ) arg9 fullShare xi5 ∗ (∃ f, arg10.view.loc (c : Thread nD τ) ↦[arg10.view.set]{fullShare} arg10.view.writes (Elt F) f L6) ∗ owns (c : Thread nD τ) arg11 fullShare xs0) -∗ K ⟨⟩))
          ⊢ wp frame (wpE (defs₀ (F := F)) Variants.none c none) E (cc0_proj i arg2 harg2 arg3 harg3 arg4 harg4 (Memref.whole main_arg3) (Memref.isWhole_whole _) (Memref.whole main_arg4) (Memref.isWhole_whole _) arg7 harg7 arg8 harg8 arg9 harg9 arg10 harg10 arg11 harg11) K } := by
  refine ⟨?_, [], [], ?_, [], fun xi4 xi5 E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg8.eq_unread hf4; obtain rfl := harg9.eq_unread hf5; obtain rfl := harg11.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg8.read_unread _
      iexact H4
    isplitl [H5]
    · iexists _; isplitr; · ipureintro; exact harg9.read_unread _
      iexact H5
    isplitl [H6]; · iexists _; iexact H6
    iexists _; isplitr; · ipureintro; exact harg11.read_unread _
    iexact HS0

end Cert.ProjSecond

end
-- ==== Proof.ProjSecond.Frame.lean ====
/- What each point leaves in the outputs and the cast rows, the body obligation, the launch and the frame. -/
module

public import proofs.«01_k».proof.Proof.ProjSecond.Runs

@[expose] public section

set_option maxRecDepth 16384
set_option Elab.async false

noncomputable section

namespace Cert.ProjSecond

open Cert.ProjSecondKernelIdeal Cert.ProjSecondKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The four paths' runs, at a point's buffers and blocks -/

theorem no0_0 (t : Fin cfg0.N) (h : ¬t.val % 7 = 0) : ¬cond0_0 (grid0.coords t) := fun h' => h ((hcond0_0 t).mp h')
theorem no0_1 (t : Fin cfg0.N) (h : ¬t.val % 7 = 3) : ¬cond0_1 (grid0.coords t) := fun h' => h ((hcond0_1 t).mp h')
theorem no0_2 (t : Fin cfg0.N) (h : ¬t.val % 7 = 4) : ¬cond0_2 (grid0.coords t) := fun h' => h ((hcond0_2 t).mp h')

variable (c : Dev nD) (t : Fin cfg0.N)

abbrev runA (h0 : t.val % 7 = 0) (h1 : ¬t.val % 7 = 3) (h2 : ¬t.val % 7 = 4) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    ((hcond0_0 t).mpr h0) (no0_1 t h1) (no0_2 t h2) (iblk m c 0 t) (iblk m c 1 t) (iblk m c 2 t)
abbrev runB (h0 : ¬t.val % 7 = 0) (h1 : ¬t.val % 7 = 3) (h2 : ¬t.val % 7 = 4) (xs : Vec F S1024x2048 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (no0_0 t h0) (no0_1 t h1) (no0_2 t h2) (iblk m c 0 t) (iblk m c 1 t) (iblk m c 2 t) xs
abbrev runC (h0 : ¬t.val % 7 = 0) (h1 : t.val % 7 = 3) (h2 : ¬t.val % 7 = 4) (xs : Vec F S1024x2048 .bf16) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (no0_0 t h0) ((hcond0_1 t).mpr h1) (no0_2 t h2) (iblk m c 0 t) (iblk m c 1 t) (iblk m c 2 t) xs
abbrev runD (h0 : ¬t.val % 7 = 0) (h1 : ¬t.val % 7 = 3) (h2 : t.val % 7 = 4) (xs : Vec F S1024x2048 .bf16) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (no0_0 t h0) (no0_1 t h1) ((hcond0_2 t).mpr h2) (iblk m c 0 t) (iblk m c 1 t) (iblk m c 2 t) xs

/-! Path A: its pieces cover what it stores into, and what it leaves there is the pieces read back. -/

section
variable (h0 : t.val % 7 = 0) (h1 : ¬t.val % 7 = 3) (h2 : ¬t.val % 7 = 4)
theorem cover0_A_3 (y : S1024x1024.Idx) : ∃ pc ∈ (runA m c t h0 h1 h2).1, y ∈ pc.1.set :=
  View.cover_of_tiledL _ S1024x1024.size (by sl_kernel_rfl) y
def out0_A_3 : Vec F S1024x1024 .f32 := VO0_3.read (Elt F) (VO0_3.writes (Elt F) VO0_3.junk (runA m c t h0 h1 h2).1)
theorem cover0_A_4 (y : S1024x128.Idx) : ∃ pc ∈ (runA m c t h0 h1 h2).2.1, y ∈ pc.1.set :=
  View.cover_of_tiledL _ S1024x128.size (by sl_kernel_rfl) y
def out0_A_4 : Vec F S1024x128 .f32 := VO0_4.read (Elt F) (VO0_4.writes (Elt F) VO0_4.junk (runA m c t h0 h1 h2).2.1)
theorem scover0_A_0 (y : S1024x2048.Idx) : ∃ pc ∈ (runA m c t h0 h1 h2).2.2.2.2.1, y ∈ pc.1.set :=
  View.cover_of_tiledL _ S1024x2048.size (by sl_kernel_rfl) y
def sout0_A_0 : Vec F S1024x2048 .bf16 := VS0_0.read (Elt F) (VS0_0.writes (Elt F) VS0_0.junk (runA m c t h0 h1 h2).2.2.2.2.1)
end

/-! Path B: its pieces cover what it stores into, and what it leaves there is the pieces read back. -/

section
variable (h0 : ¬t.val % 7 = 0) (h1 : ¬t.val % 7 = 3) (h2 : ¬t.val % 7 = 4) (xs : Vec F S1024x2048 .bf16)
theorem cover0_B_3 (y : S1024x1024.Idx) : ∃ pc ∈ (runB m c t h0 h1 h2 xs).1, y ∈ pc.1.set :=
  View.cover_of_tiledL _ S1024x1024.size (by sl_kernel_rfl) y
def out0_B_3 : Vec F S1024x1024 .f32 := VO0_3.read (Elt F) (VO0_3.writes (Elt F) VO0_3.junk (runB m c t h0 h1 h2 xs).1)
end

/-! Path C: its pieces cover what it stores into, and what it leaves there is the pieces read back. -/

section
variable (h0 : ¬t.val % 7 = 0) (h1 : t.val % 7 = 3) (h2 : ¬t.val % 7 = 4) (xs : Vec F S1024x2048 .bf16)
theorem cover0_C_3 (y : S1024x1024.Idx) : ∃ pc ∈ (runC m c t h0 h1 h2 xs).1, y ∈ pc.1.set :=
  View.cover_of_tiledL _ S1024x1024.size (by sl_kernel_rfl) y
def out0_C_3 : Vec F S1024x1024 .f32 := VO0_3.read (Elt F) (VO0_3.writes (Elt F) VO0_3.junk (runC m c t h0 h1 h2 xs).1)
theorem cover0_C_5 (y : S1x1x512x1024.Idx) : ∃ pc ∈ (runC m c t h0 h1 h2 xs).2.2.1, y ∈ pc.1.set :=
  View.cover_of_tiledL _ S1x1x512x1024.size (by sl_kernel_rfl) y
def out0_C_5 : Vec F S1x1x512x1024 .f32 := VO0_5.read (Elt F) (VO0_5.writes (Elt F) VO0_5.junk (runC m c t h0 h1 h2 xs).2.2.1)
end

/-! Path D: its pieces cover what it stores into, and what it leaves there is the pieces read back. -/

section
variable (h0 : ¬t.val % 7 = 0) (h1 : ¬t.val % 7 = 3) (h2 : t.val % 7 = 4) (xs : Vec F S1024x2048 .bf16)
theorem cover0_D_3 (y : S1024x1024.Idx) : ∃ pc ∈ (runD m c t h0 h1 h2 xs).1, y ∈ pc.1.set :=
  View.cover_of_tiledL _ S1024x1024.size (by sl_kernel_rfl) y
def out0_D_3 : Vec F S1024x1024 .f32 := VO0_3.read (Elt F) (VO0_3.writes (Elt F) VO0_3.junk (runD m c t h0 h1 h2 xs).1)
theorem cover0_D_6 (y : S1x1x512x1024.Idx) : ∃ pc ∈ (runD m c t h0 h1 h2 xs).2.2.2.1, y ∈ pc.1.set :=
  View.cover_of_tiledL _ S1x1x512x1024.size (by sl_kernel_rfl) y
def out0_D_6 : Vec F S1x1x512x1024 .f32 := VO0_6.read (Elt F) (VO0_6.writes (Elt F) VO0_6.junk (runD m c t h0 h1 h2 xs).2.2.2.1)
end

/-! ## What the outputs hold after each point -/

/-- The four outputs' buffers, then the cast rows. -/
abbrev Outs (F : FTy → Type) := Vec F S1024x1024 .f32 × Vec F S1024x128 .f32 × Vec F S1x1x512x1024 .f32 × Vec F S1x1x512x1024 .f32 × Vec F S1024x2048 .bf16

/-- What a point of path A leaves. -/
abbrev leftA (h0 : t.val % 7 = 0) (h1 : ¬t.val % 7 = 3) (h2 : ¬t.val % 7 = 4) : Outs F :=
  (out0_A_3 m c t h0 h1 h2, out0_A_4 m c t h0 h1 h2, VO0_5.read (Elt F) VO0_5.junk, VO0_6.read (Elt F) VO0_6.junk, sout0_A_0 m c t h0 h1 h2)
/-- What a point of path B leaves, over what the point before left. -/
abbrev leftB (h0 : ¬t.val % 7 = 0) (h1 : ¬t.val % 7 = 3) (h2 : ¬t.val % 7 = 4) (b : Outs F) : Outs F :=
  (out0_B_3 m c t h0 h1 h2 b.2.2.2.2, b.2.1, b.2.2.1, b.2.2.2.1, b.2.2.2.2)
/-- What a point of path C leaves, over what the point before left. -/
abbrev leftC (h0 : ¬t.val % 7 = 0) (h1 : t.val % 7 = 3) (h2 : ¬t.val % 7 = 4) (b : Outs F) : Outs F :=
  (out0_C_3 m c t h0 h1 h2 b.2.2.2.2, b.2.1, out0_C_5 m c t h0 h1 h2 b.2.2.2.2, b.2.2.2.1, b.2.2.2.2)
/-- What a point of path D leaves, over what the point before left. -/
abbrev leftD (h0 : ¬t.val % 7 = 0) (h1 : ¬t.val % 7 = 3) (h2 : t.val % 7 = 4) (b : Outs F) : Outs F :=
  (out0_D_3 m c t h0 h1 h2 b.2.2.2.2, b.2.1, b.2.2.1, out0_D_6 m c t h0 h1 h2 b.2.2.2.2, b.2.2.2.2)

/-- What the buffers hold after point `n`. -/
def outsAt0 : (n : ℕ) → n < cfg0.N → Outs F
  | 0, hn => leftA m c ⟨0, hn⟩ (Nat.zero_mod _) (by dsimp only; omega) (by dsimp only; omega)
  | n + 1, hn =>
    if h0 : (n + 1) % 7 = 0 then leftA m c ⟨n + 1, hn⟩ h0 (by dsimp only; omega) (by dsimp only; omega)
    else if h1 : (n + 1) % 7 = 3 then leftC m c ⟨n + 1, hn⟩ h0 h1 (by dsimp only; omega) (outsAt0 n (Nat.lt_of_succ_lt hn))
    else if h2 : (n + 1) % 7 = 4 then leftD m c ⟨n + 1, hn⟩ h0 h1 h2 (outsAt0 n (Nat.lt_of_succ_lt hn))
    else leftB m c ⟨n + 1, hn⟩ h0 h1 h2 (outsAt0 n (Nat.lt_of_succ_lt hn))

/-- What the point before left. -/
abbrev prev : Outs F := outsAt0 m c (t.val - 1) (Nat.lt_of_le_of_lt (Nat.sub_le _ _) t.isLt)

theorem outsAt0_A (h0 : t.val % 7 = 0) (h1 : ¬t.val % 7 = 3) (h2 : ¬t.val % 7 = 4) :
    outsAt0 m c t.val t.isLt = (out0_A_3 m c t h0 h1 h2, out0_A_4 m c t h0 h1 h2, VO0_5.read (Elt F) VO0_5.junk, VO0_6.read (Elt F) VO0_6.junk, sout0_A_0 m c t h0 h1 h2) := by
  obtain ⟨n, hn⟩ := t
  cases n with
  | zero => exact rfl
  | succ n => exact (dif_pos h0).trans rfl

theorem outsAt0_B (h0 : ¬t.val % 7 = 0) (h1 : ¬t.val % 7 = 3) (h2 : ¬t.val % 7 = 4) :
    outsAt0 m c t.val t.isLt = (out0_B_3 m c t h0 h1 h2 (prev m c t).2.2.2.2, (prev m c t).2.1, (prev m c t).2.2.1, (prev m c t).2.2.2.1, (prev m c t).2.2.2.2) := by
  obtain ⟨n, hn⟩ := t
  cases n with
  | zero => exact absurd (Nat.zero_mod _) h0
  | succ n => exact (dif_neg h0).trans ((dif_neg h1).trans ((dif_neg h2).trans rfl))

theorem outsAt0_C (h0 : ¬t.val % 7 = 0) (h1 : t.val % 7 = 3) (h2 : ¬t.val % 7 = 4) :
    outsAt0 m c t.val t.isLt = (out0_C_3 m c t h0 h1 h2 (prev m c t).2.2.2.2, (prev m c t).2.1, out0_C_5 m c t h0 h1 h2 (prev m c t).2.2.2.2, (prev m c t).2.2.2.1, (prev m c t).2.2.2.2) := by
  obtain ⟨n, hn⟩ := t
  cases n with
  | zero => exact absurd (Nat.zero_mod _) h0
  | succ n => exact (dif_neg h0).trans ((dif_pos h1).trans rfl)

theorem outsAt0_D (h0 : ¬t.val % 7 = 0) (h1 : ¬t.val % 7 = 3) (h2 : t.val % 7 = 4) :
    outsAt0 m c t.val t.isLt = (out0_D_3 m c t h0 h1 h2 (prev m c t).2.2.2.2, (prev m c t).2.1, (prev m c t).2.2.1, out0_D_6 m c t h0 h1 h2 (prev m c t).2.2.2.2, (prev m c t).2.2.2.2) := by
  obtain ⟨n, hn⟩ := t
  cases n with
  | zero => exact absurd (Nat.zero_mod _) h0
  | succ n => exact (dif_neg h0).trans ((dif_neg h1).trans ((dif_pos h2).trans rfl))

/-- Between points the scratch holds what the point before left in it, and the generator register some state. -/
def PhiS  : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero  (n : ℕ) (h : n ≤ cfg0.N) (hz : n = 0) : PhiS m c n h = Pipeline.ΦA spec0 c := by
  subst hz; rfl

/-- After point `n` (before point `n + 1`): the carried scratch at that point's contents. -/
theorem PhiS_succ  (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first: the carried scratch at what the point before left. -/
theorem PhiS_pos  (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The pipeline's data: the arrays as the call finds them, each input's block, the outputs at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2.1
  Φ t := PhiS m c t.val (Nat.le_of_lt_succ t.isLt)
  q _ := fullShare
  owed _ := 0

theorem A_eq  (w : Fin cfg0.W) : (dats m 0 c).A w = V m c (Pipeline.arrRef spec0 w) := by
  dsimp only [dats]

/-- The invariant at a point's start (the proof data at `t.castSucc`), restated at `t.val`. -/
theorem PhiS_castSucc  :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0  : (dats m 0 c).after 0 t = iblk m c 0 t := by dsimp only [dats]
theorem after0_1  : (dats m 0 c).after 1 t = iblk m c 1 t := by dsimp only [dats]
theorem after0_2  : (dats m 0 c).after 2 t = iblk m c 2 t := by dsimp only [dats]
theorem after0_3  : (dats m 0 c).after 3 t = (outsAt0 m c t.val t.isLt).1 := by dsimp only [dats]
theorem after0_4  : (dats m 0 c).after 4 t = (outsAt0 m c t.val t.isLt).2.1 := by dsimp only [dats]
theorem after0_5  : (dats m 0 c).after 5 t = (outsAt0 m c t.val t.isLt).2.2.1 := by dsimp only [dats]
theorem after0_6  : (dats m 0 c).after 6 t = (outsAt0 m c t.val t.isLt).2.2.2.1 := by dsimp only [dats]

/-- Each input's current staging buffer holds its block at every point, fetched there or not (`beforeK_W_of`). -/
theorem before0_0  (d) : (dats m 0 c).before 0 t d = iblk m c 0 t :=
  before0_0_of m (dats m 0 c) (A_eq m c 0) (after0_0 m c) t d
theorem before0_1  (d) : (dats m 0 c).before 1 t d = iblk m c 1 t :=
  before0_1_of m (dats m 0 c) (A_eq m c 1) (after0_1 m c) t d
theorem before0_2  (d) : (dats m 0 c).before 2 t d = iblk m c 2 t :=
  before0_2_of m (dats m 0 c) (A_eq m c 2) (after0_2 m c) t d

/-- What is left of the windows live at every point. -/
theorem leaves0_0 : (dats m 0 c).leavesExact 0 t = owns (c : Thread nD τ) (ms0_0 t) fullShare (iblk m c 0 t) := by
  unfold Dat.leavesExact; rw [liveAt0_0 t, after0_0]
theorem leaves0_1 : (dats m 0 c).leavesExact 1 t = owns (c : Thread nD τ) (ms0_1 t) fullShare (iblk m c 1 t) := by
  unfold Dat.leavesExact; rw [liveAt0_1 t, after0_1]
theorem leaves0_2 : (dats m 0 c).leavesExact 2 t = owns (c : Thread nD τ) (ms0_2 t) fullShare (iblk m c 2 t) := by
  unfold Dat.leavesExact; rw [liveAt0_2 t, after0_2]
theorem leaves0_3 : (dats m 0 c).leavesExact 3 t = owns (c : Thread nD τ) (ms0_3 t) fullShare (outsAt0 m c t.val t.isLt).1 := by
  unfold Dat.leavesExact; rw [liveAt0_3 t, after0_3]

/-! ## The outputs the body leaves idle -/

/-- Where output 4 is written back it has been stored since the write-back before. -/
theorem kept0_4 : ∀ t : Fin cfg0.N, (cfg0.win 4).flush t = true → cfg0.fresh 4 t.val = false := by decide +kernel

/-- Output 4's contents carry through the points that leave it idle. -/
theorem hcarry0_4  (hz : t.val ≠ 0) (hi : cfg0.idle 4 (grid0.coords t) = true) (hf : cfg0.fresh 4 t.val = false) :
    (dats m 0 c).after 4 t = (dats m 0 c).after 4 ⟨t.val - 1, by omega⟩ := by
  rw [after0_4, after0_4]
  by_cases h0 : t.val % 7 = 0
  · exact absurd hi (by rw [liveAt0_4_A t ((hcond0_0 t).mpr h0) (fun h => by have := (hcond0_1 t).mp h; omega) (fun h => by have := (hcond0_2 t).mp h; omega)]; decide)
  by_cases h1 : t.val % 7 = 3
  · rw [outsAt0_C m c t h0 h1 (by omega)]
  by_cases h2 : t.val % 7 = 4
  · rw [outsAt0_D m c t h0 h1 h2]
  rw [outsAt0_B m c t h0 h1 h2]

/-- A point of path B hands output 4 back as it found it, which at a write-back is what the carry says. -/
theorem leaves0_4_B  (hz : t.val ≠ 0) (hi : cfg0.idle 4 (grid0.coords t) = true) (d) :
    owns (c : Thread nD τ) (ms0_4 t) fullShare ((dats m 0 c).before 4 t d) ⊢ (dats m 0 c).leavesExact 4 t := by
  by_cases hf : (cfg0.win 4).flush t = true
  · have hfr := kept0_4 t hf
    rw [show (dats m 0 c).leavesExact 4 t = owns (c : Thread nD τ) (ms0_4 t) fullShare ((dats m 0 c).after 4 t) from by
      unfold Dat.leavesExact; rw [hi, hf]]
    rw [(dats m 0 c).before_out_traj 4 rfl (fun _ _ => rfl) (hcarry0_4 m c) t.val t rfl d, hfr, if_neg Bool.false_ne_true, ← hcarry0_4 m c t hz hi hfr]
  · rw [Dat.leavesExact_idle (dats m 0 c) 4 t hi (by rw [Bool.not_eq_true] at hf; exact hf)]
    iintro H; iexists d; iexact H

/-- Where output 5 is written back it has been stored since the write-back before. -/
theorem kept0_5 : ∀ t : Fin cfg0.N, (cfg0.win 5).flush t = true → cfg0.fresh 5 t.val = false := by decide +kernel
/-- At the first column block nothing has been stored into output 5 since its write-back. -/
theorem fresh0_5_A : ∀ t : Fin cfg0.N, cond0_0 (grid0.coords t) → cfg0.fresh 5 t.val = true := by decide +kernel

/-- Output 5's contents carry through the points that leave it idle. -/
theorem hcarry0_5  (hz : t.val ≠ 0) (hi : cfg0.idle 5 (grid0.coords t) = true) (hf : cfg0.fresh 5 t.val = false) :
    (dats m 0 c).after 5 t = (dats m 0 c).after 5 ⟨t.val - 1, by omega⟩ := by
  rw [after0_5, after0_5]
  by_cases h0 : t.val % 7 = 0
  · exact absurd (fresh0_5_A t ((hcond0_0 t).mpr h0)) (by rw [hf]; decide)
  by_cases h1 : t.val % 7 = 3
  · exact absurd hi (by rw [liveAt0_5_C t (no0_0 t h0) ((hcond0_1 t).mpr h1) (fun h => by have := (hcond0_2 t).mp h; omega)]; decide)
  by_cases h2 : t.val % 7 = 4
  · rw [outsAt0_D m c t h0 h1 h2]
  rw [outsAt0_B m c t h0 h1 h2]

/-- A point of path B hands output 5 back as it found it, which at a write-back is what the carry says. -/
theorem leaves0_5_B  (hz : t.val ≠ 0) (hi : cfg0.idle 5 (grid0.coords t) = true) (d) :
    owns (c : Thread nD τ) (ms0_5 t) fullShare ((dats m 0 c).before 5 t d) ⊢ (dats m 0 c).leavesExact 5 t := by
  by_cases hf : (cfg0.win 5).flush t = true
  · have hfr := kept0_5 t hf
    rw [show (dats m 0 c).leavesExact 5 t = owns (c : Thread nD τ) (ms0_5 t) fullShare ((dats m 0 c).after 5 t) from by
      unfold Dat.leavesExact; rw [hi, hf]]
    rw [(dats m 0 c).before_out_traj 5 rfl (fun _ _ => rfl) (hcarry0_5 m c) t.val t rfl d, hfr, if_neg Bool.false_ne_true, ← hcarry0_5 m c t hz hi hfr]
  · rw [Dat.leavesExact_idle (dats m 0 c) 5 t hi (by rw [Bool.not_eq_true] at hf; exact hf)]
    iintro H; iexists d; iexact H

/-- Where output 6 is written back it has been stored since the write-back before. -/
theorem kept0_6 : ∀ t : Fin cfg0.N, (cfg0.win 6).flush t = true → cfg0.fresh 6 t.val = false := by decide +kernel
/-- At the first column block nothing has been stored into output 6 since its write-back. -/
theorem fresh0_6_A : ∀ t : Fin cfg0.N, cond0_0 (grid0.coords t) → cfg0.fresh 6 t.val = true := by decide +kernel

/-- Output 6's contents carry through the points that leave it idle. -/
theorem hcarry0_6  (hz : t.val ≠ 0) (hi : cfg0.idle 6 (grid0.coords t) = true) (hf : cfg0.fresh 6 t.val = false) :
    (dats m 0 c).after 6 t = (dats m 0 c).after 6 ⟨t.val - 1, by omega⟩ := by
  rw [after0_6, after0_6]
  by_cases h0 : t.val % 7 = 0
  · exact absurd (fresh0_6_A t ((hcond0_0 t).mpr h0)) (by rw [hf]; decide)
  by_cases h1 : t.val % 7 = 3
  · rw [outsAt0_C m c t h0 h1 (by omega)]
  by_cases h2 : t.val % 7 = 4
  · exact absurd hi (by rw [liveAt0_6_D t (no0_0 t h0) (no0_1 t h1) ((hcond0_2 t).mpr h2)]; decide)
  rw [outsAt0_B m c t h0 h1 h2]

/-- A point of path B hands output 6 back as it found it, which at a write-back is what the carry says. -/
theorem leaves0_6_B  (hz : t.val ≠ 0) (hi : cfg0.idle 6 (grid0.coords t) = true) (d) :
    owns (c : Thread nD τ) (ms0_6 t) fullShare ((dats m 0 c).before 6 t d) ⊢ (dats m 0 c).leavesExact 6 t := by
  by_cases hf : (cfg0.win 6).flush t = true
  · have hfr := kept0_6 t hf
    rw [show (dats m 0 c).leavesExact 6 t = owns (c : Thread nD τ) (ms0_6 t) fullShare ((dats m 0 c).after 6 t) from by
      unfold Dat.leavesExact; rw [hi, hf]]
    rw [(dats m 0 c).before_out_traj 6 rfl (fun _ _ => rfl) (hcarry0_6 m c) t.val t rfl d, hfr, if_neg Bool.false_ne_true, ← hcarry0_6 m c t hz hi hfr]
  · rw [Dat.leavesExact_idle (dats m 0 c) 6 t hi (by rw [Bool.not_eq_true] at hf; exact hf)]
    iintro H; iexists d; iexact H

/-! ## The body obligation, at a generic point -/

/-- What the body is called with at point `t`, -/
def bodyPre  : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost  : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 12800000 in
/-- The body at any point, path by path. -/
theorem sound_body  :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 56 := lt_of_lt_of_eq t.isLt (show cfg0.N = 56 from N_0)
  by_cases h0 : t.val % 7 = 0
  · by_cases h1 : t.val % 7 = 3
    · exfalso; omega
    · by_cases h2 : t.val % 7 = 4
      · exfalso; omega
      · rw [leaves0_0, leaves0_1, leaves0_2, leaves0_3]
        rw [show (dats m 0 c).leavesExact 4 t = owns (c : Thread nD τ) (ms0_4 t) fullShare ((dats m 0 c).after 4 t) from by
      unfold Dat.leavesExact; rw [liveAt0_4_A t ((hcond0_0 t).mpr h0) (no0_1 t h1) (no0_2 t h2)], after0_4]
        rw [Dat.leavesExact_idle (dats m 0 c) 5 t (idleAt0_5_A t ((hcond0_0 t).mpr h0) (no0_1 t h1) (no0_2 t h2)) (noFlush0_5_A t ((hcond0_0 t).mpr h0) (no0_1 t h1) (no0_2 t h2))]
        rw [Dat.leavesExact_idle (dats m 0 c) 6 t (idleAt0_6_A t ((hcond0_0 t).mpr h0) (no0_1 t h1) (no0_2 t h2)) (noFlush0_6_A t ((hcond0_0 t).mpr h0) (no0_1 t h1) (no0_2 t h2))]
        by_cases hz : t.val = 0
        · rw [PhiS_castSucc m c t, PhiS_zero m c _ _ hz, PhiA0_eq]
          rw [outsAt0_A m c t h0 h1 h2]
          unfold out0_A_3 out0_A_4 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((runA m c t h0 h1 h2).2.2.2.2.2 _ _ Set.univ _)
          isplitl [H0]; · iexact H0
          isplitl [H1]; · iexact H1
          isplitl [H2]; · iexact H2
          isplitl [H3]; · iexists _; iexact H3
          isplitl [H4]; · iexists _; iexact H4
          isplitl [H5]; · iexact H5
          isplitl [H6]; · iexact H6
          isplitl [HS0]; · iexact HS0
          iintro ⟨H0, H1, H2, ⟨%e3, H3⟩, ⟨%e4, H4⟩, H5, H6, ⟨%es0, HS0⟩⟩
          isplitl [HS0 Hg]
          · isplitl [HS0]
            · unfold owns; iexists _; isplitr
              swap; · iexact HS0
              ipureintro; exact View.read_writes_of_cover _ _ _ _ _ (scover0_A_0 m c t h0 h1 h2)
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_A_3 m c t h0 h1 h2)
          isplitl [H4]
          · unfold owns; iexists _; isplitr
            swap; · iexact H4
            ipureintro; exact View.read_writes_of_cover _ _ _ _ _ (cover0_A_4 m c t h0 h1 h2)
          isplitl [H5]; · iexists _; iexact H5
          iexists _; iexact H6
        · rw [PhiS_castSucc m c t, PhiS_pos m c _ _ hz]
          rw [outsAt0_A m c t h0 h1 h2]
          unfold out0_A_3 out0_A_4 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((runA m c t h0 h1 h2).2.2.2.2.2 _ _ Set.univ _)
          isplitl [H0]; · iexact H0
          isplitl [H1]; · iexact H1
          isplitl [H2]; · iexact H2
          isplitl [H3]; · iexists _; iexact H3
          isplitl [H4]; · iexists _; iexact H4
          isplitl [H5]; · iexact H5
          isplitl [H6]; · iexact H6
          isplitl [HS0]; · iexists _; iexact HS0
          iintro ⟨H0, H1, H2, ⟨%e3, H3⟩, ⟨%e4, H4⟩, H5, H6, ⟨%es0, HS0⟩⟩
          isplitl [HS0 Hg]
          · isplitl [HS0]
            · unfold owns; iexists _; isplitr
              swap; · iexact HS0
              ipureintro; exact View.read_writes_of_cover _ _ _ _ _ (scover0_A_0 m c t h0 h1 h2)
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_A_3 m c t h0 h1 h2)
          isplitl [H4]
          · unfold owns; iexists _; isplitr
            swap; · iexact H4
            ipureintro; exact View.read_writes_of_cover _ _ _ _ _ (cover0_A_4 m c t h0 h1 h2)
          isplitl [H5]; · iexists _; iexact H5
          iexists _; iexact H6
  · by_cases h1 : t.val % 7 = 3
    · by_cases h2 : t.val % 7 = 4
      · exfalso; omega
      · rw [leaves0_0, leaves0_1, leaves0_2, leaves0_3]
        rw [Dat.leavesExact_idle (dats m 0 c) 4 t (idleAt0_4_C t (no0_0 t h0) ((hcond0_1 t).mpr h1) (no0_2 t h2)) (noFlush0_4_C t (no0_0 t h0) ((hcond0_1 t).mpr h1) (no0_2 t h2))]
        rw [show (dats m 0 c).leavesExact 5 t = owns (c : Thread nD τ) (ms0_5 t) fullShare ((dats m 0 c).after 5 t) from by
      unfold Dat.leavesExact; rw [liveAt0_5_C t (no0_0 t h0) ((hcond0_1 t).mpr h1) (no0_2 t h2)], after0_5]
        rw [Dat.leavesExact_idle (dats m 0 c) 6 t (idleAt0_6_C t (no0_0 t h0) ((hcond0_1 t).mpr h1) (no0_2 t h2)) (noFlush0_6_C t (no0_0 t h0) ((hcond0_1 t).mpr h1) (no0_2 t h2))]
        by_cases hz : t.val = 0
        · exfalso; have hN : t.val < 56 := lt_of_lt_of_eq t.isLt (show cfg0.N = 56 from N_0); omega
        · rw [PhiS_castSucc m c t, PhiS_pos m c _ _ hz]
          rw [outsAt0_C m c t h0 h1 h2]
          unfold out0_C_3 out0_C_5; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((runC m c t h0 h1 h2 _).2.2.2.2.2 _ _ Set.univ _)
          isplitl [H0]; · iexact H0
          isplitl [H1]; · iexact H1
          isplitl [H2]; · iexact H2
          isplitl [H3]; · iexists _; iexact H3
          isplitl [H4]; · iexact H4
          isplitl [H5]; · iexists _; iexact H5
          isplitl [H6]; · iexact H6
          isplitl [HS0]; · iexact HS0
          iintro ⟨H0, H1, H2, ⟨%e3, H3⟩, H4, ⟨%e5, H5⟩, H6, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_C_3 m c t h0 h1 h2 _)
          isplitl [H4]; · iexists _; iexact H4
          isplitl [H5]
          · unfold owns; iexists _; isplitr
            swap; · iexact H5
            ipureintro; exact View.read_writes_of_cover _ _ _ _ _ (cover0_C_5 m c t h0 h1 h2 _)
          iexists _; iexact H6
    · by_cases h2 : t.val % 7 = 4
      · rw [leaves0_0, leaves0_1, leaves0_2, leaves0_3]
        rw [Dat.leavesExact_idle (dats m 0 c) 4 t (idleAt0_4_D t (no0_0 t h0) (no0_1 t h1) ((hcond0_2 t).mpr h2)) (noFlush0_4_D t (no0_0 t h0) (no0_1 t h1) ((hcond0_2 t).mpr h2))]
        rw [Dat.leavesExact_idle (dats m 0 c) 5 t (idleAt0_5_D t (no0_0 t h0) (no0_1 t h1) ((hcond0_2 t).mpr h2)) (noFlush0_5_D t (no0_0 t h0) (no0_1 t h1) ((hcond0_2 t).mpr h2))]
        rw [show (dats m 0 c).leavesExact 6 t = owns (c : Thread nD τ) (ms0_6 t) fullShare ((dats m 0 c).after 6 t) from by
      unfold Dat.leavesExact; rw [liveAt0_6_D t (no0_0 t h0) (no0_1 t h1) ((hcond0_2 t).mpr h2)], after0_6]
        by_cases hz : t.val = 0
        · exfalso; have hN : t.val < 56 := lt_of_lt_of_eq t.isLt (show cfg0.N = 56 from N_0); omega
        · rw [PhiS_castSucc m c t, PhiS_pos m c _ _ hz]
          rw [outsAt0_D m c t h0 h1 h2]
          unfold out0_D_3 out0_D_6; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((runD m c t h0 h1 h2 _).2.2.2.2.2 _ _ Set.univ _)
          isplitl [H0]; · iexact H0
          isplitl [H1]; · iexact H1
          isplitl [H2]; · iexact H2
          isplitl [H3]; · iexists _; iexact H3
          isplitl [H4]; · iexact H4
          isplitl [H5]; · iexact H5
          isplitl [H6]; · iexists _; iexact H6
          isplitl [HS0]; · iexact HS0
          iintro ⟨H0, H1, H2, ⟨%e3, H3⟩, H4, H5, ⟨%e6, H6⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_D_3 m c t h0 h1 h2 _)
          isplitl [H4]; · iexists _; iexact H4
          isplitl [H5]; · iexists _; iexact H5
          unfold owns; iexists _; isplitr
          swap; · iexact H6
          ipureintro; exact View.read_writes_of_cover _ _ _ _ _ (cover0_D_6 m c t h0 h1 h2 _)
      · rw [leaves0_0, leaves0_1, leaves0_2, leaves0_3]
        by_cases hz : t.val = 0
        · exfalso; have hN : t.val < 56 := lt_of_lt_of_eq t.isLt (show cfg0.N = 56 from N_0); omega
        · rw [PhiS_castSucc m c t, PhiS_pos m c _ _ hz]
          rw [outsAt0_B m c t h0 h1 h2]
          unfold out0_B_3; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((runB m c t h0 h1 h2 _).2.2.2.2.2 _ _ _ Set.univ _)
          isplitl [H0]; · iexact H0
          isplitl [H1]; · iexact H1
          isplitl [H2]; · iexact H2
          isplitl [H3]; · iexists _; iexact H3
          isplitl [H4]; · iexact H4
          isplitl [H5]; · iexact H5
          isplitl [H6]; · iexact H6
          isplitl [HS0]; · iexact HS0
          iintro ⟨H0, H1, H2, ⟨%e3, H3⟩, H4, H5, H6, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_B_3 m c t h0 h1 h2 _)
          isplitl [H4]; · iapply leaves0_4_B m c t hz (idleAt0_4_B t (no0_0 t h0) (no0_1 t h1) (no0_2 t h2)) d4; iexact H4
          isplitl [H5]; · iapply leaves0_5_B m c t hz (idleAt0_5_B t (no0_0 t h0) (no0_1 t h1) (no0_2 t h2)) d5; iexact H5
          iapply leaves0_6_B m c t hz (idleAt0_6_B t (no0_0 t h0) (no0_1 t h1) (no0_2 t h2)) d6; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation  : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin  : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out  (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout  : (dats m 0 c).Φ (Fin.last cfg0.N) ⊢ Pipeline.ΦA spec0 c :=
  Phi_out m c _ (by rw [Fin.val_last]; have : cfg0.N = 56 := N_0; omega)

/-! ## The run and the frame -/

-- `θ_run_frame_track`'s implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data, every other unscoped buffer as the region found it, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept m (dats m) (A_eq m) r h.1 c, h.2⟩) (run_main m ρ)

end Cert.ProjSecond

end
-- ==== Proof.ProjSecond.Row.lean ====
/- The projection's arrays, entry by entry: the products of a block of 1024 rows, and the reference's arrays. -/
module

public import proofs.«01_k».proof.Proof.Gen.ProjSecondKernelIdeal.Skeleton
public import proofs.«01_k».proof.Proof.Gen.ProjSecondReferenceIdeal.Read
public import Idealize.ShloMosaic.Lib.Pointwise

@[expose] public section

set_option maxRecDepth 16384

noncomputable section

namespace Cert.ProjSecond

open Idealize.ShloMosaic Idealize.ShloMosaic.TcCoe

/-- A row times a column. -/
def dot (x w : Fin 2048 → EReal) : EReal := ∑ k, x k * w k

section Block
open Cert.ProjSecondKernelIdeal Cert.ProjSecondKernelIdeal.Gen

variable (x : Vec Ideal S1024x2048 .f32) (xb : Vec Ideal S1024x2048 .bf16) (w : Vec Ideal S2048x1024 .bf16) (ws : Vec Ideal S2048x128 .bf16)

theorem cast_rows (i : Fin 1024) (k : Fin 2048) : k0_pay2 (F := Ideal) x (ix2 i k) = x (ix2 i k) := by
  pointwise [k0_pay2, k0_pay1]

theorem small_block (i : Fin 1024) (j : Fin 128) : k0_pay3 (F := Ideal) x ws (ix2 i j) = dot (fun k => x (ix2 i k)) fun k => ws (ix2 k j) := by
  pointwise [k0_pay3, k0_pay1, dot]

theorem main_block (i j : Fin 1024) : k0_pay4 (F := Ideal) xb w (ix2 i j) = dot (fun k => xb (ix2 i k)) fun k => w (ix2 k j) := by
  pointwise [k0_pay4, dot]

theorem key_block (j : Fin 512) (i : Fin 1024) : k0_pay5 (F := Ideal) xb w (ix4 0 0 j i)
    = dot (fun k => xb (ix2 i k)) fun k => w (ix2 k ⟨512 + j.val, by omega⟩) := by
  pointwise [k0_pay5, main_block]

theorem value_block (j : Fin 512) (i : Fin 1024) : k0_pay6 (F := Ideal) xb w (ix4 0 0 j i)
    = dot (fun k => xb (ix2 i k)) fun k => w (ix2 k ⟨j.val, by omega⟩) := by
  pointwise [k0_pay6, main_block]

end Block

section Arrays
open Cert.ProjSecondReferenceIdeal Cert.ProjSecondReferenceIdeal.Read

variable (x : S2x4096x2048.Idx → EReal) (w : S2048x7168.Idx → EReal) (ws : S2048x128.Idx → EReal) (old : S2x2x512x4096.Idx → EReal)

/-- The two prompts' tokens, one after the other. -/
abbrev rows : S8192x2048.Idx → EReal := fun i => x (ix3 ⟨(i 0).val / 4096, by have : (i 0).val < 8192 := (i 0).isLt; omega⟩ ⟨(i 0).val % 4096, Nat.mod_lt _ (by decide)⟩ (i 1))

/-- The projection onto the large weights. -/
def mainA : S8192x7168.Idx → EReal := fun i => dot (fun k => rows x (ix2 (i 0) k)) fun k => w (ix2 k (i 1))

/-- The projection onto the small weights. -/
def smallA : S8192x128.Idx → EReal := fun i => dot (fun k => rows x (ix2 (i 0) k)) fun k => ws (ix2 k (i 1))

/-- The projection's 512 columns from `o` on, tokens last, in the second layer's place of `old`. -/
def layerA (o : ℕ) (ho : o + 512 ≤ 7168) : S2x2x512x4096.Idx → EReal := fun i =>
  if (i 0).val = 1 then mainA x w (ix2 ⟨4096 * (i 1).val + (i 3).val, by have : (i 1).val < 2 := (i 1).isLt; have : (i 3).val < 4096 := (i 3).isLt; omega⟩
    ⟨o + (i 2).val, by have : (i 2).val < 512 := (i 2).isLt; omega⟩)
  else old i

theorem reference_main : val_main_v2 (F := Ideal) x w = mainA x w := by
  funext i
  idx_vars i
  pointwise [val_main_v2, val_main_v0, val_main_v1, mainA, dot, rows]

theorem reference_small : val_main_v4 (F := Ideal) x ws = smallA x ws := by
  funext i
  idx_vars i
  pointwise [val_main_v4, val_main_v0, val_main_v3, smallA, dot, rows]

/-- The two layers' entries, stacked. -/
theorem pick (o : ℕ) (ho : o + 512 ≤ 7168) (i0 i1 : Fin 2) (i2 : Fin 512) (i3 : Fin 4096) (h : i1.val * 4096 + i3.val < 8192) (h' : o + i2.val < 7168) :
    (if _ : i0.val < 1 then old (ix4 0 i1 i2 i3) else mainA x w (ix2 ⟨i1.val * 4096 + i3.val, h⟩ ⟨o + i2.val, h'⟩)) = layerA x w old o ho (ix4 i0 i1 i2 i3) := by
  rw [show layerA x w old o ho (ix4 i0 i1 i2 i3) = if i0.val = 1 then mainA x w (ix2 ⟨4096 * i1.val + i3.val, by omega⟩ ⟨o + i2.val, h'⟩) else old (ix4 i0 i1 i2 i3) from rfl]
  by_cases h0 : i0.val = 0
  · rw [dif_pos (by omega), if_neg (by omega), show i0 = 0 from Fin.ext h0]
  · rw [dif_neg (by omega), if_pos (by omega)]
    simp only [Nat.mul_comm]

theorem reference_keys : val_main_v15 (F := Ideal) x w old = layerA x w old 3584 (by decide) := by
  funext i
  idx_vars i
  pointwise [val_main_v15, val_main_v14, val_main_v13, val_main_v12, val_main_v11, val_main_v7, val_main_v6, val_main_v5, reference_main]
  exact pick x w old _ _ i0 i1 i2 i3 _ _

theorem reference_values : val_main_v20 (F := Ideal) x w old = layerA x w old 4096 (by decide) := by
  funext i
  idx_vars i
  pointwise [val_main_v20, val_main_v19, val_main_v18, val_main_v17, val_main_v16, val_main_v10, val_main_v9, val_main_v8, reference_main]
  exact pick x w old _ _ i0 i1 i2 i3 _ _

end Arrays

end Cert.ProjSecond

end
-- ==== Proof.ProjSecond.Value.lean ====
/- The projection's arrays after the run, and the reference's: the same. -/
module

public import proofs.«01_k».proof.Defs
public import proofs.«01_k».proof.Proof.ProjSecond.Frame
public import proofs.«01_k».proof.Proof.ProjSecond.Row
public import proofs.«01_k».proof.Proof.Gen.ProjSecondReferenceIdeal.Run
public import proofs.«01_k».proof.Proof.Gen.ProjSecondKernel
public import Idealize.ShloMosaic.Lib.Pipeline.ValueKit

@[expose] public section

set_option maxRecDepth 16384

noncomputable section

namespace Cert.ProjSecond

open Cert.ProjSecondKernelIdeal Cert.ProjSecondKernelIdeal.Gen
open Idealize.ShloMosaic Idealize.SL.Sem
open Idealize.ShloMosaic.TcCoe

variable (m : (ℓ : Loc nD τ sig) → Buf (Elt Ideal) ℓ) (ρ : Dev nD → PrngReg) (c : Dev nD)

/-- Point `t` takes row block `t / 7` and column block `t % 7`; the keys and values of a row block are one prompt's
    quarter, in the second layer's place. -/
theorem idx : ∀ t : Fin cfg0.N, win0_0.index t = ![t.val / 7, 0] ∧ win0_1.index t = ![0, t.val % 7] ∧ win0_2.index t = ![0, 0]
    ∧ win0_3.index t = ![t.val / 7, t.val % 7] ∧ win0_4.index t = ![t.val / 7, 0]
    ∧ win0_5.index t = ![1, t.val / 28, 0, t.val / 7 % 4] ∧ win0_6.index t = ![1, t.val / 28, 0, t.val / 7 % 4] ∧ t.val < 56 :=
  (by decide +kernel : ∀ t : Fin grid0.N, _)

theorem lt (t : Fin cfg0.N) : t.val < 56 := (idx t).2.2.2.2.2.2.2

/-- The arguments. -/
abbrev X : S2x4096x2048.Idx → EReal := m ((c : Thread nD τ).loc main_arg0)
abbrev W : S2048x7168.Idx → EReal := m ((c : Thread nD τ).loc main_arg1)
abbrev WS : S2048x128.Idx → EReal := m ((c : Thread nD τ).loc main_arg2)
abbrev K : S2x2x512x4096.Idx → EReal := m ((c : Thread nD τ).loc main_arg3)
abbrev VS : S2x2x512x4096.Idx → EReal := m ((c : Thread nD τ).loc main_arg4)

/-- The two prompts' tokens are laid end to end before the call. -/
theorem V_x (r : Fin 8192) (k : Fin 2048) : V m c main_v0 (ix2 r k) = rows (X m c) (ix2 r k) := by
  entry_read
  pointwise [rows]

/-- Row `i` of point `t`'s block of tokens. -/
theorem block_rows (t : Fin cfg0.N) (i : Fin 1024) (k : Fin 2048) :
    iblk m c 0 t (ix2 i k) = rows (X m c) (ix2 ⟨1024 * (t.val / 7) + i.val, by have := lt t; omega⟩ k) := by
  refine Eq.trans (congrArg (V m c main_v0) (?_ : _ = ix2 ⟨1024 * (t.val / 7) + i.val, by have := lt t; omega⟩ k)) (V_x m c _ k)
  blk_ext [iblk, V, idx t]

/-- The scratch holds the row block's tokens at all of its points. -/
theorem scratch (n : ℕ) : ∀ (hn : n < cfg0.N) (i : Fin 1024) (k : Fin 2048),
    (outsAt0 m c n hn).2.2.2.2 (ix2 i k) = rows (X m c) (ix2 ⟨1024 * (n / 7) + i.val, by have := lt ⟨n, hn⟩; dsimp only at this; omega⟩ k) := by
  induction n with
  | zero =>
    intro hn i k
    rw [outsAt0_A m c ⟨0, hn⟩ (by dsimp only) (by dsimp only; omega) (by dsimp only; omega)]
    unfold sout0_A_0 runA
    frame_out
    exact (cast_rows _ i k).trans (block_rows m c ⟨0, hn⟩ i k)
  | succ n ih =>
    intro hn i k
    by_cases h0 : (n + 1) % 7 = 0
    · rw [outsAt0_A m c ⟨n + 1, hn⟩ h0 (by dsimp only; omega) (by dsimp only; omega)]
      unfold sout0_A_0 runA
      frame_out
      exact (cast_rows _ i k).trans (block_rows m c ⟨n + 1, hn⟩ i k)
    have step : (outsAt0 m c (n + 1) hn).2.2.2.2 = (outsAt0 m c n (by omega)).2.2.2.2 := by
      by_cases h1 : (n + 1) % 7 = 3
      · rw [outsAt0_C m c ⟨n + 1, hn⟩ h0 h1 (by dsimp only; omega)]; rfl
      by_cases h2 : (n + 1) % 7 = 4
      · rw [outsAt0_D m c ⟨n + 1, hn⟩ h0 h1 h2]; rfl
      rw [outsAt0_B m c ⟨n + 1, hn⟩ h0 h1 h2]; rfl
    rw [step, ih (by omega) i k]
    simp only [show (n + 1) / 7 = n / 7 by omega]

/-- So does the scratch a later point of the row block finds. -/
theorem found (t : Fin cfg0.N) (h0 : ¬t.val % 7 = 0) (i : Fin 1024) (k : Fin 2048) :
    (outsAt0 m c (t.val - 1) (Nat.lt_of_le_of_lt (Nat.sub_le _ _) t.isLt)).2.2.2.2 (ix2 i k) = rows (X m c) (ix2 ⟨1024 * (t.val / 7) + i.val, by have := lt t; omega⟩ k) := by
  rw [scratch m c (t.val - 1) _ i k]
  simp only [show (t.val - 1) / 7 = t.val / 7 by omega]

/-- The same of the scratch as the body reads it. -/
theorem found_read (t : Fin cfg0.N) (h0 : ¬t.val % 7 = 0) (i : Fin 1024) (k : Fin 2048) :
    View.read (Elt Ideal) (View.whole cc0_scratch0)
      ((Memref.isWhole_whole cc0_scratch0).unread (outsAt0 m c (t.val - 1) (Nat.lt_of_le_of_lt (Nat.sub_le _ _) t.isLt)).2.2.2.2) (ix2 i k)
      = rows (X m c) (ix2 ⟨1024 * (t.val / 7) + i.val, by have := lt t; omega⟩ k) := by
  exact (congrFun ((Memref.isWhole_whole cc0_scratch0).read_unread _) _).trans (found m c t h0 i k)

/-- Column `j` of point `t`'s block of the large weights. -/
theorem block_cols (t : Fin cfg0.N) (k : Fin 2048) (j : Fin 1024) :
    iblk m c 1 t (ix2 k j) = W m c (ix2 k ⟨1024 * (t.val % 7) + j.val, by omega⟩) := by
  blk_ext [iblk, V, idx t]

/-- The small weights come whole. -/
theorem block_small (t : Fin cfg0.N) (k : Fin 2048) (j : Fin 128) : iblk m c 2 t (ix2 k j) = WS m c (ix2 k j) := by
  blk_ext [iblk, V, idx t]

/-- A product of the row block's tokens and the point's columns. -/
theorem product (t : Fin cfg0.N) (xb : Vec Ideal S1024x2048 .bf16) (i j : Fin 1024)
    (h : ∀ k : Fin 2048, xb (ix2 i k) = rows (X m c) (ix2 ⟨1024 * (t.val / 7) + i.val, by have := lt t; omega⟩ k)) :
    (dot (fun k => xb (ix2 i k)) fun k => iblk m c 1 t (ix2 k j))
      = mainA (X m c) (W m c) (ix2 ⟨1024 * (t.val / 7) + i.val, by have := lt t; omega⟩ ⟨1024 * (t.val % 7) + j.val, by omega⟩) :=
  congr (congrArg dot (funext h)) (funext fun k => block_cols m c t k j)

/-- Point `t` leaves its block of the large projection. -/
theorem main_point (t : Fin cfg0.N) (i j : Fin 1024) : (outsAt0 m c t.val t.isLt).1 (ix2 i j)
    = mainA (X m c) (W m c) (ix2 ⟨1024 * (t.val / 7) + i.val, by have := lt t; omega⟩ ⟨1024 * (t.val % 7) + j.val, by omega⟩) := by
  by_cases h0 : t.val % 7 = 0
  · rw [outsAt0_A m c t h0 (by omega) (by omega)]
    unfold out0_A_3 runA
    frame_out
    exact (main_block _ _ i j).trans (product m c t _ i j fun k => (cast_rows _ i k).trans (block_rows m c t i k))
  by_cases h1 : t.val % 7 = 3
  · rw [outsAt0_C m c t h0 h1 (by omega)]
    unfold out0_C_3 runC
    frame_out
    exact (main_block _ _ i j).trans (product m c t _ i j (found_read m c t h0 i))
  by_cases h2 : t.val % 7 = 4
  · rw [outsAt0_D m c t h0 h1 h2]
    unfold out0_D_3 runD
    frame_out
    exact (main_block _ _ i j).trans (product m c t _ i j (found_read m c t h0 i))
  rw [outsAt0_B m c t h0 h1 h2]
  unfold out0_B_3 runB
  frame_out
  exact (main_block _ _ i j).trans (product m c t _ i j (found_read m c t h0 i))

/-- The small projection's block is stored at a row block's first point. -/
theorem small_first (t : Fin cfg0.N) (h0 : t.val % 7 = 0) (i : Fin 1024) (j : Fin 128) : (outsAt0 m c t.val t.isLt).2.1 (ix2 i j)
    = smallA (X m c) (WS m c) (ix2 ⟨1024 * (t.val / 7) + i.val, by have := lt t; omega⟩ j) := by
  rw [outsAt0_A m c t h0 (by omega) (by omega)]
  unfold out0_A_4 runA
  frame_out
  refine (small_block _ _ i j).trans ?_
  exact congr (congrArg dot (funext fun k => block_rows m c t i k)) (funext fun k => block_small m c t k j)

/-- The keys' block is stored at the fourth point. -/
theorem keys_first (t : Fin cfg0.N) (h1 : t.val % 7 = 3) (j : Fin 512) (i : Fin 1024) : (outsAt0 m c t.val t.isLt).2.2.1 (ix4 0 0 j i)
    = mainA (X m c) (W m c) (ix2 ⟨1024 * (t.val / 7) + i.val, by have := lt t; omega⟩ ⟨3584 + j.val, by omega⟩) := by
  rw [outsAt0_C m c t (by omega) h1 (by omega)]
  unfold out0_C_5 runC
  frame_out
  refine (key_block _ _ j i).trans ((product m c t _ i _ (found_read m c t (by omega) i)).trans ?_)
  simp only [h1]
  congr 3
  omega

/-- The values' block is stored at the fifth point. -/
theorem values_first (t : Fin cfg0.N) (h2 : t.val % 7 = 4) (j : Fin 512) (i : Fin 1024) : (outsAt0 m c t.val t.isLt).2.2.2.1 (ix4 0 0 j i)
    = mainA (X m c) (W m c) (ix2 ⟨1024 * (t.val / 7) + i.val, by have := lt t; omega⟩ ⟨4096 + j.val, by omega⟩) := by
  rw [outsAt0_D m c t (by omega) (by omega) h2]
  unfold out0_D_6 runD
  frame_out
  refine (value_block _ _ j i).trans ((product m c t _ i _ (found_read m c t (by omega) i)).trans ?_)
  simp only [h2]

/-- What a point leaves alone is what the point before left. -/
theorem carry (n : ℕ) (hn : n + 1 < cfg0.N) (h0 : ¬(n + 1) % 7 = 0) :
    (outsAt0 m c (n + 1) hn).2.1 = (outsAt0 m c n (by omega)).2.1
    ∧ (¬(n + 1) % 7 = 3 → (outsAt0 m c (n + 1) hn).2.2.1 = (outsAt0 m c n (by omega)).2.2.1)
    ∧ (¬(n + 1) % 7 = 4 → (outsAt0 m c (n + 1) hn).2.2.2.1 = (outsAt0 m c n (by omega)).2.2.2.1) := by
  by_cases h1 : (n + 1) % 7 = 3
  · rw [outsAt0_C m c ⟨n + 1, hn⟩ h0 h1 (by dsimp only; omega)]
    exact ⟨rfl, fun h => absurd h1 h, fun _ => rfl⟩
  by_cases h2 : (n + 1) % 7 = 4
  · rw [outsAt0_D m c ⟨n + 1, hn⟩ h0 h1 h2]
    exact ⟨rfl, fun _ => rfl, fun h => absurd h2 h⟩
  rw [outsAt0_B m c ⟨n + 1, hn⟩ h0 h1 h2]
  exact ⟨rfl, fun _ => rfl, fun _ => rfl⟩

/-- A row block's last point writes the three blocks back as they were stored: the block carried from point `n` on. -/
theorem carried (n : ℕ) (d : ℕ) : ∀ hn : n + d < cfg0.N, n % 7 + d < 7 →
    (outsAt0 m c (n + d) hn).2.1 = (outsAt0 m c n (by omega)).2.1
    ∧ (n % 7 = 3 → (outsAt0 m c (n + d) hn).2.2.1 = (outsAt0 m c n (by omega)).2.2.1)
    ∧ (n % 7 = 4 → (outsAt0 m c (n + d) hn).2.2.2.1 = (outsAt0 m c n (by omega)).2.2.2.1) := by
  induction d with
  | zero => exact fun hn _ => ⟨rfl, fun _ => rfl, fun _ => rfl⟩
  | succ d ih =>
    intro hn hd
    obtain ⟨a, b, e⟩ := carry m c (n + d) hn (by omega)
    obtain ⟨a', b', e'⟩ := ih (by omega) (by omega)
    exact ⟨a.trans a', fun h => (b (by omega)).trans (b' h), fun h => (e (by omega)).trans (e' h)⟩

theorem final_main : (dats m 0 c).arrAt 3 (cfgs 0).N = mainA (X m c) (W m c) := by
  refine (dats m 0 c).arrAt_eq_of_covers 3 (mainA (X m c) (W m c)) (by decide +kernel) fun t _ y => ?_
  obtain ⟨i, j, rfl⟩ : ∃ i j : Fin 1024, y = ix2 i j := ⟨y 0, y 1, by funext a; fin_cases a <;> rfl⟩
  blk_simp
  rw [after0_3]
  refine (main_point m c t i j).trans (congrArg (mainA (X m c) (W m c)) ?_)
  blk_ext [idx t]

/-- A row block's small projection goes back at its last point. -/
theorem last : ∀ t : Fin cfg0.N, ((cfg0.win 4).flush t = true → t.val % 7 = 6) ∧ ((cfg0.win 5).flush t = true → t.val % 7 = 6)
    ∧ ((cfg0.win 6).flush t = true → t.val % 7 = 6) := by decide +kernel

theorem final_small : (dats m 0 c).arrAt 4 (cfgs 0).N = smallA (X m c) (WS m c) := by
  refine (dats m 0 c).arrAt_eq_of_covers 4 (smallA (X m c) (WS m c)) (by decide +kernel) fun t hf y => ?_
  obtain ⟨i, j, rfl⟩ : ∃ (i : Fin 1024) (j : Fin 128), y = ix2 i j := ⟨y 0, y 1, by funext a; fin_cases a <;> rfl⟩
  have h6 := (last t).1 hf
  blk_simp
  rw [after0_4]
  obtain ⟨n, hn⟩ := t
  dsimp only at h6
  obtain ⟨d, rfl⟩ : ∃ d, n = d + 6 := ⟨n - 6, by omega⟩
  refine (congrFun (carried m c d 6 hn (by omega)).1 _).trans ((small_first m c ⟨d, Nat.lt_of_le_of_lt (Nat.le_add_right _ _) hn⟩ (by dsimp only; omega) i j).trans (congrArg (smallA (X m c) (WS m c)) ?_))
  blk_ext [idx ⟨d + 6, hn⟩]

/-- The second layer's entry at a row block's token. -/
theorem layer_at (x : S2x4096x2048.Idx → EReal) (w : S2048x7168.Idx → EReal) (old : S2x2x512x4096.Idx → EReal) (o : ℕ) (ho : o + 512 ≤ 7168)
    (n : ℕ) (hn : n < 56) (j : Fin 512) (i : Fin 1024) :
    layerA x w old o ho (ix4 1 ⟨n / 28, by omega⟩ j ⟨1024 * (n / 7 % 4) + i.val, by omega⟩)
      = mainA x w (ix2 ⟨1024 * (n / 7) + i.val, by omega⟩ ⟨o + j.val, by omega⟩) := by
  refine (if_pos rfl).trans ?_
  show mainA x w (ix2 ⟨4096 * (n / 28) + (1024 * (n / 7 % 4) + i.val), _⟩ ⟨o + j.val, _⟩) = _
  simp only [show 4096 * (n / 28) + (1024 * (n / 7 % 4) + i.val) = 1024 * (n / 7) + i.val by omega]

/-- The results k and v start as copies of the arrays given. -/
theorem V_keys : V m c main_v1_2 = K m c := by
  unfold V
  after_results
  try rfl
theorem V_values : V m c main_v1_3 = VS m c := by
  unfold V
  after_results
  try rfl

theorem final_keys : (dats m 0 c).arrAt 5 (cfgs 0).N = layerA (X m c) (W m c) (K m c) 3584 (by decide) := by
  have key := (dats m 0 c).arrAt_eq_of_coversWhere (P := fun i : S2x2x512x4096.Idx => (i 0).val = 1) 5 (layerA (X m c) (W m c) (K m c) 3584 (by decide))
    (fun β => β 0 = 1) (by decide +kernel) (fun t hf y => ?_) (fun j => by blk_simp [Pipeline.Window.cell_apply]; rw [Nat.div_one])
  · rw [key]
    funext i
    by_cases h : (i 0).val = 1
    · rw [if_pos h]
    · rw [if_neg h, A_eq]
      exact (congrFun (V_keys m c) i).trans (if_neg h).symm
  obtain ⟨j, i, rfl⟩ : ∃ (j : Fin 512) (i : Fin 1024), y = ix4 0 0 j i :=
    ⟨y 2, y 3, by funext a; match a with | 0 => exact Subsingleton.elim (α := Fin 1) _ _ | 1 => exact Subsingleton.elim (α := Fin 1) _ _ | 2 => rfl | 3 => rfl⟩
  have h6 := (last t).2.1 hf
  blk_simp
  rw [after0_5]
  obtain ⟨n, hn⟩ := t
  dsimp only at h6
  obtain ⟨d, rfl⟩ : ∃ d, n = d + 3 := ⟨n - 3, by omega⟩
  have h56 := lt ⟨d + 3, hn⟩
  dsimp only at h56
  refine (congrFun ((carried m c d 3 hn (by omega)).2.1 (by omega)) _).trans
    ((keys_first m c ⟨d, Nat.lt_of_le_of_lt (Nat.le_add_right _ _) hn⟩ (by dsimp only; omega) j i).trans ?_)
  refine Eq.trans ?_ ((layer_at (X m c) (W m c) (K m c) 3584 (by decide) (d + 3) h56 j i).symm.trans (congrArg (layerA (X m c) (W m c) (K m c) 3584 (by decide)) ?_))
  · simp only [show (d + 3) / 7 = d / 7 by omega]
  · blk_ext [idx ⟨d + 3, hn⟩]

theorem final_values : (dats m 0 c).arrAt 6 (cfgs 0).N = layerA (X m c) (W m c) (VS m c) 4096 (by decide) := by
  have key := (dats m 0 c).arrAt_eq_of_coversWhere (P := fun i : S2x2x512x4096.Idx => (i 0).val = 1) 6 (layerA (X m c) (W m c) (VS m c) 4096 (by decide))
    (fun β => β 0 = 1) (by decide +kernel) (fun t hf y => ?_) (fun j => by blk_simp [Pipeline.Window.cell_apply]; rw [Nat.div_one])
  · rw [key]
    funext i
    by_cases h : (i 0).val = 1
    · rw [if_pos h]
    · rw [if_neg h, A_eq]
      exact (congrFun (V_values m c) i).trans (if_neg h).symm
  obtain ⟨j, i, rfl⟩ : ∃ (j : Fin 512) (i : Fin 1024), y = ix4 0 0 j i :=
    ⟨y 2, y 3, by funext a; match a with | 0 => exact Subsingleton.elim (α := Fin 1) _ _ | 1 => exact Subsingleton.elim (α := Fin 1) _ _ | 2 => rfl | 3 => rfl⟩
  have h6 := (last t).2.2 hf
  blk_simp
  rw [after0_6]
  obtain ⟨n, hn⟩ := t
  dsimp only at h6
  obtain ⟨d, rfl⟩ : ∃ d, n = d + 2 := ⟨n - 2, by omega⟩
  have h56 := lt ⟨d + 2, hn⟩
  dsimp only at h56
  refine (congrFun ((carried m c d 2 hn (by omega)).2.2 (by omega)) _).trans
    ((values_first m c ⟨d, Nat.lt_of_le_of_lt (Nat.le_add_right _ _) hn⟩ (by dsimp only; omega) j i).trans ?_)
  refine Eq.trans ?_ ((layer_at (X m c) (W m c) (VS m c) 4096 (by decide) (d + 2) h56 j i).symm.trans (congrArg (layerA (X m c) (W m c) (VS m c) 4096 (by decide)) ?_))
  · simp only [show (d + 2) / 7 = d / 7 by omega]
  · blk_ext [idx ⟨d + 2, hn⟩]

theorem same_results : Cert.algebraic_ProjSecondKernelIdeal_ProjSecondReferenceIdeal := by
  intro m g m' g' _ agree
  refine ⟨fun c => mainA (X m c) (W m c), fun c => smallA (X m c) (WS m c), fun c => layerA (X m c) (W m c) (K m c) 3584 (by decide),
    fun c => layerA (X m c) (W m c) (VS m c) 4096 (by decide), ?_, ?_⟩
  · refine (θ_run (Cert.ProjSecondKernelIdeal.defs (F := Ideal)) _ _).mono (fun r h c => ?_) (run_main (F := Ideal) m g)
    exact ⟨((h.1 c).1 3).trans (final_main m c), ((h.1 c).1 4).trans (final_small m c), ((h.1 c).1 5).trans (final_keys m c),
      ((h.1 c).1 6).trans (final_values m c), kept m (dats m) (A_eq m) r h.1 c⟩
  · refine (θ_run (Cert.ProjSecondReferenceIdeal.defs (F := Ideal)) _ _).mono (fun r h c => ?_) (Cert.ProjSecondReferenceIdeal.Value.run (F := Ideal) m' g')
    obtain ⟨a0, a1, a2, a3, a4⟩ := agree c
    obtain ⟨h0, h1, h2, h3, hr⟩ := h c
    refine ⟨h0.trans ?_, h1.trans ?_, h2.trans ?_, h3.trans ?_, hr⟩
    · rw [Cert.ProjSecondReferenceIdeal.Read.val_main_v2_eq, a0, a1]
      exact reference_main _ _
    · rw [Cert.ProjSecondReferenceIdeal.Read.val_main_v4_eq, a0, a2]
      exact reference_small _ _
    · rw [Cert.ProjSecondReferenceIdeal.Read.val_main_v15_eq, a0, a1, a3]
      exact reference_keys _ _ _
    · rw [Cert.ProjSecondReferenceIdeal.Read.val_main_v20_eq, a0, a1, a4]
      exact reference_values _ _ _

/-- The kernel as compiled is the same program. -/
theorem main_same : Cert.ProjSecondKernel.main (F := Bits) = Cert.ProjSecondKernelIdeal.main (F := Bits) := rfl
theorem defs_same : Cert.ProjSecondKernel.defs (F := Bits) = Cert.ProjSecondKernelIdeal.defs (F := Bits) := by sl_kernel_rfl

theorem frame_kernel : Cert.quiescent_ProjSecondKernel := fun m ρ _ => by
  rw [main_same, defs_same]
  exact frame (F := Bits) m ρ
theorem frame_ideal : Cert.quiescent_ProjSecondKernelIdeal := fun m ρ _ => frame (F := Ideal) m ρ
theorem frame_reference : Cert.quiescent_ProjSecondReferenceIdeal := fun m ρ _ =>
  (θ_run (Cert.ProjSecondReferenceIdeal.defs (F := Ideal)) _ _).mono
    (fun r h => ⟨fun c => (h c).2.2.2.2, Idealize.ShloMosaic.sem_eq_zero_of_no_sems (by decide) r.2⟩)
    (Cert.ProjSecondReferenceIdeal.Value.run (F := Ideal) m ρ)

end Cert.ProjSecond

end
-- ==== Proof.PrepSecond.Value.lean ====
/- The second layer's prepared weights after the run, and the reference's: the same. -/
module

public import proofs.«01_k».proof.Defs
public import proofs.«01_k».proof.Proof.Gen.PrepSecondKernel.Frame
public import proofs.«01_k».proof.Proof.Gen.PrepSecondKernelIdeal.Value
public import proofs.«01_k».proof.Proof.Gen.PrepSecondReferenceIdeal.Run
public import proofs.«01_k».proof.Proof.Gen.PrepSecondReferenceIdeal.Read
public import Idealize.ShloMosaic.Lib.Pointwise
public import Idealize.ShloMosaic.Lib.Pipeline.ValueKit

@[expose] public section

set_option maxRecDepth 16384

noncomputable section

namespace Cert.PrepSecond

open Cert.PrepSecondKernelIdeal Cert.PrepSecondKernelIdeal.Gen
open Idealize.ShloMosaic Idealize.SL.Sem
open Idealize.ShloMosaic.TcCoe

variable (m : (ℓ : Loc nD τ sig) → Buf (Elt Ideal) ℓ) (c : Dev nD)

/-- Point `t` takes the weights' input rows `256 t` on, all columns. -/
theorem idx : ∀ t : Fin cfg0.N, win0_0.index t = ![1, 0, t.val] ∧ win0_1.index t = ![t.val, 0] ∧ win0_2.index t = ![t.val, 0] ∧ t.val < 8 :=
  (by decide +kernel : ∀ t : Fin grid0.N, _)

/-- The weights given. -/
abbrev W : S2x2048x7256.Idx → EReal := m ((c : Thread nD τ).loc main_arg0)

/-- The call takes them with the last two axes exchanged. -/
theorem V_w (l : Fin 2) (j : Fin 7256) (i : Fin 2048) : V m c main_v0 (ix3 l j i) = W m c (ix3 l i j) := by
  entry_read
  pointwise

/-- Point `t`'s block of the weights. -/
theorem block (t : Fin cfg0.N) (j : Fin 7256) (i : Fin 256) :
    iblk m c 0 t (ix3 0 j i) = W m c (ix3 1 ⟨256 * t.val + i.val, by have := (idx t).2.2.2; omega⟩ j) := by
  refine Eq.trans (congrArg (V m c main_v0) (?_ : _ = ix3 1 j ⟨256 * t.val + i.val, by have := (idx t).2.2.2; omega⟩)) (V_w m c 1 j _)
  blk_ext [iblk, V, idx t]

/-- The two arrays, of the weights given: the large columns and the small ones. -/
abbrev large (w : S2x2048x7256.Idx → EReal) : S2048x7168.Idx → EReal := Cert.PrepSecondReferenceIdeal.Read.val_main_v16 (F := Ideal) w
abbrev small (w : S2x2048x7256.Idx → EReal) : S2048x128.Idx → EReal := Cert.PrepSecondReferenceIdeal.Read.val_main_v17 (F := Ideal) w

open Cert.PrepSecondReferenceIdeal.Read in
theorem large_point (t : Fin cfg0.N) (i : Fin 256) (j : Fin 7168) :
    k0_pay2 (F := Ideal) (iblk m c 0 t) (ix2 i j) = large (W m c) (ix2 ⟨256 * t.val + i.val, by have := (idx t).2.2.2; omega⟩ j) := by
  pointwise [k0_pay2, k0_pay1, block, large, val_main_v16, val_main_v10, val_main_v9, val_main_v8, val_main_v7, val_main_v6, val_main_v5, val_main_v4, val_main_v3, val_main_v2, val_main_v1, val_main_v0]

open Cert.PrepSecondReferenceIdeal.Read in
theorem small_point (t : Fin cfg0.N) (i : Fin 256) (j : Fin 128) :
    k0_pay3 (F := Ideal) (iblk m c 0 t) (ix2 i j) = small (W m c) (ix2 ⟨256 * t.val + i.val, by have := (idx t).2.2.2; omega⟩ j) := by
  pointwise [k0_pay3, k0_pay1, block, small, val_main_v17, val_main_v15, val_main_v14, val_main_v13, val_main_v12, val_main_v11, val_main_v1, val_main_v0, val_main_cst]

theorem final_large : (dats m 0 c).arrAt 1 (cfgs 0).N = large (W m c) := by
  refine (dats m 0 c).arrAt_eq_of_covers 1 (large (W m c)) (by decide +kernel) fun t _ y => ?_
  obtain ⟨i, j, rfl⟩ : ∃ (i : Fin 256) (j : Fin 7168), y = ix2 i j := ⟨y 0, y 1, by funext a; fin_cases a <;> rfl⟩
  blk_simp
  rw [after0_1]
  unfold out0_1
  frame_out
  refine (large_point m c t i j).trans (congrArg (large (W m c)) ?_)
  blk_ext [idx t]

theorem final_small : (dats m 0 c).arrAt 2 (cfgs 0).N = small (W m c) := by
  refine (dats m 0 c).arrAt_eq_of_covers 2 (small (W m c)) (by decide +kernel) fun t _ y => ?_
  obtain ⟨i, j, rfl⟩ : ∃ (i : Fin 256) (j : Fin 128), y = ix2 i j := ⟨y 0, y 1, by funext a; fin_cases a <;> rfl⟩
  blk_simp
  rw [after0_2]
  unfold out0_2
  frame_out
  refine (small_point m c t i j).trans (congrArg (small (W m c)) ?_)
  blk_ext [idx t]

theorem same_results : Cert.algebraic_PrepSecondKernelIdeal_PrepSecondReferenceIdeal := by
  intro m g m' g' _ agree
  refine ⟨fun c => large (W m c), fun c => small (W m c), ?_, ?_⟩
  · refine (θ_run (Cert.PrepSecondKernelIdeal.defs (F := Ideal)) _ _).mono (fun r h c => ⟨(h c).1.trans (final_large m c), (h c).2.1.trans (final_small m c), (h c).2.2⟩)
      (Cert.PrepSecondKernelIdeal.Value.run_blocks (F := Ideal) m g)
  · refine (θ_run (Cert.PrepSecondReferenceIdeal.defs (F := Ideal)) _ _).mono (fun r h c => ⟨(h c).1.trans ?_, (h c).2.1.trans ?_, (h c).2.2⟩)
      (Cert.PrepSecondReferenceIdeal.Value.run (F := Ideal) m' g')
    · rw [Cert.PrepSecondReferenceIdeal.Read.val_main_v16_eq, agree c]
    · rw [Cert.PrepSecondReferenceIdeal.Read.val_main_v17_eq, agree c]

theorem frame_kernel : Cert.quiescent_PrepSecondKernel := fun m ρ _ => Cert.PrepSecondKernel.Gen.frame (F := Bits) m ρ
theorem frame_ideal : Cert.quiescent_PrepSecondKernelIdeal := fun m ρ _ => Cert.PrepSecondKernelIdeal.Gen.frame (F := Ideal) m ρ
theorem frame_reference : Cert.quiescent_PrepSecondReferenceIdeal := fun m ρ _ =>
  (θ_run (Cert.PrepSecondReferenceIdeal.defs (F := Ideal)) _ _).mono
    (fun r h => ⟨fun c => (h c).2.2, Idealize.ShloMosaic.sem_eq_zero_of_no_sems (by decide) r.2⟩)
    (Cert.PrepSecondReferenceIdeal.Value.run (F := Ideal) m ρ)

end Cert.PrepSecond

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Fox.Frames
public import proofs.«01_k».proof.Proof.Fox.Value
public import proofs.«01_k».proof.Proof.Gen.OutKernel.Frame
public import proofs.«01_k».proof.Proof.Out.Value
public import proofs.«01_k».proof.Proof.Proj.Value
public import proofs.«01_k».proof.Proof.Prep.Value
public import proofs.«01_k».proof.Proof.ProjSecond.Value
public import proofs.«01_k».proof.Proof.PrepSecond.Value
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.OutKernel.Gen.facts, Cert.OutKernelIdeal.Gen.facts, Cert.OutReferenceIdeal.Gen.facts,
  Cert.ProjKernel.Gen.facts, Cert.ProjKernelIdeal.Gen.facts, Cert.ProjReferenceIdeal.Gen.facts,
  Cert.PrepKernel.Gen.facts, Cert.PrepKernelIdeal.Gen.facts, Cert.PrepReferenceIdeal.Gen.facts, Cert.ProjSecondKernel.Gen.facts, Cert.ProjSecondKernelIdeal.Gen.facts, Cert.ProjSecondReferenceIdeal.Gen.facts,
  Cert.PrepSecondKernel.Gen.facts, Cert.PrepSecondKernelIdeal.Gen.facts, Cert.PrepSecondReferenceIdeal.Gen.facts, Cert.Pre_finite.Gen.facts,
  Cert.Fox.frame_kernel, Cert.Fox.frame_ideal, Cert.Fox.frame_ideal_finite, Cert.Fox.frame_reference,
  fun m ρ _ => Cert.Fox.frame_reference m ρ trivial,
  fun m ρ _ => Cert.OutKernel.Gen.frame (F := Bits) m ρ, Cert.Out.frame_ideal, Cert.Out.frame_reference,
  Cert.Proj.frame_kernel, Cert.Proj.frame_ideal, Cert.Proj.frame_reference,
  Cert.Prep.frame_kernel, Cert.Prep.frame_ideal, Cert.Prep.frame_reference,
  Cert.ProjSecond.frame_kernel, Cert.ProjSecond.frame_ideal, Cert.ProjSecond.frame_reference,
  Cert.PrepSecond.frame_kernel, Cert.PrepSecond.frame_ideal, Cert.PrepSecond.frame_reference,
  Cert.Fox.names, Cert.Fox.same_results, trivial, Cert.Out.same_results, trivial, Cert.Proj.same_results, trivial, Cert.Prep.same_results,
  trivial, Cert.ProjSecond.same_results, trivial, Cert.PrepSecond.same_results⟩

end Cert.Proof

end
